-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ClippedIdeal (m : (ℓ : Loc Cert.ClippedIdeal.nD Cert.ClippedIdeal.τ Cert.ClippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ClippedIdeal [hClippedIdeal : Cert.ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1)
      ∧ r.2.mem ((c.tc : Thread Cert.ClippedIdeal.nD Cert.ClippedIdeal.τ).loc Cert.ClippedIdeal.main_arg2) = m ((c.tc : Thread Cert.ClippedIdeal.nD Cert.ClippedIdeal.τ).loc Cert.ClippedIdeal.main_arg2)
      ∧ r.2.mem ((c.tc : Thread Cert.ClippedIdeal.nD Cert.ClippedIdeal.τ).loc Cert.ClippedIdeal.main_arg3) = m ((c.tc : Thread Cert.ClippedIdeal.nD Cert.ClippedIdeal.τ).loc Cert.ClippedIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![4096, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def algebraic_KernelIdeal_ClippedIdeal_on_within [hKernelIdeal : Cert.KernelIdeal.Facts] [hClippedIdeal : Cert.ClippedIdeal.Facts] [hOn_within : Cert.On_within.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ClippedIdeal.nD Cert.ClippedIdeal.τ Cert.ClippedIdeal.sig) → Buf (Elt Ideal) ℓ) (g' : Dev Cert.ClippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ClippedIdeal.nD).tc : Thread Cert.ClippedIdeal.nD Cert.ClippedIdeal.τ).loc Cert.ClippedIdeal.main_arg0))
      ∧ m ((c.tc : Thread Cert.KernelIdeal.nD Cert.KernelIdeal.τ).loc Cert.KernelIdeal.main_arg1) = Layout.block ⟨2, ![4096, 512]⟩ ⟨2, ![4096, 8192]⟩ 1 16 c (m' (((0 : Dev Cert.ClippedIdeal.nD).tc : Thread Cert.ClippedIdeal.nD Cert.ClippedIdeal.τ).loc Cert.ClippedIdeal.main_arg1))
      ∧ m ((c.tc : Thread Cert.KernelIdeal.nD Cert.KernelIdeal.τ).loc Cert.KernelIdeal.main_arg2) = m' (((0 : Dev Cert.ClippedIdeal.nD).tc : Thread Cert.ClippedIdeal.nD Cert.ClippedIdeal.τ).loc Cert.ClippedIdeal.main_arg2)
      ∧ m ((c.tc : Thread Cert.KernelIdeal.nD Cert.KernelIdeal.τ).loc Cert.KernelIdeal.main_arg3) = m' (((0 : Dev Cert.ClippedIdeal.nD).tc : Thread Cert.ClippedIdeal.nD Cert.ClippedIdeal.τ).loc Cert.ClippedIdeal.main_arg3)) →
    ∃ (v0 : Buf (Elt Ideal) (((0 : Dev Cert.ClippedIdeal.nD).tc : Thread Cert.ClippedIdeal.nD Cert.ClippedIdeal.τ).loc Cert.ClippedIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 512]⟩ : Shape).Idx, (Layout.block ⟨2, ![4096, 512]⟩ ⟨2, ![4096, 8192]⟩ 1 16 c ((Cert.On_within.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1)) (m' (((0 : Dev Cert.ClippedIdeal.nD).tc : Thread Cert.ClippedIdeal.nD Cert.ClippedIdeal.τ).loc Cert.ClippedIdeal.main_arg2)) (m' (((0 : Dev Cert.ClippedIdeal.nD).tc : Thread Cert.ClippedIdeal.nD Cert.ClippedIdeal.τ).loc Cert.ClippedIdeal.main_arg3)))) : (⟨2, ![4096, 512]⟩ : Shape).Idx → _) i = 1#1 → r.2.mem ((c.tc : Thread Cert.KernelIdeal.nD Cert.KernelIdeal.τ).loc Cert.KernelIdeal.main_v1) i = (Layout.block ⟨2, ![4096, 512]⟩ ⟨2, ![4096, 8192]⟩ 1 16 c v0 : (⟨2, ![4096, 512]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ClippedIdeal.defs (F := Ideal)) (onTc (τ := Cert.ClippedIdeal.τ) (Cert.ClippedIdeal.main (F := Ideal))) ⟨m', fun _ => 0, g'⟩ (fun r =>
          (∀ i : (⟨2, ![4096, 8192]⟩ : Shape).Idx, (Cert.On_within.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1)) (m' (((0 : Dev Cert.ClippedIdeal.nD).tc : Thread Cert.ClippedIdeal.nD Cert.ClippedIdeal.τ).loc Cert.ClippedIdeal.main_arg2)) (m' (((0 : Dev Cert.ClippedIdeal.nD).tc : Thread Cert.ClippedIdeal.nD Cert.ClippedIdeal.τ).loc Cert.ClippedIdeal.main_arg3))) i = 1#1 → r.2.mem (((0 : Dev Cert.ClippedIdeal.nD).tc : Thread Cert.ClippedIdeal.nD Cert.ClippedIdeal.τ).loc Cert.ClippedIdeal.main_v10) i = v0 i)
          ∧ r.2.mem (((0 : Dev Cert.ClippedIdeal.nD).tc : Thread Cert.ClippedIdeal.nD Cert.ClippedIdeal.τ).loc Cert.ClippedIdeal.main_arg0) = m' (((0 : Dev Cert.ClippedIdeal.nD).tc : Thread Cert.ClippedIdeal.nD Cert.ClippedIdeal.τ).loc Cert.ClippedIdeal.main_arg0)
          ∧ r.2.mem (((0 : Dev Cert.ClippedIdeal.nD).tc : Thread Cert.ClippedIdeal.nD Cert.ClippedIdeal.τ).loc Cert.ClippedIdeal.main_arg1) = m' (((0 : Dev Cert.ClippedIdeal.nD).tc : Thread Cert.ClippedIdeal.nD Cert.ClippedIdeal.τ).loc Cert.ClippedIdeal.main_arg1)
          ∧ r.2.mem (((0 : Dev Cert.ClippedIdeal.nD).tc : Thread Cert.ClippedIdeal.nD Cert.ClippedIdeal.τ).loc Cert.ClippedIdeal.main_arg2) = m' (((0 : Dev Cert.ClippedIdeal.nD).tc : Thread Cert.ClippedIdeal.nD Cert.ClippedIdeal.τ).loc Cert.ClippedIdeal.main_arg2)
          ∧ r.2.mem (((0 : Dev Cert.ClippedIdeal.nD).tc : Thread Cert.ClippedIdeal.nD Cert.ClippedIdeal.τ).loc Cert.ClippedIdeal.main_arg3) = m' (((0 : Dev Cert.ClippedIdeal.nD).tc : Thread Cert.ClippedIdeal.nD Cert.ClippedIdeal.τ).loc Cert.ClippedIdeal.main_arg3))

def Claim : Prop :=
  ∃ (hKernel : Cert.Kernel.Facts) (hKernelIdeal : Cert.KernelIdeal.Facts) (hReferenceIdeal : Cert.ReferenceIdeal.Facts) (hClippedIdeal : Cert.ClippedIdeal.Facts) (hOn_within : Cert.On_within.Facts),
    quiescent_Kernel (hKernel := hKernel)
    ∧ quiescent_KernelIdeal (hKernelIdeal := hKernelIdeal)
    ∧ quiescent_ReferenceIdeal (hReferenceIdeal := hReferenceIdeal)
    ∧ quiescent_ClippedIdeal (hClippedIdeal := hClippedIdeal)
    ∧ preserves_Kernel_KernelIdeal
    ∧ algebraic_KernelIdeal_ReferenceIdeal (hKernelIdeal := hKernelIdeal) (hReferenceIdeal := hReferenceIdeal)
    ∧ algebraic_KernelIdeal_ClippedIdeal_on_within (hKernelIdeal := hKernelIdeal) (hClippedIdeal := hClippedIdeal) (hOn_within := hOn_within)
-- ==== On_within.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

class Facts : Prop where
  bcast_S1_S1x1_1 : S1.BroadcastsInDim S1x1 (![1] : Fin 1 → Fin S1x1.rank)
  bcast_S1x1_S4096x8192_0_1 : S1x1.BroadcastsInDim S4096x8192 (![0, 1] : Fin 2 → Fin S4096x8192.rank)
  bcast_S_S4096x8192 : S_.BroadcastsInDim S4096x8192 (![] : Fin 0 → Fin S4096x8192.rank)
  dot_S4096x4096_S4096x8192_S4096x8192_1_0_0_1_n_n_wf : DotDims.WF S4096x4096 S4096x8192 S4096x8192 [1] [0] [0] [1] [] []

variable [Facts]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf
def fn {F : FTy → Type} [FloatOps F] (main_arg0 : FVec F S4096x4096 .f32) (main_arg1 : FVec F S4096x8192 .f32) (main_arg2 : FVec F S1 .f32) (main_arg3 : FVec F S1 .f32) : IVec S4096x8192 1 :=
  let main_v0 : FVec F S4096x8192 .f32 := (fun l r => Host.dotGeneral dot_S4096x4096_S4096x8192_S4096x8192_1_0_0_1_n_n none l r) main_arg0 main_arg1
  let main_v1 : FVec F S1 .f32 := mulf main_arg2 main_arg3
  let main_v2 : FVec F S1x1 .f32 := broadcastInDim S1x1 ![1] bcast_S1_S1x1_1 main_v1
  let main_v3 : FVec F S4096x8192 .f32 := broadcastInDim S4096x8192 ![0, 1] bcast_S1x1_S4096x8192_0_1 main_v2
  let main_v4 : FVec F S4096x8192 .f32 := mulf main_v0 main_v3
  let main_cst : FVec F S_ .f32 := constant S_ .f32 0xC2700000#32
  let main_v5 : FVec F S4096x8192 .f32 := broadcastInDim S4096x8192 ![] bcast_S_S4096x8192 main_cst
  let main_v6 : IVec S4096x8192 1 := cmpf .oge main_v4 main_v5
  let main_cst_0 : FVec F S_ .f32 := constant S_ .f32 0x42700000#32
  let main_v7 : FVec F S4096x8192 .f32 := broadcastInDim S4096x8192 ![] bcast_S_S4096x8192 main_cst_0
  let main_v8 : IVec S4096x8192 1 := cmpf .ole main_v4 main_v7
  let main_v9 : IVec S4096x8192 1 := andi main_v6 main_v8
  main_v9
-- ==== Kernel.lean ====
abbrev S256x4096 : Shape := ⟨2, ![256, 4096]⟩
abbrev S4096x512 : Shape := ⟨2, ![4096, 512]⟩
abbrev S1 : Shape := ⟨1, ![1]⟩
abbrev S16x256x4096 : Shape := ⟨3, ![16, 256, 4096]⟩
abbrev S16 : Shape := ⟨1, ![16]⟩
abbrev S2 : Shape := ⟨1, ![2]⟩
abbrev S17 : Shape := ⟨1, ![17]⟩
abbrev S_ : Shape := ⟨0, ![]⟩
abbrev S1x256x4096 : Shape := ⟨3, ![1, 256, 4096]⟩
abbrev S1x128x4096 : Shape := ⟨3, ![1, 128, 4096]⟩
abbrev S128x4096 : Shape := ⟨2, ![128, 4096]⟩
abbrev S256x512 : Shape := ⟨2, ![256, 512]⟩
abbrev S128x512 : Shape := ⟨2, ![128, 512]⟩

abbrev nBuf : Space → Nat
  | .hbm => 5
  | .vmem => 5
  | .smem => 2
  | _ => 0

abbrev bufTy : (tb : Table) → Fin (tcTables nBuf tb) → BufTy
  | .hbm, ⟨0, _⟩ => ⟨S256x4096, .f32⟩
  | .hbm, ⟨1, _⟩ => ⟨S4096x512, .f32⟩
  | .hbm, ⟨2, _⟩ => ⟨S1, .f32⟩
  | .hbm, ⟨3, _⟩ => ⟨S1, .f32⟩
  | .hbm, ⟨4, _⟩ => ⟨S4096x512, .f32⟩
  | .local _ .vmem, ⟨0, _⟩ => ⟨S16x256x4096, .fp8e4m3⟩
  | .local _ .vmem, ⟨1, _⟩ => ⟨S4096x512, .bf16⟩
  | .local _ .vmem, ⟨2, _⟩ => ⟨S256x4096, .f32⟩
  | .local _ .vmem, ⟨3, _⟩ => ⟨S4096x512, .f32⟩
  | .local _ .vmem, ⟨4, _⟩ => ⟨S4096x512, .f32⟩
  | .local _ .smem, ⟨0, _⟩ => ⟨S1, .f32⟩
  | .local _ .smem, ⟨1, _⟩ => ⟨S1, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 85 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | _ => false

abbrev sig : RefSig :=
  (ofTc nBuf bufTy 1 85 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_461 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_21 : BitVec 32 := 1#32
  let v50 : BitVec 32 := Scalar.addi v49 c1_i32_21
  let c16_i32_22 : BitVec 32 := 16#32
  let c0_i32_23 : BitVec 32 := 0#32
  let v51 : BitVec 1 := Scalar.cmpi .eq c16_i32_22 c0_i32_23
  let c1_i32_24 : BitVec 32 := 1#32
  let v52 : BitVec 32 := Scalar.select v51 c1_i32_24 c16_i32_22
  let v53 : BitVec 32 := Scalar.remsi v50 v52
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let c0_i32_25 : BitVec 32 := 0#32
  let v54 : BitVec 1 := Scalar.cmpi .ne v53 c0_i32_25
  let v58 : BitVec 1 := Scalar.andi v57 v54
  let v59 : BitVec 32 := Scalar.addi v53 v52
  let v60 : BitVec 32 := Scalar.select v58 v59 v53
  let c0_i32_28 : BitVec 32 := 0#32
  let v61 : BitVec 1 := Scalar.cmpi .eq v60 c0_i32_28
  let c0_i32_41 : BitVec 32 := 0#32
  let c4_i32_29 : BitVec 32 := 4#32
  let v62 : BitVec 1 := Scalar.cmpi .sle v60 c4_i32_29
  let c4_i32_31 : BitVec 32 := 4#32
  let c1_i32_30 : BitVec 32 := 1#32
  let v63 : BitVec 32 := Scalar.subi v60 c1_i32_30
  let v64 : BitVec 32 := Scalar.muli c4_i32_31 v63
  let c1_i32_32 : BitVec 32 := 1#32
  let v65 : BitVec 32 := Scalar.addi v64 c1_i32_32
  let c8_i32_33 : BitVec 32 := 8#32
  let v66 : BitVec 1 := Scalar.cmpi .sle v60 c8_i32_33
  let c4_i32_35 : BitVec 32 := 4#32
  let c8_i32_34 : BitVec 32 := 8#32
  let v67 : BitVec 32 := Scalar.subi c8_i32_34 v60
  let v68 : BitVec 32 := Scalar.muli c4_i32_35 v67
  let c2_i32_36 : BitVec 32 := 2#32
  let v69 : BitVec 32 := Scalar.addi v68 c2_i32_36
  let c12_i32 : BitVec 32 := 12#32
  let v70 : BitVec 1 := Scalar.cmpi .sle v60 c12_i32
  let c4_i32_38 : BitVec 32 := 4#32
  let c9_i32_37 : BitVec 32 := 9#32
  let v71 : BitVec 32 := Scalar.subi v60 c9_i32_37
  let v72 : BitVec 32 := Scalar.muli c4_i32_38 v71
  let c3_i32 : BitVec 32 := 3#32
  let v73 : BitVec 32 := Scalar.addi v72 c3_i32
  let c4_i32_40 : BitVec 32 := 4#32
  let c16_i32_39 : BitVec 32 := 16#32
  let v74 : BitVec 32 := Scalar.subi c16_i32_39 v60
  let v75 : BitVec 32 := Scalar.muli c4_i32_40 v74
  let v76 : BitVec 32 := Scalar.select v70 v73 v75
  let v77 : BitVec 32 := Scalar.select v66 v69 v76
  let v78 : BitVec 32 := Scalar.select v62 v65 v77
  let v79 : BitVec 32 := Scalar.select v61 c0_i32_41 v78
  let c1_i32_460 : BitVec 32 := 1#32
  let v628 : BitVec 32 := Scalar.muli v79 c1_i32_460
  let v629 : BitVec 32 := Scalar.addi c0_i32_461 v628
  v629.toNat
def k0_dev2 (d0 : Dev nD) : Nat :=
  let c0_i32_464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c16_i32_42 : BitVec 32 := 16#32
  let v80 : BitVec 32 := Scalar.addi v49 c16_i32_42
  let c1_i32_43 : BitVec 32 := 1#32
  let v81 : BitVec 32 := Scalar.subi v80 c1_i32_43
  let c16_i32_44 : BitVec 32 := 16#32
  let c0_i32_45 : BitVec 32 := 0#32
  let v82 : BitVec 1 := Scalar.cmpi .eq c16_i32_44 c0_i32_45
  let c1_i32_46 : BitVec 32 := 1#32
  let v83 : BitVec 32 := Scalar.select v82 c1_i32_46 c16_i32_44
  let v84 : BitVec 32 := Scalar.remsi v81 v83
  let c0_i32_48 : BitVec 32 := 0#32
  let v86 : BitVec 1 := Scalar.cmpi .slt v84 c0_i32_48
  let c0_i32_49 : BitVec 32 := 0#32
  let v87 : BitVec 1 := Scalar.cmpi .slt v83 c0_i32_49
  let v88 : BitVec 1 := Scalar.xori v86 v87
  let c0_i32_47 : BitVec 32 := 0#32
  let v85 : BitVec 1 := Scalar.cmpi .ne v84 c0_i32_47
  let v89 : BitVec 1 := Scalar.andi v88 v85
  let v90 : BitVec 32 := Scalar.addi v84 v83
  let v91 : BitVec 32 := Scalar.select v89 v90 v84
  let c0_i32_50 : BitVec 32 := 0#32
  let v92 : BitVec 1 := Scalar.cmpi .eq v91 c0_i32_50
  let c0_i32_65 : BitVec 32 := 0#32
  let c4_i32_51 : BitVec 32 := 4#32
  let v93 : BitVec 1 := Scalar.cmpi .sle v91 c4_i32_51
  let c4_i32_53 : BitVec 32 := 4#32
  let c1_i32_52 : BitVec 32 := 1#32
  let v94 : BitVec 32 := Scalar.subi v91 c1_i32_52
  let v95 : BitVec 32 := Scalar.muli c4_i32_53 v94
  let c1_i32_54 : BitVec 32 := 1#32
  let v96 : BitVec 32 := Scalar.addi v95 c1_i32_54
  let c8_i32_55 : BitVec 32 := 8#32
  let v97 : BitVec 1 := Scalar.cmpi .sle v91 c8_i32_55
  let c4_i32_57 : BitVec 32 := 4#32
  let c8_i32_56 : BitVec 32 := 8#32
  let v98 : BitVec 32 := Scalar.subi c8_i32_56 v91
  let v99 : BitVec 32 := Scalar.muli c4_i32_57 v98
  let c2_i32_58 : BitVec 32 := 2#32
  let v100 : BitVec 32 := Scalar.addi v99 c2_i32_58
  let c12_i32_59 : BitVec 32 := 12#32
  let v101 : BitVec 1 := Scalar.cmpi .sle v91 c12_i32_59
  let c4_i32_61 : BitVec 32 := 4#32
  let c9_i32_60 : BitVec 32 := 9#32
  let v102 : BitVec 32 := Scalar.subi v91 c9_i32_60
  let v103 : BitVec 32 := Scalar.muli c4_i32_61 v102
  let c3_i32_62 : BitVec 32 := 3#32
  let v104 : BitVec 32 := Scalar.addi v103 c3_i32_62
  let c4_i32_64 : BitVec 32 := 4#32
  let c16_i32_63 : BitVec 32 := 16#32
  let v105 : BitVec 32 := Scalar.subi c16_i32_63 v91
  let v106 : BitVec 32 := Scalar.muli c4_i32_64 v105
  let v107 : BitVec 32 := Scalar.select v101 v104 v106
  let v108 : BitVec 32 := Scalar.select v97 v100 v107
  let v109 : BitVec 32 := Scalar.select v93 v96 v108
  let v110 : BitVec 32 := Scalar.select v92 c0_i32_65 v109
  let c1_i32_463 : BitVec 32 := 1#32
  let v630 : BitVec 32 := Scalar.muli v110 c1_i32_463
  let v631 : BitVec 32 := Scalar.addi c0_i32_464 v630
  v631.toNat
def k0_dev3 (d0 : Dev nD) : Nat :=
  let c0_i32_478 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_21 : BitVec 32 := 1#32
  let v50 : BitVec 32 := Scalar.addi v49 c1_i32_21
  let c16_i32_22 : BitVec 32 := 16#32
  let c0_i32_23 : BitVec 32 := 0#32
  let v51 : BitVec 1 := Scalar.cmpi .eq c16_i32_22 c0_i32_23
  let c1_i32_24 : BitVec 32 := 1#32
  let v52 : BitVec 32 := Scalar.select v51 c1_i32_24 c16_i32_22
  let v53 : BitVec 32 := Scalar.remsi v50 v52
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let c0_i32_25 : BitVec 32 := 0#32
  let v54 : BitVec 1 := Scalar.cmpi .ne v53 c0_i32_25
  let v58 : BitVec 1 := Scalar.andi v57 v54
  let v59 : BitVec 32 := Scalar.addi v53 v52
  let v60 : BitVec 32 := Scalar.select v58 v59 v53
  let c0_i32_28 : BitVec 32 := 0#32
  let v61 : BitVec 1 := Scalar.cmpi .eq v60 c0_i32_28
  let c0_i32_41 : BitVec 32 := 0#32
  let c4_i32_29 : BitVec 32 := 4#32
  let v62 : BitVec 1 := Scalar.cmpi .sle v60 c4_i32_29
  let c4_i32_31 : BitVec 32 := 4#32
  let c1_i32_30 : BitVec 32 := 1#32
  let v63 : BitVec 32 := Scalar.subi v60 c1_i32_30
  let v64 : BitVec 32 := Scalar.muli c4_i32_31 v63
  let c1_i32_32 : BitVec 32 := 1#32
  let v65 : BitVec 32 := Scalar.addi v64 c1_i32_32
  let c8_i32_33 : BitVec 32 := 8#32
  let v66 : BitVec 1 := Scalar.cmpi .sle v60 c8_i32_33
  let c4_i32_35 : BitVec 32 := 4#32
  let c8_i32_34 : BitVec 32 := 8#32
  let v67 : BitVec 32 := Scalar.subi c8_i32_34 v60
  let v68 : BitVec 32 := Scalar.muli c4_i32_35 v67
  let c2_i32_36 : BitVec 32 := 2#32
  let v69 : BitVec 32 := Scalar.addi v68 c2_i32_36
  let c12_i32 : BitVec 32 := 12#32
  let v70 : BitVec 1 := Scalar.cmpi .sle v60 c12_i32
  let c4_i32_38 : BitVec 32 := 4#32
  let c9_i32_37 : BitVec 32 := 9#32
  let v71 : BitVec 32 := Scalar.subi v60 c9_i32_37
  let v72 : BitVec 32 := Scalar.muli c4_i32_38 v71
  let c3_i32 : BitVec 32 := 3#32
  let v73 : BitVec 32 := Scalar.addi v72 c3_i32
  let c4_i32_40 : BitVec 32 := 4#32
  let c16_i32_39 : BitVec 32 := 16#32
  let v74 : BitVec 32 := Scalar.subi c16_i32_39 v60
  let v75 : BitVec 32 := Scalar.muli c4_i32_40 v74
  let v76 : BitVec 32 := Scalar.select v70 v73 v75
  let v77 : BitVec 32 := Scalar.select v66 v69 v76
  let v78 : BitVec 32 := Scalar.select v62 v65 v77
  let v79 : BitVec 32 := Scalar.select v61 c0_i32_41 v78
  let c1_i32_477 : BitVec 32 := 1#32
  let v642 : BitVec 32 := Scalar.muli v79 c1_i32_477
  let v643 : BitVec 32 := Scalar.addi c0_i32_478 v642
  v643.toNat
def k0_dev4 (d0 : Dev nD) : Nat :=
  let c0_i32_488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c16_i32_42 : BitVec 32 := 16#32
  let v80 : BitVec 32 := Scalar.addi v49 c16_i32_42
  let c1_i32_43 : BitVec 32 := 1#32
  let v81 : BitVec 32 := Scalar.subi v80 c1_i32_43
  let c16_i32_44 : BitVec 32 := 16#32
  let c0_i32_45 : BitVec 32 := 0#32
  let v82 : BitVec 1 := Scalar.cmpi .eq c16_i32_44 c0_i32_45
  let c1_i32_46 : BitVec 32 := 1#32
  let v83 : BitVec 32 := Scalar.select v82 c1_i32_46 c16_i32_44
  let v84 : BitVec 32 := Scalar.remsi v81 v83
  let c0_i32_48 : BitVec 32 := 0#32
  let v86 : BitVec 1 := Scalar.cmpi .slt v84 c0_i32_48
  let c0_i32_49 : BitVec 32 := 0#32
  let v87 : BitVec 1 := Scalar.cmpi .slt v83 c0_i32_49
  let v88 : BitVec 1 := Scalar.xori v86 v87
  let c0_i32_47 : BitVec 32 := 0#32
  let v85 : BitVec 1 := Scalar.cmpi .ne v84 c0_i32_47
  let v89 : BitVec 1 := Scalar.andi v88 v85
  let v90 : BitVec 32 := Scalar.addi v84 v83
  let v91 : BitVec 32 := Scalar.select v89 v90 v84
  let c0_i32_50 : BitVec 32 := 0#32
  let v92 : BitVec 1 := Scalar.cmpi .eq v91 c0_i32_50
  let c0_i32_65 : BitVec 32 := 0#32
  let c4_i32_51 : BitVec 32 := 4#32
  let v93 : BitVec 1 := Scalar.cmpi .sle v91 c4_i32_51
  let c4_i32_53 : BitVec 32 := 4#32
  let c1_i32_52 : BitVec 32 := 1#32
  let v94 : BitVec 32 := Scalar.subi v91 c1_i32_52
  let v95 : BitVec 32 := Scalar.muli c4_i32_53 v94
  let c1_i32_54 : BitVec 32 := 1#32
  let v96 : BitVec 32 := Scalar.addi v95 c1_i32_54
  let c8_i32_55 : BitVec 32 := 8#32
  let v97 : BitVec 1 := Scalar.cmpi .sle v91 c8_i32_55
  let c4_i32_57 : BitVec 32 := 4#32
  let c8_i32_56 : BitVec 32 := 8#32
  let v98 : BitVec 32 := Scalar.subi c8_i32_56 v91
  let v99 : BitVec 32 := Scalar.muli c4_i32_57 v98
  let c2_i32_58 : BitVec 32 := 2#32
  let v100 : BitVec 32 := Scalar.addi v99 c2_i32_58
  let c12_i32_59 : BitVec 32 := 12#32
  let v101 : BitVec 1 := Scalar.cmpi .sle v91 c12_i32_59
  let c4_i32_61 : BitVec 32 := 4#32
  let c9_i32_60 : BitVec 32 := 9#32
  let v102 : BitVec 32 := Scalar.subi v91 c9_i32_60
  let v103 : BitVec 32 := Scalar.muli c4_i32_61 v102
  let c3_i32_62 : BitVec 32 := 3#32
  let v104 : BitVec 32 := Scalar.addi v103 c3_i32_62
  let c4_i32_64 : BitVec 32 := 4#32
  let c16_i32_63 : BitVec 32 := 16#32
  let v105 : BitVec 32 := Scalar.subi c16_i32_63 v91
  let v106 : BitVec 32 := Scalar.muli c4_i32_64 v105
  let v107 : BitVec 32 := Scalar.select v101 v104 v106
  let v108 : BitVec 32 := Scalar.select v97 v100 v107
  let v109 : BitVec 32 := Scalar.select v93 v96 v108
  let v110 : BitVec 32 := Scalar.select v92 c0_i32_65 v109
  let c1_i32_487 : BitVec 32 := 1#32
  let v652 : BitVec 32 := Scalar.muli v110 c1_i32_487
  let v653 : BitVec 32 := Scalar.addi c0_i32_488 v652
  v653.toNat
def k0_dev5 (d0 : Dev nD) : Nat :=
  let c0_i32_498 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_21 : BitVec 32 := 1#32
  let v50 : BitVec 32 := Scalar.addi v49 c1_i32_21
  let c16_i32_22 : BitVec 32 := 16#32
  let c0_i32_23 : BitVec 32 := 0#32
  let v51 : BitVec 1 := Scalar.cmpi .eq c16_i32_22 c0_i32_23
  let c1_i32_24 : BitVec 32 := 1#32
  let v52 : BitVec 32 := Scalar.select v51 c1_i32_24 c16_i32_22
  let v53 : BitVec 32 := Scalar.remsi v50 v52
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let c0_i32_25 : BitVec 32 := 0#32
  let v54 : BitVec 1 := Scalar.cmpi .ne v53 c0_i32_25
  let v58 : BitVec 1 := Scalar.andi v57 v54
  let v59 : BitVec 32 := Scalar.addi v53 v52
  let v60 : BitVec 32 := Scalar.select v58 v59 v53
  let c0_i32_28 : BitVec 32 := 0#32
  let v61 : BitVec 1 := Scalar.cmpi .eq v60 c0_i32_28
  let c0_i32_41 : BitVec 32 := 0#32
  let c4_i32_29 : BitVec 32 := 4#32
  let v62 : BitVec 1 := Scalar.cmpi .sle v60 c4_i32_29
  let c4_i32_31 : BitVec 32 := 4#32
  let c1_i32_30 : BitVec 32 := 1#32
  let v63 : BitVec 32 := Scalar.subi v60 c1_i32_30
  let v64 : BitVec 32 := Scalar.muli c4_i32_31 v63
  let c1_i32_32 : BitVec 32 := 1#32
  let v65 : BitVec 32 := Scalar.addi v64 c1_i32_32
  let c8_i32_33 : BitVec 32 := 8#32
  let v66 : BitVec 1 := Scalar.cmpi .sle v60 c8_i32_33
  let c4_i32_35 : BitVec 32 := 4#32
  let c8_i32_34 : BitVec 32 := 8#32
  let v67 : BitVec 32 := Scalar.subi c8_i32_34 v60
  let v68 : BitVec 32 := Scalar.muli c4_i32_35 v67
  let c2_i32_36 : BitVec 32 := 2#32
  let v69 : BitVec 32 := Scalar.addi v68 c2_i32_36
  let c12_i32 : BitVec 32 := 12#32
  let v70 : BitVec 1 := Scalar.cmpi .sle v60 c12_i32
  let c4_i32_38 : BitVec 32 := 4#32
  let c9_i32_37 : BitVec 32 := 9#32
  let v71 : BitVec 32 := Scalar.subi v60 c9_i32_37
  let v72 : BitVec 32 := Scalar.muli c4_i32_38 v71
  let c3_i32 : BitVec 32 := 3#32
  let v73 : BitVec 32 := Scalar.addi v72 c3_i32
  let c4_i32_40 : BitVec 32 := 4#32
  let c16_i32_39 : BitVec 32 := 16#32
  let v74 : BitVec 32 := Scalar.subi c16_i32_39 v60
  let v75 : BitVec 32 := Scalar.muli c4_i32_40 v74
  let v76 : BitVec 32 := Scalar.select v70 v73 v75
  let v77 : BitVec 32 := Scalar.select v66 v69 v76
  let v78 : BitVec 32 := Scalar.select v62 v65 v77
  let v79 : BitVec 32 := Scalar.select v61 c0_i32_41 v78
  let c1_i32_497 : BitVec 32 := 1#32
  let v662 : BitVec 32 := Scalar.muli v79 c1_i32_497
  let v663 : BitVec 32 := Scalar.addi c0_i32_498 v662
  v663.toNat
def k0_dev6 (d0 : Dev nD) : Nat :=
  let c0_i32_507 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c16_i32_42 : BitVec 32 := 16#32
  let v80 : BitVec 32 := Scalar.addi v49 c16_i32_42
  let c1_i32_43 : BitVec 32 := 1#32
  let v81 : BitVec 32 := Scalar.subi v80 c1_i32_43
  let c16_i32_44 : BitVec 32 := 16#32
  let c0_i32_45 : BitVec 32 := 0#32
  let v82 : BitVec 1 := Scalar.cmpi .eq c16_i32_44 c0_i32_45
  let c1_i32_46 : BitVec 32 := 1#32
  let v83 : BitVec 32 := Scalar.select v82 c1_i32_46 c16_i32_44
  let v84 : BitVec 32 := Scalar.remsi v81 v83
  let c0_i32_48 : BitVec 32 := 0#32
  let v86 : BitVec 1 := Scalar.cmpi .slt v84 c0_i32_48
  let c0_i32_49 : BitVec 32 := 0#32
  let v87 : BitVec 1 := Scalar.cmpi .slt v83 c0_i32_49
  let v88 : BitVec 1 := Scalar.xori v86 v87
  let c0_i32_47 : BitVec 32 := 0#32
  let v85 : BitVec 1 := Scalar.cmpi .ne v84 c0_i32_47
  let v89 : BitVec 1 := Scalar.andi v88 v85
  let v90 : BitVec 32 := Scalar.addi v84 v83
  let v91 : BitVec 32 := Scalar.select v89 v90 v84
  let c0_i32_50 : BitVec 32 := 0#32
  let v92 : BitVec 1 := Scalar.cmpi .eq v91 c0_i32_50
  let c0_i32_65 : BitVec 32 := 0#32
  let c4_i32_51 : BitVec 32 := 4#32
  let v93 : BitVec 1 := Scalar.cmpi .sle v91 c4_i32_51
  let c4_i32_53 : BitVec 32 := 4#32
  let c1_i32_52 : BitVec 32 := 1#32
  let v94 : BitVec 32 := Scalar.subi v91 c1_i32_52
  let v95 : BitVec 32 := Scalar.muli c4_i32_53 v94
  let c1_i32_54 : BitVec 32 := 1#32
  let v96 : BitVec 32 := Scalar.addi v95 c1_i32_54
  let c8_i32_55 : BitVec 32 := 8#32
  let v97 : BitVec 1 := Scalar.cmpi .sle v91 c8_i32_55
  let c4_i32_57 : BitVec 32 := 4#32
  let c8_i32_56 : BitVec 32 := 8#32
  let v98 : BitVec 32 := Scalar.subi c8_i32_56 v91
  let v99 : BitVec 32 := Scalar.muli c4_i32_57 v98
  let c2_i32_58 : BitVec 32 := 2#32
  let v100 : BitVec 32 := Scalar.addi v99 c2_i32_58
  let c12_i32_59 : BitVec 32 := 12#32
  let v101 : BitVec 1 := Scalar.cmpi .sle v91 c12_i32_59
  let c4_i32_61 : BitVec 32 := 4#32
  let c9_i32_60 : BitVec 32 := 9#32
  let v102 : BitVec 32 := Scalar.subi v91 c9_i32_60
  let v103 : BitVec 32 := Scalar.muli c4_i32_61 v102
  let c3_i32_62 : BitVec 32 := 3#32
  let v104 : BitVec 32 := Scalar.addi v103 c3_i32_62
  let c4_i32_64 : BitVec 32 := 4#32
  let c16_i32_63 : BitVec 32 := 16#32
  let v105 : BitVec 32 := Scalar.subi c16_i32_63 v91
  let v106 : BitVec 32 := Scalar.muli c4_i32_64 v105
  let v107 : BitVec 32 := Scalar.select v101 v104 v106
  let v108 : BitVec 32 := Scalar.select v97 v100 v107
  let v109 : BitVec 32 := Scalar.select v93 v96 v108
  let v110 : BitVec 32 := Scalar.select v92 c0_i32_65 v109
  let c1_i32_506 : BitVec 32 := 1#32
  let v672 : BitVec 32 := Scalar.muli v110 c1_i32_506
  let v673 : BitVec 32 := Scalar.addi c0_i32_507 v672
  v673.toNat
def k0_mult1 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c0_i32_66 : BitVec 32 := 0#32
  let v111 : BitVec 32 := Scalar.subi v49 c0_i32_66
  let c16_i32_67 : BitVec 32 := 16#32
  let v112 : BitVec 32 := Scalar.addi v111 c16_i32_67
  let c16_i32_68 : BitVec 32 := 16#32
  let c0_i32_69 : BitVec 32 := 0#32
  let v113 : BitVec 1 := Scalar.cmpi .eq c16_i32_68 c0_i32_69
  let c1_i32_70 : BitVec 32 := 1#32
  let v114 : BitVec 32 := Scalar.select v113 c1_i32_70 c16_i32_68
  let v115 : BitVec 32 := Scalar.remsi v112 v114
  let c0_i32_72 : BitVec 32 := 0#32
  let v117 : BitVec 1 := Scalar.cmpi .slt v115 c0_i32_72
  let c0_i32_73 : BitVec 32 := 0#32
  let v118 : BitVec 1 := Scalar.cmpi .slt v114 c0_i32_73
  let v119 : BitVec 1 := Scalar.xori v117 v118
  let c0_i32_71 : BitVec 32 := 0#32
  let v116 : BitVec 1 := Scalar.cmpi .ne v115 c0_i32_71
  let v120 : BitVec 1 := Scalar.andi v119 v116
  let v121 : BitVec 32 := Scalar.addi v115 v114
  let v122 : BitVec 32 := Scalar.select v120 v121 v115
  let c0_i32_74 : BitVec 32 := 0#32
  let v123 : BitVec 1 := Scalar.cmpi .eq v122 c0_i32_74
  let c0_i32_89 : BitVec 32 := 0#32
  let c4_i32_75 : BitVec 32 := 4#32
  let v124 : BitVec 1 := Scalar.cmpi .sle v122 c4_i32_75
  let c4_i32_77 : BitVec 32 := 4#32
  let c1_i32_76 : BitVec 32 := 1#32
  let v125 : BitVec 32 := Scalar.subi v122 c1_i32_76
  let v126 : BitVec 32 := Scalar.muli c4_i32_77 v125
  let c1_i32_78 : BitVec 32 := 1#32
  let v127 : BitVec 32 := Scalar.addi v126 c1_i32_78
  let c8_i32_79 : BitVec 32 := 8#32
  let v128 : BitVec 1 := Scalar.cmpi .sle v122 c8_i32_79
  let c4_i32_81 : BitVec 32 := 4#32
  let c8_i32_80 : BitVec 32 := 8#32
  let v129 : BitVec 32 := Scalar.subi c8_i32_80 v122
  let v130 : BitVec 32 := Scalar.muli c4_i32_81 v129
  let c2_i32_82 : BitVec 32 := 2#32
  let v131 : BitVec 32 := Scalar.addi v130 c2_i32_82
  let c12_i32_83 : BitVec 32 := 12#32
  let v132 : BitVec 1 := Scalar.cmpi .sle v122 c12_i32_83
  let c4_i32_85 : BitVec 32 := 4#32
  let c9_i32_84 : BitVec 32 := 9#32
  let v133 : BitVec 32 := Scalar.subi v122 c9_i32_84
  let v134 : BitVec 32 := Scalar.muli c4_i32_85 v133
  let c3_i32_86 : BitVec 32 := 3#32
  let v135 : BitVec 32 := Scalar.addi v134 c3_i32_86
  let c4_i32_88 : BitVec 32 := 4#32
  let c16_i32_87 : BitVec 32 := 16#32
  let v136 : BitVec 32 := Scalar.subi c16_i32_87 v122
  let v137 : BitVec 32 := Scalar.muli c4_i32_88 v136
  let v138 : BitVec 32 := Scalar.select v132 v135 v137
  let v139 : BitVec 32 := Scalar.select v128 v131 v138
  let v140 : BitVec 32 := Scalar.select v124 v127 v139
  let v141 : BitVec 32 := Scalar.select v123 c0_i32_89 v140
  let c256_i32 : BitVec 32 := 256#32
  let v142 : BitVec 32 := Scalar.muli v141 c256_i32
  let c0_i32_522 : BitVec 32 := 0#32
  let v696 : BitVec 32 := Scalar.addi v142 c0_i32_522
  v696
def k0_off1 (d0 : Dev nD) (c0_i32_66 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let v111 : BitVec 32 := Scalar.subi v49 c0_i32_66
  let c16_i32_67 : BitVec 32 := 16#32
  let v112 : BitVec 32 := Scalar.addi v111 c16_i32_67
  let c16_i32_68 : BitVec 32 := 16#32
  let c0_i32_69 : BitVec 32 := 0#32
  let v113 : BitVec 1 := Scalar.cmpi .eq c16_i32_68 c0_i32_69
  let c1_i32_70 : BitVec 32 := 1#32
  let v114 : BitVec 32 := Scalar.select v113 c1_i32_70 c16_i32_68
  let v115 : BitVec 32 := Scalar.remsi v112 v114
  let c0_i32_72 : BitVec 32 := 0#32
  let v117 : BitVec 1 := Scalar.cmpi .slt v115 c0_i32_72
  let c0_i32_73 : BitVec 32 := 0#32
  let v118 : BitVec 1 := Scalar.cmpi .slt v114 c0_i32_73
  let v119 : BitVec 1 := Scalar.xori v117 v118
  let c0_i32_71 : BitVec 32 := 0#32
  let v116 : BitVec 1 := Scalar.cmpi .ne v115 c0_i32_71
  let v120 : BitVec 1 := Scalar.andi v119 v116
  let v121 : BitVec 32 := Scalar.addi v115 v114
  let v122 : BitVec 32 := Scalar.select v120 v121 v115
  let c0_i32_74 : BitVec 32 := 0#32
  let v123 : BitVec 1 := Scalar.cmpi .eq v122 c0_i32_74
  let c0_i32_89 : BitVec 32 := 0#32
  let c4_i32_75 : BitVec 32 := 4#32
  let v124 : BitVec 1 := Scalar.cmpi .sle v122 c4_i32_75
  let c4_i32_77 : BitVec 32 := 4#32
  let c1_i32_76 : BitVec 32 := 1#32
  let v125 : BitVec 32 := Scalar.subi v122 c1_i32_76
  let v126 : BitVec 32 := Scalar.muli c4_i32_77 v125
  let c1_i32_78 : BitVec 32 := 1#32
  let v127 : BitVec 32 := Scalar.addi v126 c1_i32_78
  let c8_i32_79 : BitVec 32 := 8#32
  let v128 : BitVec 1 := Scalar.cmpi .sle v122 c8_i32_79
  let c4_i32_81 : BitVec 32 := 4#32
  let c8_i32_80 : BitVec 32 := 8#32
  let v129 : BitVec 32 := Scalar.subi c8_i32_80 v122
  let v130 : BitVec 32 := Scalar.muli c4_i32_81 v129
  let c2_i32_82 : BitVec 32 := 2#32
  let v131 : BitVec 32 := Scalar.addi v130 c2_i32_82
  let c12_i32_83 : BitVec 32 := 12#32
  let v132 : BitVec 1 := Scalar.cmpi .sle v122 c12_i32_83
  let c4_i32_85 : BitVec 32 := 4#32
  let c9_i32_84 : BitVec 32 := 9#32
  let v133 : BitVec 32 := Scalar.subi v122 c9_i32_84
  let v134 : BitVec 32 := Scalar.muli c4_i32_85 v133
  let c3_i32_86 : BitVec 32 := 3#32
  let v135 : BitVec 32 := Scalar.addi v134 c3_i32_86
  let c4_i32_88 : BitVec 32 := 4#32
  let c16_i32_87 : BitVec 32 := 16#32
  let v136 : BitVec 32 := Scalar.subi c16_i32_87 v122
  let v137 : BitVec 32 := Scalar.muli c4_i32_88 v136
  let v138 : BitVec 32 := Scalar.select v132 v135 v137
  let v139 : BitVec 32 := Scalar.select v128 v131 v138
  let v140 : BitVec 32 := Scalar.select v124 v127 v139
  let v141 : BitVec 32 := Scalar.select v123 c0_i32_89 v140
  let c256_i32 : BitVec 32 := 256#32
  let v142 : BitVec 32 := Scalar.muli v141 c256_i32
  let c0_i32_522 : BitVec 32 := 0#32
  let v696 : BitVec 32 := Scalar.addi v142 c0_i32_522
  let v697 : BitVec 32 := v696
  let v700 : Index := Scalar.indexCast v697
  let c0_523 : Index := 0#32
  ![v700.toNat, 0]
def k0_off1_at (r : Fin 15) : BitVec 32 :=
  if r.val < 7 then
    if r.val < 3 then
      if r.val < 1 then
        0#32
      else
        if r.val < 2 then
          1#32
        else
          15#32
    else
      if r.val < 5 then
        if r.val < 4 then
          2#32
        else
          14#32
      else
        if r.val < 6 then
          3#32
        else
          13#32
  else
    if r.val < 11 then
      if r.val < 9 then
        if r.val < 8 then
          4#32
        else
          12#32
      else
        if r.val < 10 then
          5#32
        else
          11#32
    else
      if r.val < 13 then
        if r.val < 12 then
          6#32
        else
          10#32
      else
        if r.val < 14 then
          7#32
        else
          9#32
def k0_off2 (d0 : Dev nD) (c0_i32_66 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let v111 : BitVec 32 := Scalar.subi v49 c0_i32_66
  let c16_i32_67 : BitVec 32 := 16#32
  let v112 : BitVec 32 := Scalar.addi v111 c16_i32_67
  let c16_i32_68 : BitVec 32 := 16#32
  let c0_i32_69 : BitVec 32 := 0#32
  let v113 : BitVec 1 := Scalar.cmpi .eq c16_i32_68 c0_i32_69
  let c1_i32_70 : BitVec 32 := 1#32
  let v114 : BitVec 32 := Scalar.select v113 c1_i32_70 c16_i32_68
  let v115 : BitVec 32 := Scalar.remsi v112 v114
  let c0_i32_72 : BitVec 32 := 0#32
  let v117 : BitVec 1 := Scalar.cmpi .slt v115 c0_i32_72
  let c0_i32_73 : BitVec 32 := 0#32
  let v118 : BitVec 1 := Scalar.cmpi .slt v114 c0_i32_73
  let v119 : BitVec 1 := Scalar.xori v117 v118
  let c0_i32_71 : BitVec 32 := 0#32
  let v116 : BitVec 1 := Scalar.cmpi .ne v115 c0_i32_71
  let v120 : BitVec 1 := Scalar.andi v119 v116
  let v121 : BitVec 32 := Scalar.addi v115 v114
  let v122 : BitVec 32 := Scalar.select v120 v121 v115
  let c0_i32_74 : BitVec 32 := 0#32
  let v123 : BitVec 1 := Scalar.cmpi .eq v122 c0_i32_74
  let c0_i32_89 : BitVec 32 := 0#32
  let c4_i32_75 : BitVec 32 := 4#32
  let v124 : BitVec 1 := Scalar.cmpi .sle v122 c4_i32_75
  let c4_i32_77 : BitVec 32 := 4#32
  let c1_i32_76 : BitVec 32 := 1#32
  let v125 : BitVec 32 := Scalar.subi v122 c1_i32_76
  let v126 : BitVec 32 := Scalar.muli c4_i32_77 v125
  let c1_i32_78 : BitVec 32 := 1#32
  let v127 : BitVec 32 := Scalar.addi v126 c1_i32_78
  let c8_i32_79 : BitVec 32 := 8#32
  let v128 : BitVec 1 := Scalar.cmpi .sle v122 c8_i32_79
  let c4_i32_81 : BitVec 32 := 4#32
  let c8_i32_80 : BitVec 32 := 8#32
  let v129 : BitVec 32 := Scalar.subi c8_i32_80 v122
  let v130 : BitVec 32 := Scalar.muli c4_i32_81 v129
  let c2_i32_82 : BitVec 32 := 2#32
  let v131 : BitVec 32 := Scalar.addi v130 c2_i32_82
  let c12_i32_83 : BitVec 32 := 12#32
  let v132 : BitVec 1 := Scalar.cmpi .sle v122 c12_i32_83
  let c4_i32_85 : BitVec 32 := 4#32
  let c9_i32_84 : BitVec 32 := 9#32
  let v133 : BitVec 32 := Scalar.subi v122 c9_i32_84
  let v134 : BitVec 32 := Scalar.muli c4_i32_85 v133
  let c3_i32_86 : BitVec 32 := 3#32
  let v135 : BitVec 32 := Scalar.addi v134 c3_i32_86
  let c4_i32_88 : BitVec 32 := 4#32
  let c16_i32_87 : BitVec 32 := 16#32
  let v136 : BitVec 32 := Scalar.subi c16_i32_87 v122
  let v137 : BitVec 32 := Scalar.muli c4_i32_88 v136
  let v138 : BitVec 32 := Scalar.select v132 v135 v137
  let v139 : BitVec 32 := Scalar.select v128 v131 v138
  let v140 : BitVec 32 := Scalar.select v124 v127 v139
  let v141 : BitVec 32 := Scalar.select v123 c0_i32_89 v140
  let c256_i32 : BitVec 32 := 256#32
  let v142 : BitVec 32 := Scalar.muli v141 c256_i32
  let c0_i32_522 : BitVec 32 := 0#32
  let v696 : BitVec 32 := Scalar.addi v142 c0_i32_522
  let v697 : BitVec 32 := v696
  let c0_i32_525 : BitVec 32 := 0#32
  ![v697.toNat, 0]
def k0_off2_at (r : Fin 15) : BitVec 32 :=
  if r.val < 7 then
    if r.val < 3 then
      if r.val < 1 then
        0#32
      else
        if r.val < 2 then
          1#32
        else
          15#32
    else
      if r.val < 5 then
        if r.val < 4 then
          2#32
        else
          14#32
      else
        if r.val < 6 then
          3#32
        else
          13#32
  else
    if r.val < 11 then
      if r.val < 9 then
        if r.val < 8 then
          4#32
        else
          12#32
      else
        if r.val < 10 then
          5#32
        else
          11#32
    else
      if r.val < 13 then
        if r.val < 12 then
          6#32
        else
          10#32
      else
        if r.val < 14 then
          7#32
        else
          9#32
def k0_dev7 (d0 : Dev nD) : Nat :=
  let c0_i32_542 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_21 : BitVec 32 := 1#32
  let v50 : BitVec 32 := Scalar.addi v49 c1_i32_21
  let c16_i32_22 : BitVec 32 := 16#32
  let c0_i32_23 : BitVec 32 := 0#32
  let v51 : BitVec 1 := Scalar.cmpi .eq c16_i32_22 c0_i32_23
  let c1_i32_24 : BitVec 32 := 1#32
  let v52 : BitVec 32 := Scalar.select v51 c1_i32_24 c16_i32_22
  let v53 : BitVec 32 := Scalar.remsi v50 v52
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let c0_i32_25 : BitVec 32 := 0#32
  let v54 : BitVec 1 := Scalar.cmpi .ne v53 c0_i32_25
  let v58 : BitVec 1 := Scalar.andi v57 v54
  let v59 : BitVec 32 := Scalar.addi v53 v52
  let v60 : BitVec 32 := Scalar.select v58 v59 v53
  let c0_i32_28 : BitVec 32 := 0#32
  let v61 : BitVec 1 := Scalar.cmpi .eq v60 c0_i32_28
  let c0_i32_41 : BitVec 32 := 0#32
  let c4_i32_29 : BitVec 32 := 4#32
  let v62 : BitVec 1 := Scalar.cmpi .sle v60 c4_i32_29
  let c4_i32_31 : BitVec 32 := 4#32
  let c1_i32_30 : BitVec 32 := 1#32
  let v63 : BitVec 32 := Scalar.subi v60 c1_i32_30
  let v64 : BitVec 32 := Scalar.muli c4_i32_31 v63
  let c1_i32_32 : BitVec 32 := 1#32
  let v65 : BitVec 32 := Scalar.addi v64 c1_i32_32
  let c8_i32_33 : BitVec 32 := 8#32
  let v66 : BitVec 1 := Scalar.cmpi .sle v60 c8_i32_33
  let c4_i32_35 : BitVec 32 := 4#32
  let c8_i32_34 : BitVec 32 := 8#32
  let v67 : BitVec 32 := Scalar.subi c8_i32_34 v60
  let v68 : BitVec 32 := Scalar.muli c4_i32_35 v67
  let c2_i32_36 : BitVec 32 := 2#32
  let v69 : BitVec 32 := Scalar.addi v68 c2_i32_36
  let c12_i32 : BitVec 32 := 12#32
  let v70 : BitVec 1 := Scalar.cmpi .sle v60 c12_i32
  let c4_i32_38 : BitVec 32 := 4#32
  let c9_i32_37 : BitVec 32 := 9#32
  let v71 : BitVec 32 := Scalar.subi v60 c9_i32_37
  let v72 : BitVec 32 := Scalar.muli c4_i32_38 v71
  let c3_i32 : BitVec 32 := 3#32
  let v73 : BitVec 32 := Scalar.addi v72 c3_i32
  let c4_i32_40 : BitVec 32 := 4#32
  let c16_i32_39 : BitVec 32 := 16#32
  let v74 : BitVec 32 := Scalar.subi c16_i32_39 v60
  let v75 : BitVec 32 := Scalar.muli c4_i32_40 v74
  let v76 : BitVec 32 := Scalar.select v70 v73 v75
  let v77 : BitVec 32 := Scalar.select v66 v69 v76
  let v78 : BitVec 32 := Scalar.select v62 v65 v77
  let v79 : BitVec 32 := Scalar.select v61 c0_i32_41 v78
  let c1_i32_541 : BitVec 32 := 1#32
  let v716 : BitVec 32 := Scalar.muli v79 c1_i32_541
  let v717 : BitVec 32 := Scalar.addi c0_i32_542 v716
  v717.toNat
def k0_dev8 (d0 : Dev nD) : Nat :=
  let c0_i32_562 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c16_i32_42 : BitVec 32 := 16#32
  let v80 : BitVec 32 := Scalar.addi v49 c16_i32_42
  let c1_i32_43 : BitVec 32 := 1#32
  let v81 : BitVec 32 := Scalar.subi v80 c1_i32_43
  let c16_i32_44 : BitVec 32 := 16#32
  let c0_i32_45 : BitVec 32 := 0#32
  let v82 : BitVec 1 := Scalar.cmpi .eq c16_i32_44 c0_i32_45
  let c1_i32_46 : BitVec 32 := 1#32
  let v83 : BitVec 32 := Scalar.select v82 c1_i32_46 c16_i32_44
  let v84 : BitVec 32 := Scalar.remsi v81 v83
  let c0_i32_48 : BitVec 32 := 0#32
  let v86 : BitVec 1 := Scalar.cmpi .slt v84 c0_i32_48
  let c0_i32_49 : BitVec 32 := 0#32
  let v87 : BitVec 1 := Scalar.cmpi .slt v83 c0_i32_49
  let v88 : BitVec 1 := Scalar.xori v86 v87
  let c0_i32_47 : BitVec 32 := 0#32
  let v85 : BitVec 1 := Scalar.cmpi .ne v84 c0_i32_47
  let v89 : BitVec 1 := Scalar.andi v88 v85
  let v90 : BitVec 32 := Scalar.addi v84 v83
  let v91 : BitVec 32 := Scalar.select v89 v90 v84
  let c0_i32_50 : BitVec 32 := 0#32
  let v92 : BitVec 1 := Scalar.cmpi .eq v91 c0_i32_50
  let c0_i32_65 : BitVec 32 := 0#32
  let c4_i32_51 : BitVec 32 := 4#32
  let v93 : BitVec 1 := Scalar.cmpi .sle v91 c4_i32_51
  let c4_i32_53 : BitVec 32 := 4#32
  let c1_i32_52 : BitVec 32 := 1#32
  let v94 : BitVec 32 := Scalar.subi v91 c1_i32_52
  let v95 : BitVec 32 := Scalar.muli c4_i32_53 v94
  let c1_i32_54 : BitVec 32 := 1#32
  let v96 : BitVec 32 := Scalar.addi v95 c1_i32_54
  let c8_i32_55 : BitVec 32 := 8#32
  let v97 : BitVec 1 := Scalar.cmpi .sle v91 c8_i32_55
  let c4_i32_57 : BitVec 32 := 4#32
  let c8_i32_56 : BitVec 32 := 8#32
  let v98 : BitVec 32 := Scalar.subi c8_i32_56 v91
  let v99 : BitVec 32 := Scalar.muli c4_i32_57 v98
  let c2_i32_58 : BitVec 32 := 2#32
  let v100 : BitVec 32 := Scalar.addi v99 c2_i32_58
  let c12_i32_59 : BitVec 32 := 12#32
  let v101 : BitVec 1 := Scalar.cmpi .sle v91 c12_i32_59
  let c4_i32_61 : BitVec 32 := 4#32
  let c9_i32_60 : BitVec 32 := 9#32
  let v102 : BitVec 32 := Scalar.subi v91 c9_i32_60
  let v103 : BitVec 32 := Scalar.muli c4_i32_61 v102
  let c3_i32_62 : BitVec 32 := 3#32
  let v104 : BitVec 32 := Scalar.addi v103 c3_i32_62
  let c4_i32_64 : BitVec 32 := 4#32
  let c16_i32_63 : BitVec 32 := 16#32
  let v105 : BitVec 32 := Scalar.subi c16_i32_63 v91
  let v106 : BitVec 32 := Scalar.muli c4_i32_64 v105
  let v107 : BitVec 32 := Scalar.select v101 v104 v106
  let v108 : BitVec 32 := Scalar.select v97 v100 v107
  let v109 : BitVec 32 := Scalar.select v93 v96 v108
  let v110 : BitVec 32 := Scalar.select v92 c0_i32_65 v109
  let c1_i32_561 : BitVec 32 := 1#32
  let v734 : BitVec 32 := Scalar.muli v110 c1_i32_561
  let v735 : BitVec 32 := Scalar.addi c0_i32_562 v734
  v735.toNat
def k0_dev9 (d0 : Dev nD) : Nat :=
  let c0_i32_582 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_21 : BitVec 32 := 1#32
  let v50 : BitVec 32 := Scalar.addi v49 c1_i32_21
  let c16_i32_22 : BitVec 32 := 16#32
  let c0_i32_23 : BitVec 32 := 0#32
  let v51 : BitVec 1 := Scalar.cmpi .eq c16_i32_22 c0_i32_23
  let c1_i32_24 : BitVec 32 := 1#32
  let v52 : BitVec 32 := Scalar.select v51 c1_i32_24 c16_i32_22
  let v53 : BitVec 32 := Scalar.remsi v50 v52
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let c0_i32_25 : BitVec 32 := 0#32
  let v54 : BitVec 1 := Scalar.cmpi .ne v53 c0_i32_25
  let v58 : BitVec 1 := Scalar.andi v57 v54
  let v59 : BitVec 32 := Scalar.addi v53 v52
  let v60 : BitVec 32 := Scalar.select v58 v59 v53
  let c0_i32_28 : BitVec 32 := 0#32
  let v61 : BitVec 1 := Scalar.cmpi .eq v60 c0_i32_28
  let c0_i32_41 : BitVec 32 := 0#32
  let c4_i32_29 : BitVec 32 := 4#32
  let v62 : BitVec 1 := Scalar.cmpi .sle v60 c4_i32_29
  let c4_i32_31 : BitVec 32 := 4#32
  let c1_i32_30 : BitVec 32 := 1#32
  let v63 : BitVec 32 := Scalar.subi v60 c1_i32_30
  let v64 : BitVec 32 := Scalar.muli c4_i32_31 v63
  let c1_i32_32 : BitVec 32 := 1#32
  let v65 : BitVec 32 := Scalar.addi v64 c1_i32_32
  let c8_i32_33 : BitVec 32 := 8#32
  let v66 : BitVec 1 := Scalar.cmpi .sle v60 c8_i32_33
  let c4_i32_35 : BitVec 32 := 4#32
  let c8_i32_34 : BitVec 32 := 8#32
  let v67 : BitVec 32 := Scalar.subi c8_i32_34 v60
  let v68 : BitVec 32 := Scalar.muli c4_i32_35 v67
  let c2_i32_36 : BitVec 32 := 2#32
  let v69 : BitVec 32 := Scalar.addi v68 c2_i32_36
  let c12_i32 : BitVec 32 := 12#32
  let v70 : BitVec 1 := Scalar.cmpi .sle v60 c12_i32
  let c4_i32_38 : BitVec 32 := 4#32
  let c9_i32_37 : BitVec 32 := 9#32
  let v71 : BitVec 32 := Scalar.subi v60 c9_i32_37
  let v72 : BitVec 32 := Scalar.muli c4_i32_38 v71
  let c3_i32 : BitVec 32 := 3#32
  let v73 : BitVec 32 := Scalar.addi v72 c3_i32
  let c4_i32_40 : BitVec 32 := 4#32
  let c16_i32_39 : BitVec 32 := 16#32
  let v74 : BitVec 32 := Scalar.subi c16_i32_39 v60
  let v75 : BitVec 32 := Scalar.muli c4_i32_40 v74
  let v76 : BitVec 32 := Scalar.select v70 v73 v75
  let v77 : BitVec 32 := Scalar.select v66 v69 v76
  let v78 : BitVec 32 := Scalar.select v62 v65 v77
  let v79 : BitVec 32 := Scalar.select v61 c0_i32_41 v78
  let c1_i32_581 : BitVec 32 := 1#32
  let v752 : BitVec 32 := Scalar.muli v79 c1_i32_581
  let v753 : BitVec 32 := Scalar.addi c0_i32_582 v752
  v753.toNat
def k0_dev10 (d0 : Dev nD) : Nat :=
  let c0_i32_602 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c16_i32_42 : BitVec 32 := 16#32
  let v80 : BitVec 32 := Scalar.addi v49 c16_i32_42
  let c1_i32_43 : BitVec 32 := 1#32
  let v81 : BitVec 32 := Scalar.subi v80 c1_i32_43
  let c16_i32_44 : BitVec 32 := 16#32
  let c0_i32_45 : BitVec 32 := 0#32
  let v82 : BitVec 1 := Scalar.cmpi .eq c16_i32_44 c0_i32_45
  let c1_i32_46 : BitVec 32 := 1#32
  let v83 : BitVec 32 := Scalar.select v82 c1_i32_46 c16_i32_44
  let v84 : BitVec 32 := Scalar.remsi v81 v83
  let c0_i32_48 : BitVec 32 := 0#32
  let v86 : BitVec 1 := Scalar.cmpi .slt v84 c0_i32_48
  let c0_i32_49 : BitVec 32 := 0#32
  let v87 : BitVec 1 := Scalar.cmpi .slt v83 c0_i32_49
  let v88 : BitVec 1 := Scalar.xori v86 v87
  let c0_i32_47 : BitVec 32 := 0#32
  let v85 : BitVec 1 := Scalar.cmpi .ne v84 c0_i32_47
  let v89 : BitVec 1 := Scalar.andi v88 v85
  let v90 : BitVec 32 := Scalar.addi v84 v83
  let v91 : BitVec 32 := Scalar.select v89 v90 v84
  let c0_i32_50 : BitVec 32 := 0#32
  let v92 : BitVec 1 := Scalar.cmpi .eq v91 c0_i32_50
  let c0_i32_65 : BitVec 32 := 0#32
  let c4_i32_51 : BitVec 32 := 4#32
  let v93 : BitVec 1 := Scalar.cmpi .sle v91 c4_i32_51
  let c4_i32_53 : BitVec 32 := 4#32
  let c1_i32_52 : BitVec 32 := 1#32
  let v94 : BitVec 32 := Scalar.subi v91 c1_i32_52
  let v95 : BitVec 32 := Scalar.muli c4_i32_53 v94
  let c1_i32_54 : BitVec 32 := 1#32
  let v96 : BitVec 32 := Scalar.addi v95 c1_i32_54
  let c8_i32_55 : BitVec 32 := 8#32
  let v97 : BitVec 1 := Scalar.cmpi .sle v91 c8_i32_55
  let c4_i32_57 : BitVec 32 := 4#32
  let c8_i32_56 : BitVec 32 := 8#32
  let v98 : BitVec 32 := Scalar.subi c8_i32_56 v91
  let v99 : BitVec 32 := Scalar.muli c4_i32_57 v98
  let c2_i32_58 : BitVec 32 := 2#32
  let v100 : BitVec 32 := Scalar.addi v99 c2_i32_58
  let c12_i32_59 : BitVec 32 := 12#32
  let v101 : BitVec 1 := Scalar.cmpi .sle v91 c12_i32_59
  let c4_i32_61 : BitVec 32 := 4#32
  let c9_i32_60 : BitVec 32 := 9#32
  let v102 : BitVec 32 := Scalar.subi v91 c9_i32_60
  let v103 : BitVec 32 := Scalar.muli c4_i32_61 v102
  let c3_i32_62 : BitVec 32 := 3#32
  let v104 : BitVec 32 := Scalar.addi v103 c3_i32_62
  let c4_i32_64 : BitVec 32 := 4#32
  let c16_i32_63 : BitVec 32 := 16#32
  let v105 : BitVec 32 := Scalar.subi c16_i32_63 v91
  let v106 : BitVec 32 := Scalar.muli c4_i32_64 v105
  let v107 : BitVec 32 := Scalar.select v101 v104 v106
  let v108 : BitVec 32 := Scalar.select v97 v100 v107
  let v109 : BitVec 32 := Scalar.select v93 v96 v108
  let v110 : BitVec 32 := Scalar.select v92 c0_i32_65 v109
  let c1_i32_601 : BitVec 32 := 1#32
  let v770 : BitVec 32 := Scalar.muli v110 c1_i32_601
  let v771 : BitVec 32 := Scalar.addi c0_i32_602 v770
  v771.toNat
def k0_mult2 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_90 : BitVec 32 := 1#32
  let v143 : BitVec 32 := Scalar.subi v49 c1_i32_90
  let c16_i32_91 : BitVec 32 := 16#32
  let v144 : BitVec 32 := Scalar.addi v143 c16_i32_91
  let c16_i32_92 : BitVec 32 := 16#32
  let c0_i32_93 : BitVec 32 := 0#32
  let v145 : BitVec 1 := Scalar.cmpi .eq c16_i32_92 c0_i32_93
  let c1_i32_94 : BitVec 32 := 1#32
  let v146 : BitVec 32 := Scalar.select v145 c1_i32_94 c16_i32_92
  let v147 : BitVec 32 := Scalar.remsi v144 v146
  let c0_i32_96 : BitVec 32 := 0#32
  let v149 : BitVec 1 := Scalar.cmpi .slt v147 c0_i32_96
  let c0_i32_97 : BitVec 32 := 0#32
  let v150 : BitVec 1 := Scalar.cmpi .slt v146 c0_i32_97
  let v151 : BitVec 1 := Scalar.xori v149 v150
  let c0_i32_95 : BitVec 32 := 0#32
  let v148 : BitVec 1 := Scalar.cmpi .ne v147 c0_i32_95
  let v152 : BitVec 1 := Scalar.andi v151 v148
  let v153 : BitVec 32 := Scalar.addi v147 v146
  let v154 : BitVec 32 := Scalar.select v152 v153 v147
  let c0_i32_98 : BitVec 32 := 0#32
  let v155 : BitVec 1 := Scalar.cmpi .eq v154 c0_i32_98
  let c0_i32_113 : BitVec 32 := 0#32
  let c4_i32_99 : BitVec 32 := 4#32
  let v156 : BitVec 1 := Scalar.cmpi .sle v154 c4_i32_99
  let c4_i32_101 : BitVec 32 := 4#32
  let c1_i32_100 : BitVec 32 := 1#32
  let v157 : BitVec 32 := Scalar.subi v154 c1_i32_100
  let v158 : BitVec 32 := Scalar.muli c4_i32_101 v157
  let c1_i32_102 : BitVec 32 := 1#32
  let v159 : BitVec 32 := Scalar.addi v158 c1_i32_102
  let c8_i32_103 : BitVec 32 := 8#32
  let v160 : BitVec 1 := Scalar.cmpi .sle v154 c8_i32_103
  let c4_i32_105 : BitVec 32 := 4#32
  let c8_i32_104 : BitVec 32 := 8#32
  let v161 : BitVec 32 := Scalar.subi c8_i32_104 v154
  let v162 : BitVec 32 := Scalar.muli c4_i32_105 v161
  let c2_i32_106 : BitVec 32 := 2#32
  let v163 : BitVec 32 := Scalar.addi v162 c2_i32_106
  let c12_i32_107 : BitVec 32 := 12#32
  let v164 : BitVec 1 := Scalar.cmpi .sle v154 c12_i32_107
  let c4_i32_109 : BitVec 32 := 4#32
  let c9_i32_108 : BitVec 32 := 9#32
  let v165 : BitVec 32 := Scalar.subi v154 c9_i32_108
  let v166 : BitVec 32 := Scalar.muli c4_i32_109 v165
  let c3_i32_110 : BitVec 32 := 3#32
  let v167 : BitVec 32 := Scalar.addi v166 c3_i32_110
  let c4_i32_112 : BitVec 32 := 4#32
  let c16_i32_111 : BitVec 32 := 16#32
  let v168 : BitVec 32 := Scalar.subi c16_i32_111 v154
  let v169 : BitVec 32 := Scalar.muli c4_i32_112 v168
  let v170 : BitVec 32 := Scalar.select v164 v167 v169
  let v171 : BitVec 32 := Scalar.select v160 v163 v170
  let v172 : BitVec 32 := Scalar.select v156 v159 v171
  let v173 : BitVec 32 := Scalar.select v155 c0_i32_113 v172
  let c256_i32_114 : BitVec 32 := 256#32
  let v174 : BitVec 32 := Scalar.muli v173 c256_i32_114
  let c0_i32_612 : BitVec 32 := 0#32
  let v787 : BitVec 32 := Scalar.addi v174 c0_i32_612
  v787
def k0_mult3 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c15_i32 : BitVec 32 := 15#32
  let v591 : BitVec 32 := Scalar.subi v49 c15_i32
  let c16_i32_433 : BitVec 32 := 16#32
  let v592 : BitVec 32 := Scalar.addi v591 c16_i32_433
  let c16_i32_434 : BitVec 32 := 16#32
  let c0_i32_435 : BitVec 32 := 0#32
  let v593 : BitVec 1 := Scalar.cmpi .eq c16_i32_434 c0_i32_435
  let c1_i32_436 : BitVec 32 := 1#32
  let v594 : BitVec 32 := Scalar.select v593 c1_i32_436 c16_i32_434
  let v595 : BitVec 32 := Scalar.remsi v592 v594
  let c0_i32_438 : BitVec 32 := 0#32
  let v597 : BitVec 1 := Scalar.cmpi .slt v595 c0_i32_438
  let c0_i32_439 : BitVec 32 := 0#32
  let v598 : BitVec 1 := Scalar.cmpi .slt v594 c0_i32_439
  let v599 : BitVec 1 := Scalar.xori v597 v598
  let c0_i32_437 : BitVec 32 := 0#32
  let v596 : BitVec 1 := Scalar.cmpi .ne v595 c0_i32_437
  let v600 : BitVec 1 := Scalar.andi v599 v596
  let v601 : BitVec 32 := Scalar.addi v595 v594
  let v602 : BitVec 32 := Scalar.select v600 v601 v595
  let c0_i32_440 : BitVec 32 := 0#32
  let v603 : BitVec 1 := Scalar.cmpi .eq v602 c0_i32_440
  let c0_i32_455 : BitVec 32 := 0#32
  let c4_i32_441 : BitVec 32 := 4#32
  let v604 : BitVec 1 := Scalar.cmpi .sle v602 c4_i32_441
  let c4_i32_443 : BitVec 32 := 4#32
  let c1_i32_442 : BitVec 32 := 1#32
  let v605 : BitVec 32 := Scalar.subi v602 c1_i32_442
  let v606 : BitVec 32 := Scalar.muli c4_i32_443 v605
  let c1_i32_444 : BitVec 32 := 1#32
  let v607 : BitVec 32 := Scalar.addi v606 c1_i32_444
  let c8_i32_445 : BitVec 32 := 8#32
  let v608 : BitVec 1 := Scalar.cmpi .sle v602 c8_i32_445
  let c4_i32_447 : BitVec 32 := 4#32
  let c8_i32_446 : BitVec 32 := 8#32
  let v609 : BitVec 32 := Scalar.subi c8_i32_446 v602
  let v610 : BitVec 32 := Scalar.muli c4_i32_447 v609
  let c2_i32_448 : BitVec 32 := 2#32
  let v611 : BitVec 32 := Scalar.addi v610 c2_i32_448
  let c12_i32_449 : BitVec 32 := 12#32
  let v612 : BitVec 1 := Scalar.cmpi .sle v602 c12_i32_449
  let c4_i32_451 : BitVec 32 := 4#32
  let c9_i32_450 : BitVec 32 := 9#32
  let v613 : BitVec 32 := Scalar.subi v602 c9_i32_450
  let v614 : BitVec 32 := Scalar.muli c4_i32_451 v613
  let c3_i32_452 : BitVec 32 := 3#32
  let v615 : BitVec 32 := Scalar.addi v614 c3_i32_452
  let c4_i32_454 : BitVec 32 := 4#32
  let c16_i32_453 : BitVec 32 := 16#32
  let v616 : BitVec 32 := Scalar.subi c16_i32_453 v602
  let v617 : BitVec 32 := Scalar.muli c4_i32_454 v616
  let v618 : BitVec 32 := Scalar.select v612 v615 v617
  let v619 : BitVec 32 := Scalar.select v608 v611 v618
  let v620 : BitVec 32 := Scalar.select v604 v607 v619
  let v621 : BitVec 32 := Scalar.select v603 c0_i32_455 v620
  let c256_i32_456 : BitVec 32 := 256#32
  let v622 : BitVec 32 := Scalar.muli v621 c256_i32_456
  let c0_i32_622 : BitVec 32 := 0#32
  let v806 : BitVec 32 := Scalar.addi v622 c0_i32_622
  v806
def k0_dev11 (d0 : Dev nD) : Nat :=
  let c0_i32_642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_21 : BitVec 32 := 1#32
  let v50 : BitVec 32 := Scalar.addi v49 c1_i32_21
  let c16_i32_22 : BitVec 32 := 16#32
  let c0_i32_23 : BitVec 32 := 0#32
  let v51 : BitVec 1 := Scalar.cmpi .eq c16_i32_22 c0_i32_23
  let c1_i32_24 : BitVec 32 := 1#32
  let v52 : BitVec 32 := Scalar.select v51 c1_i32_24 c16_i32_22
  let v53 : BitVec 32 := Scalar.remsi v50 v52
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let c0_i32_25 : BitVec 32 := 0#32
  let v54 : BitVec 1 := Scalar.cmpi .ne v53 c0_i32_25
  let v58 : BitVec 1 := Scalar.andi v57 v54
  let v59 : BitVec 32 := Scalar.addi v53 v52
  let v60 : BitVec 32 := Scalar.select v58 v59 v53
  let c0_i32_28 : BitVec 32 := 0#32
  let v61 : BitVec 1 := Scalar.cmpi .eq v60 c0_i32_28
  let c0_i32_41 : BitVec 32 := 0#32
  let c4_i32_29 : BitVec 32 := 4#32
  let v62 : BitVec 1 := Scalar.cmpi .sle v60 c4_i32_29
  let c4_i32_31 : BitVec 32 := 4#32
  let c1_i32_30 : BitVec 32 := 1#32
  let v63 : BitVec 32 := Scalar.subi v60 c1_i32_30
  let v64 : BitVec 32 := Scalar.muli c4_i32_31 v63
  let c1_i32_32 : BitVec 32 := 1#32
  let v65 : BitVec 32 := Scalar.addi v64 c1_i32_32
  let c8_i32_33 : BitVec 32 := 8#32
  let v66 : BitVec 1 := Scalar.cmpi .sle v60 c8_i32_33
  let c4_i32_35 : BitVec 32 := 4#32
  let c8_i32_34 : BitVec 32 := 8#32
  let v67 : BitVec 32 := Scalar.subi c8_i32_34 v60
  let v68 : BitVec 32 := Scalar.muli c4_i32_35 v67
  let c2_i32_36 : BitVec 32 := 2#32
  let v69 : BitVec 32 := Scalar.addi v68 c2_i32_36
  let c12_i32 : BitVec 32 := 12#32
  let v70 : BitVec 1 := Scalar.cmpi .sle v60 c12_i32
  let c4_i32_38 : BitVec 32 := 4#32
  let c9_i32_37 : BitVec 32 := 9#32
  let v71 : BitVec 32 := Scalar.subi v60 c9_i32_37
  let v72 : BitVec 32 := Scalar.muli c4_i32_38 v71
  let c3_i32 : BitVec 32 := 3#32
  let v73 : BitVec 32 := Scalar.addi v72 c3_i32
  let c4_i32_40 : BitVec 32 := 4#32
  let c16_i32_39 : BitVec 32 := 16#32
  let v74 : BitVec 32 := Scalar.subi c16_i32_39 v60
  let v75 : BitVec 32 := Scalar.muli c4_i32_40 v74
  let v76 : BitVec 32 := Scalar.select v70 v73 v75
  let v77 : BitVec 32 := Scalar.select v66 v69 v76
  let v78 : BitVec 32 := Scalar.select v62 v65 v77
  let v79 : BitVec 32 := Scalar.select v61 c0_i32_41 v78
  let c1_i32_641 : BitVec 32 := 1#32
  let v826 : BitVec 32 := Scalar.muli v79 c1_i32_641
  let v827 : BitVec 32 := Scalar.addi c0_i32_642 v826
  v827.toNat
def k0_dev12 (d0 : Dev nD) : Nat :=
  let c0_i32_662 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c16_i32_42 : BitVec 32 := 16#32
  let v80 : BitVec 32 := Scalar.addi v49 c16_i32_42
  let c1_i32_43 : BitVec 32 := 1#32
  let v81 : BitVec 32 := Scalar.subi v80 c1_i32_43
  let c16_i32_44 : BitVec 32 := 16#32
  let c0_i32_45 : BitVec 32 := 0#32
  let v82 : BitVec 1 := Scalar.cmpi .eq c16_i32_44 c0_i32_45
  let c1_i32_46 : BitVec 32 := 1#32
  let v83 : BitVec 32 := Scalar.select v82 c1_i32_46 c16_i32_44
  let v84 : BitVec 32 := Scalar.remsi v81 v83
  let c0_i32_48 : BitVec 32 := 0#32
  let v86 : BitVec 1 := Scalar.cmpi .slt v84 c0_i32_48
  let c0_i32_49 : BitVec 32 := 0#32
  let v87 : BitVec 1 := Scalar.cmpi .slt v83 c0_i32_49
  let v88 : BitVec 1 := Scalar.xori v86 v87
  let c0_i32_47 : BitVec 32 := 0#32
  let v85 : BitVec 1 := Scalar.cmpi .ne v84 c0_i32_47
  let v89 : BitVec 1 := Scalar.andi v88 v85
  let v90 : BitVec 32 := Scalar.addi v84 v83
  let v91 : BitVec 32 := Scalar.select v89 v90 v84
  let c0_i32_50 : BitVec 32 := 0#32
  let v92 : BitVec 1 := Scalar.cmpi .eq v91 c0_i32_50
  let c0_i32_65 : BitVec 32 := 0#32
  let c4_i32_51 : BitVec 32 := 4#32
  let v93 : BitVec 1 := Scalar.cmpi .sle v91 c4_i32_51
  let c4_i32_53 : BitVec 32 := 4#32
  let c1_i32_52 : BitVec 32 := 1#32
  let v94 : BitVec 32 := Scalar.subi v91 c1_i32_52
  let v95 : BitVec 32 := Scalar.muli c4_i32_53 v94
  let c1_i32_54 : BitVec 32 := 1#32
  let v96 : BitVec 32 := Scalar.addi v95 c1_i32_54
  let c8_i32_55 : BitVec 32 := 8#32
  let v97 : BitVec 1 := Scalar.cmpi .sle v91 c8_i32_55
  let c4_i32_57 : BitVec 32 := 4#32
  let c8_i32_56 : BitVec 32 := 8#32
  let v98 : BitVec 32 := Scalar.subi c8_i32_56 v91
  let v99 : BitVec 32 := Scalar.muli c4_i32_57 v98
  let c2_i32_58 : BitVec 32 := 2#32
  let v100 : BitVec 32 := Scalar.addi v99 c2_i32_58
  let c12_i32_59 : BitVec 32 := 12#32
  let v101 : BitVec 1 := Scalar.cmpi .sle v91 c12_i32_59
  let c4_i32_61 : BitVec 32 := 4#32
  let c9_i32_60 : BitVec 32 := 9#32
  let v102 : BitVec 32 := Scalar.subi v91 c9_i32_60
  let v103 : BitVec 32 := Scalar.muli c4_i32_61 v102
  let c3_i32_62 : BitVec 32 := 3#32
  let v104 : BitVec 32 := Scalar.addi v103 c3_i32_62
  let c4_i32_64 : BitVec 32 := 4#32
  let c16_i32_63 : BitVec 32 := 16#32
  let v105 : BitVec 32 := Scalar.subi c16_i32_63 v91
  let v106 : BitVec 32 := Scalar.muli c4_i32_64 v105
  let v107 : BitVec 32 := Scalar.select v101 v104 v106
  let v108 : BitVec 32 := Scalar.select v97 v100 v107
  let v109 : BitVec 32 := Scalar.select v93 v96 v108
  let v110 : BitVec 32 := Scalar.select v92 c0_i32_65 v109
  let c1_i32_661 : BitVec 32 := 1#32
  let v844 : BitVec 32 := Scalar.muli v110 c1_i32_661
  let v845 : BitVec 32 := Scalar.addi c0_i32_662 v844
  v845.toNat
def k0_dev13 (d0 : Dev nD) : Nat :=
  let c0_i32_682 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_21 : BitVec 32 := 1#32
  let v50 : BitVec 32 := Scalar.addi v49 c1_i32_21
  let c16_i32_22 : BitVec 32 := 16#32
  let c0_i32_23 : BitVec 32 := 0#32
  let v51 : BitVec 1 := Scalar.cmpi .eq c16_i32_22 c0_i32_23
  let c1_i32_24 : BitVec 32 := 1#32
  let v52 : BitVec 32 := Scalar.select v51 c1_i32_24 c16_i32_22
  let v53 : BitVec 32 := Scalar.remsi v50 v52
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let c0_i32_25 : BitVec 32 := 0#32
  let v54 : BitVec 1 := Scalar.cmpi .ne v53 c0_i32_25
  let v58 : BitVec 1 := Scalar.andi v57 v54
  let v59 : BitVec 32 := Scalar.addi v53 v52
  let v60 : BitVec 32 := Scalar.select v58 v59 v53
  let c0_i32_28 : BitVec 32 := 0#32
  let v61 : BitVec 1 := Scalar.cmpi .eq v60 c0_i32_28
  let c0_i32_41 : BitVec 32 := 0#32
  let c4_i32_29 : BitVec 32 := 4#32
  let v62 : BitVec 1 := Scalar.cmpi .sle v60 c4_i32_29
  let c4_i32_31 : BitVec 32 := 4#32
  let c1_i32_30 : BitVec 32 := 1#32
  let v63 : BitVec 32 := Scalar.subi v60 c1_i32_30
  let v64 : BitVec 32 := Scalar.muli c4_i32_31 v63
  let c1_i32_32 : BitVec 32 := 1#32
  let v65 : BitVec 32 := Scalar.addi v64 c1_i32_32
  let c8_i32_33 : BitVec 32 := 8#32
  let v66 : BitVec 1 := Scalar.cmpi .sle v60 c8_i32_33
  let c4_i32_35 : BitVec 32 := 4#32
  let c8_i32_34 : BitVec 32 := 8#32
  let v67 : BitVec 32 := Scalar.subi c8_i32_34 v60
  let v68 : BitVec 32 := Scalar.muli c4_i32_35 v67
  let c2_i32_36 : BitVec 32 := 2#32
  let v69 : BitVec 32 := Scalar.addi v68 c2_i32_36
  let c12_i32 : BitVec 32 := 12#32
  let v70 : BitVec 1 := Scalar.cmpi .sle v60 c12_i32
  let c4_i32_38 : BitVec 32 := 4#32
  let c9_i32_37 : BitVec 32 := 9#32
  let v71 : BitVec 32 := Scalar.subi v60 c9_i32_37
  let v72 : BitVec 32 := Scalar.muli c4_i32_38 v71
  let c3_i32 : BitVec 32 := 3#32
  let v73 : BitVec 32 := Scalar.addi v72 c3_i32
  let c4_i32_40 : BitVec 32 := 4#32
  let c16_i32_39 : BitVec 32 := 16#32
  let v74 : BitVec 32 := Scalar.subi c16_i32_39 v60
  let v75 : BitVec 32 := Scalar.muli c4_i32_40 v74
  let v76 : BitVec 32 := Scalar.select v70 v73 v75
  let v77 : BitVec 32 := Scalar.select v66 v69 v76
  let v78 : BitVec 32 := Scalar.select v62 v65 v77
  let v79 : BitVec 32 := Scalar.select v61 c0_i32_41 v78
  let c1_i32_681 : BitVec 32 := 1#32
  let v862 : BitVec 32 := Scalar.muli v79 c1_i32_681
  let v863 : BitVec 32 := Scalar.addi c0_i32_682 v862
  v863.toNat
def k0_dev14 (d0 : Dev nD) : Nat :=
  let c0_i32_702 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c16_i32_42 : BitVec 32 := 16#32
  let v80 : BitVec 32 := Scalar.addi v49 c16_i32_42
  let c1_i32_43 : BitVec 32 := 1#32
  let v81 : BitVec 32 := Scalar.subi v80 c1_i32_43
  let c16_i32_44 : BitVec 32 := 16#32
  let c0_i32_45 : BitVec 32 := 0#32
  let v82 : BitVec 1 := Scalar.cmpi .eq c16_i32_44 c0_i32_45
  let c1_i32_46 : BitVec 32 := 1#32
  let v83 : BitVec 32 := Scalar.select v82 c1_i32_46 c16_i32_44
  let v84 : BitVec 32 := Scalar.remsi v81 v83
  let c0_i32_48 : BitVec 32 := 0#32
  let v86 : BitVec 1 := Scalar.cmpi .slt v84 c0_i32_48
  let c0_i32_49 : BitVec 32 := 0#32
  let v87 : BitVec 1 := Scalar.cmpi .slt v83 c0_i32_49
  let v88 : BitVec 1 := Scalar.xori v86 v87
  let c0_i32_47 : BitVec 32 := 0#32
  let v85 : BitVec 1 := Scalar.cmpi .ne v84 c0_i32_47
  let v89 : BitVec 1 := Scalar.andi v88 v85
  let v90 : BitVec 32 := Scalar.addi v84 v83
  let v91 : BitVec 32 := Scalar.select v89 v90 v84
  let c0_i32_50 : BitVec 32 := 0#32
  let v92 : BitVec 1 := Scalar.cmpi .eq v91 c0_i32_50
  let c0_i32_65 : BitVec 32 := 0#32
  let c4_i32_51 : BitVec 32 := 4#32
  let v93 : BitVec 1 := Scalar.cmpi .sle v91 c4_i32_51
  let c4_i32_53 : BitVec 32 := 4#32
  let c1_i32_52 : BitVec 32 := 1#32
  let v94 : BitVec 32 := Scalar.subi v91 c1_i32_52
  let v95 : BitVec 32 := Scalar.muli c4_i32_53 v94
  let c1_i32_54 : BitVec 32 := 1#32
  let v96 : BitVec 32 := Scalar.addi v95 c1_i32_54
  let c8_i32_55 : BitVec 32 := 8#32
  let v97 : BitVec 1 := Scalar.cmpi .sle v91 c8_i32_55
  let c4_i32_57 : BitVec 32 := 4#32
  let c8_i32_56 : BitVec 32 := 8#32
  let v98 : BitVec 32 := Scalar.subi c8_i32_56 v91
  let v99 : BitVec 32 := Scalar.muli c4_i32_57 v98
  let c2_i32_58 : BitVec 32 := 2#32
  let v100 : BitVec 32 := Scalar.addi v99 c2_i32_58
  let c12_i32_59 : BitVec 32 := 12#32
  let v101 : BitVec 1 := Scalar.cmpi .sle v91 c12_i32_59
  let c4_i32_61 : BitVec 32 := 4#32
  let c9_i32_60 : BitVec 32 := 9#32
  let v102 : BitVec 32 := Scalar.subi v91 c9_i32_60
  let v103 : BitVec 32 := Scalar.muli c4_i32_61 v102
  let c3_i32_62 : BitVec 32 := 3#32
  let v104 : BitVec 32 := Scalar.addi v103 c3_i32_62
  let c4_i32_64 : BitVec 32 := 4#32
  let c16_i32_63 : BitVec 32 := 16#32
  let v105 : BitVec 32 := Scalar.subi c16_i32_63 v91
  let v106 : BitVec 32 := Scalar.muli c4_i32_64 v105
  let v107 : BitVec 32 := Scalar.select v101 v104 v106
  let v108 : BitVec 32 := Scalar.select v97 v100 v107
  let v109 : BitVec 32 := Scalar.select v93 v96 v108
  let v110 : BitVec 32 := Scalar.select v92 c0_i32_65 v109
  let c1_i32_701 : BitVec 32 := 1#32
  let v880 : BitVec 32 := Scalar.muli v110 c1_i32_701
  let v881 : BitVec 32 := Scalar.addi c0_i32_702 v880
  v881.toNat
def k0_mult4 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c2_i32_115 : BitVec 32 := 2#32
  let v175 : BitVec 32 := Scalar.subi v49 c2_i32_115
  let c16_i32_116 : BitVec 32 := 16#32
  let v176 : BitVec 32 := Scalar.addi v175 c16_i32_116
  let c16_i32_117 : BitVec 32 := 16#32
  let c0_i32_118 : BitVec 32 := 0#32
  let v177 : BitVec 1 := Scalar.cmpi .eq c16_i32_117 c0_i32_118
  let c1_i32_119 : BitVec 32 := 1#32
  let v178 : BitVec 32 := Scalar.select v177 c1_i32_119 c16_i32_117
  let v179 : BitVec 32 := Scalar.remsi v176 v178
  let c0_i32_121 : BitVec 32 := 0#32
  let v181 : BitVec 1 := Scalar.cmpi .slt v179 c0_i32_121
  let c0_i32_122 : BitVec 32 := 0#32
  let v182 : BitVec 1 := Scalar.cmpi .slt v178 c0_i32_122
  let v183 : BitVec 1 := Scalar.xori v181 v182
  let c0_i32_120 : BitVec 32 := 0#32
  let v180 : BitVec 1 := Scalar.cmpi .ne v179 c0_i32_120
  let v184 : BitVec 1 := Scalar.andi v183 v180
  let v185 : BitVec 32 := Scalar.addi v179 v178
  let v186 : BitVec 32 := Scalar.select v184 v185 v179
  let c0_i32_123 : BitVec 32 := 0#32
  let v187 : BitVec 1 := Scalar.cmpi .eq v186 c0_i32_123
  let c0_i32_138 : BitVec 32 := 0#32
  let c4_i32_124 : BitVec 32 := 4#32
  let v188 : BitVec 1 := Scalar.cmpi .sle v186 c4_i32_124
  let c4_i32_126 : BitVec 32 := 4#32
  let c1_i32_125 : BitVec 32 := 1#32
  let v189 : BitVec 32 := Scalar.subi v186 c1_i32_125
  let v190 : BitVec 32 := Scalar.muli c4_i32_126 v189
  let c1_i32_127 : BitVec 32 := 1#32
  let v191 : BitVec 32 := Scalar.addi v190 c1_i32_127
  let c8_i32_128 : BitVec 32 := 8#32
  let v192 : BitVec 1 := Scalar.cmpi .sle v186 c8_i32_128
  let c4_i32_130 : BitVec 32 := 4#32
  let c8_i32_129 : BitVec 32 := 8#32
  let v193 : BitVec 32 := Scalar.subi c8_i32_129 v186
  let v194 : BitVec 32 := Scalar.muli c4_i32_130 v193
  let c2_i32_131 : BitVec 32 := 2#32
  let v195 : BitVec 32 := Scalar.addi v194 c2_i32_131
  let c12_i32_132 : BitVec 32 := 12#32
  let v196 : BitVec 1 := Scalar.cmpi .sle v186 c12_i32_132
  let c4_i32_134 : BitVec 32 := 4#32
  let c9_i32_133 : BitVec 32 := 9#32
  let v197 : BitVec 32 := Scalar.subi v186 c9_i32_133
  let v198 : BitVec 32 := Scalar.muli c4_i32_134 v197
  let c3_i32_135 : BitVec 32 := 3#32
  let v199 : BitVec 32 := Scalar.addi v198 c3_i32_135
  let c4_i32_137 : BitVec 32 := 4#32
  let c16_i32_136 : BitVec 32 := 16#32
  let v200 : BitVec 32 := Scalar.subi c16_i32_136 v186
  let v201 : BitVec 32 := Scalar.muli c4_i32_137 v200
  let v202 : BitVec 32 := Scalar.select v196 v199 v201
  let v203 : BitVec 32 := Scalar.select v192 v195 v202
  let v204 : BitVec 32 := Scalar.select v188 v191 v203
  let v205 : BitVec 32 := Scalar.select v187 c0_i32_138 v204
  let c256_i32_139 : BitVec 32 := 256#32
  let v206 : BitVec 32 := Scalar.muli v205 c256_i32_139
  let c0_i32_712 : BitVec 32 := 0#32
  let v897 : BitVec 32 := Scalar.addi v206 c0_i32_712
  v897
def k0_mult5 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c14_i32 : BitVec 32 := 14#32
  let v559 : BitVec 32 := Scalar.subi v49 c14_i32
  let c16_i32_409 : BitVec 32 := 16#32
  let v560 : BitVec 32 := Scalar.addi v559 c16_i32_409
  let c16_i32_410 : BitVec 32 := 16#32
  let c0_i32_411 : BitVec 32 := 0#32
  let v561 : BitVec 1 := Scalar.cmpi .eq c16_i32_410 c0_i32_411
  let c1_i32_412 : BitVec 32 := 1#32
  let v562 : BitVec 32 := Scalar.select v561 c1_i32_412 c16_i32_410
  let v563 : BitVec 32 := Scalar.remsi v560 v562
  let c0_i32_414 : BitVec 32 := 0#32
  let v565 : BitVec 1 := Scalar.cmpi .slt v563 c0_i32_414
  let c0_i32_415 : BitVec 32 := 0#32
  let v566 : BitVec 1 := Scalar.cmpi .slt v562 c0_i32_415
  let v567 : BitVec 1 := Scalar.xori v565 v566
  let c0_i32_413 : BitVec 32 := 0#32
  let v564 : BitVec 1 := Scalar.cmpi .ne v563 c0_i32_413
  let v568 : BitVec 1 := Scalar.andi v567 v564
  let v569 : BitVec 32 := Scalar.addi v563 v562
  let v570 : BitVec 32 := Scalar.select v568 v569 v563
  let c0_i32_416 : BitVec 32 := 0#32
  let v571 : BitVec 1 := Scalar.cmpi .eq v570 c0_i32_416
  let c0_i32_431 : BitVec 32 := 0#32
  let c4_i32_417 : BitVec 32 := 4#32
  let v572 : BitVec 1 := Scalar.cmpi .sle v570 c4_i32_417
  let c4_i32_419 : BitVec 32 := 4#32
  let c1_i32_418 : BitVec 32 := 1#32
  let v573 : BitVec 32 := Scalar.subi v570 c1_i32_418
  let v574 : BitVec 32 := Scalar.muli c4_i32_419 v573
  let c1_i32_420 : BitVec 32 := 1#32
  let v575 : BitVec 32 := Scalar.addi v574 c1_i32_420
  let c8_i32_421 : BitVec 32 := 8#32
  let v576 : BitVec 1 := Scalar.cmpi .sle v570 c8_i32_421
  let c4_i32_423 : BitVec 32 := 4#32
  let c8_i32_422 : BitVec 32 := 8#32
  let v577 : BitVec 32 := Scalar.subi c8_i32_422 v570
  let v578 : BitVec 32 := Scalar.muli c4_i32_423 v577
  let c2_i32_424 : BitVec 32 := 2#32
  let v579 : BitVec 32 := Scalar.addi v578 c2_i32_424
  let c12_i32_425 : BitVec 32 := 12#32
  let v580 : BitVec 1 := Scalar.cmpi .sle v570 c12_i32_425
  let c4_i32_427 : BitVec 32 := 4#32
  let c9_i32_426 : BitVec 32 := 9#32
  let v581 : BitVec 32 := Scalar.subi v570 c9_i32_426
  let v582 : BitVec 32 := Scalar.muli c4_i32_427 v581
  let c3_i32_428 : BitVec 32 := 3#32
  let v583 : BitVec 32 := Scalar.addi v582 c3_i32_428
  let c4_i32_430 : BitVec 32 := 4#32
  let c16_i32_429 : BitVec 32 := 16#32
  let v584 : BitVec 32 := Scalar.subi c16_i32_429 v570
  let v585 : BitVec 32 := Scalar.muli c4_i32_430 v584
  let v586 : BitVec 32 := Scalar.select v580 v583 v585
  let v587 : BitVec 32 := Scalar.select v576 v579 v586
  let v588 : BitVec 32 := Scalar.select v572 v575 v587
  let v589 : BitVec 32 := Scalar.select v571 c0_i32_431 v588
  let c256_i32_432 : BitVec 32 := 256#32
  let v590 : BitVec 32 := Scalar.muli v589 c256_i32_432
  let c0_i32_722 : BitVec 32 := 0#32
  let v916 : BitVec 32 := Scalar.addi v590 c0_i32_722
  v916
def k0_dev15 (d0 : Dev nD) : Nat :=
  let c0_i32_742 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_21 : BitVec 32 := 1#32
  let v50 : BitVec 32 := Scalar.addi v49 c1_i32_21
  let c16_i32_22 : BitVec 32 := 16#32
  let c0_i32_23 : BitVec 32 := 0#32
  let v51 : BitVec 1 := Scalar.cmpi .eq c16_i32_22 c0_i32_23
  let c1_i32_24 : BitVec 32 := 1#32
  let v52 : BitVec 32 := Scalar.select v51 c1_i32_24 c16_i32_22
  let v53 : BitVec 32 := Scalar.remsi v50 v52
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let c0_i32_25 : BitVec 32 := 0#32
  let v54 : BitVec 1 := Scalar.cmpi .ne v53 c0_i32_25
  let v58 : BitVec 1 := Scalar.andi v57 v54
  let v59 : BitVec 32 := Scalar.addi v53 v52
  let v60 : BitVec 32 := Scalar.select v58 v59 v53
  let c0_i32_28 : BitVec 32 := 0#32
  let v61 : BitVec 1 := Scalar.cmpi .eq v60 c0_i32_28
  let c0_i32_41 : BitVec 32 := 0#32
  let c4_i32_29 : BitVec 32 := 4#32
  let v62 : BitVec 1 := Scalar.cmpi .sle v60 c4_i32_29
  let c4_i32_31 : BitVec 32 := 4#32
  let c1_i32_30 : BitVec 32 := 1#32
  let v63 : BitVec 32 := Scalar.subi v60 c1_i32_30
  let v64 : BitVec 32 := Scalar.muli c4_i32_31 v63
  let c1_i32_32 : BitVec 32 := 1#32
  let v65 : BitVec 32 := Scalar.addi v64 c1_i32_32
  let c8_i32_33 : BitVec 32 := 8#32
  let v66 : BitVec 1 := Scalar.cmpi .sle v60 c8_i32_33
  let c4_i32_35 : BitVec 32 := 4#32
  let c8_i32_34 : BitVec 32 := 8#32
  let v67 : BitVec 32 := Scalar.subi c8_i32_34 v60
  let v68 : BitVec 32 := Scalar.muli c4_i32_35 v67
  let c2_i32_36 : BitVec 32 := 2#32
  let v69 : BitVec 32 := Scalar.addi v68 c2_i32_36
  let c12_i32 : BitVec 32 := 12#32
  let v70 : BitVec 1 := Scalar.cmpi .sle v60 c12_i32
  let c4_i32_38 : BitVec 32 := 4#32
  let c9_i32_37 : BitVec 32 := 9#32
  let v71 : BitVec 32 := Scalar.subi v60 c9_i32_37
  let v72 : BitVec 32 := Scalar.muli c4_i32_38 v71
  let c3_i32 : BitVec 32 := 3#32
  let v73 : BitVec 32 := Scalar.addi v72 c3_i32
  let c4_i32_40 : BitVec 32 := 4#32
  let c16_i32_39 : BitVec 32 := 16#32
  let v74 : BitVec 32 := Scalar.subi c16_i32_39 v60
  let v75 : BitVec 32 := Scalar.muli c4_i32_40 v74
  let v76 : BitVec 32 := Scalar.select v70 v73 v75
  let v77 : BitVec 32 := Scalar.select v66 v69 v76
  let v78 : BitVec 32 := Scalar.select v62 v65 v77
  let v79 : BitVec 32 := Scalar.select v61 c0_i32_41 v78
  let c1_i32_741 : BitVec 32 := 1#32
  let v936 : BitVec 32 := Scalar.muli v79 c1_i32_741
  let v937 : BitVec 32 := Scalar.addi c0_i32_742 v936
  v937.toNat
def k0_dev16 (d0 : Dev nD) : Nat :=
  let c0_i32_762 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c16_i32_42 : BitVec 32 := 16#32
  let v80 : BitVec 32 := Scalar.addi v49 c16_i32_42
  let c1_i32_43 : BitVec 32 := 1#32
  let v81 : BitVec 32 := Scalar.subi v80 c1_i32_43
  let c16_i32_44 : BitVec 32 := 16#32
  let c0_i32_45 : BitVec 32 := 0#32
  let v82 : BitVec 1 := Scalar.cmpi .eq c16_i32_44 c0_i32_45
  let c1_i32_46 : BitVec 32 := 1#32
  let v83 : BitVec 32 := Scalar.select v82 c1_i32_46 c16_i32_44
  let v84 : BitVec 32 := Scalar.remsi v81 v83
  let c0_i32_48 : BitVec 32 := 0#32
  let v86 : BitVec 1 := Scalar.cmpi .slt v84 c0_i32_48
  let c0_i32_49 : BitVec 32 := 0#32
  let v87 : BitVec 1 := Scalar.cmpi .slt v83 c0_i32_49
  let v88 : BitVec 1 := Scalar.xori v86 v87
  let c0_i32_47 : BitVec 32 := 0#32
  let v85 : BitVec 1 := Scalar.cmpi .ne v84 c0_i32_47
  let v89 : BitVec 1 := Scalar.andi v88 v85
  let v90 : BitVec 32 := Scalar.addi v84 v83
  let v91 : BitVec 32 := Scalar.select v89 v90 v84
  let c0_i32_50 : BitVec 32 := 0#32
  let v92 : BitVec 1 := Scalar.cmpi .eq v91 c0_i32_50
  let c0_i32_65 : BitVec 32 := 0#32
  let c4_i32_51 : BitVec 32 := 4#32
  let v93 : BitVec 1 := Scalar.cmpi .sle v91 c4_i32_51
  let c4_i32_53 : BitVec 32 := 4#32
  let c1_i32_52 : BitVec 32 := 1#32
  let v94 : BitVec 32 := Scalar.subi v91 c1_i32_52
  let v95 : BitVec 32 := Scalar.muli c4_i32_53 v94
  let c1_i32_54 : BitVec 32 := 1#32
  let v96 : BitVec 32 := Scalar.addi v95 c1_i32_54
  let c8_i32_55 : BitVec 32 := 8#32
  let v97 : BitVec 1 := Scalar.cmpi .sle v91 c8_i32_55
  let c4_i32_57 : BitVec 32 := 4#32
  let c8_i32_56 : BitVec 32 := 8#32
  let v98 : BitVec 32 := Scalar.subi c8_i32_56 v91
  let v99 : BitVec 32 := Scalar.muli c4_i32_57 v98
  let c2_i32_58 : BitVec 32 := 2#32
  let v100 : BitVec 32 := Scalar.addi v99 c2_i32_58
  let c12_i32_59 : BitVec 32 := 12#32
  let v101 : BitVec 1 := Scalar.cmpi .sle v91 c12_i32_59
  let c4_i32_61 : BitVec 32 := 4#32
  let c9_i32_60 : BitVec 32 := 9#32
  let v102 : BitVec 32 := Scalar.subi v91 c9_i32_60
  let v103 : BitVec 32 := Scalar.muli c4_i32_61 v102
  let c3_i32_62 : BitVec 32 := 3#32
  let v104 : BitVec 32 := Scalar.addi v103 c3_i32_62
  let c4_i32_64 : BitVec 32 := 4#32
  let c16_i32_63 : BitVec 32 := 16#32
  let v105 : BitVec 32 := Scalar.subi c16_i32_63 v91
  let v106 : BitVec 32 := Scalar.muli c4_i32_64 v105
  let v107 : BitVec 32 := Scalar.select v101 v104 v106
  let v108 : BitVec 32 := Scalar.select v97 v100 v107
  let v109 : BitVec 32 := Scalar.select v93 v96 v108
  let v110 : BitVec 32 := Scalar.select v92 c0_i32_65 v109
  let c1_i32_761 : BitVec 32 := 1#32
  let v954 : BitVec 32 := Scalar.muli v110 c1_i32_761
  let v955 : BitVec 32 := Scalar.addi c0_i32_762 v954
  v955.toNat
def k0_dev17 (d0 : Dev nD) : Nat :=
  let c0_i32_782 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_21 : BitVec 32 := 1#32
  let v50 : BitVec 32 := Scalar.addi v49 c1_i32_21
  let c16_i32_22 : BitVec 32 := 16#32
  let c0_i32_23 : BitVec 32 := 0#32
  let v51 : BitVec 1 := Scalar.cmpi .eq c16_i32_22 c0_i32_23
  let c1_i32_24 : BitVec 32 := 1#32
  let v52 : BitVec 32 := Scalar.select v51 c1_i32_24 c16_i32_22
  let v53 : BitVec 32 := Scalar.remsi v50 v52
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let c0_i32_25 : BitVec 32 := 0#32
  let v54 : BitVec 1 := Scalar.cmpi .ne v53 c0_i32_25
  let v58 : BitVec 1 := Scalar.andi v57 v54
  let v59 : BitVec 32 := Scalar.addi v53 v52
  let v60 : BitVec 32 := Scalar.select v58 v59 v53
  let c0_i32_28 : BitVec 32 := 0#32
  let v61 : BitVec 1 := Scalar.cmpi .eq v60 c0_i32_28
  let c0_i32_41 : BitVec 32 := 0#32
  let c4_i32_29 : BitVec 32 := 4#32
  let v62 : BitVec 1 := Scalar.cmpi .sle v60 c4_i32_29
  let c4_i32_31 : BitVec 32 := 4#32
  let c1_i32_30 : BitVec 32 := 1#32
  let v63 : BitVec 32 := Scalar.subi v60 c1_i32_30
  let v64 : BitVec 32 := Scalar.muli c4_i32_31 v63
  let c1_i32_32 : BitVec 32 := 1#32
  let v65 : BitVec 32 := Scalar.addi v64 c1_i32_32
  let c8_i32_33 : BitVec 32 := 8#32
  let v66 : BitVec 1 := Scalar.cmpi .sle v60 c8_i32_33
  let c4_i32_35 : BitVec 32 := 4#32
  let c8_i32_34 : BitVec 32 := 8#32
  let v67 : BitVec 32 := Scalar.subi c8_i32_34 v60
  let v68 : BitVec 32 := Scalar.muli c4_i32_35 v67
  let c2_i32_36 : BitVec 32 := 2#32
  let v69 : BitVec 32 := Scalar.addi v68 c2_i32_36
  let c12_i32 : BitVec 32 := 12#32
  let v70 : BitVec 1 := Scalar.cmpi .sle v60 c12_i32
  let c4_i32_38 : BitVec 32 := 4#32
  let c9_i32_37 : BitVec 32 := 9#32
  let v71 : BitVec 32 := Scalar.subi v60 c9_i32_37
  let v72 : BitVec 32 := Scalar.muli c4_i32_38 v71
  let c3_i32 : BitVec 32 := 3#32
  let v73 : BitVec 32 := Scalar.addi v72 c3_i32
  let c4_i32_40 : BitVec 32 := 4#32
  let c16_i32_39 : BitVec 32 := 16#32
  let v74 : BitVec 32 := Scalar.subi c16_i32_39 v60
  let v75 : BitVec 32 := Scalar.muli c4_i32_40 v74
  let v76 : BitVec 32 := Scalar.select v70 v73 v75
  let v77 : BitVec 32 := Scalar.select v66 v69 v76
  let v78 : BitVec 32 := Scalar.select v62 v65 v77
  let v79 : BitVec 32 := Scalar.select v61 c0_i32_41 v78
  let c1_i32_781 : BitVec 32 := 1#32
  let v972 : BitVec 32 := Scalar.muli v79 c1_i32_781
  let v973 : BitVec 32 := Scalar.addi c0_i32_782 v972
  v973.toNat
def k0_dev18 (d0 : Dev nD) : Nat :=
  let c0_i32_802 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c16_i32_42 : BitVec 32 := 16#32
  let v80 : BitVec 32 := Scalar.addi v49 c16_i32_42
  let c1_i32_43 : BitVec 32 := 1#32
  let v81 : BitVec 32 := Scalar.subi v80 c1_i32_43
  let c16_i32_44 : BitVec 32 := 16#32
  let c0_i32_45 : BitVec 32 := 0#32
  let v82 : BitVec 1 := Scalar.cmpi .eq c16_i32_44 c0_i32_45
  let c1_i32_46 : BitVec 32 := 1#32
  let v83 : BitVec 32 := Scalar.select v82 c1_i32_46 c16_i32_44
  let v84 : BitVec 32 := Scalar.remsi v81 v83
  let c0_i32_48 : BitVec 32 := 0#32
  let v86 : BitVec 1 := Scalar.cmpi .slt v84 c0_i32_48
  let c0_i32_49 : BitVec 32 := 0#32
  let v87 : BitVec 1 := Scalar.cmpi .slt v83 c0_i32_49
  let v88 : BitVec 1 := Scalar.xori v86 v87
  let c0_i32_47 : BitVec 32 := 0#32
  let v85 : BitVec 1 := Scalar.cmpi .ne v84 c0_i32_47
  let v89 : BitVec 1 := Scalar.andi v88 v85
  let v90 : BitVec 32 := Scalar.addi v84 v83
  let v91 : BitVec 32 := Scalar.select v89 v90 v84
  let c0_i32_50 : BitVec 32 := 0#32
  let v92 : BitVec 1 := Scalar.cmpi .eq v91 c0_i32_50
  let c0_i32_65 : BitVec 32 := 0#32
  let c4_i32_51 : BitVec 32 := 4#32
  let v93 : BitVec 1 := Scalar.cmpi .sle v91 c4_i32_51
  let c4_i32_53 : BitVec 32 := 4#32
  let c1_i32_52 : BitVec 32 := 1#32
  let v94 : BitVec 32 := Scalar.subi v91 c1_i32_52
  let v95 : BitVec 32 := Scalar.muli c4_i32_53 v94
  let c1_i32_54 : BitVec 32 := 1#32
  let v96 : BitVec 32 := Scalar.addi v95 c1_i32_54
  let c8_i32_55 : BitVec 32 := 8#32
  let v97 : BitVec 1 := Scalar.cmpi .sle v91 c8_i32_55
  let c4_i32_57 : BitVec 32 := 4#32
  let c8_i32_56 : BitVec 32 := 8#32
  let v98 : BitVec 32 := Scalar.subi c8_i32_56 v91
  let v99 : BitVec 32 := Scalar.muli c4_i32_57 v98
  let c2_i32_58 : BitVec 32 := 2#32
  let v100 : BitVec 32 := Scalar.addi v99 c2_i32_58
  let c12_i32_59 : BitVec 32 := 12#32
  let v101 : BitVec 1 := Scalar.cmpi .sle v91 c12_i32_59
  let c4_i32_61 : BitVec 32 := 4#32
  let c9_i32_60 : BitVec 32 := 9#32
  let v102 : BitVec 32 := Scalar.subi v91 c9_i32_60
  let v103 : BitVec 32 := Scalar.muli c4_i32_61 v102
  let c3_i32_62 : BitVec 32 := 3#32
  let v104 : BitVec 32 := Scalar.addi v103 c3_i32_62
  let c4_i32_64 : BitVec 32 := 4#32
  let c16_i32_63 : BitVec 32 := 16#32
  let v105 : BitVec 32 := Scalar.subi c16_i32_63 v91
  let v106 : BitVec 32 := Scalar.muli c4_i32_64 v105
  let v107 : BitVec 32 := Scalar.select v101 v104 v106
  let v108 : BitVec 32 := Scalar.select v97 v100 v107
  let v109 : BitVec 32 := Scalar.select v93 v96 v108
  let v110 : BitVec 32 := Scalar.select v92 c0_i32_65 v109
  let c1_i32_801 : BitVec 32 := 1#32
  let v990 : BitVec 32 := Scalar.muli v110 c1_i32_801
  let v991 : BitVec 32 := Scalar.addi c0_i32_802 v990
  v991.toNat
def k0_mult6 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c3_i32_140 : BitVec 32 := 3#32
  let v207 : BitVec 32 := Scalar.subi v49 c3_i32_140
  let c16_i32_141 : BitVec 32 := 16#32
  let v208 : BitVec 32 := Scalar.addi v207 c16_i32_141
  let c16_i32_142 : BitVec 32 := 16#32
  let c0_i32_143 : BitVec 32 := 0#32
  let v209 : BitVec 1 := Scalar.cmpi .eq c16_i32_142 c0_i32_143
  let c1_i32_144 : BitVec 32 := 1#32
  let v210 : BitVec 32 := Scalar.select v209 c1_i32_144 c16_i32_142
  let v211 : BitVec 32 := Scalar.remsi v208 v210
  let c0_i32_146 : BitVec 32 := 0#32
  let v213 : BitVec 1 := Scalar.cmpi .slt v211 c0_i32_146
  let c0_i32_147 : BitVec 32 := 0#32
  let v214 : BitVec 1 := Scalar.cmpi .slt v210 c0_i32_147
  let v215 : BitVec 1 := Scalar.xori v213 v214
  let c0_i32_145 : BitVec 32 := 0#32
  let v212 : BitVec 1 := Scalar.cmpi .ne v211 c0_i32_145
  let v216 : BitVec 1 := Scalar.andi v215 v212
  let v217 : BitVec 32 := Scalar.addi v211 v210
  let v218 : BitVec 32 := Scalar.select v216 v217 v211
  let c0_i32_148 : BitVec 32 := 0#32
  let v219 : BitVec 1 := Scalar.cmpi .eq v218 c0_i32_148
  let c0_i32_163 : BitVec 32 := 0#32
  let c4_i32_149 : BitVec 32 := 4#32
  let v220 : BitVec 1 := Scalar.cmpi .sle v218 c4_i32_149
  let c4_i32_151 : BitVec 32 := 4#32
  let c1_i32_150 : BitVec 32 := 1#32
  let v221 : BitVec 32 := Scalar.subi v218 c1_i32_150
  let v222 : BitVec 32 := Scalar.muli c4_i32_151 v221
  let c1_i32_152 : BitVec 32 := 1#32
  let v223 : BitVec 32 := Scalar.addi v222 c1_i32_152
  let c8_i32_153 : BitVec 32 := 8#32
  let v224 : BitVec 1 := Scalar.cmpi .sle v218 c8_i32_153
  let c4_i32_155 : BitVec 32 := 4#32
  let c8_i32_154 : BitVec 32 := 8#32
  let v225 : BitVec 32 := Scalar.subi c8_i32_154 v218
  let v226 : BitVec 32 := Scalar.muli c4_i32_155 v225
  let c2_i32_156 : BitVec 32 := 2#32
  let v227 : BitVec 32 := Scalar.addi v226 c2_i32_156
  let c12_i32_157 : BitVec 32 := 12#32
  let v228 : BitVec 1 := Scalar.cmpi .sle v218 c12_i32_157
  let c4_i32_159 : BitVec 32 := 4#32
  let c9_i32_158 : BitVec 32 := 9#32
  let v229 : BitVec 32 := Scalar.subi v218 c9_i32_158
  let v230 : BitVec 32 := Scalar.muli c4_i32_159 v229
  let c3_i32_160 : BitVec 32 := 3#32
  let v231 : BitVec 32 := Scalar.addi v230 c3_i32_160
  let c4_i32_162 : BitVec 32 := 4#32
  let c16_i32_161 : BitVec 32 := 16#32
  let v232 : BitVec 32 := Scalar.subi c16_i32_161 v218
  let v233 : BitVec 32 := Scalar.muli c4_i32_162 v232
  let v234 : BitVec 32 := Scalar.select v228 v231 v233
  let v235 : BitVec 32 := Scalar.select v224 v227 v234
  let v236 : BitVec 32 := Scalar.select v220 v223 v235
  let v237 : BitVec 32 := Scalar.select v219 c0_i32_163 v236
  let c256_i32_164 : BitVec 32 := 256#32
  let v238 : BitVec 32 := Scalar.muli v237 c256_i32_164
  let c0_i32_812 : BitVec 32 := 0#32
  let v1007 : BitVec 32 := Scalar.addi v238 c0_i32_812
  v1007
def k0_mult7 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c13_i32 : BitVec 32 := 13#32
  let v527 : BitVec 32 := Scalar.subi v49 c13_i32
  let c16_i32_385 : BitVec 32 := 16#32
  let v528 : BitVec 32 := Scalar.addi v527 c16_i32_385
  let c16_i32_386 : BitVec 32 := 16#32
  let c0_i32_387 : BitVec 32 := 0#32
  let v529 : BitVec 1 := Scalar.cmpi .eq c16_i32_386 c0_i32_387
  let c1_i32_388 : BitVec 32 := 1#32
  let v530 : BitVec 32 := Scalar.select v529 c1_i32_388 c16_i32_386
  let v531 : BitVec 32 := Scalar.remsi v528 v530
  let c0_i32_390 : BitVec 32 := 0#32
  let v533 : BitVec 1 := Scalar.cmpi .slt v531 c0_i32_390
  let c0_i32_391 : BitVec 32 := 0#32
  let v534 : BitVec 1 := Scalar.cmpi .slt v530 c0_i32_391
  let v535 : BitVec 1 := Scalar.xori v533 v534
  let c0_i32_389 : BitVec 32 := 0#32
  let v532 : BitVec 1 := Scalar.cmpi .ne v531 c0_i32_389
  let v536 : BitVec 1 := Scalar.andi v535 v532
  let v537 : BitVec 32 := Scalar.addi v531 v530
  let v538 : BitVec 32 := Scalar.select v536 v537 v531
  let c0_i32_392 : BitVec 32 := 0#32
  let v539 : BitVec 1 := Scalar.cmpi .eq v538 c0_i32_392
  let c0_i32_407 : BitVec 32 := 0#32
  let c4_i32_393 : BitVec 32 := 4#32
  let v540 : BitVec 1 := Scalar.cmpi .sle v538 c4_i32_393
  let c4_i32_395 : BitVec 32 := 4#32
  let c1_i32_394 : BitVec 32 := 1#32
  let v541 : BitVec 32 := Scalar.subi v538 c1_i32_394
  let v542 : BitVec 32 := Scalar.muli c4_i32_395 v541
  let c1_i32_396 : BitVec 32 := 1#32
  let v543 : BitVec 32 := Scalar.addi v542 c1_i32_396
  let c8_i32_397 : BitVec 32 := 8#32
  let v544 : BitVec 1 := Scalar.cmpi .sle v538 c8_i32_397
  let c4_i32_399 : BitVec 32 := 4#32
  let c8_i32_398 : BitVec 32 := 8#32
  let v545 : BitVec 32 := Scalar.subi c8_i32_398 v538
  let v546 : BitVec 32 := Scalar.muli c4_i32_399 v545
  let c2_i32_400 : BitVec 32 := 2#32
  let v547 : BitVec 32 := Scalar.addi v546 c2_i32_400
  let c12_i32_401 : BitVec 32 := 12#32
  let v548 : BitVec 1 := Scalar.cmpi .sle v538 c12_i32_401
  let c4_i32_403 : BitVec 32 := 4#32
  let c9_i32_402 : BitVec 32 := 9#32
  let v549 : BitVec 32 := Scalar.subi v538 c9_i32_402
  let v550 : BitVec 32 := Scalar.muli c4_i32_403 v549
  let c3_i32_404 : BitVec 32 := 3#32
  let v551 : BitVec 32 := Scalar.addi v550 c3_i32_404
  let c4_i32_406 : BitVec 32 := 4#32
  let c16_i32_405 : BitVec 32 := 16#32
  let v552 : BitVec 32 := Scalar.subi c16_i32_405 v538
  let v553 : BitVec 32 := Scalar.muli c4_i32_406 v552
  let v554 : BitVec 32 := Scalar.select v548 v551 v553
  let v555 : BitVec 32 := Scalar.select v544 v547 v554
  let v556 : BitVec 32 := Scalar.select v540 v543 v555
  let v557 : BitVec 32 := Scalar.select v539 c0_i32_407 v556
  let c256_i32_408 : BitVec 32 := 256#32
  let v558 : BitVec 32 := Scalar.muli v557 c256_i32_408
  let c0_i32_822 : BitVec 32 := 0#32
  let v1026 : BitVec 32 := Scalar.addi v558 c0_i32_822
  v1026
def k0_dev19 (d0 : Dev nD) : Nat :=
  let c0_i32_842 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_21 : BitVec 32 := 1#32
  let v50 : BitVec 32 := Scalar.addi v49 c1_i32_21
  let c16_i32_22 : BitVec 32 := 16#32
  let c0_i32_23 : BitVec 32 := 0#32
  let v51 : BitVec 1 := Scalar.cmpi .eq c16_i32_22 c0_i32_23
  let c1_i32_24 : BitVec 32 := 1#32
  let v52 : BitVec 32 := Scalar.select v51 c1_i32_24 c16_i32_22
  let v53 : BitVec 32 := Scalar.remsi v50 v52
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let c0_i32_25 : BitVec 32 := 0#32
  let v54 : BitVec 1 := Scalar.cmpi .ne v53 c0_i32_25
  let v58 : BitVec 1 := Scalar.andi v57 v54
  let v59 : BitVec 32 := Scalar.addi v53 v52
  let v60 : BitVec 32 := Scalar.select v58 v59 v53
  let c0_i32_28 : BitVec 32 := 0#32
  let v61 : BitVec 1 := Scalar.cmpi .eq v60 c0_i32_28
  let c0_i32_41 : BitVec 32 := 0#32
  let c4_i32_29 : BitVec 32 := 4#32
  let v62 : BitVec 1 := Scalar.cmpi .sle v60 c4_i32_29
  let c4_i32_31 : BitVec 32 := 4#32
  let c1_i32_30 : BitVec 32 := 1#32
  let v63 : BitVec 32 := Scalar.subi v60 c1_i32_30
  let v64 : BitVec 32 := Scalar.muli c4_i32_31 v63
  let c1_i32_32 : BitVec 32 := 1#32
  let v65 : BitVec 32 := Scalar.addi v64 c1_i32_32
  let c8_i32_33 : BitVec 32 := 8#32
  let v66 : BitVec 1 := Scalar.cmpi .sle v60 c8_i32_33
  let c4_i32_35 : BitVec 32 := 4#32
  let c8_i32_34 : BitVec 32 := 8#32
  let v67 : BitVec 32 := Scalar.subi c8_i32_34 v60
  let v68 : BitVec 32 := Scalar.muli c4_i32_35 v67
  let c2_i32_36 : BitVec 32 := 2#32
  let v69 : BitVec 32 := Scalar.addi v68 c2_i32_36
  let c12_i32 : BitVec 32 := 12#32
  let v70 : BitVec 1 := Scalar.cmpi .sle v60 c12_i32
  let c4_i32_38 : BitVec 32 := 4#32
  let c9_i32_37 : BitVec 32 := 9#32
  let v71 : BitVec 32 := Scalar.subi v60 c9_i32_37
  let v72 : BitVec 32 := Scalar.muli c4_i32_38 v71
  let c3_i32 : BitVec 32 := 3#32
  let v73 : BitVec 32 := Scalar.addi v72 c3_i32
  let c4_i32_40 : BitVec 32 := 4#32
  let c16_i32_39 : BitVec 32 := 16#32
  let v74 : BitVec 32 := Scalar.subi c16_i32_39 v60
  let v75 : BitVec 32 := Scalar.muli c4_i32_40 v74
  let v76 : BitVec 32 := Scalar.select v70 v73 v75
  let v77 : BitVec 32 := Scalar.select v66 v69 v76
  let v78 : BitVec 32 := Scalar.select v62 v65 v77
  let v79 : BitVec 32 := Scalar.select v61 c0_i32_41 v78
  let c1_i32_841 : BitVec 32 := 1#32
  let v1046 : BitVec 32 := Scalar.muli v79 c1_i32_841
  let v1047 : BitVec 32 := Scalar.addi c0_i32_842 v1046
  v1047.toNat
def k0_dev20 (d0 : Dev nD) : Nat :=
  let c0_i32_862 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c16_i32_42 : BitVec 32 := 16#32
  let v80 : BitVec 32 := Scalar.addi v49 c16_i32_42
  let c1_i32_43 : BitVec 32 := 1#32
  let v81 : BitVec 32 := Scalar.subi v80 c1_i32_43
  let c16_i32_44 : BitVec 32 := 16#32
  let c0_i32_45 : BitVec 32 := 0#32
  let v82 : BitVec 1 := Scalar.cmpi .eq c16_i32_44 c0_i32_45
  let c1_i32_46 : BitVec 32 := 1#32
  let v83 : BitVec 32 := Scalar.select v82 c1_i32_46 c16_i32_44
  let v84 : BitVec 32 := Scalar.remsi v81 v83
  let c0_i32_48 : BitVec 32 := 0#32
  let v86 : BitVec 1 := Scalar.cmpi .slt v84 c0_i32_48
  let c0_i32_49 : BitVec 32 := 0#32
  let v87 : BitVec 1 := Scalar.cmpi .slt v83 c0_i32_49
  let v88 : BitVec 1 := Scalar.xori v86 v87
  let c0_i32_47 : BitVec 32 := 0#32
  let v85 : BitVec 1 := Scalar.cmpi .ne v84 c0_i32_47
  let v89 : BitVec 1 := Scalar.andi v88 v85
  let v90 : BitVec 32 := Scalar.addi v84 v83
  let v91 : BitVec 32 := Scalar.select v89 v90 v84
  let c0_i32_50 : BitVec 32 := 0#32
  let v92 : BitVec 1 := Scalar.cmpi .eq v91 c0_i32_50
  let c0_i32_65 : BitVec 32 := 0#32
  let c4_i32_51 : BitVec 32 := 4#32
  let v93 : BitVec 1 := Scalar.cmpi .sle v91 c4_i32_51
  let c4_i32_53 : BitVec 32 := 4#32
  let c1_i32_52 : BitVec 32 := 1#32
  let v94 : BitVec 32 := Scalar.subi v91 c1_i32_52
  let v95 : BitVec 32 := Scalar.muli c4_i32_53 v94
  let c1_i32_54 : BitVec 32 := 1#32
  let v96 : BitVec 32 := Scalar.addi v95 c1_i32_54
  let c8_i32_55 : BitVec 32 := 8#32
  let v97 : BitVec 1 := Scalar.cmpi .sle v91 c8_i32_55
  let c4_i32_57 : BitVec 32 := 4#32
  let c8_i32_56 : BitVec 32 := 8#32
  let v98 : BitVec 32 := Scalar.subi c8_i32_56 v91
  let v99 : BitVec 32 := Scalar.muli c4_i32_57 v98
  let c2_i32_58 : BitVec 32 := 2#32
  let v100 : BitVec 32 := Scalar.addi v99 c2_i32_58
  let c12_i32_59 : BitVec 32 := 12#32
  let v101 : BitVec 1 := Scalar.cmpi .sle v91 c12_i32_59
  let c4_i32_61 : BitVec 32 := 4#32
  let c9_i32_60 : BitVec 32 := 9#32
  let v102 : BitVec 32 := Scalar.subi v91 c9_i32_60
  let v103 : BitVec 32 := Scalar.muli c4_i32_61 v102
  let c3_i32_62 : BitVec 32 := 3#32
  let v104 : BitVec 32 := Scalar.addi v103 c3_i32_62
  let c4_i32_64 : BitVec 32 := 4#32
  let c16_i32_63 : BitVec 32 := 16#32
  let v105 : BitVec 32 := Scalar.subi c16_i32_63 v91
  let v106 : BitVec 32 := Scalar.muli c4_i32_64 v105
  let v107 : BitVec 32 := Scalar.select v101 v104 v106
  let v108 : BitVec 32 := Scalar.select v97 v100 v107
  let v109 : BitVec 32 := Scalar.select v93 v96 v108
  let v110 : BitVec 32 := Scalar.select v92 c0_i32_65 v109
  let c1_i32_861 : BitVec 32 := 1#32
  let v1064 : BitVec 32 := Scalar.muli v110 c1_i32_861
  let v1065 : BitVec 32 := Scalar.addi c0_i32_862 v1064
  v1065.toNat
def k0_dev21 (d0 : Dev nD) : Nat :=
  let c0_i32_882 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_21 : BitVec 32 := 1#32
  let v50 : BitVec 32 := Scalar.addi v49 c1_i32_21
  let c16_i32_22 : BitVec 32 := 16#32
  let c0_i32_23 : BitVec 32 := 0#32
  let v51 : BitVec 1 := Scalar.cmpi .eq c16_i32_22 c0_i32_23
  let c1_i32_24 : BitVec 32 := 1#32
  let v52 : BitVec 32 := Scalar.select v51 c1_i32_24 c16_i32_22
  let v53 : BitVec 32 := Scalar.remsi v50 v52
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let c0_i32_25 : BitVec 32 := 0#32
  let v54 : BitVec 1 := Scalar.cmpi .ne v53 c0_i32_25
  let v58 : BitVec 1 := Scalar.andi v57 v54
  let v59 : BitVec 32 := Scalar.addi v53 v52
  let v60 : BitVec 32 := Scalar.select v58 v59 v53
  let c0_i32_28 : BitVec 32 := 0#32
  let v61 : BitVec 1 := Scalar.cmpi .eq v60 c0_i32_28
  let c0_i32_41 : BitVec 32 := 0#32
  let c4_i32_29 : BitVec 32 := 4#32
  let v62 : BitVec 1 := Scalar.cmpi .sle v60 c4_i32_29
  let c4_i32_31 : BitVec 32 := 4#32
  let c1_i32_30 : BitVec 32 := 1#32
  let v63 : BitVec 32 := Scalar.subi v60 c1_i32_30
  let v64 : BitVec 32 := Scalar.muli c4_i32_31 v63
  let c1_i32_32 : BitVec 32 := 1#32
  let v65 : BitVec 32 := Scalar.addi v64 c1_i32_32
  let c8_i32_33 : BitVec 32 := 8#32
  let v66 : BitVec 1 := Scalar.cmpi .sle v60 c8_i32_33
  let c4_i32_35 : BitVec 32 := 4#32
  let c8_i32_34 : BitVec 32 := 8#32
  let v67 : BitVec 32 := Scalar.subi c8_i32_34 v60
  let v68 : BitVec 32 := Scalar.muli c4_i32_35 v67
  let c2_i32_36 : BitVec 32 := 2#32
  let v69 : BitVec 32 := Scalar.addi v68 c2_i32_36
  let c12_i32 : BitVec 32 := 12#32
  let v70 : BitVec 1 := Scalar.cmpi .sle v60 c12_i32
  let c4_i32_38 : BitVec 32 := 4#32
  let c9_i32_37 : BitVec 32 := 9#32
  let v71 : BitVec 32 := Scalar.subi v60 c9_i32_37
  let v72 : BitVec 32 := Scalar.muli c4_i32_38 v71
  let c3_i32 : BitVec 32 := 3#32
  let v73 : BitVec 32 := Scalar.addi v72 c3_i32
  let c4_i32_40 : BitVec 32 := 4#32
  let c16_i32_39 : BitVec 32 := 16#32
  let v74 : BitVec 32 := Scalar.subi c16_i32_39 v60
  let v75 : BitVec 32 := Scalar.muli c4_i32_40 v74
  let v76 : BitVec 32 := Scalar.select v70 v73 v75
  let v77 : BitVec 32 := Scalar.select v66 v69 v76
  let v78 : BitVec 32 := Scalar.select v62 v65 v77
  let v79 : BitVec 32 := Scalar.select v61 c0_i32_41 v78
  let c1_i32_881 : BitVec 32 := 1#32
  let v1082 : BitVec 32 := Scalar.muli v79 c1_i32_881
  let v1083 : BitVec 32 := Scalar.addi c0_i32_882 v1082
  v1083.toNat
def k0_dev22 (d0 : Dev nD) : Nat :=
  let c0_i32_902 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c16_i32_42 : BitVec 32 := 16#32
  let v80 : BitVec 32 := Scalar.addi v49 c16_i32_42
  let c1_i32_43 : BitVec 32 := 1#32
  let v81 : BitVec 32 := Scalar.subi v80 c1_i32_43
  let c16_i32_44 : BitVec 32 := 16#32
  let c0_i32_45 : BitVec 32 := 0#32
  let v82 : BitVec 1 := Scalar.cmpi .eq c16_i32_44 c0_i32_45
  let c1_i32_46 : BitVec 32 := 1#32
  let v83 : BitVec 32 := Scalar.select v82 c1_i32_46 c16_i32_44
  let v84 : BitVec 32 := Scalar.remsi v81 v83
  let c0_i32_48 : BitVec 32 := 0#32
  let v86 : BitVec 1 := Scalar.cmpi .slt v84 c0_i32_48
  let c0_i32_49 : BitVec 32 := 0#32
  let v87 : BitVec 1 := Scalar.cmpi .slt v83 c0_i32_49
  let v88 : BitVec 1 := Scalar.xori v86 v87
  let c0_i32_47 : BitVec 32 := 0#32
  let v85 : BitVec 1 := Scalar.cmpi .ne v84 c0_i32_47
  let v89 : BitVec 1 := Scalar.andi v88 v85
  let v90 : BitVec 32 := Scalar.addi v84 v83
  let v91 : BitVec 32 := Scalar.select v89 v90 v84
  let c0_i32_50 : BitVec 32 := 0#32
  let v92 : BitVec 1 := Scalar.cmpi .eq v91 c0_i32_50
  let c0_i32_65 : BitVec 32 := 0#32
  let c4_i32_51 : BitVec 32 := 4#32
  let v93 : BitVec 1 := Scalar.cmpi .sle v91 c4_i32_51
  let c4_i32_53 : BitVec 32 := 4#32
  let c1_i32_52 : BitVec 32 := 1#32
  let v94 : BitVec 32 := Scalar.subi v91 c1_i32_52
  let v95 : BitVec 32 := Scalar.muli c4_i32_53 v94
  let c1_i32_54 : BitVec 32 := 1#32
  let v96 : BitVec 32 := Scalar.addi v95 c1_i32_54
  let c8_i32_55 : BitVec 32 := 8#32
  let v97 : BitVec 1 := Scalar.cmpi .sle v91 c8_i32_55
  let c4_i32_57 : BitVec 32 := 4#32
  let c8_i32_56 : BitVec 32 := 8#32
  let v98 : BitVec 32 := Scalar.subi c8_i32_56 v91
  let v99 : BitVec 32 := Scalar.muli c4_i32_57 v98
  let c2_i32_58 : BitVec 32 := 2#32
  let v100 : BitVec 32 := Scalar.addi v99 c2_i32_58
  let c12_i32_59 : BitVec 32 := 12#32
  let v101 : BitVec 1 := Scalar.cmpi .sle v91 c12_i32_59
  let c4_i32_61 : BitVec 32 := 4#32
  let c9_i32_60 : BitVec 32 := 9#32
  let v102 : BitVec 32 := Scalar.subi v91 c9_i32_60
  let v103 : BitVec 32 := Scalar.muli c4_i32_61 v102
  let c3_i32_62 : BitVec 32 := 3#32
  let v104 : BitVec 32 := Scalar.addi v103 c3_i32_62
  let c4_i32_64 : BitVec 32 := 4#32
  let c16_i32_63 : BitVec 32 := 16#32
  let v105 : BitVec 32 := Scalar.subi c16_i32_63 v91
  let v106 : BitVec 32 := Scalar.muli c4_i32_64 v105
  let v107 : BitVec 32 := Scalar.select v101 v104 v106
  let v108 : BitVec 32 := Scalar.select v97 v100 v107
  let v109 : BitVec 32 := Scalar.select v93 v96 v108
  let v110 : BitVec 32 := Scalar.select v92 c0_i32_65 v109
  let c1_i32_901 : BitVec 32 := 1#32
  let v1100 : BitVec 32 := Scalar.muli v110 c1_i32_901
  let v1101 : BitVec 32 := Scalar.addi c0_i32_902 v1100
  v1101.toNat
def k0_mult8 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c4_i32_165 : BitVec 32 := 4#32
  let v239 : BitVec 32 := Scalar.subi v49 c4_i32_165
  let c16_i32_166 : BitVec 32 := 16#32
  let v240 : BitVec 32 := Scalar.addi v239 c16_i32_166
  let c16_i32_167 : BitVec 32 := 16#32
  let c0_i32_168 : BitVec 32 := 0#32
  let v241 : BitVec 1 := Scalar.cmpi .eq c16_i32_167 c0_i32_168
  let c1_i32_169 : BitVec 32 := 1#32
  let v242 : BitVec 32 := Scalar.select v241 c1_i32_169 c16_i32_167
  let v243 : BitVec 32 := Scalar.remsi v240 v242
  let c0_i32_171 : BitVec 32 := 0#32
  let v245 : BitVec 1 := Scalar.cmpi .slt v243 c0_i32_171
  let c0_i32_172 : BitVec 32 := 0#32
  let v246 : BitVec 1 := Scalar.cmpi .slt v242 c0_i32_172
  let v247 : BitVec 1 := Scalar.xori v245 v246
  let c0_i32_170 : BitVec 32 := 0#32
  let v244 : BitVec 1 := Scalar.cmpi .ne v243 c0_i32_170
  let v248 : BitVec 1 := Scalar.andi v247 v244
  let v249 : BitVec 32 := Scalar.addi v243 v242
  let v250 : BitVec 32 := Scalar.select v248 v249 v243
  let c0_i32_173 : BitVec 32 := 0#32
  let v251 : BitVec 1 := Scalar.cmpi .eq v250 c0_i32_173
  let c0_i32_188 : BitVec 32 := 0#32
  let c4_i32_174 : BitVec 32 := 4#32
  let v252 : BitVec 1 := Scalar.cmpi .sle v250 c4_i32_174
  let c4_i32_176 : BitVec 32 := 4#32
  let c1_i32_175 : BitVec 32 := 1#32
  let v253 : BitVec 32 := Scalar.subi v250 c1_i32_175
  let v254 : BitVec 32 := Scalar.muli c4_i32_176 v253
  let c1_i32_177 : BitVec 32 := 1#32
  let v255 : BitVec 32 := Scalar.addi v254 c1_i32_177
  let c8_i32_178 : BitVec 32 := 8#32
  let v256 : BitVec 1 := Scalar.cmpi .sle v250 c8_i32_178
  let c4_i32_180 : BitVec 32 := 4#32
  let c8_i32_179 : BitVec 32 := 8#32
  let v257 : BitVec 32 := Scalar.subi c8_i32_179 v250
  let v258 : BitVec 32 := Scalar.muli c4_i32_180 v257
  let c2_i32_181 : BitVec 32 := 2#32
  let v259 : BitVec 32 := Scalar.addi v258 c2_i32_181
  let c12_i32_182 : BitVec 32 := 12#32
  let v260 : BitVec 1 := Scalar.cmpi .sle v250 c12_i32_182
  let c4_i32_184 : BitVec 32 := 4#32
  let c9_i32_183 : BitVec 32 := 9#32
  let v261 : BitVec 32 := Scalar.subi v250 c9_i32_183
  let v262 : BitVec 32 := Scalar.muli c4_i32_184 v261
  let c3_i32_185 : BitVec 32 := 3#32
  let v263 : BitVec 32 := Scalar.addi v262 c3_i32_185
  let c4_i32_187 : BitVec 32 := 4#32
  let c16_i32_186 : BitVec 32 := 16#32
  let v264 : BitVec 32 := Scalar.subi c16_i32_186 v250
  let v265 : BitVec 32 := Scalar.muli c4_i32_187 v264
  let v266 : BitVec 32 := Scalar.select v260 v263 v265
  let v267 : BitVec 32 := Scalar.select v256 v259 v266
  let v268 : BitVec 32 := Scalar.select v252 v255 v267
  let v269 : BitVec 32 := Scalar.select v251 c0_i32_188 v268
  let c256_i32_189 : BitVec 32 := 256#32
  let v270 : BitVec 32 := Scalar.muli v269 c256_i32_189
  let c0_i32_912 : BitVec 32 := 0#32
  let v1117 : BitVec 32 := Scalar.addi v270 c0_i32_912
  v1117
def k0_mult9 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c12_i32_360 : BitVec 32 := 12#32
  let v495 : BitVec 32 := Scalar.subi v49 c12_i32_360
  let c16_i32_361 : BitVec 32 := 16#32
  let v496 : BitVec 32 := Scalar.addi v495 c16_i32_361
  let c16_i32_362 : BitVec 32 := 16#32
  let c0_i32_363 : BitVec 32 := 0#32
  let v497 : BitVec 1 := Scalar.cmpi .eq c16_i32_362 c0_i32_363
  let c1_i32_364 : BitVec 32 := 1#32
  let v498 : BitVec 32 := Scalar.select v497 c1_i32_364 c16_i32_362
  let v499 : BitVec 32 := Scalar.remsi v496 v498
  let c0_i32_366 : BitVec 32 := 0#32
  let v501 : BitVec 1 := Scalar.cmpi .slt v499 c0_i32_366
  let c0_i32_367 : BitVec 32 := 0#32
  let v502 : BitVec 1 := Scalar.cmpi .slt v498 c0_i32_367
  let v503 : BitVec 1 := Scalar.xori v501 v502
  let c0_i32_365 : BitVec 32 := 0#32
  let v500 : BitVec 1 := Scalar.cmpi .ne v499 c0_i32_365
  let v504 : BitVec 1 := Scalar.andi v503 v500
  let v505 : BitVec 32 := Scalar.addi v499 v498
  let v506 : BitVec 32 := Scalar.select v504 v505 v499
  let c0_i32_368 : BitVec 32 := 0#32
  let v507 : BitVec 1 := Scalar.cmpi .eq v506 c0_i32_368
  let c0_i32_383 : BitVec 32 := 0#32
  let c4_i32_369 : BitVec 32 := 4#32
  let v508 : BitVec 1 := Scalar.cmpi .sle v506 c4_i32_369
  let c4_i32_371 : BitVec 32 := 4#32
  let c1_i32_370 : BitVec 32 := 1#32
  let v509 : BitVec 32 := Scalar.subi v506 c1_i32_370
  let v510 : BitVec 32 := Scalar.muli c4_i32_371 v509
  let c1_i32_372 : BitVec 32 := 1#32
  let v511 : BitVec 32 := Scalar.addi v510 c1_i32_372
  let c8_i32_373 : BitVec 32 := 8#32
  let v512 : BitVec 1 := Scalar.cmpi .sle v506 c8_i32_373
  let c4_i32_375 : BitVec 32 := 4#32
  let c8_i32_374 : BitVec 32 := 8#32
  let v513 : BitVec 32 := Scalar.subi c8_i32_374 v506
  let v514 : BitVec 32 := Scalar.muli c4_i32_375 v513
  let c2_i32_376 : BitVec 32 := 2#32
  let v515 : BitVec 32 := Scalar.addi v514 c2_i32_376
  let c12_i32_377 : BitVec 32 := 12#32
  let v516 : BitVec 1 := Scalar.cmpi .sle v506 c12_i32_377
  let c4_i32_379 : BitVec 32 := 4#32
  let c9_i32_378 : BitVec 32 := 9#32
  let v517 : BitVec 32 := Scalar.subi v506 c9_i32_378
  let v518 : BitVec 32 := Scalar.muli c4_i32_379 v517
  let c3_i32_380 : BitVec 32 := 3#32
  let v519 : BitVec 32 := Scalar.addi v518 c3_i32_380
  let c4_i32_382 : BitVec 32 := 4#32
  let c16_i32_381 : BitVec 32 := 16#32
  let v520 : BitVec 32 := Scalar.subi c16_i32_381 v506
  let v521 : BitVec 32 := Scalar.muli c4_i32_382 v520
  let v522 : BitVec 32 := Scalar.select v516 v519 v521
  let v523 : BitVec 32 := Scalar.select v512 v515 v522
  let v524 : BitVec 32 := Scalar.select v508 v511 v523
  let v525 : BitVec 32 := Scalar.select v507 c0_i32_383 v524
  let c256_i32_384 : BitVec 32 := 256#32
  let v526 : BitVec 32 := Scalar.muli v525 c256_i32_384
  let c0_i32_922 : BitVec 32 := 0#32
  let v1136 : BitVec 32 := Scalar.addi v526 c0_i32_922
  v1136
def k0_dev23 (d0 : Dev nD) : Nat :=
  let c0_i32_942 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_21 : BitVec 32 := 1#32
  let v50 : BitVec 32 := Scalar.addi v49 c1_i32_21
  let c16_i32_22 : BitVec 32 := 16#32
  let c0_i32_23 : BitVec 32 := 0#32
  let v51 : BitVec 1 := Scalar.cmpi .eq c16_i32_22 c0_i32_23
  let c1_i32_24 : BitVec 32 := 1#32
  let v52 : BitVec 32 := Scalar.select v51 c1_i32_24 c16_i32_22
  let v53 : BitVec 32 := Scalar.remsi v50 v52
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let c0_i32_25 : BitVec 32 := 0#32
  let v54 : BitVec 1 := Scalar.cmpi .ne v53 c0_i32_25
  let v58 : BitVec 1 := Scalar.andi v57 v54
  let v59 : BitVec 32 := Scalar.addi v53 v52
  let v60 : BitVec 32 := Scalar.select v58 v59 v53
  let c0_i32_28 : BitVec 32 := 0#32
  let v61 : BitVec 1 := Scalar.cmpi .eq v60 c0_i32_28
  let c0_i32_41 : BitVec 32 := 0#32
  let c4_i32_29 : BitVec 32 := 4#32
  let v62 : BitVec 1 := Scalar.cmpi .sle v60 c4_i32_29
  let c4_i32_31 : BitVec 32 := 4#32
  let c1_i32_30 : BitVec 32 := 1#32
  let v63 : BitVec 32 := Scalar.subi v60 c1_i32_30
  let v64 : BitVec 32 := Scalar.muli c4_i32_31 v63
  let c1_i32_32 : BitVec 32 := 1#32
  let v65 : BitVec 32 := Scalar.addi v64 c1_i32_32
  let c8_i32_33 : BitVec 32 := 8#32
  let v66 : BitVec 1 := Scalar.cmpi .sle v60 c8_i32_33
  let c4_i32_35 : BitVec 32 := 4#32
  let c8_i32_34 : BitVec 32 := 8#32
  let v67 : BitVec 32 := Scalar.subi c8_i32_34 v60
  let v68 : BitVec 32 := Scalar.muli c4_i32_35 v67
  let c2_i32_36 : BitVec 32 := 2#32
  let v69 : BitVec 32 := Scalar.addi v68 c2_i32_36
  let c12_i32 : BitVec 32 := 12#32
  let v70 : BitVec 1 := Scalar.cmpi .sle v60 c12_i32
  let c4_i32_38 : BitVec 32 := 4#32
  let c9_i32_37 : BitVec 32 := 9#32
  let v71 : BitVec 32 := Scalar.subi v60 c9_i32_37
  let v72 : BitVec 32 := Scalar.muli c4_i32_38 v71
  let c3_i32 : BitVec 32 := 3#32
  let v73 : BitVec 32 := Scalar.addi v72 c3_i32
  let c4_i32_40 : BitVec 32 := 4#32
  let c16_i32_39 : BitVec 32 := 16#32
  let v74 : BitVec 32 := Scalar.subi c16_i32_39 v60
  let v75 : BitVec 32 := Scalar.muli c4_i32_40 v74
  let v76 : BitVec 32 := Scalar.select v70 v73 v75
  let v77 : BitVec 32 := Scalar.select v66 v69 v76
  let v78 : BitVec 32 := Scalar.select v62 v65 v77
  let v79 : BitVec 32 := Scalar.select v61 c0_i32_41 v78
  let c1_i32_941 : BitVec 32 := 1#32
  let v1156 : BitVec 32 := Scalar.muli v79 c1_i32_941
  let v1157 : BitVec 32 := Scalar.addi c0_i32_942 v1156
  v1157.toNat
def k0_dev24 (d0 : Dev nD) : Nat :=
  let c0_i32_962 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c16_i32_42 : BitVec 32 := 16#32
  let v80 : BitVec 32 := Scalar.addi v49 c16_i32_42
  let c1_i32_43 : BitVec 32 := 1#32
  let v81 : BitVec 32 := Scalar.subi v80 c1_i32_43
  let c16_i32_44 : BitVec 32 := 16#32
  let c0_i32_45 : BitVec 32 := 0#32
  let v82 : BitVec 1 := Scalar.cmpi .eq c16_i32_44 c0_i32_45
  let c1_i32_46 : BitVec 32 := 1#32
  let v83 : BitVec 32 := Scalar.select v82 c1_i32_46 c16_i32_44
  let v84 : BitVec 32 := Scalar.remsi v81 v83
  let c0_i32_48 : BitVec 32 := 0#32
  let v86 : BitVec 1 := Scalar.cmpi .slt v84 c0_i32_48
  let c0_i32_49 : BitVec 32 := 0#32
  let v87 : BitVec 1 := Scalar.cmpi .slt v83 c0_i32_49
  let v88 : BitVec 1 := Scalar.xori v86 v87
  let c0_i32_47 : BitVec 32 := 0#32
  let v85 : BitVec 1 := Scalar.cmpi .ne v84 c0_i32_47
  let v89 : BitVec 1 := Scalar.andi v88 v85
  let v90 : BitVec 32 := Scalar.addi v84 v83
  let v91 : BitVec 32 := Scalar.select v89 v90 v84
  let c0_i32_50 : BitVec 32 := 0#32
  let v92 : BitVec 1 := Scalar.cmpi .eq v91 c0_i32_50
  let c0_i32_65 : BitVec 32 := 0#32
  let c4_i32_51 : BitVec 32 := 4#32
  let v93 : BitVec 1 := Scalar.cmpi .sle v91 c4_i32_51
  let c4_i32_53 : BitVec 32 := 4#32
  let c1_i32_52 : BitVec 32 := 1#32
  let v94 : BitVec 32 := Scalar.subi v91 c1_i32_52
  let v95 : BitVec 32 := Scalar.muli c4_i32_53 v94
  let c1_i32_54 : BitVec 32 := 1#32
  let v96 : BitVec 32 := Scalar.addi v95 c1_i32_54
  let c8_i32_55 : BitVec 32 := 8#32
  let v97 : BitVec 1 := Scalar.cmpi .sle v91 c8_i32_55
  let c4_i32_57 : BitVec 32 := 4#32
  let c8_i32_56 : BitVec 32 := 8#32
  let v98 : BitVec 32 := Scalar.subi c8_i32_56 v91
  let v99 : BitVec 32 := Scalar.muli c4_i32_57 v98
  let c2_i32_58 : BitVec 32 := 2#32
  let v100 : BitVec 32 := Scalar.addi v99 c2_i32_58
  let c12_i32_59 : BitVec 32 := 12#32
  let v101 : BitVec 1 := Scalar.cmpi .sle v91 c12_i32_59
  let c4_i32_61 : BitVec 32 := 4#32
  let c9_i32_60 : BitVec 32 := 9#32
  let v102 : BitVec 32 := Scalar.subi v91 c9_i32_60
  let v103 : BitVec 32 := Scalar.muli c4_i32_61 v102
  let c3_i32_62 : BitVec 32 := 3#32
  let v104 : BitVec 32 := Scalar.addi v103 c3_i32_62
  let c4_i32_64 : BitVec 32 := 4#32
  let c16_i32_63 : BitVec 32 := 16#32
  let v105 : BitVec 32 := Scalar.subi c16_i32_63 v91
  let v106 : BitVec 32 := Scalar.muli c4_i32_64 v105
  let v107 : BitVec 32 := Scalar.select v101 v104 v106
  let v108 : BitVec 32 := Scalar.select v97 v100 v107
  let v109 : BitVec 32 := Scalar.select v93 v96 v108
  let v110 : BitVec 32 := Scalar.select v92 c0_i32_65 v109
  let c1_i32_961 : BitVec 32 := 1#32
  let v1174 : BitVec 32 := Scalar.muli v110 c1_i32_961
  let v1175 : BitVec 32 := Scalar.addi c0_i32_962 v1174
  v1175.toNat
def k0_dev25 (d0 : Dev nD) : Nat :=
  let c0_i32_982 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_21 : BitVec 32 := 1#32
  let v50 : BitVec 32 := Scalar.addi v49 c1_i32_21
  let c16_i32_22 : BitVec 32 := 16#32
  let c0_i32_23 : BitVec 32 := 0#32
  let v51 : BitVec 1 := Scalar.cmpi .eq c16_i32_22 c0_i32_23
  let c1_i32_24 : BitVec 32 := 1#32
  let v52 : BitVec 32 := Scalar.select v51 c1_i32_24 c16_i32_22
  let v53 : BitVec 32 := Scalar.remsi v50 v52
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let c0_i32_25 : BitVec 32 := 0#32
  let v54 : BitVec 1 := Scalar.cmpi .ne v53 c0_i32_25
  let v58 : BitVec 1 := Scalar.andi v57 v54
  let v59 : BitVec 32 := Scalar.addi v53 v52
  let v60 : BitVec 32 := Scalar.select v58 v59 v53
  let c0_i32_28 : BitVec 32 := 0#32
  let v61 : BitVec 1 := Scalar.cmpi .eq v60 c0_i32_28
  let c0_i32_41 : BitVec 32 := 0#32
  let c4_i32_29 : BitVec 32 := 4#32
  let v62 : BitVec 1 := Scalar.cmpi .sle v60 c4_i32_29
  let c4_i32_31 : BitVec 32 := 4#32
  let c1_i32_30 : BitVec 32 := 1#32
  let v63 : BitVec 32 := Scalar.subi v60 c1_i32_30
  let v64 : BitVec 32 := Scalar.muli c4_i32_31 v63
  let c1_i32_32 : BitVec 32 := 1#32
  let v65 : BitVec 32 := Scalar.addi v64 c1_i32_32
  let c8_i32_33 : BitVec 32 := 8#32
  let v66 : BitVec 1 := Scalar.cmpi .sle v60 c8_i32_33
  let c4_i32_35 : BitVec 32 := 4#32
  let c8_i32_34 : BitVec 32 := 8#32
  let v67 : BitVec 32 := Scalar.subi c8_i32_34 v60
  let v68 : BitVec 32 := Scalar.muli c4_i32_35 v67
  let c2_i32_36 : BitVec 32 := 2#32
  let v69 : BitVec 32 := Scalar.addi v68 c2_i32_36
  let c12_i32 : BitVec 32 := 12#32
  let v70 : BitVec 1 := Scalar.cmpi .sle v60 c12_i32
  let c4_i32_38 : BitVec 32 := 4#32
  let c9_i32_37 : BitVec 32 := 9#32
  let v71 : BitVec 32 := Scalar.subi v60 c9_i32_37
  let v72 : BitVec 32 := Scalar.muli c4_i32_38 v71
  let c3_i32 : BitVec 32 := 3#32
  let v73 : BitVec 32 := Scalar.addi v72 c3_i32
  let c4_i32_40 : BitVec 32 := 4#32
  let c16_i32_39 : BitVec 32 := 16#32
  let v74 : BitVec 32 := Scalar.subi c16_i32_39 v60
  let v75 : BitVec 32 := Scalar.muli c4_i32_40 v74
  let v76 : BitVec 32 := Scalar.select v70 v73 v75
  let v77 : BitVec 32 := Scalar.select v66 v69 v76
  let v78 : BitVec 32 := Scalar.select v62 v65 v77
  let v79 : BitVec 32 := Scalar.select v61 c0_i32_41 v78
  let c1_i32_981 : BitVec 32 := 1#32
  let v1192 : BitVec 32 := Scalar.muli v79 c1_i32_981
  let v1193 : BitVec 32 := Scalar.addi c0_i32_982 v1192
  v1193.toNat
def k0_dev26 (d0 : Dev nD) : Nat :=
  let c0_i32_1002 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c16_i32_42 : BitVec 32 := 16#32
  let v80 : BitVec 32 := Scalar.addi v49 c16_i32_42
  let c1_i32_43 : BitVec 32 := 1#32
  let v81 : BitVec 32 := Scalar.subi v80 c1_i32_43
  let c16_i32_44 : BitVec 32 := 16#32
  let c0_i32_45 : BitVec 32 := 0#32
  let v82 : BitVec 1 := Scalar.cmpi .eq c16_i32_44 c0_i32_45
  let c1_i32_46 : BitVec 32 := 1#32
  let v83 : BitVec 32 := Scalar.select v82 c1_i32_46 c16_i32_44
  let v84 : BitVec 32 := Scalar.remsi v81 v83
  let c0_i32_48 : BitVec 32 := 0#32
  let v86 : BitVec 1 := Scalar.cmpi .slt v84 c0_i32_48
  let c0_i32_49 : BitVec 32 := 0#32
  let v87 : BitVec 1 := Scalar.cmpi .slt v83 c0_i32_49
  let v88 : BitVec 1 := Scalar.xori v86 v87
  let c0_i32_47 : BitVec 32 := 0#32
  let v85 : BitVec 1 := Scalar.cmpi .ne v84 c0_i32_47
  let v89 : BitVec 1 := Scalar.andi v88 v85
  let v90 : BitVec 32 := Scalar.addi v84 v83
  let v91 : BitVec 32 := Scalar.select v89 v90 v84
  let c0_i32_50 : BitVec 32 := 0#32
  let v92 : BitVec 1 := Scalar.cmpi .eq v91 c0_i32_50
  let c0_i32_65 : BitVec 32 := 0#32
  let c4_i32_51 : BitVec 32 := 4#32
  let v93 : BitVec 1 := Scalar.cmpi .sle v91 c4_i32_51
  let c4_i32_53 : BitVec 32 := 4#32
  let c1_i32_52 : BitVec 32 := 1#32
  let v94 : BitVec 32 := Scalar.subi v91 c1_i32_52
  let v95 : BitVec 32 := Scalar.muli c4_i32_53 v94
  let c1_i32_54 : BitVec 32 := 1#32
  let v96 : BitVec 32 := Scalar.addi v95 c1_i32_54
  let c8_i32_55 : BitVec 32 := 8#32
  let v97 : BitVec 1 := Scalar.cmpi .sle v91 c8_i32_55
  let c4_i32_57 : BitVec 32 := 4#32
  let c8_i32_56 : BitVec 32 := 8#32
  let v98 : BitVec 32 := Scalar.subi c8_i32_56 v91
  let v99 : BitVec 32 := Scalar.muli c4_i32_57 v98
  let c2_i32_58 : BitVec 32 := 2#32
  let v100 : BitVec 32 := Scalar.addi v99 c2_i32_58
  let c12_i32_59 : BitVec 32 := 12#32
  let v101 : BitVec 1 := Scalar.cmpi .sle v91 c12_i32_59
  let c4_i32_61 : BitVec 32 := 4#32
  let c9_i32_60 : BitVec 32 := 9#32
  let v102 : BitVec 32 := Scalar.subi v91 c9_i32_60
  let v103 : BitVec 32 := Scalar.muli c4_i32_61 v102
  let c3_i32_62 : BitVec 32 := 3#32
  let v104 : BitVec 32 := Scalar.addi v103 c3_i32_62
  let c4_i32_64 : BitVec 32 := 4#32
  let c16_i32_63 : BitVec 32 := 16#32
  let v105 : BitVec 32 := Scalar.subi c16_i32_63 v91
  let v106 : BitVec 32 := Scalar.muli c4_i32_64 v105
  let v107 : BitVec 32 := Scalar.select v101 v104 v106
  let v108 : BitVec 32 := Scalar.select v97 v100 v107
  let v109 : BitVec 32 := Scalar.select v93 v96 v108
  let v110 : BitVec 32 := Scalar.select v92 c0_i32_65 v109
  let c1_i32_1001 : BitVec 32 := 1#32
  let v1210 : BitVec 32 := Scalar.muli v110 c1_i32_1001
  let v1211 : BitVec 32 := Scalar.addi c0_i32_1002 v1210
  v1211.toNat
def k0_mult10 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c5_i32 : BitVec 32 := 5#32
  let v271 : BitVec 32 := Scalar.subi v49 c5_i32
  let c16_i32_190 : BitVec 32 := 16#32
  let v272 : BitVec 32 := Scalar.addi v271 c16_i32_190
  let c16_i32_191 : BitVec 32 := 16#32
  let c0_i32_192 : BitVec 32 := 0#32
  let v273 : BitVec 1 := Scalar.cmpi .eq c16_i32_191 c0_i32_192
  let c1_i32_193 : BitVec 32 := 1#32
  let v274 : BitVec 32 := Scalar.select v273 c1_i32_193 c16_i32_191
  let v275 : BitVec 32 := Scalar.remsi v272 v274
  let c0_i32_195 : BitVec 32 := 0#32
  let v277 : BitVec 1 := Scalar.cmpi .slt v275 c0_i32_195
  let c0_i32_196 : BitVec 32 := 0#32
  let v278 : BitVec 1 := Scalar.cmpi .slt v274 c0_i32_196
  let v279 : BitVec 1 := Scalar.xori v277 v278
  let c0_i32_194 : BitVec 32 := 0#32
  let v276 : BitVec 1 := Scalar.cmpi .ne v275 c0_i32_194
  let v280 : BitVec 1 := Scalar.andi v279 v276
  let v281 : BitVec 32 := Scalar.addi v275 v274
  let v282 : BitVec 32 := Scalar.select v280 v281 v275
  let c0_i32_197 : BitVec 32 := 0#32
  let v283 : BitVec 1 := Scalar.cmpi .eq v282 c0_i32_197
  let c0_i32_212 : BitVec 32 := 0#32
  let c4_i32_198 : BitVec 32 := 4#32
  let v284 : BitVec 1 := Scalar.cmpi .sle v282 c4_i32_198
  let c4_i32_200 : BitVec 32 := 4#32
  let c1_i32_199 : BitVec 32 := 1#32
  let v285 : BitVec 32 := Scalar.subi v282 c1_i32_199
  let v286 : BitVec 32 := Scalar.muli c4_i32_200 v285
  let c1_i32_201 : BitVec 32 := 1#32
  let v287 : BitVec 32 := Scalar.addi v286 c1_i32_201
  let c8_i32_202 : BitVec 32 := 8#32
  let v288 : BitVec 1 := Scalar.cmpi .sle v282 c8_i32_202
  let c4_i32_204 : BitVec 32 := 4#32
  let c8_i32_203 : BitVec 32 := 8#32
  let v289 : BitVec 32 := Scalar.subi c8_i32_203 v282
  let v290 : BitVec 32 := Scalar.muli c4_i32_204 v289
  let c2_i32_205 : BitVec 32 := 2#32
  let v291 : BitVec 32 := Scalar.addi v290 c2_i32_205
  let c12_i32_206 : BitVec 32 := 12#32
  let v292 : BitVec 1 := Scalar.cmpi .sle v282 c12_i32_206
  let c4_i32_208 : BitVec 32 := 4#32
  let c9_i32_207 : BitVec 32 := 9#32
  let v293 : BitVec 32 := Scalar.subi v282 c9_i32_207
  let v294 : BitVec 32 := Scalar.muli c4_i32_208 v293
  let c3_i32_209 : BitVec 32 := 3#32
  let v295 : BitVec 32 := Scalar.addi v294 c3_i32_209
  let c4_i32_211 : BitVec 32 := 4#32
  let c16_i32_210 : BitVec 32 := 16#32
  let v296 : BitVec 32 := Scalar.subi c16_i32_210 v282
  let v297 : BitVec 32 := Scalar.muli c4_i32_211 v296
  let v298 : BitVec 32 := Scalar.select v292 v295 v297
  let v299 : BitVec 32 := Scalar.select v288 v291 v298
  let v300 : BitVec 32 := Scalar.select v284 v287 v299
  let v301 : BitVec 32 := Scalar.select v283 c0_i32_212 v300
  let c256_i32_213 : BitVec 32 := 256#32
  let v302 : BitVec 32 := Scalar.muli v301 c256_i32_213
  let c0_i32_1012 : BitVec 32 := 0#32
  let v1227 : BitVec 32 := Scalar.addi v302 c0_i32_1012
  v1227
def k0_mult11 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c11_i32 : BitVec 32 := 11#32
  let v463 : BitVec 32 := Scalar.subi v49 c11_i32
  let c16_i32_336 : BitVec 32 := 16#32
  let v464 : BitVec 32 := Scalar.addi v463 c16_i32_336
  let c16_i32_337 : BitVec 32 := 16#32
  let c0_i32_338 : BitVec 32 := 0#32
  let v465 : BitVec 1 := Scalar.cmpi .eq c16_i32_337 c0_i32_338
  let c1_i32_339 : BitVec 32 := 1#32
  let v466 : BitVec 32 := Scalar.select v465 c1_i32_339 c16_i32_337
  let v467 : BitVec 32 := Scalar.remsi v464 v466
  let c0_i32_341 : BitVec 32 := 0#32
  let v469 : BitVec 1 := Scalar.cmpi .slt v467 c0_i32_341
  let c0_i32_342 : BitVec 32 := 0#32
  let v470 : BitVec 1 := Scalar.cmpi .slt v466 c0_i32_342
  let v471 : BitVec 1 := Scalar.xori v469 v470
  let c0_i32_340 : BitVec 32 := 0#32
  let v468 : BitVec 1 := Scalar.cmpi .ne v467 c0_i32_340
  let v472 : BitVec 1 := Scalar.andi v471 v468
  let v473 : BitVec 32 := Scalar.addi v467 v466
  let v474 : BitVec 32 := Scalar.select v472 v473 v467
  let c0_i32_343 : BitVec 32 := 0#32
  let v475 : BitVec 1 := Scalar.cmpi .eq v474 c0_i32_343
  let c0_i32_358 : BitVec 32 := 0#32
  let c4_i32_344 : BitVec 32 := 4#32
  let v476 : BitVec 1 := Scalar.cmpi .sle v474 c4_i32_344
  let c4_i32_346 : BitVec 32 := 4#32
  let c1_i32_345 : BitVec 32 := 1#32
  let v477 : BitVec 32 := Scalar.subi v474 c1_i32_345
  let v478 : BitVec 32 := Scalar.muli c4_i32_346 v477
  let c1_i32_347 : BitVec 32 := 1#32
  let v479 : BitVec 32 := Scalar.addi v478 c1_i32_347
  let c8_i32_348 : BitVec 32 := 8#32
  let v480 : BitVec 1 := Scalar.cmpi .sle v474 c8_i32_348
  let c4_i32_350 : BitVec 32 := 4#32
  let c8_i32_349 : BitVec 32 := 8#32
  let v481 : BitVec 32 := Scalar.subi c8_i32_349 v474
  let v482 : BitVec 32 := Scalar.muli c4_i32_350 v481
  let c2_i32_351 : BitVec 32 := 2#32
  let v483 : BitVec 32 := Scalar.addi v482 c2_i32_351
  let c12_i32_352 : BitVec 32 := 12#32
  let v484 : BitVec 1 := Scalar.cmpi .sle v474 c12_i32_352
  let c4_i32_354 : BitVec 32 := 4#32
  let c9_i32_353 : BitVec 32 := 9#32
  let v485 : BitVec 32 := Scalar.subi v474 c9_i32_353
  let v486 : BitVec 32 := Scalar.muli c4_i32_354 v485
  let c3_i32_355 : BitVec 32 := 3#32
  let v487 : BitVec 32 := Scalar.addi v486 c3_i32_355
  let c4_i32_357 : BitVec 32 := 4#32
  let c16_i32_356 : BitVec 32 := 16#32
  let v488 : BitVec 32 := Scalar.subi c16_i32_356 v474
  let v489 : BitVec 32 := Scalar.muli c4_i32_357 v488
  let v490 : BitVec 32 := Scalar.select v484 v487 v489
  let v491 : BitVec 32 := Scalar.select v480 v483 v490
  let v492 : BitVec 32 := Scalar.select v476 v479 v491
  let v493 : BitVec 32 := Scalar.select v475 c0_i32_358 v492
  let c256_i32_359 : BitVec 32 := 256#32
  let v494 : BitVec 32 := Scalar.muli v493 c256_i32_359
  let c0_i32_1022 : BitVec 32 := 0#32
  let v1246 : BitVec 32 := Scalar.addi v494 c0_i32_1022
  v1246
def k0_dev27 (d0 : Dev nD) : Nat :=
  let c0_i32_1042 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_21 : BitVec 32 := 1#32
  let v50 : BitVec 32 := Scalar.addi v49 c1_i32_21
  let c16_i32_22 : BitVec 32 := 16#32
  let c0_i32_23 : BitVec 32 := 0#32
  let v51 : BitVec 1 := Scalar.cmpi .eq c16_i32_22 c0_i32_23
  let c1_i32_24 : BitVec 32 := 1#32
  let v52 : BitVec 32 := Scalar.select v51 c1_i32_24 c16_i32_22
  let v53 : BitVec 32 := Scalar.remsi v50 v52
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let c0_i32_25 : BitVec 32 := 0#32
  let v54 : BitVec 1 := Scalar.cmpi .ne v53 c0_i32_25
  let v58 : BitVec 1 := Scalar.andi v57 v54
  let v59 : BitVec 32 := Scalar.addi v53 v52
  let v60 : BitVec 32 := Scalar.select v58 v59 v53
  let c0_i32_28 : BitVec 32 := 0#32
  let v61 : BitVec 1 := Scalar.cmpi .eq v60 c0_i32_28
  let c0_i32_41 : BitVec 32 := 0#32
  let c4_i32_29 : BitVec 32 := 4#32
  let v62 : BitVec 1 := Scalar.cmpi .sle v60 c4_i32_29
  let c4_i32_31 : BitVec 32 := 4#32
  let c1_i32_30 : BitVec 32 := 1#32
  let v63 : BitVec 32 := Scalar.subi v60 c1_i32_30
  let v64 : BitVec 32 := Scalar.muli c4_i32_31 v63
  let c1_i32_32 : BitVec 32 := 1#32
  let v65 : BitVec 32 := Scalar.addi v64 c1_i32_32
  let c8_i32_33 : BitVec 32 := 8#32
  let v66 : BitVec 1 := Scalar.cmpi .sle v60 c8_i32_33
  let c4_i32_35 : BitVec 32 := 4#32
  let c8_i32_34 : BitVec 32 := 8#32
  let v67 : BitVec 32 := Scalar.subi c8_i32_34 v60
  let v68 : BitVec 32 := Scalar.muli c4_i32_35 v67
  let c2_i32_36 : BitVec 32 := 2#32
  let v69 : BitVec 32 := Scalar.addi v68 c2_i32_36
  let c12_i32 : BitVec 32 := 12#32
  let v70 : BitVec 1 := Scalar.cmpi .sle v60 c12_i32
  let c4_i32_38 : BitVec 32 := 4#32
  let c9_i32_37 : BitVec 32 := 9#32
  let v71 : BitVec 32 := Scalar.subi v60 c9_i32_37
  let v72 : BitVec 32 := Scalar.muli c4_i32_38 v71
  let c3_i32 : BitVec 32 := 3#32
  let v73 : BitVec 32 := Scalar.addi v72 c3_i32
  let c4_i32_40 : BitVec 32 := 4#32
  let c16_i32_39 : BitVec 32 := 16#32
  let v74 : BitVec 32 := Scalar.subi c16_i32_39 v60
  let v75 : BitVec 32 := Scalar.muli c4_i32_40 v74
  let v76 : BitVec 32 := Scalar.select v70 v73 v75
  let v77 : BitVec 32 := Scalar.select v66 v69 v76
  let v78 : BitVec 32 := Scalar.select v62 v65 v77
  let v79 : BitVec 32 := Scalar.select v61 c0_i32_41 v78
  let c1_i32_1041 : BitVec 32 := 1#32
  let v1266 : BitVec 32 := Scalar.muli v79 c1_i32_1041
  let v1267 : BitVec 32 := Scalar.addi c0_i32_1042 v1266
  v1267.toNat
def k0_dev28 (d0 : Dev nD) : Nat :=
  let c0_i32_1062 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c16_i32_42 : BitVec 32 := 16#32
  let v80 : BitVec 32 := Scalar.addi v49 c16_i32_42
  let c1_i32_43 : BitVec 32 := 1#32
  let v81 : BitVec 32 := Scalar.subi v80 c1_i32_43
  let c16_i32_44 : BitVec 32 := 16#32
  let c0_i32_45 : BitVec 32 := 0#32
  let v82 : BitVec 1 := Scalar.cmpi .eq c16_i32_44 c0_i32_45
  let c1_i32_46 : BitVec 32 := 1#32
  let v83 : BitVec 32 := Scalar.select v82 c1_i32_46 c16_i32_44
  let v84 : BitVec 32 := Scalar.remsi v81 v83
  let c0_i32_48 : BitVec 32 := 0#32
  let v86 : BitVec 1 := Scalar.cmpi .slt v84 c0_i32_48
  let c0_i32_49 : BitVec 32 := 0#32
  let v87 : BitVec 1 := Scalar.cmpi .slt v83 c0_i32_49
  let v88 : BitVec 1 := Scalar.xori v86 v87
  let c0_i32_47 : BitVec 32 := 0#32
  let v85 : BitVec 1 := Scalar.cmpi .ne v84 c0_i32_47
  let v89 : BitVec 1 := Scalar.andi v88 v85
  let v90 : BitVec 32 := Scalar.addi v84 v83
  let v91 : BitVec 32 := Scalar.select v89 v90 v84
  let c0_i32_50 : BitVec 32 := 0#32
  let v92 : BitVec 1 := Scalar.cmpi .eq v91 c0_i32_50
  let c0_i32_65 : BitVec 32 := 0#32
  let c4_i32_51 : BitVec 32 := 4#32
  let v93 : BitVec 1 := Scalar.cmpi .sle v91 c4_i32_51
  let c4_i32_53 : BitVec 32 := 4#32
  let c1_i32_52 : BitVec 32 := 1#32
  let v94 : BitVec 32 := Scalar.subi v91 c1_i32_52
  let v95 : BitVec 32 := Scalar.muli c4_i32_53 v94
  let c1_i32_54 : BitVec 32 := 1#32
  let v96 : BitVec 32 := Scalar.addi v95 c1_i32_54
  let c8_i32_55 : BitVec 32 := 8#32
  let v97 : BitVec 1 := Scalar.cmpi .sle v91 c8_i32_55
  let c4_i32_57 : BitVec 32 := 4#32
  let c8_i32_56 : BitVec 32 := 8#32
  let v98 : BitVec 32 := Scalar.subi c8_i32_56 v91
  let v99 : BitVec 32 := Scalar.muli c4_i32_57 v98
  let c2_i32_58 : BitVec 32 := 2#32
  let v100 : BitVec 32 := Scalar.addi v99 c2_i32_58
  let c12_i32_59 : BitVec 32 := 12#32
  let v101 : BitVec 1 := Scalar.cmpi .sle v91 c12_i32_59
  let c4_i32_61 : BitVec 32 := 4#32
  let c9_i32_60 : BitVec 32 := 9#32
  let v102 : BitVec 32 := Scalar.subi v91 c9_i32_60
  let v103 : BitVec 32 := Scalar.muli c4_i32_61 v102
  let c3_i32_62 : BitVec 32 := 3#32
  let v104 : BitVec 32 := Scalar.addi v103 c3_i32_62
  let c4_i32_64 : BitVec 32 := 4#32
  let c16_i32_63 : BitVec 32 := 16#32
  let v105 : BitVec 32 := Scalar.subi c16_i32_63 v91
  let v106 : BitVec 32 := Scalar.muli c4_i32_64 v105
  let v107 : BitVec 32 := Scalar.select v101 v104 v106
  let v108 : BitVec 32 := Scalar.select v97 v100 v107
  let v109 : BitVec 32 := Scalar.select v93 v96 v108
  let v110 : BitVec 32 := Scalar.select v92 c0_i32_65 v109
  let c1_i32_1061 : BitVec 32 := 1#32
  let v1284 : BitVec 32 := Scalar.muli v110 c1_i32_1061
  let v1285 : BitVec 32 := Scalar.addi c0_i32_1062 v1284
  v1285.toNat
def k0_dev29 (d0 : Dev nD) : Nat :=
  let c0_i32_1082 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_21 : BitVec 32 := 1#32
  let v50 : BitVec 32 := Scalar.addi v49 c1_i32_21
  let c16_i32_22 : BitVec 32 := 16#32
  let c0_i32_23 : BitVec 32 := 0#32
  let v51 : BitVec 1 := Scalar.cmpi .eq c16_i32_22 c0_i32_23
  let c1_i32_24 : BitVec 32 := 1#32
  let v52 : BitVec 32 := Scalar.select v51 c1_i32_24 c16_i32_22
  let v53 : BitVec 32 := Scalar.remsi v50 v52
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let c0_i32_25 : BitVec 32 := 0#32
  let v54 : BitVec 1 := Scalar.cmpi .ne v53 c0_i32_25
  let v58 : BitVec 1 := Scalar.andi v57 v54
  let v59 : BitVec 32 := Scalar.addi v53 v52
  let v60 : BitVec 32 := Scalar.select v58 v59 v53
  let c0_i32_28 : BitVec 32 := 0#32
  let v61 : BitVec 1 := Scalar.cmpi .eq v60 c0_i32_28
  let c0_i32_41 : BitVec 32 := 0#32
  let c4_i32_29 : BitVec 32 := 4#32
  let v62 : BitVec 1 := Scalar.cmpi .sle v60 c4_i32_29
  let c4_i32_31 : BitVec 32 := 4#32
  let c1_i32_30 : BitVec 32 := 1#32
  let v63 : BitVec 32 := Scalar.subi v60 c1_i32_30
  let v64 : BitVec 32 := Scalar.muli c4_i32_31 v63
  let c1_i32_32 : BitVec 32 := 1#32
  let v65 : BitVec 32 := Scalar.addi v64 c1_i32_32
  let c8_i32_33 : BitVec 32 := 8#32
  let v66 : BitVec 1 := Scalar.cmpi .sle v60 c8_i32_33
  let c4_i32_35 : BitVec 32 := 4#32
  let c8_i32_34 : BitVec 32 := 8#32
  let v67 : BitVec 32 := Scalar.subi c8_i32_34 v60
  let v68 : BitVec 32 := Scalar.muli c4_i32_35 v67
  let c2_i32_36 : BitVec 32 := 2#32
  let v69 : BitVec 32 := Scalar.addi v68 c2_i32_36
  let c12_i32 : BitVec 32 := 12#32
  let v70 : BitVec 1 := Scalar.cmpi .sle v60 c12_i32
  let c4_i32_38 : BitVec 32 := 4#32
  let c9_i32_37 : BitVec 32 := 9#32
  let v71 : BitVec 32 := Scalar.subi v60 c9_i32_37
  let v72 : BitVec 32 := Scalar.muli c4_i32_38 v71
  let c3_i32 : BitVec 32 := 3#32
  let v73 : BitVec 32 := Scalar.addi v72 c3_i32
  let c4_i32_40 : BitVec 32 := 4#32
  let c16_i32_39 : BitVec 32 := 16#32
  let v74 : BitVec 32 := Scalar.subi c16_i32_39 v60
  let v75 : BitVec 32 := Scalar.muli c4_i32_40 v74
  let v76 : BitVec 32 := Scalar.select v70 v73 v75
  let v77 : BitVec 32 := Scalar.select v66 v69 v76
  let v78 : BitVec 32 := Scalar.select v62 v65 v77
  let v79 : BitVec 32 := Scalar.select v61 c0_i32_41 v78
  let c1_i32_1081 : BitVec 32 := 1#32
  let v1302 : BitVec 32 := Scalar.muli v79 c1_i32_1081
  let v1303 : BitVec 32 := Scalar.addi c0_i32_1082 v1302
  v1303.toNat
def k0_dev30 (d0 : Dev nD) : Nat :=
  let c0_i32_1102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c16_i32_42 : BitVec 32 := 16#32
  let v80 : BitVec 32 := Scalar.addi v49 c16_i32_42
  let c1_i32_43 : BitVec 32 := 1#32
  let v81 : BitVec 32 := Scalar.subi v80 c1_i32_43
  let c16_i32_44 : BitVec 32 := 16#32
  let c0_i32_45 : BitVec 32 := 0#32
  let v82 : BitVec 1 := Scalar.cmpi .eq c16_i32_44 c0_i32_45
  let c1_i32_46 : BitVec 32 := 1#32
  let v83 : BitVec 32 := Scalar.select v82 c1_i32_46 c16_i32_44
  let v84 : BitVec 32 := Scalar.remsi v81 v83
  let c0_i32_48 : BitVec 32 := 0#32
  let v86 : BitVec 1 := Scalar.cmpi .slt v84 c0_i32_48
  let c0_i32_49 : BitVec 32 := 0#32
  let v87 : BitVec 1 := Scalar.cmpi .slt v83 c0_i32_49
  let v88 : BitVec 1 := Scalar.xori v86 v87
  let c0_i32_47 : BitVec 32 := 0#32
  let v85 : BitVec 1 := Scalar.cmpi .ne v84 c0_i32_47
  let v89 : BitVec 1 := Scalar.andi v88 v85
  let v90 : BitVec 32 := Scalar.addi v84 v83
  let v91 : BitVec 32 := Scalar.select v89 v90 v84
  let c0_i32_50 : BitVec 32 := 0#32
  let v92 : BitVec 1 := Scalar.cmpi .eq v91 c0_i32_50
  let c0_i32_65 : BitVec 32 := 0#32
  let c4_i32_51 : BitVec 32 := 4#32
  let v93 : BitVec 1 := Scalar.cmpi .sle v91 c4_i32_51
  let c4_i32_53 : BitVec 32 := 4#32
  let c1_i32_52 : BitVec 32 := 1#32
  let v94 : BitVec 32 := Scalar.subi v91 c1_i32_52
  let v95 : BitVec 32 := Scalar.muli c4_i32_53 v94
  let c1_i32_54 : BitVec 32 := 1#32
  let v96 : BitVec 32 := Scalar.addi v95 c1_i32_54
  let c8_i32_55 : BitVec 32 := 8#32
  let v97 : BitVec 1 := Scalar.cmpi .sle v91 c8_i32_55
  let c4_i32_57 : BitVec 32 := 4#32
  let c8_i32_56 : BitVec 32 := 8#32
  let v98 : BitVec 32 := Scalar.subi c8_i32_56 v91
  let v99 : BitVec 32 := Scalar.muli c4_i32_57 v98
  let c2_i32_58 : BitVec 32 := 2#32
  let v100 : BitVec 32 := Scalar.addi v99 c2_i32_58
  let c12_i32_59 : BitVec 32 := 12#32
  let v101 : BitVec 1 := Scalar.cmpi .sle v91 c12_i32_59
  let c4_i32_61 : BitVec 32 := 4#32
  let c9_i32_60 : BitVec 32 := 9#32
  let v102 : BitVec 32 := Scalar.subi v91 c9_i32_60
  let v103 : BitVec 32 := Scalar.muli c4_i32_61 v102
  let c3_i32_62 : BitVec 32 := 3#32
  let v104 : BitVec 32 := Scalar.addi v103 c3_i32_62
  let c4_i32_64 : BitVec 32 := 4#32
  let c16_i32_63 : BitVec 32 := 16#32
  let v105 : BitVec 32 := Scalar.subi c16_i32_63 v91
  let v106 : BitVec 32 := Scalar.muli c4_i32_64 v105
  let v107 : BitVec 32 := Scalar.select v101 v104 v106
  let v108 : BitVec 32 := Scalar.select v97 v100 v107
  let v109 : BitVec 32 := Scalar.select v93 v96 v108
  let v110 : BitVec 32 := Scalar.select v92 c0_i32_65 v109
  let c1_i32_1101 : BitVec 32 := 1#32
  let v1320 : BitVec 32 := Scalar.muli v110 c1_i32_1101
  let v1321 : BitVec 32 := Scalar.addi c0_i32_1102 v1320
  v1321.toNat
def k0_mult12 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c6_i32 : BitVec 32 := 6#32
  let v303 : BitVec 32 := Scalar.subi v49 c6_i32
  let c16_i32_214 : BitVec 32 := 16#32
  let v304 : BitVec 32 := Scalar.addi v303 c16_i32_214
  let c16_i32_215 : BitVec 32 := 16#32
  let c0_i32_216 : BitVec 32 := 0#32
  let v305 : BitVec 1 := Scalar.cmpi .eq c16_i32_215 c0_i32_216
  let c1_i32_217 : BitVec 32 := 1#32
  let v306 : BitVec 32 := Scalar.select v305 c1_i32_217 c16_i32_215
  let v307 : BitVec 32 := Scalar.remsi v304 v306
  let c0_i32_219 : BitVec 32 := 0#32
  let v309 : BitVec 1 := Scalar.cmpi .slt v307 c0_i32_219
  let c0_i32_220 : BitVec 32 := 0#32
  let v310 : BitVec 1 := Scalar.cmpi .slt v306 c0_i32_220
  let v311 : BitVec 1 := Scalar.xori v309 v310
  let c0_i32_218 : BitVec 32 := 0#32
  let v308 : BitVec 1 := Scalar.cmpi .ne v307 c0_i32_218
  let v312 : BitVec 1 := Scalar.andi v311 v308
  let v313 : BitVec 32 := Scalar.addi v307 v306
  let v314 : BitVec 32 := Scalar.select v312 v313 v307
  let c0_i32_221 : BitVec 32 := 0#32
  let v315 : BitVec 1 := Scalar.cmpi .eq v314 c0_i32_221
  let c0_i32_236 : BitVec 32 := 0#32
  let c4_i32_222 : BitVec 32 := 4#32
  let v316 : BitVec 1 := Scalar.cmpi .sle v314 c4_i32_222
  let c4_i32_224 : BitVec 32 := 4#32
  let c1_i32_223 : BitVec 32 := 1#32
  let v317 : BitVec 32 := Scalar.subi v314 c1_i32_223
  let v318 : BitVec 32 := Scalar.muli c4_i32_224 v317
  let c1_i32_225 : BitVec 32 := 1#32
  let v319 : BitVec 32 := Scalar.addi v318 c1_i32_225
  let c8_i32_226 : BitVec 32 := 8#32
  let v320 : BitVec 1 := Scalar.cmpi .sle v314 c8_i32_226
  let c4_i32_228 : BitVec 32 := 4#32
  let c8_i32_227 : BitVec 32 := 8#32
  let v321 : BitVec 32 := Scalar.subi c8_i32_227 v314
  let v322 : BitVec 32 := Scalar.muli c4_i32_228 v321
  let c2_i32_229 : BitVec 32 := 2#32
  let v323 : BitVec 32 := Scalar.addi v322 c2_i32_229
  let c12_i32_230 : BitVec 32 := 12#32
  let v324 : BitVec 1 := Scalar.cmpi .sle v314 c12_i32_230
  let c4_i32_232 : BitVec 32 := 4#32
  let c9_i32_231 : BitVec 32 := 9#32
  let v325 : BitVec 32 := Scalar.subi v314 c9_i32_231
  let v326 : BitVec 32 := Scalar.muli c4_i32_232 v325
  let c3_i32_233 : BitVec 32 := 3#32
  let v327 : BitVec 32 := Scalar.addi v326 c3_i32_233
  let c4_i32_235 : BitVec 32 := 4#32
  let c16_i32_234 : BitVec 32 := 16#32
  let v328 : BitVec 32 := Scalar.subi c16_i32_234 v314
  let v329 : BitVec 32 := Scalar.muli c4_i32_235 v328
  let v330 : BitVec 32 := Scalar.select v324 v327 v329
  let v331 : BitVec 32 := Scalar.select v320 v323 v330
  let v332 : BitVec 32 := Scalar.select v316 v319 v331
  let v333 : BitVec 32 := Scalar.select v315 c0_i32_236 v332
  let c256_i32_237 : BitVec 32 := 256#32
  let v334 : BitVec 32 := Scalar.muli v333 c256_i32_237
  let c0_i32_1112 : BitVec 32 := 0#32
  let v1337 : BitVec 32 := Scalar.addi v334 c0_i32_1112
  v1337
def k0_mult13 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c10_i32 : BitVec 32 := 10#32
  let v431 : BitVec 32 := Scalar.subi v49 c10_i32
  let c16_i32_312 : BitVec 32 := 16#32
  let v432 : BitVec 32 := Scalar.addi v431 c16_i32_312
  let c16_i32_313 : BitVec 32 := 16#32
  let c0_i32_314 : BitVec 32 := 0#32
  let v433 : BitVec 1 := Scalar.cmpi .eq c16_i32_313 c0_i32_314
  let c1_i32_315 : BitVec 32 := 1#32
  let v434 : BitVec 32 := Scalar.select v433 c1_i32_315 c16_i32_313
  let v435 : BitVec 32 := Scalar.remsi v432 v434
  let c0_i32_317 : BitVec 32 := 0#32
  let v437 : BitVec 1 := Scalar.cmpi .slt v435 c0_i32_317
  let c0_i32_318 : BitVec 32 := 0#32
  let v438 : BitVec 1 := Scalar.cmpi .slt v434 c0_i32_318
  let v439 : BitVec 1 := Scalar.xori v437 v438
  let c0_i32_316 : BitVec 32 := 0#32
  let v436 : BitVec 1 := Scalar.cmpi .ne v435 c0_i32_316
  let v440 : BitVec 1 := Scalar.andi v439 v436
  let v441 : BitVec 32 := Scalar.addi v435 v434
  let v442 : BitVec 32 := Scalar.select v440 v441 v435
  let c0_i32_319 : BitVec 32 := 0#32
  let v443 : BitVec 1 := Scalar.cmpi .eq v442 c0_i32_319
  let c0_i32_334 : BitVec 32 := 0#32
  let c4_i32_320 : BitVec 32 := 4#32
  let v444 : BitVec 1 := Scalar.cmpi .sle v442 c4_i32_320
  let c4_i32_322 : BitVec 32 := 4#32
  let c1_i32_321 : BitVec 32 := 1#32
  let v445 : BitVec 32 := Scalar.subi v442 c1_i32_321
  let v446 : BitVec 32 := Scalar.muli c4_i32_322 v445
  let c1_i32_323 : BitVec 32 := 1#32
  let v447 : BitVec 32 := Scalar.addi v446 c1_i32_323
  let c8_i32_324 : BitVec 32 := 8#32
  let v448 : BitVec 1 := Scalar.cmpi .sle v442 c8_i32_324
  let c4_i32_326 : BitVec 32 := 4#32
  let c8_i32_325 : BitVec 32 := 8#32
  let v449 : BitVec 32 := Scalar.subi c8_i32_325 v442
  let v450 : BitVec 32 := Scalar.muli c4_i32_326 v449
  let c2_i32_327 : BitVec 32 := 2#32
  let v451 : BitVec 32 := Scalar.addi v450 c2_i32_327
  let c12_i32_328 : BitVec 32 := 12#32
  let v452 : BitVec 1 := Scalar.cmpi .sle v442 c12_i32_328
  let c4_i32_330 : BitVec 32 := 4#32
  let c9_i32_329 : BitVec 32 := 9#32
  let v453 : BitVec 32 := Scalar.subi v442 c9_i32_329
  let v454 : BitVec 32 := Scalar.muli c4_i32_330 v453
  let c3_i32_331 : BitVec 32 := 3#32
  let v455 : BitVec 32 := Scalar.addi v454 c3_i32_331
  let c4_i32_333 : BitVec 32 := 4#32
  let c16_i32_332 : BitVec 32 := 16#32
  let v456 : BitVec 32 := Scalar.subi c16_i32_332 v442
  let v457 : BitVec 32 := Scalar.muli c4_i32_333 v456
  let v458 : BitVec 32 := Scalar.select v452 v455 v457
  let v459 : BitVec 32 := Scalar.select v448 v451 v458
  let v460 : BitVec 32 := Scalar.select v444 v447 v459
  let v461 : BitVec 32 := Scalar.select v443 c0_i32_334 v460
  let c256_i32_335 : BitVec 32 := 256#32
  let v462 : BitVec 32 := Scalar.muli v461 c256_i32_335
  let c0_i32_1122 : BitVec 32 := 0#32
  let v1356 : BitVec 32 := Scalar.addi v462 c0_i32_1122
  v1356
def k0_dev31 (d0 : Dev nD) : Nat :=
  let c0_i32_1142 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c1_i32_21 : BitVec 32 := 1#32
  let v50 : BitVec 32 := Scalar.addi v49 c1_i32_21
  let c16_i32_22 : BitVec 32 := 16#32
  let c0_i32_23 : BitVec 32 := 0#32
  let v51 : BitVec 1 := Scalar.cmpi .eq c16_i32_22 c0_i32_23
  let c1_i32_24 : BitVec 32 := 1#32
  let v52 : BitVec 32 := Scalar.select v51 c1_i32_24 c16_i32_22
  let v53 : BitVec 32 := Scalar.remsi v50 v52
  let c0_i32_26 : BitVec 32 := 0#32
  let v55 : BitVec 1 := Scalar.cmpi .slt v53 c0_i32_26
  let c0_i32_27 : BitVec 32 := 0#32
  let v56 : BitVec 1 := Scalar.cmpi .slt v52 c0_i32_27
  let v57 : BitVec 1 := Scalar.xori v55 v56
  let c0_i32_25 : BitVec 32 := 0#32
  let v54 : BitVec 1 := Scalar.cmpi .ne v53 c0_i32_25
  let v58 : BitVec 1 := Scalar.andi v57 v54
  let v59 : BitVec 32 := Scalar.addi v53 v52
  let v60 : BitVec 32 := Scalar.select v58 v59 v53
  let c0_i32_28 : BitVec 32 := 0#32
  let v61 : BitVec 1 := Scalar.cmpi .eq v60 c0_i32_28
  let c0_i32_41 : BitVec 32 := 0#32
  let c4_i32_29 : BitVec 32 := 4#32
  let v62 : BitVec 1 := Scalar.cmpi .sle v60 c4_i32_29
  let c4_i32_31 : BitVec 32 := 4#32
  let c1_i32_30 : BitVec 32 := 1#32
  let v63 : BitVec 32 := Scalar.subi v60 c1_i32_30
  let v64 : BitVec 32 := Scalar.muli c4_i32_31 v63
  let c1_i32_32 : BitVec 32 := 1#32
  let v65 : BitVec 32 := Scalar.addi v64 c1_i32_32
  let c8_i32_33 : BitVec 32 := 8#32
  let v66 : BitVec 1 := Scalar.cmpi .sle v60 c8_i32_33
  let c4_i32_35 : BitVec 32 := 4#32
  let c8_i32_34 : BitVec 32 := 8#32
  let v67 : BitVec 32 := Scalar.subi c8_i32_34 v60
  let v68 : BitVec 32 := Scalar.muli c4_i32_35 v67
  let c2_i32_36 : BitVec 32 := 2#32
  let v69 : BitVec 32 := Scalar.addi v68 c2_i32_36
  let c12_i32 : BitVec 32 := 12#32
  let v70 : BitVec 1 := Scalar.cmpi .sle v60 c12_i32
  let c4_i32_38 : BitVec 32 := 4#32
  let c9_i32_37 : BitVec 32 := 9#32
  let v71 : BitVec 32 := Scalar.subi v60 c9_i32_37
  let v72 : BitVec 32 := Scalar.muli c4_i32_38 v71
  let c3_i32 : BitVec 32 := 3#32
  let v73 : BitVec 32 := Scalar.addi v72 c3_i32
  let c4_i32_40 : BitVec 32 := 4#32
  let c16_i32_39 : BitVec 32 := 16#32
  let v74 : BitVec 32 := Scalar.subi c16_i32_39 v60
  let v75 : BitVec 32 := Scalar.muli c4_i32_40 v74
  let v76 : BitVec 32 := Scalar.select v70 v73 v75
  let v77 : BitVec 32 := Scalar.select v66 v69 v76
  let v78 : BitVec 32 := Scalar.select v62 v65 v77
  let v79 : BitVec 32 := Scalar.select v61 c0_i32_41 v78
  let c1_i32_1141 : BitVec 32 := 1#32
  let v1376 : BitVec 32 := Scalar.muli v79 c1_i32_1141
  let v1377 : BitVec 32 := Scalar.addi c0_i32_1142 v1376
  v1377.toNat
def k0_dev32 (d0 : Dev nD) : Nat :=
  let c0_i32_1182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c16_i32_42 : BitVec 32 := 16#32
  let v80 : BitVec 32 := Scalar.addi v49 c16_i32_42
  let c1_i32_43 : BitVec 32 := 1#32
  let v81 : BitVec 32 := Scalar.subi v80 c1_i32_43
  let c16_i32_44 : BitVec 32 := 16#32
  let c0_i32_45 : BitVec 32 := 0#32
  let v82 : BitVec 1 := Scalar.cmpi .eq c16_i32_44 c0_i32_45
  let c1_i32_46 : BitVec 32 := 1#32
  let v83 : BitVec 32 := Scalar.select v82 c1_i32_46 c16_i32_44
  let v84 : BitVec 32 := Scalar.remsi v81 v83
  let c0_i32_48 : BitVec 32 := 0#32
  let v86 : BitVec 1 := Scalar.cmpi .slt v84 c0_i32_48
  let c0_i32_49 : BitVec 32 := 0#32
  let v87 : BitVec 1 := Scalar.cmpi .slt v83 c0_i32_49
  let v88 : BitVec 1 := Scalar.xori v86 v87
  let c0_i32_47 : BitVec 32 := 0#32
  let v85 : BitVec 1 := Scalar.cmpi .ne v84 c0_i32_47
  let v89 : BitVec 1 := Scalar.andi v88 v85
  let v90 : BitVec 32 := Scalar.addi v84 v83
  let v91 : BitVec 32 := Scalar.select v89 v90 v84
  let c0_i32_50 : BitVec 32 := 0#32
  let v92 : BitVec 1 := Scalar.cmpi .eq v91 c0_i32_50
  let c0_i32_65 : BitVec 32 := 0#32
  let c4_i32_51 : BitVec 32 := 4#32
  let v93 : BitVec 1 := Scalar.cmpi .sle v91 c4_i32_51
  let c4_i32_53 : BitVec 32 := 4#32
  let c1_i32_52 : BitVec 32 := 1#32
  let v94 : BitVec 32 := Scalar.subi v91 c1_i32_52
  let v95 : BitVec 32 := Scalar.muli c4_i32_53 v94
  let c1_i32_54 : BitVec 32 := 1#32
  let v96 : BitVec 32 := Scalar.addi v95 c1_i32_54
  let c8_i32_55 : BitVec 32 := 8#32
  let v97 : BitVec 1 := Scalar.cmpi .sle v91 c8_i32_55
  let c4_i32_57 : BitVec 32 := 4#32
  let c8_i32_56 : BitVec 32 := 8#32
  let v98 : BitVec 32 := Scalar.subi c8_i32_56 v91
  let v99 : BitVec 32 := Scalar.muli c4_i32_57 v98
  let c2_i32_58 : BitVec 32 := 2#32
  let v100 : BitVec 32 := Scalar.addi v99 c2_i32_58
  let c12_i32_59 : BitVec 32 := 12#32
  let v101 : BitVec 1 := Scalar.cmpi .sle v91 c12_i32_59
  let c4_i32_61 : BitVec 32 := 4#32
  let c9_i32_60 : BitVec 32 := 9#32
  let v102 : BitVec 32 := Scalar.subi v91 c9_i32_60
  let v103 : BitVec 32 := Scalar.muli c4_i32_61 v102
  let c3_i32_62 : BitVec 32 := 3#32
  let v104 : BitVec 32 := Scalar.addi v103 c3_i32_62
  let c4_i32_64 : BitVec 32 := 4#32
  let c16_i32_63 : BitVec 32 := 16#32
  let v105 : BitVec 32 := Scalar.subi c16_i32_63 v91
  let v106 : BitVec 32 := Scalar.muli c4_i32_64 v105
  let v107 : BitVec 32 := Scalar.select v101 v104 v106
  let v108 : BitVec 32 := Scalar.select v97 v100 v107
  let v109 : BitVec 32 := Scalar.select v93 v96 v108
  let v110 : BitVec 32 := Scalar.select v92 c0_i32_65 v109
  let c1_i32_1181 : BitVec 32 := 1#32
  let v1410 : BitVec 32 := Scalar.muli v110 c1_i32_1181
  let v1411 : BitVec 32 := Scalar.addi c0_i32_1182 v1410
  v1411.toNat
def k0_mult14 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c7_i32 : BitVec 32 := 7#32
  let v335 : BitVec 32 := Scalar.subi v49 c7_i32
  let c16_i32_238 : BitVec 32 := 16#32
  let v336 : BitVec 32 := Scalar.addi v335 c16_i32_238
  let c16_i32_239 : BitVec 32 := 16#32
  let c0_i32_240 : BitVec 32 := 0#32
  let v337 : BitVec 1 := Scalar.cmpi .eq c16_i32_239 c0_i32_240
  let c1_i32_241 : BitVec 32 := 1#32
  let v338 : BitVec 32 := Scalar.select v337 c1_i32_241 c16_i32_239
  let v339 : BitVec 32 := Scalar.remsi v336 v338
  let c0_i32_243 : BitVec 32 := 0#32
  let v341 : BitVec 1 := Scalar.cmpi .slt v339 c0_i32_243
  let c0_i32_244 : BitVec 32 := 0#32
  let v342 : BitVec 1 := Scalar.cmpi .slt v338 c0_i32_244
  let v343 : BitVec 1 := Scalar.xori v341 v342
  let c0_i32_242 : BitVec 32 := 0#32
  let v340 : BitVec 1 := Scalar.cmpi .ne v339 c0_i32_242
  let v344 : BitVec 1 := Scalar.andi v343 v340
  let v345 : BitVec 32 := Scalar.addi v339 v338
  let v346 : BitVec 32 := Scalar.select v344 v345 v339
  let c0_i32_245 : BitVec 32 := 0#32
  let v347 : BitVec 1 := Scalar.cmpi .eq v346 c0_i32_245
  let c0_i32_260 : BitVec 32 := 0#32
  let c4_i32_246 : BitVec 32 := 4#32
  let v348 : BitVec 1 := Scalar.cmpi .sle v346 c4_i32_246
  let c4_i32_248 : BitVec 32 := 4#32
  let c1_i32_247 : BitVec 32 := 1#32
  let v349 : BitVec 32 := Scalar.subi v346 c1_i32_247
  let v350 : BitVec 32 := Scalar.muli c4_i32_248 v349
  let c1_i32_249 : BitVec 32 := 1#32
  let v351 : BitVec 32 := Scalar.addi v350 c1_i32_249
  let c8_i32_250 : BitVec 32 := 8#32
  let v352 : BitVec 1 := Scalar.cmpi .sle v346 c8_i32_250
  let c4_i32_252 : BitVec 32 := 4#32
  let c8_i32_251 : BitVec 32 := 8#32
  let v353 : BitVec 32 := Scalar.subi c8_i32_251 v346
  let v354 : BitVec 32 := Scalar.muli c4_i32_252 v353
  let c2_i32_253 : BitVec 32 := 2#32
  let v355 : BitVec 32 := Scalar.addi v354 c2_i32_253
  let c12_i32_254 : BitVec 32 := 12#32
  let v356 : BitVec 1 := Scalar.cmpi .sle v346 c12_i32_254
  let c4_i32_256 : BitVec 32 := 4#32
  let c9_i32_255 : BitVec 32 := 9#32
  let v357 : BitVec 32 := Scalar.subi v346 c9_i32_255
  let v358 : BitVec 32 := Scalar.muli c4_i32_256 v357
  let c3_i32_257 : BitVec 32 := 3#32
  let v359 : BitVec 32 := Scalar.addi v358 c3_i32_257
  let c4_i32_259 : BitVec 32 := 4#32
  let c16_i32_258 : BitVec 32 := 16#32
  let v360 : BitVec 32 := Scalar.subi c16_i32_258 v346
  let v361 : BitVec 32 := Scalar.muli c4_i32_259 v360
  let v362 : BitVec 32 := Scalar.select v356 v359 v361
  let v363 : BitVec 32 := Scalar.select v352 v355 v362
  let v364 : BitVec 32 := Scalar.select v348 v351 v363
  let v365 : BitVec 32 := Scalar.select v347 c0_i32_260 v364
  let c256_i32_261 : BitVec 32 := 256#32
  let v366 : BitVec 32 := Scalar.muli v365 c256_i32_261
  let c0_i32_1192 : BitVec 32 := 0#32
  let v1427 : BitVec 32 := Scalar.addi v366 c0_i32_1192
  v1427
def k0_mult15 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c9_i32_287 : BitVec 32 := 9#32
  let v399 : BitVec 32 := Scalar.subi v49 c9_i32_287
  let c16_i32_288 : BitVec 32 := 16#32
  let v400 : BitVec 32 := Scalar.addi v399 c16_i32_288
  let c16_i32_289 : BitVec 32 := 16#32
  let c0_i32_290 : BitVec 32 := 0#32
  let v401 : BitVec 1 := Scalar.cmpi .eq c16_i32_289 c0_i32_290
  let c1_i32_291 : BitVec 32 := 1#32
  let v402 : BitVec 32 := Scalar.select v401 c1_i32_291 c16_i32_289
  let v403 : BitVec 32 := Scalar.remsi v400 v402
  let c0_i32_293 : BitVec 32 := 0#32
  let v405 : BitVec 1 := Scalar.cmpi .slt v403 c0_i32_293
  let c0_i32_294 : BitVec 32 := 0#32
  let v406 : BitVec 1 := Scalar.cmpi .slt v402 c0_i32_294
  let v407 : BitVec 1 := Scalar.xori v405 v406
  let c0_i32_292 : BitVec 32 := 0#32
  let v404 : BitVec 1 := Scalar.cmpi .ne v403 c0_i32_292
  let v408 : BitVec 1 := Scalar.andi v407 v404
  let v409 : BitVec 32 := Scalar.addi v403 v402
  let v410 : BitVec 32 := Scalar.select v408 v409 v403
  let c0_i32_295 : BitVec 32 := 0#32
  let v411 : BitVec 1 := Scalar.cmpi .eq v410 c0_i32_295
  let c0_i32_310 : BitVec 32 := 0#32
  let c4_i32_296 : BitVec 32 := 4#32
  let v412 : BitVec 1 := Scalar.cmpi .sle v410 c4_i32_296
  let c4_i32_298 : BitVec 32 := 4#32
  let c1_i32_297 : BitVec 32 := 1#32
  let v413 : BitVec 32 := Scalar.subi v410 c1_i32_297
  let v414 : BitVec 32 := Scalar.muli c4_i32_298 v413
  let c1_i32_299 : BitVec 32 := 1#32
  let v415 : BitVec 32 := Scalar.addi v414 c1_i32_299
  let c8_i32_300 : BitVec 32 := 8#32
  let v416 : BitVec 1 := Scalar.cmpi .sle v410 c8_i32_300
  let c4_i32_302 : BitVec 32 := 4#32
  let c8_i32_301 : BitVec 32 := 8#32
  let v417 : BitVec 32 := Scalar.subi c8_i32_301 v410
  let v418 : BitVec 32 := Scalar.muli c4_i32_302 v417
  let c2_i32_303 : BitVec 32 := 2#32
  let v419 : BitVec 32 := Scalar.addi v418 c2_i32_303
  let c12_i32_304 : BitVec 32 := 12#32
  let v420 : BitVec 1 := Scalar.cmpi .sle v410 c12_i32_304
  let c4_i32_306 : BitVec 32 := 4#32
  let c9_i32_305 : BitVec 32 := 9#32
  let v421 : BitVec 32 := Scalar.subi v410 c9_i32_305
  let v422 : BitVec 32 := Scalar.muli c4_i32_306 v421
  let c3_i32_307 : BitVec 32 := 3#32
  let v423 : BitVec 32 := Scalar.addi v422 c3_i32_307
  let c4_i32_309 : BitVec 32 := 4#32
  let c16_i32_308 : BitVec 32 := 16#32
  let v424 : BitVec 32 := Scalar.subi c16_i32_308 v410
  let v425 : BitVec 32 := Scalar.muli c4_i32_309 v424
  let v426 : BitVec 32 := Scalar.select v420 v423 v425
  let v427 : BitVec 32 := Scalar.select v416 v419 v426
  let v428 : BitVec 32 := Scalar.select v412 v415 v427
  let v429 : BitVec 32 := Scalar.select v411 c0_i32_310 v428
  let c256_i32_311 : BitVec 32 := 256#32
  let v430 : BitVec 32 := Scalar.muli v429 c256_i32_311
  let c0_i32_1202 : BitVec 32 := 0#32
  let v1446 : BitVec 32 := Scalar.addi v430 c0_i32_1202
  v1446
def k0_mult16 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c8_i32_262 : BitVec 32 := 8#32
  let v367 : BitVec 32 := Scalar.subi v49 c8_i32_262
  let c16_i32_263 : BitVec 32 := 16#32
  let v368 : BitVec 32 := Scalar.addi v367 c16_i32_263
  let c16_i32_264 : BitVec 32 := 16#32
  let c0_i32_265 : BitVec 32 := 0#32
  let v369 : BitVec 1 := Scalar.cmpi .eq c16_i32_264 c0_i32_265
  let c1_i32_266 : BitVec 32 := 1#32
  let v370 : BitVec 32 := Scalar.select v369 c1_i32_266 c16_i32_264
  let v371 : BitVec 32 := Scalar.remsi v368 v370
  let c0_i32_268 : BitVec 32 := 0#32
  let v373 : BitVec 1 := Scalar.cmpi .slt v371 c0_i32_268
  let c0_i32_269 : BitVec 32 := 0#32
  let v374 : BitVec 1 := Scalar.cmpi .slt v370 c0_i32_269
  let v375 : BitVec 1 := Scalar.xori v373 v374
  let c0_i32_267 : BitVec 32 := 0#32
  let v372 : BitVec 1 := Scalar.cmpi .ne v371 c0_i32_267
  let v376 : BitVec 1 := Scalar.andi v375 v372
  let v377 : BitVec 32 := Scalar.addi v371 v370
  let v378 : BitVec 32 := Scalar.select v376 v377 v371
  let c0_i32_270 : BitVec 32 := 0#32
  let v379 : BitVec 1 := Scalar.cmpi .eq v378 c0_i32_270
  let c0_i32_285 : BitVec 32 := 0#32
  let c4_i32_271 : BitVec 32 := 4#32
  let v380 : BitVec 1 := Scalar.cmpi .sle v378 c4_i32_271
  let c4_i32_273 : BitVec 32 := 4#32
  let c1_i32_272 : BitVec 32 := 1#32
  let v381 : BitVec 32 := Scalar.subi v378 c1_i32_272
  let v382 : BitVec 32 := Scalar.muli c4_i32_273 v381
  let c1_i32_274 : BitVec 32 := 1#32
  let v383 : BitVec 32 := Scalar.addi v382 c1_i32_274
  let c8_i32_275 : BitVec 32 := 8#32
  let v384 : BitVec 1 := Scalar.cmpi .sle v378 c8_i32_275
  let c4_i32_277 : BitVec 32 := 4#32
  let c8_i32_276 : BitVec 32 := 8#32
  let v385 : BitVec 32 := Scalar.subi c8_i32_276 v378
  let v386 : BitVec 32 := Scalar.muli c4_i32_277 v385
  let c2_i32_278 : BitVec 32 := 2#32
  let v387 : BitVec 32 := Scalar.addi v386 c2_i32_278
  let c12_i32_279 : BitVec 32 := 12#32
  let v388 : BitVec 1 := Scalar.cmpi .sle v378 c12_i32_279
  let c4_i32_281 : BitVec 32 := 4#32
  let c9_i32_280 : BitVec 32 := 9#32
  let v389 : BitVec 32 := Scalar.subi v378 c9_i32_280
  let v390 : BitVec 32 := Scalar.muli c4_i32_281 v389
  let c3_i32_282 : BitVec 32 := 3#32
  let v391 : BitVec 32 := Scalar.addi v390 c3_i32_282
  let c4_i32_284 : BitVec 32 := 4#32
  let c16_i32_283 : BitVec 32 := 16#32
  let v392 : BitVec 32 := Scalar.subi c16_i32_283 v378
  let v393 : BitVec 32 := Scalar.muli c4_i32_284 v392
  let v394 : BitVec 32 := Scalar.select v388 v391 v393
  let v395 : BitVec 32 := Scalar.select v384 v387 v394
  let v396 : BitVec 32 := Scalar.select v380 v383 v395
  let v397 : BitVec 32 := Scalar.select v379 c0_i32_285 v396
  let c256_i32_286 : BitVec 32 := 256#32
  let v398 : BitVec 32 := Scalar.muli v397 c256_i32_286
  let c0_i32_1222 : BitVec 32 := 0#32
  let v1473 : BitVec 32 := Scalar.addi v398 c0_i32_1222
  v1473
def k0_off3 (d0 : Dev nD) (c0_i32_1222 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c8_i32_262 : BitVec 32 := 8#32
  let v367 : BitVec 32 := Scalar.subi v49 c8_i32_262
  let c16_i32_263 : BitVec 32 := 16#32
  let v368 : BitVec 32 := Scalar.addi v367 c16_i32_263
  let c16_i32_264 : BitVec 32 := 16#32
  let c0_i32_265 : BitVec 32 := 0#32
  let v369 : BitVec 1 := Scalar.cmpi .eq c16_i32_264 c0_i32_265
  let c1_i32_266 : BitVec 32 := 1#32
  let v370 : BitVec 32 := Scalar.select v369 c1_i32_266 c16_i32_264
  let v371 : BitVec 32 := Scalar.remsi v368 v370
  let c0_i32_268 : BitVec 32 := 0#32
  let v373 : BitVec 1 := Scalar.cmpi .slt v371 c0_i32_268
  let c0_i32_269 : BitVec 32 := 0#32
  let v374 : BitVec 1 := Scalar.cmpi .slt v370 c0_i32_269
  let v375 : BitVec 1 := Scalar.xori v373 v374
  let c0_i32_267 : BitVec 32 := 0#32
  let v372 : BitVec 1 := Scalar.cmpi .ne v371 c0_i32_267
  let v376 : BitVec 1 := Scalar.andi v375 v372
  let v377 : BitVec 32 := Scalar.addi v371 v370
  let v378 : BitVec 32 := Scalar.select v376 v377 v371
  let c0_i32_270 : BitVec 32 := 0#32
  let v379 : BitVec 1 := Scalar.cmpi .eq v378 c0_i32_270
  let c0_i32_285 : BitVec 32 := 0#32
  let c4_i32_271 : BitVec 32 := 4#32
  let v380 : BitVec 1 := Scalar.cmpi .sle v378 c4_i32_271
  let c4_i32_273 : BitVec 32 := 4#32
  let c1_i32_272 : BitVec 32 := 1#32
  let v381 : BitVec 32 := Scalar.subi v378 c1_i32_272
  let v382 : BitVec 32 := Scalar.muli c4_i32_273 v381
  let c1_i32_274 : BitVec 32 := 1#32
  let v383 : BitVec 32 := Scalar.addi v382 c1_i32_274
  let c8_i32_275 : BitVec 32 := 8#32
  let v384 : BitVec 1 := Scalar.cmpi .sle v378 c8_i32_275
  let c4_i32_277 : BitVec 32 := 4#32
  let c8_i32_276 : BitVec 32 := 8#32
  let v385 : BitVec 32 := Scalar.subi c8_i32_276 v378
  let v386 : BitVec 32 := Scalar.muli c4_i32_277 v385
  let c2_i32_278 : BitVec 32 := 2#32
  let v387 : BitVec 32 := Scalar.addi v386 c2_i32_278
  let c12_i32_279 : BitVec 32 := 12#32
  let v388 : BitVec 1 := Scalar.cmpi .sle v378 c12_i32_279
  let c4_i32_281 : BitVec 32 := 4#32
  let c9_i32_280 : BitVec 32 := 9#32
  let v389 : BitVec 32 := Scalar.subi v378 c9_i32_280
  let v390 : BitVec 32 := Scalar.muli c4_i32_281 v389
  let c3_i32_282 : BitVec 32 := 3#32
  let v391 : BitVec 32 := Scalar.addi v390 c3_i32_282
  let c4_i32_284 : BitVec 32 := 4#32
  let c16_i32_283 : BitVec 32 := 16#32
  let v392 : BitVec 32 := Scalar.subi c16_i32_283 v378
  let v393 : BitVec 32 := Scalar.muli c4_i32_284 v392
  let v394 : BitVec 32 := Scalar.select v388 v391 v393
  let v395 : BitVec 32 := Scalar.select v384 v387 v394
  let v396 : BitVec 32 := Scalar.select v380 v383 v395
  let v397 : BitVec 32 := Scalar.select v379 c0_i32_285 v396
  let c256_i32_286 : BitVec 32 := 256#32
  let v398 : BitVec 32 := Scalar.muli v397 c256_i32_286
  let v1473 : BitVec 32 := Scalar.addi v398 c0_i32_1222
  let v1474 : BitVec 32 := v1473
  let v1477 : Index := Scalar.indexCast v1474
  let c0_1223 : Index := 0#32
  ![v1477.toNat, 0]
def k0_off4 (d0 : Dev nD) (c0_i32_1222 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c8_i32_262 : BitVec 32 := 8#32
  let v367 : BitVec 32 := Scalar.subi v49 c8_i32_262
  let c16_i32_263 : BitVec 32 := 16#32
  let v368 : BitVec 32 := Scalar.addi v367 c16_i32_263
  let c16_i32_264 : BitVec 32 := 16#32
  let c0_i32_265 : BitVec 32 := 0#32
  let v369 : BitVec 1 := Scalar.cmpi .eq c16_i32_264 c0_i32_265
  let c1_i32_266 : BitVec 32 := 1#32
  let v370 : BitVec 32 := Scalar.select v369 c1_i32_266 c16_i32_264
  let v371 : BitVec 32 := Scalar.remsi v368 v370
  let c0_i32_268 : BitVec 32 := 0#32
  let v373 : BitVec 1 := Scalar.cmpi .slt v371 c0_i32_268
  let c0_i32_269 : BitVec 32 := 0#32
  let v374 : BitVec 1 := Scalar.cmpi .slt v370 c0_i32_269
  let v375 : BitVec 1 := Scalar.xori v373 v374
  let c0_i32_267 : BitVec 32 := 0#32
  let v372 : BitVec 1 := Scalar.cmpi .ne v371 c0_i32_267
  let v376 : BitVec 1 := Scalar.andi v375 v372
  let v377 : BitVec 32 := Scalar.addi v371 v370
  let v378 : BitVec 32 := Scalar.select v376 v377 v371
  let c0_i32_270 : BitVec 32 := 0#32
  let v379 : BitVec 1 := Scalar.cmpi .eq v378 c0_i32_270
  let c0_i32_285 : BitVec 32 := 0#32
  let c4_i32_271 : BitVec 32 := 4#32
  let v380 : BitVec 1 := Scalar.cmpi .sle v378 c4_i32_271
  let c4_i32_273 : BitVec 32 := 4#32
  let c1_i32_272 : BitVec 32 := 1#32
  let v381 : BitVec 32 := Scalar.subi v378 c1_i32_272
  let v382 : BitVec 32 := Scalar.muli c4_i32_273 v381
  let c1_i32_274 : BitVec 32 := 1#32
  let v383 : BitVec 32 := Scalar.addi v382 c1_i32_274
  let c8_i32_275 : BitVec 32 := 8#32
  let v384 : BitVec 1 := Scalar.cmpi .sle v378 c8_i32_275
  let c4_i32_277 : BitVec 32 := 4#32
  let c8_i32_276 : BitVec 32 := 8#32
  let v385 : BitVec 32 := Scalar.subi c8_i32_276 v378
  let v386 : BitVec 32 := Scalar.muli c4_i32_277 v385
  let c2_i32_278 : BitVec 32 := 2#32
  let v387 : BitVec 32 := Scalar.addi v386 c2_i32_278
  let c12_i32_279 : BitVec 32 := 12#32
  let v388 : BitVec 1 := Scalar.cmpi .sle v378 c12_i32_279
  let c4_i32_281 : BitVec 32 := 4#32
  let c9_i32_280 : BitVec 32 := 9#32
  let v389 : BitVec 32 := Scalar.subi v378 c9_i32_280
  let v390 : BitVec 32 := Scalar.muli c4_i32_281 v389
  let c3_i32_282 : BitVec 32 := 3#32
  let v391 : BitVec 32 := Scalar.addi v390 c3_i32_282
  let c4_i32_284 : BitVec 32 := 4#32
  let c16_i32_283 : BitVec 32 := 16#32
  let v392 : BitVec 32 := Scalar.subi c16_i32_283 v378
  let v393 : BitVec 32 := Scalar.muli c4_i32_284 v392
  let v394 : BitVec 32 := Scalar.select v388 v391 v393
  let v395 : BitVec 32 := Scalar.select v384 v387 v394
  let v396 : BitVec 32 := Scalar.select v380 v383 v395
  let v397 : BitVec 32 := Scalar.select v379 c0_i32_285 v396
  let c256_i32_286 : BitVec 32 := 256#32
  let v398 : BitVec 32 := Scalar.muli v397 c256_i32_286
  let v1473 : BitVec 32 := Scalar.addi v398 c0_i32_1222
  let v1474 : BitVec 32 := v1473
  let c0_i32_1225 : BitVec 32 := 0#32
  ![v1474.toNat, 0]
def k0_mult17 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32_12 : BitVec 32 := 16#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c16_i32_12 v19
  let c16_i32_13 : BitVec 32 := 16#32
  let c0_i32_14 : BitVec 32 := 0#32
  let v32 : BitVec 1 := Scalar.cmpi .eq c16_i32_13 c0_i32_14
  let c1_i32_15 : BitVec 32 := 1#32
  let v33 : BitVec 32 := Scalar.select v32 c1_i32_15 c16_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c1_i32_19 : BitVec 32 := 1#32
  let v42 : BitVec 1 := Scalar.cmpi .eq v29 c1_i32_19
  let c1_i32_20 : BitVec 32 := 1#32
  let v43 : BitVec 32 := Scalar.addi c1_i32_20 v19
  let c2_i32 : BitVec 32 := 2#32
  let v44 : BitVec 1 := Scalar.cmpi .eq v29 c2_i32
  let c8_i32 : BitVec 32 := 8#32
  let v45 : BitVec 32 := Scalar.subi c8_i32 v19
  let c9_i32 : BitVec 32 := 9#32
  let v46 : BitVec 32 := Scalar.addi c9_i32 v19
  let v47 : BitVec 32 := Scalar.select v44 v45 v46
  let v48 : BitVec 32 := Scalar.select v42 v43 v47
  let v49 : BitVec 32 := Scalar.select v30 v41 v48
  let c8_i32_262 : BitVec 32 := 8#32
  let v367 : BitVec 32 := Scalar.subi v49 c8_i32_262
  let c16_i32_263 : BitVec 32 := 16#32
  let v368 : BitVec 32 := Scalar.addi v367 c16_i32_263
  let c16_i32_264 : BitVec 32 := 16#32
  let c0_i32_265 : BitVec 32 := 0#32
  let v369 : BitVec 1 := Scalar.cmpi .eq c16_i32_264 c0_i32_265
  let c1_i32_266 : BitVec 32 := 1#32
  let v370 : BitVec 32 := Scalar.select v369 c1_i32_266 c16_i32_264
  let v371 : BitVec 32 := Scalar.remsi v368 v370
  let c0_i32_268 : BitVec 32 := 0#32
  let v373 : BitVec 1 := Scalar.cmpi .slt v371 c0_i32_268
  let c0_i32_269 : BitVec 32 := 0#32
  let v374 : BitVec 1 := Scalar.cmpi .slt v370 c0_i32_269
  let v375 : BitVec 1 := Scalar.xori v373 v374
  let c0_i32_267 : BitVec 32 := 0#32
  let v372 : BitVec 1 := Scalar.cmpi .ne v371 c0_i32_267
  let v376 : BitVec 1 := Scalar.andi v375 v372
  let v377 : BitVec 32 := Scalar.addi v371 v370
  let v378 : BitVec 32 := Scalar.select v376 v377 v371
  let c0_i32_270 : BitVec 32 := 0#32
  let v379 : BitVec 1 := Scalar.cmpi .eq v378 c0_i32_270
  let c0_i32_285 : BitVec 32 := 0#32
  let c4_i32_271 : BitVec 32 := 4#32
  let v380 : BitVec 1 := Scalar.cmpi .sle v378 c4_i32_271
  let c4_i32_273 : BitVec 32 := 4#32
  let c1_i32_272 : BitVec 32 := 1#32
  let v381 : BitVec 32 := Scalar.subi v378 c1_i32_272
  let v382 : BitVec 32 := Scalar.muli c4_i32_273 v381
  let c1_i32_274 : BitVec 32 := 1#32
  let v383 : BitVec 32 := Scalar.addi v382 c1_i32_274
  let c8_i32_275 : BitVec 32 := 8#32
  let v384 : BitVec 1 := Scalar.cmpi .sle v378 c8_i32_275
  let c4_i32_277 : BitVec 32 := 4#32
  let c8_i32_276 : BitVec 32 := 8#32
  let v385 : BitVec 32 := Scalar.subi c8_i32_276 v378
  let v386 : BitVec 32 := Scalar.muli c4_i32_277 v385
  let c2_i32_278 : BitVec 32 := 2#32
  let v387 : BitVec 32 := Scalar.addi v386 c2_i32_278
  let c12_i32_279 : BitVec 32 := 12#32
  let v388 : BitVec 1 := Scalar.cmpi .sle v378 c12_i32_279
  let c4_i32_281 : BitVec 32 := 4#32
  let c9_i32_280 : BitVec 32 := 9#32
  let v389 : BitVec 32 := Scalar.subi v378 c9_i32_280
  let v390 : BitVec 32 := Scalar.muli c4_i32_281 v389
  let c3_i32_282 : BitVec 32 := 3#32
  let v391 : BitVec 32 := Scalar.addi v390 c3_i32_282
  let c4_i32_284 : BitVec 32 := 4#32
  let c16_i32_283 : BitVec 32 := 16#32
  let v392 : BitVec 32 := Scalar.subi c16_i32_283 v378
  let v393 : BitVec 32 := Scalar.muli c4_i32_284 v392
  let v394 : BitVec 32 := Scalar.select v388 v391 v393
  let v395 : BitVec 32 := Scalar.select v384 v387 v394
  let v396 : BitVec 32 := Scalar.select v380 v383 v395
  let v397 : BitVec 32 := Scalar.select v379 c0_i32_285 v396
  let c256_i32_286 : BitVec 32 := 256#32
  let v398 : BitVec 32 := Scalar.muli v397 c256_i32_286
  let c128_i32_1242 : BitVec 32 := 128#32
  let v1500 : BitVec 32 := Scalar.addi v398 c128_i32_1242
  v1500
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== ClippedIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Proof.Ring.lean ====
/-
# The ring, the messages and the timeline

The kernel gathers the sixteen blocks of the left operand around a ring, both ways at once, half a block at a time.
This module is the arithmetic of it: the position of a device on the ring, its two neighbours, the block that each
slot of the gathering buffer ends up holding; the thirty messages a device sends (and receives); and the place of
every event of the kernel's body in program order.
-/
module

public import proofs.«01_k».proof.Proof.Gen.KernelIdeal.Frame
public import proofs.«01_k».proof.Proof.Gen.KernelIdeal.Skeleton

@[expose] public section

set_option maxRecDepth 16384

noncomputable section

namespace Cert.RingProof

open Cert.KernelIdeal Cert.KernelIdeal.Gen
open Idealize.ShloMosaic

/-! ## Positions on the ring

The mesh is a 4 × 4 grid (`z = c / 4`, `p = c % 4`) walked along a Hamiltonian cycle. -/

/-- The position of a device on the ring. -/
def pos (c : Dev nD) : Fin 16 :=
  match c.val % 4 with
  | 0 => ⟨(16 - c.val / 4) % 16, Nat.mod_lt _ (by decide)⟩
  | 1 => ⟨(1 + c.val / 4) % 16, Nat.mod_lt _ (by decide)⟩
  | 2 => ⟨(8 - c.val / 4) % 16, Nat.mod_lt _ (by decide)⟩
  | _ => ⟨(9 + c.val / 4) % 16, Nat.mod_lt _ (by decide)⟩

/-- The device at a position of the ring. -/
def dev (q : Fin 16) : Dev nD :=
  if q.val = 0 then ⟨0, by decide⟩
  else if q.val ≤ 4 then ⟨(4 * (q.val - 1) + 1) % 16, Nat.mod_lt _ (by decide)⟩
  else if q.val ≤ 8 then ⟨(4 * (8 - q.val) + 2) % 16, Nat.mod_lt _ (by decide)⟩
  else if q.val ≤ 12 then ⟨(4 * (q.val - 9) + 3) % 16, Nat.mod_lt _ (by decide)⟩
  else ⟨(4 * (16 - q.val)) % 16, Nat.mod_lt _ (by decide)⟩

theorem dev_pos (c : Dev nD) : dev (pos c) = c := by revert c; decide +kernel
theorem pos_dev (q : Fin 16) : pos (dev q) = q := by revert q; decide +kernel

/-- The two neighbours. -/
def right (c : Dev nD) : Dev nD := dev (pos c + 1)
def left (c : Dev nD) : Dev nD := dev (pos c - 1)
theorem left_right (c : Dev nD) : left (right c) = c := by revert c; decide +kernel
theorem right_left (c : Dev nD) : right (left c) = c := by revert c; decide +kernel
theorem left_ne_right (c : Dev nD) : left c ≠ right c := by revert c; decide +kernel
def ring : Dev nD ≃ Dev nD := ⟨right, left, left_right, right_left⟩

/-- The device whose block slot `s` of device `c`'s gathering buffer is for, and the slot that is for device `d`'s. -/
def slotDev (c : Dev nD) (s : Fin 16) : Dev nD := dev (pos c - s)
def slotOf (c d : Dev nD) : Fin 16 := pos c - pos d
theorem slotOf_slotDev (c : Dev nD) (s : Fin 16) : slotOf c (slotDev c s) = s := by revert c s; decide +kernel
theorem slotDev_slotOf (c d : Dev nD) : slotDev c (slotOf c d) = d := by revert c d; decide +kernel
theorem slotDev_zero (c : Dev nD) : slotDev c 0 = c := by revert c; decide +kernel

/-! ## The messages

Message `m` is the one of hop `m / 4 + 1` in lane `m % 4`: lanes 0 and 2 run to the right with half 0 and half 1 of a
block, lanes 1 and 3 to the left. In the last hop only half 0 runs to the right and only half 1 to the left:
messages 29 and 30 are not sent. -/

abbrev Msg : Type := Fin 32

def used (m : Msg) : Bool := decide (m.val ≠ 29 ∧ m.val ≠ 30)
/-- Does the message run to the right? -/
def up (m : Msg) : Bool := decide (m.val % 2 = 0)
/-- The device that device `c`'s message `m` goes to, and the one that device `c` receives message `m` from. -/
def peer (m : Msg) (c : Dev nD) : Dev nD := if up m then right c else left c
def sender (m : Msg) (c : Dev nD) : Dev nD := if up m then left c else right c
theorem peer_sender (m : Msg) (c : Dev nD) : peer m (sender m c) = c := by
  unfold peer sender; cases up m
  · exact left_right c
  · exact right_left c
theorem sender_peer (m : Msg) (c : Dev nD) : sender m (peer m c) = c := by
  unfold peer sender; cases up m
  · exact right_left c
  · exact left_right c
/-- Which half of a block. -/
def half (m : Msg) : Fin 2 := ⟨m.val / 2 % 2, Nat.mod_lt _ (by decide)⟩
def hop (m : Msg) : Fin 16 := ⟨(m.val / 4 + 1) % 16, Nat.mod_lt _ (by decide)⟩
/-- The slot message `m` is read from, and the one it lands in. -/
def srcSlot (m : Msg) : Fin 16 := if up m then hop m - 1 else 1 - hop m
def dstSlot (m : Msg) : Fin 16 := if up m then hop m else - hop m

/-- A piece of the gathering buffer: a slot and a half of it. -/
abbrev Piece : Type := Fin 16 × Fin 2
def srcPiece (m : Msg) : Piece := (srcSlot m, half m)
def dstPiece (m : Msg) : Piece := (dstSlot m, half m)

/-- The message that the landing of message `m` is sent on as. -/
def nextMsg (m : Msg) : Msg := m + 4
/-- Is what message `m` lands sent on? -/
def fwd (m : Msg) : Bool := decide (m.val < 28) && used (nextMsg m)

theorem srcPiece_next (m : Msg) (h : fwd m = true) : srcPiece (nextMsg m) = dstPiece m := by revert m; decide +kernel
theorem slot_landed (c : Dev nD) (m : Msg) : slotDev (peer m c) (dstSlot m) = slotDev c (srcSlot m) := by
  revert c m; decide +kernel

/-! ## The timeline

Every event of the body after the barrier, in program order. -/

inductive Ev : Type
  | send (m : Msg) | recv (m : Msg) | swait (m : Msg)
  | wwait | wstore
  | acc (u : Fin 17) | copy (u : Fin 17) | twait (u : Fin 17)
deriving DecidableEq

/-- Region `u` of the result: slot `u`'s block for `u < 16`, `u ≠ 8`; half 0 of slot 8's block for `u = 8`, half 1 of
    it for `u = 16`. This is when region `u` is computed. -/
def accTime (u : Fin 17) : ℕ :=
  if u.val = 0 then 6 else if u.val ≤ 6 then 8 + 12 * (u.val - 1) + 8 else if u.val = 7 then 86
  else if u.val = 8 then 91 else if u.val = 9 then 88 else if u.val ≤ 15 then 8 + 12 * (15 - u.val) + 10 else 94

def Ev.time : Ev → ℕ
  | .send m => if m.val < 4 then m.val else if m.val < 28 then 8 + 12 * (m.val / 4 - 1) + 2 * (m.val % 4) + 1
      else if m.val = 28 then 81 else if m.val = 31 then 85 else 200 + m.val
  | .recv m => if m.val < 24 then 8 + 12 * (m.val / 4) + 2 * (m.val % 4)
      else if m.val = 24 then 80 else if m.val ≤ 27 then m.val + 57 else if m.val = 28 then 90 else if m.val = 31 then 93
      else 210 + m.val
  | .swait m => if m.val ≤ 28 then 96 + m.val else if m.val = 31 then 125 else 220 + m.val
  | .wwait => 4
  | .wstore => 5
  | .acc u => accTime u
  | .copy u => accTime u + 1
  | .twait u => if u.val = 0 then 126 else if u.val ≤ 7 then 125 + 2 * u.val else if u.val = 8 then 141
      else if u.val ≤ 15 then 126 + 2 * (16 - u.val) else 142

/-- Is the event over when the first `n` are? -/
def Ev.done (n : ℕ) (e : Ev) : Bool := decide (e.time < n)

/-- Events as numbers and back, to decide over them. -/
def Ev.code : Ev → Fin 149
  | .send m => ⟨m.val, by omega⟩
  | .recv m => ⟨32 + m.val, by omega⟩
  | .swait m => ⟨64 + m.val, by omega⟩
  | .wwait => 96
  | .wstore => 97
  | .acc u => ⟨98 + u.val, by omega⟩
  | .copy u => ⟨115 + u.val, by omega⟩
  | .twait u => ⟨132 + u.val, by omega⟩
def Ev.ofCode (i : Fin 149) : Ev :=
  if h : i.val < 32 then .send ⟨i.val, h⟩ else if h : i.val < 64 then .recv ⟨i.val - 32, by omega⟩
  else if h : i.val < 96 then .swait ⟨i.val - 64, by omega⟩ else if i.val = 96 then .wwait else if i.val = 97 then .wstore
  else if h : i.val < 115 then .acc ⟨i.val - 98, by omega⟩ else if h : i.val < 132 then .copy ⟨i.val - 115, by omega⟩
  else .twait ⟨i.val - 132, by omega⟩
theorem Ev.ofCode_code (e : Ev) : Ev.ofCode e.code = e := by
  cases e with
  | send m => revert m; decide +kernel
  | recv m => revert m; decide +kernel
  | swait m => revert m; decide +kernel
  | wwait => decide +kernel
  | wstore => decide +kernel
  | acc u => revert u; decide +kernel
  | copy u => revert u; decide +kernel
  | twait u => revert u; decide +kernel
theorem time_code : ∀ i j : Fin 149, (Ev.ofCode i).time = (Ev.ofCode j).time → i = j := by decide +kernel
theorem Ev.time_inj {e e' : Ev} (h : e.time = e'.time) : e = e' := by
  rw [← e.ofCode_code, ← e'.ofCode_code] at h
  rw [← e.ofCode_code, ← e'.ofCode_code, time_code _ _ h]

/-- Stepping past event `e` changes no other event's state. -/
theorem done_other {n : ℕ} {e e' : Ev} (hn : e.time = n) (h : e' ≠ e) : e'.done (n + 1) = e'.done n := by
  unfold Ev.done
  have : e'.time ≠ n := fun h' => h (Ev.time_inj (h'.trans hn.symm))
  exact decide_eq_decide.mpr (by omega)
theorem done_self {n : ℕ} {e : Ev} (hn : e.time = n) : e.done n = false := by unfold Ev.done; exact decide_eq_false (by omega)
theorem done_next {n : ℕ} {e : Ev} (hn : e.time = n) : e.done (n + 1) = true := by unfold Ev.done; exact decide_eq_true (by omega)
theorem done_of_lt {n : ℕ} {e : Ev} (h : e.time < n) : e.done n = true := decide_eq_true h
theorem done_of_le {n : ℕ} {e : Ev} (h : n ≤ e.time) : e.done n = false := decide_eq_false (by omega)

/-! The orders that the protocol relies on. -/

theorem recv_lt_send (m : Msg) (h : fwd m = true) : (Ev.recv m).time < (Ev.send (nextMsg m)).time := by revert m; decide +kernel
theorem send_lt_swait (m : Msg) (h : used m = true) : (Ev.send m).time < (Ev.swait m).time := by revert m; decide +kernel
theorem acc_lt_copy (u : Fin 17) : (Ev.acc u).time < (Ev.copy u).time := by revert u; decide +kernel
theorem copy_lt_twait (u : Fin 17) : (Ev.copy u).time < (Ev.twait u).time := by revert u; decide +kernel
/-- When message `m` is waited for, whatever is still to be sent comes later in the sending order. -/
theorem owed_later (m m' : Msg) (h : used m = true) (h' : used m' = true) (ht : (Ev.recv m).time ≤ (Ev.send m').time) : m.val < m'.val := by
  revert m m'; decide +kernel
theorem sent_all (m : Msg) (h : used m = true) : (Ev.send m).time < 96 := by revert m; decide +kernel
theorem all_done (e : Ev) (h : ∀ m, e = .send m ∨ e = .recv m ∨ e = .swait m → used m = true) : e.time < 143 := by
  cases e with
  | send m => have := h m (.inl rfl); revert m; decide +kernel
  | recv m => have := h m (.inr (.inl rfl)); revert m; decide +kernel
  | swait m => have := h m (.inr (.inr rfl)); revert m; decide +kernel
  | wwait => decide +kernel
  | wstore => decide +kernel
  | acc u => revert u; decide +kernel
  | copy u => revert u; decide +kernel
  | twait u => revert u; decide +kernel

/-! ## The device chains and the row offsets, in closed form -/

theorem dev1_eq (c : Dev nD) : (⟨k0_dev1 c, k0_dev1_lt c⟩ : Dev nD) = right c := by revert c; decide +kernel
theorem dev2_eq (c : Dev nD) : (⟨k0_dev2 c, k0_dev2_lt c⟩ : Dev nD) = left c := by revert c; decide +kernel
theorem dev3_eq (c : Dev nD) : (⟨k0_dev3 c, k0_dev3_lt c⟩ : Dev nD) = peer 0 c := by revert c; decide +kernel
theorem dev4_eq (c : Dev nD) : (⟨k0_dev4 c, k0_dev4_lt c⟩ : Dev nD) = peer 1 c := by revert c; decide +kernel
theorem dev5_eq (c : Dev nD) : (⟨k0_dev5 c, k0_dev5_lt c⟩ : Dev nD) = peer 2 c := by revert c; decide +kernel
theorem dev6_eq (c : Dev nD) : (⟨k0_dev6 c, k0_dev6_lt c⟩ : Dev nD) = peer 3 c := by revert c; decide +kernel
theorem dev7_eq (c : Dev nD) : (⟨k0_dev7 c, k0_dev7_lt c⟩ : Dev nD) = peer 4 c := by revert c; decide +kernel
theorem dev8_eq (c : Dev nD) : (⟨k0_dev8 c, k0_dev8_lt c⟩ : Dev nD) = peer 5 c := by revert c; decide +kernel
theorem dev9_eq (c : Dev nD) : (⟨k0_dev9 c, k0_dev9_lt c⟩ : Dev nD) = peer 6 c := by revert c; decide +kernel
theorem dev10_eq (c : Dev nD) : (⟨k0_dev10 c, k0_dev10_lt c⟩ : Dev nD) = peer 7 c := by revert c; decide +kernel
theorem dev11_eq (c : Dev nD) : (⟨k0_dev11 c, k0_dev11_lt c⟩ : Dev nD) = peer 8 c := by revert c; decide +kernel
theorem dev12_eq (c : Dev nD) : (⟨k0_dev12 c, k0_dev12_lt c⟩ : Dev nD) = peer 9 c := by revert c; decide +kernel
theorem dev13_eq (c : Dev nD) : (⟨k0_dev13 c, k0_dev13_lt c⟩ : Dev nD) = peer 10 c := by revert c; decide +kernel
theorem dev14_eq (c : Dev nD) : (⟨k0_dev14 c, k0_dev14_lt c⟩ : Dev nD) = peer 11 c := by revert c; decide +kernel
theorem dev15_eq (c : Dev nD) : (⟨k0_dev15 c, k0_dev15_lt c⟩ : Dev nD) = peer 12 c := by revert c; decide +kernel
theorem dev16_eq (c : Dev nD) : (⟨k0_dev16 c, k0_dev16_lt c⟩ : Dev nD) = peer 13 c := by revert c; decide +kernel
theorem dev17_eq (c : Dev nD) : (⟨k0_dev17 c, k0_dev17_lt c⟩ : Dev nD) = peer 14 c := by revert c; decide +kernel
theorem dev18_eq (c : Dev nD) : (⟨k0_dev18 c, k0_dev18_lt c⟩ : Dev nD) = peer 15 c := by revert c; decide +kernel
theorem dev19_eq (c : Dev nD) : (⟨k0_dev19 c, k0_dev19_lt c⟩ : Dev nD) = peer 16 c := by revert c; decide +kernel
theorem dev20_eq (c : Dev nD) : (⟨k0_dev20 c, k0_dev20_lt c⟩ : Dev nD) = peer 17 c := by revert c; decide +kernel
theorem dev21_eq (c : Dev nD) : (⟨k0_dev21 c, k0_dev21_lt c⟩ : Dev nD) = peer 18 c := by revert c; decide +kernel
theorem dev22_eq (c : Dev nD) : (⟨k0_dev22 c, k0_dev22_lt c⟩ : Dev nD) = peer 19 c := by revert c; decide +kernel
theorem dev23_eq (c : Dev nD) : (⟨k0_dev23 c, k0_dev23_lt c⟩ : Dev nD) = peer 20 c := by revert c; decide +kernel
theorem dev24_eq (c : Dev nD) : (⟨k0_dev24 c, k0_dev24_lt c⟩ : Dev nD) = peer 21 c := by revert c; decide +kernel
theorem dev25_eq (c : Dev nD) : (⟨k0_dev25 c, k0_dev25_lt c⟩ : Dev nD) = peer 22 c := by revert c; decide +kernel
theorem dev26_eq (c : Dev nD) : (⟨k0_dev26 c, k0_dev26_lt c⟩ : Dev nD) = peer 23 c := by revert c; decide +kernel
theorem dev27_eq (c : Dev nD) : (⟨k0_dev27 c, k0_dev27_lt c⟩ : Dev nD) = peer 24 c := by revert c; decide +kernel
theorem dev28_eq (c : Dev nD) : (⟨k0_dev28 c, k0_dev28_lt c⟩ : Dev nD) = peer 25 c := by revert c; decide +kernel
theorem dev29_eq (c : Dev nD) : (⟨k0_dev29 c, k0_dev29_lt c⟩ : Dev nD) = peer 26 c := by revert c; decide +kernel
theorem dev30_eq (c : Dev nD) : (⟨k0_dev30 c, k0_dev30_lt c⟩ : Dev nD) = peer 27 c := by revert c; decide +kernel
theorem dev31_eq (c : Dev nD) : (⟨k0_dev31 c, k0_dev31_lt c⟩ : Dev nD) = peer 28 c := by revert c; decide +kernel
theorem dev32_eq (c : Dev nD) : (⟨k0_dev32 c, k0_dev32_lt c⟩ : Dev nD) = peer 31 c := by revert c; decide +kernel

/-- The slot whose block region `u` of the result is computed from, and the first row of the region. -/
def regSlot (u : Fin 17) : Fin 16 := if u.val = 16 then 8 else ⟨u.val % 16, Nat.mod_lt _ (by decide)⟩
def regRow (c : Dev nD) (u : Fin 17) : ℕ := 256 * (slotDev c (regSlot u)).val + if u.val = 16 then 128 else 0
/-- The number of rows of a region: a whole block, or half of the opposite device's. -/
def regLen (u : Fin 17) : ℕ := if u.val = 8 ∨ u.val = 16 then 128 else 256

theorem off1_eq (u : Fin 17) (h : u.val < 16 ∧ u.val ≠ 8) (c : Dev nD) : k0_off1 c (BitVec.ofNat 32 u.val) = ![regRow c u, 0] := by
  revert c u; decide +kernel
theorem off2_eq (u : Fin 17) (h : u.val < 16 ∧ u.val ≠ 8) (c : Dev nD) : k0_off2 c (BitVec.ofNat 32 u.val) = ![regRow c u, 0] := by
  revert c u; decide +kernel
theorem off3_eq (u : Fin 17) (h : u.val = 8 ∨ u.val = 16) (c : Dev nD) : k0_off3 c (if u.val = 8 then 0#32 else 128#32) = ![regRow c u, 0] := by
  revert c u; decide +kernel
theorem off4_eq (u : Fin 17) (h : u.val = 8 ∨ u.val = 16) (c : Dev nD) : k0_off4 c (if u.val = 8 then 0#32 else 128#32) = ![regRow c u, 0] := by
  revert c u; decide +kernel

/-- The region that a row (in units of half a block) of the result is in. -/
def regOf (c : Dev nD) (b : Fin 32) : Fin 17 :=
  let s := slotOf c ⟨b.val / 2, by have := b.isLt; show _ < 16; omega⟩
  if s.val = 8 ∧ b.val % 2 = 1 then 16 else ⟨s.val, by omega⟩
theorem regOf_iff (c : Dev nD) (b : Fin 32) (u : Fin 17) :
    regOf c b = u ↔ regRow c u ≤ 128 * b.val ∧ 128 * b.val < regRow c u + regLen u := by
  revert c b u; decide +kernel
theorem regRow_dvd (c : Dev nD) (u : Fin 17) : 128 ∣ regRow c u := by revert c u; decide +kernel
theorem regRow_le (c : Dev nD) (u : Fin 17) : regRow c u + regLen u ≤ 4096 := by revert c u; decide +kernel

/-! Which pieces are landed by which message: every piece of every slot but 0, once. -/

/-- The message that lands piece `(s, j)`, `s ≠ 0`. -/
def landing (P : Piece) : Msg :=
  if P.1.val ≤ 7 ∨ (P.1.val = 8 ∧ P.2.val = 0) then ⟨(4 * (P.1.val - 1) + 2 * P.2.val) % 32, Nat.mod_lt _ (by decide)⟩
  else ⟨(4 * (15 - P.1.val) + 2 * P.2.val + 1) % 32, Nat.mod_lt _ (by decide)⟩
theorem landing_dst (m : Msg) (h : used m = true) : landing (dstPiece m) = m := by revert m; decide +kernel
theorem dst_landing (P : Piece) (h : P.1 ≠ 0) : dstPiece (landing P) = P ∧ used (landing P) = true := by revert P; decide +kernel
theorem dst_ne (m : Msg) (h : used m = true) : (dstPiece m).1 ≠ 0 := by revert m; decide +kernel

end Cert.RingProof

end
-- ==== Proof.Sched.lean ====
/-
# The protocol

For every semaphore of a device: who waits on it, who credits it, how much, and what the credit hands over.

* The barrier cell of device `d`: `d` waits for two units. Its right neighbour signals one and hands over the pieces of
  its own gathering buffer that `d`'s rightward messages will land in; its left neighbour those of its own that `d`'s
  leftward messages will land in.
* The send cell of message `m`: the device itself waits; its own transfer credits it when the source has been read, and
  hands the source's share back.
* The receive cell of message `m` of device `d`: `d` waits; the sender's transfer credits it, and hands over the piece
  it wrote, holding what that piece of the gathering buffer is for.
* The two load cells and the seventeen store cells: the device itself waits, its own local copy credits; the copy's
  destination, written, and its source come back.

Everything happens once: every cell has one round. The levels order a device's waits under what it still owes: the
barrier is below every receive cell, and the receive cells go up in the order of the messages, in which every device
also sends.
-/
module

public import proofs.«01_k».proof.Proof.Ring
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pointwise
public import Idealize.ShloMosaic.Lib.Tactic

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The semaphores -/

/-- What a semaphore of the kernel is for. -/
inductive Role : Type
  | bar | snd (k : Msg) | rcv (k : Msg) | ld (i : Fin 2) | st (u : Fin 17) | none
deriving DecidableEq

def sndSem (k : Msg) : DmaSem sig := ⟨if up k then 2 + k.val / 2 else 34 + k.val / 2, by have := k.isLt; show _ < 85; split <;> omega⟩
def rcvSem (k : Msg) : DmaSem sig := ⟨if up k then 18 + k.val / 2 else 50 + k.val / 2, by have := k.isLt; show _ < 85; split <;> omega⟩
def ldSem (i : Fin 2) : DmaSem sig := ⟨66 + i.val, by have := i.isLt; show _ < 85; omega⟩
def stSem (u : Fin 17) : DmaSem sig := ⟨68 + u.val, by have := u.isLt; show _ < 85; omega⟩
abbrev barS : Sem sig := barrier0

def role : SemLoc sig → Role
  | .reg _ => .bar
  | .dma q =>
    if q.val < 2 then .none
    else if q.val < 18 then .snd ⟨2 * (q.val - 2) % 32, Nat.mod_lt _ (by decide)⟩
    else if q.val < 34 then .rcv ⟨2 * (q.val - 18) % 32, Nat.mod_lt _ (by decide)⟩
    else if q.val < 50 then .snd ⟨(2 * (q.val - 34) + 1) % 32, Nat.mod_lt _ (by decide)⟩
    else if q.val < 66 then .rcv ⟨(2 * (q.val - 50) + 1) % 32, Nat.mod_lt _ (by decide)⟩
    else if q.val < 68 then .ld ⟨(q.val - 66) % 2, Nat.mod_lt _ (by decide)⟩
    else .st ⟨(q.val - 68) % 17, Nat.mod_lt _ (by decide)⟩

theorem role_snd (k : Msg) : role (.dma (sndSem k)) = .snd k := by revert k; decide +kernel
theorem role_rcv (k : Msg) : role (.dma (rcvSem k)) = .rcv k := by revert k; decide +kernel
theorem role_ld (i : Fin 2) : role (.dma (ldSem i)) = .ld i := by revert i; decide +kernel
theorem role_st (u : Fin 17) : role (.dma (stSem u)) = .st u := by revert u; decide +kernel

/-- The kernel's own cells: sends, receives, loads, stores. -/
abbrev Own : Type := (Msg ⊕ Msg) ⊕ (Fin 2 ⊕ Fin 17)
abbrev osem : Own → SemLoc sig
  | .inl (.inl k) => .dma (sndSem k)
  | .inl (.inr k) => .dma (rcvSem k)
  | .inr (.inl i) => .dma (ldSem i)
  | .inr (.inr u) => .dma (stSem u)
/-- With the barrier. -/
abbrev Cell : Type := Own ⊕ Unit
abbrev csem : Cell → SemLoc sig
  | .inl o => osem o
  | .inr _ => .reg barS

abbrev gcell (ck : Dev nD × Cell) : GSem nD τ sig := ((ck.1 : Thread nD τ), csem ck.2)

abbrev sndC (k : Msg) : Cell := .inl (.inl (.inl k))
abbrev rcvC (k : Msg) : Cell := .inl (.inl (.inr k))
abbrev ldC (i : Fin 2) : Cell := .inl (.inr (.inl i))
abbrev stC (u : Fin 17) : Cell := .inl (.inr (.inr u))
abbrev barC : Cell := .inr ()

/-! ## The buffers -/

abbrev bufM : Memref sig .tc .vmem S16x256x4096 .fp8e4m3 := Memref.whole cc0_scratch0
abbrev wbM : Memref sig .tc .vmem S4096x512 .bf16 := Memref.whole cc0_scratch1
abbrev xvM : Memref sig .tc .vmem S256x4096 .f32 := Memref.whole cc0_scratch2
abbrev wvM : Memref sig .tc .vmem S4096x512 .f32 := Memref.whole cc0_scratch3
abbrev accM : Memref sig .tc .vmem S4096x512 .f32 := Memref.whole cc0_scratch4
abbrev xM : Memref sig .tc .hbm S256x4096 .f32 := Memref.whole main_arg0
abbrev wM : Memref sig .tc .hbm S4096x512 .f32 := Memref.whole main_arg1
abbrev outM : Memref sig .tc .hbm S4096x512 .f32 := Memref.whole main_v1

/-- The elements of a piece of the gathering buffer. -/
def pieceSet (P : Piece) : Finset S16x256x4096.Idx := Finset.univ.filter fun i => (i 0).val = P.1.val ∧ (i 1).val / 128 = P.2.val
/-- The elements of a slot of it. -/
def slotSet (s : Fin 16) : Finset S16x256x4096.Idx := Finset.univ.filter fun i => (i 0).val = s.val
/-- The elements of a region of the result. -/
def regSet (c : Dev nD) (u : Fin 17) : Finset S4096x512.Idx :=
  Finset.univ.filter fun i => regRow c u ≤ (i 0).val ∧ (i 0).val < regRow c u + regLen u

theorem mem_pieceSet {P : Piece} {i : S16x256x4096.Idx} : i ∈ pieceSet P ↔ (i 0).val = P.1.val ∧ (i 1).val / 128 = P.2.val := by
  unfold pieceSet; rw [Finset.mem_filter]; exact and_iff_right (Finset.mem_univ _)
theorem mem_slotSet {s : Fin 16} {i : S16x256x4096.Idx} : i ∈ slotSet s ↔ (i 0).val = s.val := by
  unfold slotSet; rw [Finset.mem_filter]; exact and_iff_right (Finset.mem_univ _)
theorem mem_regSet {c : Dev nD} {u : Fin 17} {i : S4096x512.Idx} :
    i ∈ regSet c u ↔ regRow c u ≤ (i 0).val ∧ (i 0).val < regRow c u + regLen u := by
  unfold regSet; rw [Finset.mem_filter]; exact and_iff_right (Finset.mem_univ _)

/-! ## The contents -/

/-- The block of the left operand that device `d` brings, cast, as the gathering buffer holds it. -/
def xblk (d : Dev nD) : Vec F S1x256x4096 .fp8e4m3 := k0_pay1 (m ((d : Thread nD τ).loc main_arg0))
/-- Half of it. -/
def xhalf (d : Dev nD) (j : Fin 2) : Vec F S1x128x4096 .fp8e4m3 := fun i => xblk m d (ix3 0 ⟨128 * j.val + (i 1).val, by
  have h : (i 1).val < 128 := (i 1).isLt
  have := j.isLt
  omega⟩ (i 2))
/-- The cast right operand. -/
def wbf (c : Dev nD) : Vec F S4096x512 .bf16 := k0_pay3 (m ((c : Thread nD τ).loc main_arg1))
/-- The two scales as staged. -/
def stg0 (c : Dev nD) : (cc0_stg0_0 : Ref sig .tc).ty.Contents (Elt F) := (win0_0.blk (0 : Fin 1)).view.read (Elt F) (m ((c : Thread nD τ).loc main_arg2))
def stg1 (c : Dev nD) : (cc0_stg1_0 : Ref sig .tc).ty.Contents (Elt F) := (win0_1.blk (0 : Fin 1)).view.read (Elt F) (m ((c : Thread nD τ).loc main_arg3))
/-- Their product. -/
def scale (c : Dev nD) : F .f32 := k0_pay2 (stg0 m c (ix1 (0 : Fin 1))) (stg1 m c (ix1 (0 : Fin 1)))

/-- What the gathering buffer ends up holding on device `c`. -/
def bufc (c : Dev nD) : S16x256x4096.Idx → Elt F .fp8e4m3 := fun i => xblk m (slotDev c (i 0)) (ix3 0 (i 1) (i 2))

/-- What the result ends up holding on device `c`: device `d`'s rows from device `d`'s block, computed by halves for the
    opposite device. -/
def outc (c : Dev nD) : S4096x512.Idx → Elt F .f32 := fun i =>
  let d : Dev nD := ⟨(i 0).val / 256, by have h : (i 0).val < 4096 := (i 0).isLt; show _ < 16; omega⟩
  if slotOf c d = 8 then
    k0_pay23 (scale m c) (xhalf m d ⟨(i 0).val / 128 % 2, Nat.mod_lt _ (by decide)⟩) (wbf m c)
      (ix2 ⟨(i 0).val % 128, Nat.mod_lt _ (by decide)⟩ (i 1))
  else k0_pay8 (scale m c) (xblk m d) (wbf m c) (ix2 ⟨(i 0).val % 256, Nat.mod_lt _ (by decide)⟩ (i 1))

/-! ## Ownership -/

/-- A piece of device `c`'s gathering buffer with any contents; and at a share, with what it is for. -/
def pieceAny (c : Dev nD) (P : Piece) : sProp 𝕄 :=
  iprop(∃ f : Buf (Elt F) ((c : Thread nD τ).loc cc0_scratch0), ((c : Thread nD τ).loc cc0_scratch0) ↦[pieceSet P]{fullShare} f)
def piece (q : PosShare TreeShare) (c : Dev nD) (P : Piece) : sProp 𝕄 :=
  iprop(((c : Thread nD τ).loc cc0_scratch0) ↦[pieceSet P]{q} (bufc m c : Buf (Elt F) ((c : Thread nD τ).loc cc0_scratch0)))
/-- A region of the accumulator and of the result, with any contents; and with the result's. -/
def accAny (c : Dev nD) (u : Fin 17) : sProp 𝕄 :=
  iprop(∃ f : Buf (Elt F) ((c : Thread nD τ).loc cc0_scratch4), ((c : Thread nD τ).loc cc0_scratch4) ↦[regSet c u]{fullShare} f)
def outAny (c : Dev nD) (u : Fin 17) : sProp 𝕄 :=
  iprop(∃ f : Buf (Elt F) ((c : Thread nD τ).loc main_v1), ((c : Thread nD τ).loc main_v1) ↦[regSet c u]{fullShare} f)
def accDone (c : Dev nD) (u : Fin 17) : sProp 𝕄 :=
  iprop(((c : Thread nD τ).loc cc0_scratch4) ↦[regSet c u]{fullShare} (outc m c : Buf (Elt F) ((c : Thread nD τ).loc cc0_scratch4)))
def outDone (c : Dev nD) (u : Fin 17) : sProp 𝕄 :=
  iprop(((c : Thread nD τ).loc main_v1) ↦[regSet c u]{fullShare} (outc m c : Buf (Elt F) ((c : Thread nD τ).loc main_v1)))
/-- The operands' blocks in main memory and in the kernel's own. -/
def xHbm (c : Dev nD) : sProp 𝕄 := iprop(((c : Thread nD τ).loc main_arg0) ↦{fullShare} m ((c : Thread nD τ).loc main_arg0))
def wHbm (c : Dev nD) : sProp 𝕄 := iprop(((c : Thread nD τ).loc main_arg1) ↦{fullShare} m ((c : Thread nD τ).loc main_arg1))
def xVmem (c : Dev nD) : sProp 𝕄 :=
  iprop(((c : Thread nD τ).loc cc0_scratch2) ↦{fullShare} (m ((c : Thread nD τ).loc main_arg0) : S256x4096.Idx → Elt F .f32))
def wVmem (c : Dev nD) : sProp 𝕄 :=
  iprop(((c : Thread nD τ).loc cc0_scratch3) ↦{fullShare} (m ((c : Thread nD τ).loc main_arg1) : S4096x512.Idx → Elt F .f32))

/-- The share of its source that message `k` reads: slot 0's halves are each read by two messages. -/
def srcShare (k : Msg) : PosShare TreeShare :=
  if k.val < 4 then (if up k then fullShare.left.left else fullShare.left.right) else fullShare.left

/-- What a neighbour's signal hands over: the pieces of the neighbour that the messages running to it land in. -/
def barPay (d : Dev nD) (b : Bool) : sProp 𝕄 :=
  bigSep Finset.univ fun k : Msg => if used k ∧ up k = b then pieceAny (peer k d) (dstPiece k) else iprop(emp)

section Storable
omit [FloatOps F] in
instance pieceAny_storable (c : Dev nD) (P : Piece) : BI.Storable (upEmb : UEmb _ 𝕄) (pieceAny (F := F) c P) := by unfold pieceAny; infer_instance
instance piece_storable (q) (c : Dev nD) (P : Piece) : BI.Storable (upEmb : UEmb _ 𝕄) (piece (F := F) m q c P) := by unfold piece; infer_instance
instance accDone_storable (c : Dev nD) (u : Fin 17) : BI.Storable (upEmb : UEmb _ 𝕄) (accDone (F := F) m c u) := by unfold accDone; infer_instance
instance outDone_storable (c : Dev nD) (u : Fin 17) : BI.Storable (upEmb : UEmb _ 𝕄) (outDone (F := F) m c u) := by unfold outDone; infer_instance
instance xHbm_storable (c : Dev nD) : BI.Storable (upEmb : UEmb _ 𝕄) (xHbm (F := F) m c) := by unfold xHbm; infer_instance
instance wHbm_storable (c : Dev nD) : BI.Storable (upEmb : UEmb _ 𝕄) (wHbm (F := F) m c) := by unfold wHbm; infer_instance
instance xVmem_storable (c : Dev nD) : BI.Storable (upEmb : UEmb _ 𝕄) (xVmem (F := F) m c) := by unfold xVmem; infer_instance
instance wVmem_storable (c : Dev nD) : BI.Storable (upEmb : UEmb _ 𝕄) (wVmem (F := F) m c) := by unfold wVmem; infer_instance
omit [FloatOps F] in
instance barPay_storable (d : Dev nD) (b : Bool) : BI.Storable (upEmb : UEmb _ 𝕄) (barPay (F := F) d b) := by
  unfold barPay
  have : ∀ k : Msg, BI.Storable (upEmb : UEmb _ 𝕄) (if used k ∧ up k = b then pieceAny (F := F) (peer k d) (dstPiece k) else iprop(emp)) := by
    intro k; split <;> infer_instance
  infer_instance
end Storable

/-! ## The schedule -/

/-- The credit of a message, of the two loads, of a store of a whole block and of half a block. -/
abbrev nMsg : ℕ := sig.dmaCredit .tc (Kind.tc.table .vmem) (bufM : Memref sig .tc .vmem S16x256x4096 .fp8e4m3).view.buf S128x4096 .fp8e4m3
abbrev nLd (i : Fin 2) : ℕ := if i = 0 then (xvM : Memref sig .tc .vmem S256x4096 .f32).view.dmaCredit else (wvM : Memref sig .tc .vmem S4096x512 .f32).view.dmaCredit
abbrev nSt (u : Fin 17) : ℕ :=
  if u.val = 8 ∨ u.val = 16 then sig.dmaCredit .tc (Kind.tc.table .hbm) (outM : Memref sig .tc .hbm S4096x512 .f32).view.buf S128x512 .f32
  else sig.dmaCredit .tc (Kind.tc.table .hbm) (outM : Memref sig .tc .hbm S4096x512 .f32).view.buf S256x512 .f32

theorem nMsg_pos : 0 < nMsg := sig.dmaCredit_pos _ _ _ _ _ (by decide)
theorem nLd_pos (i : Fin 2) : 0 < nLd i := by unfold nLd; split <;> exact View.dmaCredit_pos _ (by decide)
theorem nSt_pos (u : Fin 17) : 0 < nSt u := by unfold nSt; split <;> exact sig.dmaCredit_pos _ _ _ _ _ (by decide)

def payOf (c : Dev nD) : Role → Bool → sProp 𝕄
  | .bar, b => barPay c b
  | .snd k, _ => piece m (srcShare k) c (srcPiece k)
  | .rcv k, _ => piece m fullShare c (dstPiece k)
  | .ld i, _ => if i = 0 then iprop(xVmem m c ∗ xHbm m c) else iprop(wVmem m c ∗ wHbm m c)
  | .st u, _ => iprop(outDone m c u ∗ accDone m c u)
  | .none, _ => iprop(emp)

instance payOf_storable (c : Dev nD) (r : Role) (b : Bool) : BI.Storable (upEmb : UEmb _ 𝕄) (payOf (F := F) m c r b) := by
  unfold payOf; cases r <;> dsimp only
  case ld i => split <;> infer_instance
  all_goals infer_instance

def amtOf : Role → ℕ
  | .bar => 1 | .snd _ => nMsg | .rcv _ => nMsg | .ld i => nLd i | .st u => nSt u | .none => 1
theorem amtOf_pos (r : Role) : 0 < amtOf r := by
  cases r
  case bar => exact Nat.one_pos
  case none => exact Nat.one_pos
  case snd k => exact nMsg_pos
  case rcv k => exact nMsg_pos
  case ld i => exact nLd_pos i
  case st u => exact nSt_pos u

def dutiesOf : Role → Finset Bool
  | .bar => Finset.univ
  | .snd k => if used k then {false} else ∅
  | .rcv k => if used k then {false} else ∅
  | .ld _ => {false} | .st _ => {false} | .none => ∅

def Rd : Rounds.Schedule (GSem nD τ sig) Bool 𝕄 where
  duties g r := if r = 0 ∧ g.1.2 = .tc then dutiesOf (role g.2) else ∅
  unitless _ := False
  amount g _ _ := amtOf (role g.2)
  payload g _ d := payOf m g.1.1 (role g.2) d
  amount_pos g _ _ _ := amtOf_pos _

instance Rd_payload_storable (g : GSem nD τ sig) (r : ℕ) (d : Bool) : BI.Storable (upEmb : UEmb _ 𝕄) ((Rd (F := F) m).payload g r d) :=
  payOf_storable m _ _ _

theorem duties_zero (c : Dev nD) (sm : SemLoc sig) : (Rd (F := F) m).duties ((c : Thread nD τ), sm) 0 = dutiesOf (role sm) := by dsimp only [Rd]; exact if_pos ⟨rfl, rfl⟩
theorem duties_later (g : GSem nD τ sig) : ∀ r, 1 ≤ r → (Rd (F := F) m).duties g r = ∅ := fun r hr => by dsimp only [Rd]; exact if_neg fun h => by omega
theorem duties_none (c : Dev nD) (sm : SemLoc sig) (h : dutiesOf (role sm) = ∅) : ∀ r, 0 ≤ r → (Rd (F := F) m).duties ((c : Thread nD τ), sm) r = ∅ := by
  intro r _
  by_cases hr : r = 0
  · subst hr; rw [duties_zero, h]
  · exact duties_later m _ r (Nat.one_le_iff_ne_zero.mpr hr)

/-- A DMA cell with the one duty. -/
theorem single_mem (c : Dev nD) {sm : SemLoc sig} (h : dutiesOf (role sm) = {false}) : false ∈ (Rd (F := F) m).duties ((c : Thread nD τ), sm) 0 := by
  rw [duties_zero, h]; exact Finset.mem_singleton_self _
theorem single_expect (c : Dev nD) {sm : SemLoc sig} (h : dutiesOf (role sm) = {false}) : (Rd (F := F) m).expect ((c : Thread nD τ), sm) 0 = amtOf (role sm) := by
  unfold Schedule.expect Schedule.amountOf
  rw [duties_zero, h, Finset.sum_singleton]; rfl
theorem single_rest (c : Dev nD) {sm : SemLoc sig} (h : dutiesOf (role sm) = {false}) :
    bigSep ((Rd (F := F) m).duties ((c : Thread nD τ), sm) 0 \ ∅) (fun d => (Rd (F := F) m).payload ((c : Thread nD τ), sm) 0 d) = payOf m c (role sm) false := by
  rw [Finset.sdiff_empty, duties_zero, h, bigSep_singleton]; rfl

theorem bar_expect (c : Dev nD) : (Rd (F := F) m).expect ((c : Thread nD τ), .reg barS) 0 = 2 := by
  unfold Schedule.expect Schedule.amountOf
  rw [duties_zero]; rfl
theorem bar_rest (c : Dev nD) :
    bigSep ((Rd (F := F) m).duties ((c : Thread nD τ), .reg barS) 0 \ ∅) (fun d => (Rd (F := F) m).payload ((c : Thread nD τ), .reg barS) 0 d)
      = iprop(barPay c false ∗ barPay c true) := by
  rw [Finset.sdiff_empty, duties_zero, show dutiesOf (role (.reg barS)) = Finset.univ from rfl,
    bigSep_univ_eq_bigSepL [false, true] (by decide) (by decide), bigSepL_cons_cons, bigSepL_singleton]
  rfl

theorem dutiesOf_snd {k : Msg} (h : used k = true) : dutiesOf (role (.dma (sndSem k))) = {false} := by rw [role_snd]; exact if_pos h
theorem dutiesOf_rcv {k : Msg} (h : used k = true) : dutiesOf (role (.dma (rcvSem k))) = {false} := by rw [role_rcv]; exact if_pos h
theorem dutiesOf_ld (i : Fin 2) : dutiesOf (role (.dma (ldSem i))) = {false} := by rw [role_ld]; rfl
theorem dutiesOf_st (u : Fin 17) : dutiesOf (role (.dma (stSem u))) = {false} := by rw [role_st]; rfl
theorem amt_snd (k : Msg) : amtOf (role (.dma (sndSem k))) = nMsg := by rw [role_snd]; rfl
theorem amt_rcv (k : Msg) : amtOf (role (.dma (rcvSem k))) = nMsg := by rw [role_rcv]; rfl
theorem amt_ld (i : Fin 2) : amtOf (role (.dma (ldSem i))) = nLd i := by rw [role_ld]; rfl
theorem amt_st (u : Fin 17) : amtOf (role (.dma (stSem u))) = nSt u := by rw [role_st]; rfl
theorem pay_snd (c : Dev nD) (k : Msg) (b : Bool) : payOf (F := F) m c (role (.dma (sndSem k))) b = piece m (srcShare k) c (srcPiece k) := by rw [role_snd]; rfl
theorem pay_rcv (c : Dev nD) (k : Msg) (b : Bool) : payOf (F := F) m c (role (.dma (rcvSem k))) b = piece m fullShare c (dstPiece k) := by rw [role_rcv]; rfl
theorem pay_ld0 (c : Dev nD) (b : Bool) : payOf (F := F) m c (role (.dma (ldSem 0))) b = iprop(xVmem m c ∗ xHbm m c) := by rw [role_ld]; rfl
theorem pay_ld1 (c : Dev nD) (b : Bool) : payOf (F := F) m c (role (.dma (ldSem 1))) b = iprop(wVmem m c ∗ wHbm m c) := by rw [role_ld]; rfl
theorem pay_st (c : Dev nD) (u : Fin 17) (b : Bool) : payOf (F := F) m c (role (.dma (stSem u))) b = iprop(outDone m c u ∗ accDone m c u) := by rw [role_st]; rfl

/-! ## What a device owes, and the levels -/

/-- What message `k` of device `c` credits at the other end, if it is not sent yet after the first `n` events. -/
def owe (c : Dev nD) (n : ℕ) (k : Msg) : CellTallies nD τ sig Unit :=
  if used k && !(Ev.send k).done n then tallyAt (((peer k c : Dev nD) : Thread nD τ), .dma (rcvSem k)) () nMsg else 0
def owed (c : Dev nD) (n : ℕ) : CellTallies nD τ sig Unit := ∑ k : Msg, owe c n k
def owedBar (c : Dev nD) : CellTallies nD τ sig Unit := owed c 0 + tallyAt (((left c : Dev nD) : Thread nD τ), .reg barS) () 1
def owedAll (c : Dev nD) : CellTallies nD τ sig Unit := owedBar c + tallyAt (((right c : Dev nD) : Thread nD τ), .reg barS) () 1

/-- Sending pays. -/
theorem owed_send (c : Dev nD) {n : ℕ} {k : Msg} (hu : used k = true) (hn : (Ev.send k).time = n) :
    owed c n = owed c (n + 1) + tallyAt (((peer k c : Dev nD) : Thread nD τ), .dma (rcvSem k)) () nMsg := by
  unfold owed
  rw [← Finset.add_sum_erase _ _ (Finset.mem_univ k), ← Finset.add_sum_erase (a := k) _ (fun k => owe c (n + 1) k) (Finset.mem_univ k)]
  have h1 : owe c n k = tallyAt (((peer k c : Dev nD) : Thread nD τ), .dma (rcvSem k)) () nMsg := by
    unfold owe; rw [done_self hn, hu]; rfl
  have h2 : owe c (n + 1) k = 0 := by unfold owe; rw [done_next hn, hu]; rfl
  rw [h1, h2, zero_add, add_comm]
  congr 1
  refine Finset.sum_congr rfl fun j hj => ?_
  unfold owe
  rw [done_other hn fun h => Finset.ne_of_mem_erase hj (Ev.send.inj h)]
/-- Another event does not change what is owed. -/
theorem owed_other (c : Dev nD) {n : ℕ} {e : Ev} (hn : e.time = n) (he : ∀ k, e ≠ .send k) : owed c (n + 1) = owed c n := by
  unfold owed
  refine Finset.sum_congr rfl fun j _ => ?_
  unfold owe; rw [done_other hn fun h => he j h.symm]
theorem owed_end (c : Dev nD) {n : ℕ} (hn : 96 ≤ n) : owed c n = 0 := by
  unfold owed
  refine Finset.sum_eq_zero fun k _ => ?_
  unfold owe
  by_cases hu : used k = true
  · rw [done_of_lt (lt_of_lt_of_le (sent_all k hu) hn), hu]; rfl
  · rw [Bool.not_eq_true] at hu; rw [hu]; rfl

def L (g : GSem nD τ sig) : Finset Unit := if g.1.2 = .tc then {()} else ∅
def levOf : Role → ℕ
  | .bar => 1 | .rcv k => k.val + 2 | _ => 0
def lv (g : GSem nD τ sig) (_ : Unit) : ℕ := levOf (role g.2)

theorem L_of_ne (g : GSem nD τ sig) (h : g.1.2 ≠ .tc) : L g = ∅ := if_neg h
theorem L_tc (c : Dev nD) (sm : SemLoc sig) : L ((c : Thread nD τ), sm) = {()} := if_pos rfl

theorem tally_pos {g g' : GSem nD τ sig} {k : ℕ} {x : Unit} (h : 0 < tallyAt g' () k g x) : g = g' := by
  by_contra hn
  rw [tallyAt_apply, if_neg fun h' => hn h'.1] at h
  exact Nat.lt_irrefl 0 h

theorem owed_pos {c : Dev nD} {n : ℕ} {g : GSem nD τ sig} {x : Unit} (h : 0 < owed c n g x) :
    ∃ k, used k = true ∧ n ≤ (Ev.send k).time ∧ g = (((peer k c : Dev nD) : Thread nD τ), .dma (rcvSem k)) := by
  by_contra hn
  have hz : owed c n g x = 0 := by
    unfold owed
    rw [Finset.sum_apply, Finsupp.finset_sum_apply]
    refine Finset.sum_eq_zero fun k _ => ?_
    unfold owe
    split
    next hk =>
      by_contra hne
      rw [Bool.and_eq_true, Bool.not_eq_true'] at hk
      exact hn ⟨k, hk.1, not_lt.mp (of_decide_eq_false hk.2), tally_pos (Nat.pos_of_ne_zero hne)⟩
    · rfl
  omega
theorem owedBar_pos {c : Dev nD} {g : GSem nD τ sig} {x : Unit} (h : 0 < owedAll c g x) :
    (∃ k, used k = true ∧ g = (((peer k c : Dev nD) : Thread nD τ), .dma (rcvSem k))) ∨ ∃ d : Dev nD, g = ((d : Thread nD τ), .reg barS) := by
  by_contra hn
  rw [not_or] at hn
  unfold owedAll owedBar at h
  rw [Pi.add_apply, Finsupp.add_apply, Pi.add_apply, Finsupp.add_apply] at h
  rcases Nat.eq_zero_or_pos (owed c 0 g x) with h0 | h0
  · rw [h0, zero_add] at h
    rcases Nat.eq_zero_or_pos (tallyAt (((left c : Dev nD) : Thread nD τ), SemLoc.reg barS) () 1 g x) with h1 | h1
    · rw [h1, zero_add] at h; exact hn.2 ⟨_, tally_pos h⟩
    · exact hn.2 ⟨_, tally_pos h1⟩
  · obtain ⟨k, hk, -, hg⟩ := owed_pos h0
    exact hn.1 ⟨k, hk, hg⟩

omit [FloatOps F] in
/-- A device may wait on a cell whose level is below the receive levels of everything it still owes. -/
theorem mayWait_owed (c : Dev nD) (sm : SemLoc sig) (n : ℕ)
    (h : ∀ k, used k = true → n ≤ (Ev.send k).time → levOf (role sm) < k.val + 2) :
    (levAts L lv : sProp 𝕄) ⊢ MayWait (c : Thread nD τ) sm () (owed c n) :=
  MayOwe.of_cut (L := L) (lev := lv) (levOf (role sm)) (fun p hp => by rw [Finset.mem_singleton.mp hp, L_tc]; exact Finset.mem_singleton_self _)
    (fun g x hg => by obtain ⟨k, -, -, rfl⟩ := owed_pos hg; exact Finset.mem_singleton_self _)
    (fun p hp => by rw [Finset.mem_singleton.mp hp]; exact le_rfl)
    (fun g x hg => by
      obtain ⟨k, hu, hk, rfl⟩ := owed_pos hg
      show _ < levOf (role (.dma (rcvSem k)))
      rw [role_rcv]; exact h k hu hk)
omit [FloatOps F] in
theorem mayWait_recv (c : Dev nD) {n : ℕ} {k : Msg} (hu : used k = true) (hn : (Ev.recv k).time = n) :
    (levAts L lv : sProp 𝕄) ⊢ MayWait (c : Thread nD τ) (.dma (rcvSem k)) () (owed c n) :=
  mayWait_owed c _ n fun k' hu' h => by
    rw [role_rcv]; show k.val + 2 < k'.val + 2
    have := owed_later k k' hu hu' (by rw [hn]; exact h); omega
omit [FloatOps F] in
/-- It may wait on a cell of level 0 at any time. -/
theorem mayWait_low (c : Dev nD) (sm : SemLoc sig) (hs : levOf (role sm) = 0) (n : ℕ) :
    (levAts L lv : sProp 𝕄) ⊢ MayWait (c : Thread nD τ) sm () (owed c n) :=
  mayWait_owed c sm n fun k _ _ => by omega
omit [FloatOps F] in
theorem mayWait_bar (c : Dev nD) : (levAts L lv : sProp 𝕄) ⊢ MayWait (c : Thread nD τ) (.reg barS) () (owed c 0) :=
  mayWait_owed c _ 0 fun k _ _ => by show 1 < k.val + 2; omega
omit [FloatOps F] in
theorem mayWait_all (c : Dev nD) (sm : SemLoc sig) (hs : levOf (role sm) = 0) :
    (levAts L lv : sProp 𝕄) ⊢ MayWait (c : Thread nD τ) sm () (owedAll c) :=
  MayOwe.of_cut (L := L) (lev := lv) 0 (fun p hp => by rw [Finset.mem_singleton.mp hp, L_tc]; exact Finset.mem_singleton_self _)
    (fun g x hg => by rcases owedBar_pos hg with ⟨k, -, rfl⟩ | ⟨d, rfl⟩ <;> exact Finset.mem_singleton_self _)
    (fun p hp => by rw [Finset.mem_singleton.mp hp]; exact le_of_eq hs)
    (fun g x hg => by
      rcases owedBar_pos hg with ⟨k, -, rfl⟩ | ⟨d, rfl⟩
      · show 0 < levOf (role (.dma (rcvSem k))); rw [role_rcv]; exact Nat.succ_pos _
      · exact Nat.one_pos)

end Cert.RingProof

end
-- ==== Proof.Views.lean ====
/-
# The views of the body

What the memrefs that the body loads, stores and copies through cover, and what is read and left there: the pieces and
the slots of the gathering buffer, the regions of the accumulator and of the result.
-/
module

public import proofs.«01_k».proof.Proof.Sched
public import Idealize.ShloMosaic.Lib.Exec.Geometry
public import Idealize.ShloMosaic.Lib.ViewIndex

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Pieces and slots of the gathering buffer -/

/-- Where a piece starts. -/
def pieceOff (P : Piece) : Fin 3 → ℕ := ![P.1.val, 128 * P.2.val, 0]

abbrev pieceR (o : Fin 3 → ℕ) (inb : ∀ a, o a + S1x128x4096.size a ≤ S16x256x4096.size a) : Rect S16x256x4096 :=
  Rect.unit (s := S16x256x4096) o S1x128x4096.size inb
abbrev slotR (o : Fin 3 → ℕ) (inb : ∀ a, o a + S1x256x4096.size a ≤ S16x256x4096.size a) : Rect S16x256x4096 :=
  Rect.unit (s := S16x256x4096) o S1x256x4096.size inb
/-- The memref of a piece, as the transfers name it. -/
abbrev pieceM (o : Fin 3 → ℕ) (inb : ∀ a, o a + S1x128x4096.size a ≤ S16x256x4096.size a) : Memref sig .tc .vmem S128x4096 .fp8e4m3 :=
  (bufM.slice (pieceR o inb) (fun _ => rfl)).squeeze S128x4096 squeezes_S1x128x4096_S128x4096

theorem pieceR_set {o : Fin 3 → ℕ} {inb} {P : Piece} (ho : o = pieceOff P) : (pieceR o inb).set = pieceSet P := by
  subst ho
  ext i
  rw [mem_pieceSet, Rect.mem_set_unit]
  have h0 : (i 0).val < 16 := (i 0).isLt
  have h1 : (i 1).val < 256 := (i 1).isLt
  have h2 : (i 2).val < 4096 := (i 2).isLt
  constructor
  · intro h
    have a0 := h 0
    have a1 := h 1
    change P.1.val ≤ _ ∧ (i 0).val < P.1.val + 1 at a0
    change 128 * P.2.val ≤ _ ∧ (i 1).val < 128 * P.2.val + 128 at a1
    omega
  · intro h a
    match a with
    | 0 => show P.1.val ≤ _ ∧ (i 0).val < P.1.val + 1; omega
    | 1 => show 128 * P.2.val ≤ _ ∧ (i 1).val < 128 * P.2.val + 128; omega
    | 2 => show 0 ≤ _ ∧ (i 2).val < 0 + 4096; omega

theorem pieceM_set {o : Fin 3 → ℕ} {inb} {P : Piece} (ho : o = pieceOff P) : (pieceM o inb).view.set = pieceSet P :=
  ((View.set_reshape _ _).trans (View.set_slice_whole _ _)).trans (pieceR_set ho)

theorem slotR_set {o : Fin 3 → ℕ} {inb} {s : Fin 16} (ho : o = ![s.val, 0, 0]) : (slotR o inb).set = slotSet s := by
  subst ho
  ext i
  rw [mem_slotSet, Rect.mem_set_unit]
  have h1 : (i 1).val < 256 := (i 1).isLt
  have h2 : (i 2).val < 4096 := (i 2).isLt
  constructor
  · intro h
    have a0 := h 0
    change s.val ≤ _ ∧ (i 0).val < s.val + 1 at a0
    omega
  · intro h a
    match a with
    | 0 => show s.val ≤ _ ∧ (i 0).val < s.val + 1; omega
    | 1 => show 0 ≤ _ ∧ (i 1).val < 0 + 256; omega
    | 2 => show 0 ≤ _ ∧ (i 2).val < 0 + 4096; omega

theorem piece_disjoint (s : Fin 16) : Disjoint (pieceSet (s, 0)) (pieceSet (s, 1)) := by
  rw [Finset.disjoint_left]
  intro i h h'
  rw [mem_pieceSet] at h h'
  have a := h.2
  have b := h'.2
  change _ = 0 at a
  change _ = 1 at b
  omega
theorem piece_union (s : Fin 16) : pieceSet (s, 0) ∪ pieceSet (s, 1) = slotSet s := by
  ext i
  rw [Finset.mem_union, mem_pieceSet, mem_pieceSet, mem_slotSet]
  have h1 : (i 1).val < 256 := (i 1).isLt
  show (_ = s.val ∧ _ = 0) ∨ (_ = s.val ∧ _ = 1) ↔ _
  omega

/-- What a piece's landing leaves: on the receiving device, what the piece is for. -/
theorem piece_landed (c : Dev nD) (k : Msg) {o o' : Fin 3 → ℕ} {inb inb'} (ho : o = pieceOff (srcPiece k)) (ho' : o' = pieceOff (dstPiece k))
    (fd : S16x256x4096.Idx → Elt F .fp8e4m3) :
    ∀ i ∈ pieceSet (dstPiece k),
      (pieceM o' inb').view.write (Elt F) fd ((pieceM o inb).view.read (Elt F) (bufc m c)) Finset.univ i = bufc m (peer k c) i := by
  intro i hi
  rw [← pieceM_set (inb := inb') ho'] at hi
  obtain ⟨x, -, hx⟩ := Finset.mem_map.mp hi
  subst hx
  rw [View.write_emb_of_mem _ _ (Finset.mem_univ x)]
  show bufc m c ((pieceM o inb).view.emb x) = bufc m (peer k c) ((pieceM o' inb').view.emb x)
  show bufc m c ((pieceR o inb).emb (Shape.reshapeEquiv _ x)) = bufc m (peer k c) ((pieceR o' inb').emb (Shape.reshapeEquiv _ x))
  generalize (Shape.reshapeEquiv _ x) = y
  have h0 : (y 0).val = 0 := by have : (y 0).val < 1 := (y 0).isLt; omega
  have e0 : ((pieceR o inb).emb y 0) = srcSlot k := Fin.ext (by subst ho; show (srcSlot k).val + 1 * (y 0).val = _; omega)
  have e0' : ((pieceR o' inb').emb y 0) = dstSlot k := Fin.ext (by subst ho'; show (dstSlot k).val + 1 * (y 0).val = _; omega)
  have e1 : ((pieceR o inb).emb y 1) = ((pieceR o' inb').emb y 1) := Fin.ext (by subst ho ho'; rfl)
  have e2 : ((pieceR o inb).emb y 2) = ((pieceR o' inb').emb y 2) := Fin.ext (by subst ho ho'; rfl)
  unfold bufc
  rw [e0, e0', e1, e2, slot_landed]

/-- What a load of a slot reads. -/
theorem slot_read (c : Dev nD) (s : Fin 16) {o : Fin 3 → ℕ} {inb} (ho : o = ![s.val, 0, 0]) :
    (bufM : Memref sig .tc .vmem S16x256x4096 .fp8e4m3).view.readAt (Elt F) (slotR o inb).toLoadRect (bufc m c) = xblk m (slotDev c s) := by
  funext y
  show bufc m c ((slotR o inb).emb y) = _
  subst ho
  have h0 : (y 0).val = 0 := by have : (y 0).val < 1 := (y 0).isLt; omega
  unfold bufc
  have e0 : ((slotR ![s.val, 0, 0] inb).emb y 0) = s := Fin.ext (by show s.val + 1 * (y 0).val = _; omega)
  rw [e0]
  congr 1
  refine Shape.idx3_ext ?_ ?_ ?_
  · show 0 = _; omega
  · show 0 + 1 * (y 1).val = _; omega
  · show 0 + 1 * (y 2).val = _; omega

/-- What a load of half a slot reads. -/
theorem half_read (c : Dev nD) (P : Piece) {o : Fin 3 → ℕ} {inb} (ho : o = pieceOff P) :
    (bufM : Memref sig .tc .vmem S16x256x4096 .fp8e4m3).view.readAt (Elt F) (pieceR o inb).toLoadRect (bufc m c) = xhalf m (slotDev c P.1) P.2 := by
  funext y
  show bufc m c ((pieceR o inb).emb y) = _
  subst ho
  have h0 : (y 0).val = 0 := by have : (y 0).val < 1 := (y 0).isLt; omega
  unfold bufc xhalf
  have e0 : ((pieceR (pieceOff P) inb).emb y 0) = P.1 := Fin.ext (by show P.1.val + 1 * (y 0).val = _; omega)
  rw [e0]
  congr 1
  refine Shape.idx3_ext ?_ ?_ ?_
  · rfl
  · show 128 * P.2.val + 1 * (y 1).val = 128 * P.2.val + (y 1).val; omega
  · show 0 + 1 * (y 2).val = (y 2).val; omega

/-- Slot 0 is where a device puts its own block. -/
theorem slot0_write (c : Dev nD) {o : Fin 3 → ℕ} {inb} (ho : o = ![0, 0, 0]) (f : S16x256x4096.Idx → Elt F .fp8e4m3) :
    ∀ i ∈ slotSet 0, (bufM.access (slotR o inb) : View sig .tc _ _ _).write (Elt F) f (xblk m c) Finset.univ i = bufc m c i := by
  intro i hi
  have hs : (bufM.access (slotR o inb) : View sig .tc _ _ _).set = slotSet 0 := (View.set_slice_whole _ _).trans (slotR_set (s := 0) ho)
  rw [← hs] at hi
  obtain ⟨y, -, hy⟩ := Finset.mem_map.mp hi
  subst hy
  rw [View.write_emb_of_mem _ _ (Finset.mem_univ y)]
  show xblk m c y = bufc m c ((slotR o inb).emb y)
  subst ho
  have h0 : (y 0).val = 0 := by have : (y 0).val < 1 := (y 0).isLt; omega
  unfold bufc
  have e0 : ((slotR ![0, 0, 0] inb).emb y 0) = (0 : Fin 16) := Fin.ext (by show 0 + 1 * (y 0).val = 0; omega)
  rw [e0, slotDev_zero]
  congr 1
  refine (Shape.idx3_ext ?_ ?_ ?_).symm
  · show 0 = _; omega
  · show 0 + 1 * (y 1).val = _; omega
  · show 0 + 1 * (y 2).val = _; omega

/-- Two indices of rank two with the same coordinates. -/
theorem idx2_ext {d : Fin 2 → Nat} {x y : (⟨2, d⟩ : Shape).Idx} (h0 : (x 0).val = (y 0).val) (h1 : (x 1).val = (y 1).val) : x = y :=
  funext fun a => by
    match a with
    | ⟨0, _⟩ => exact Fin.ext h0
    | ⟨1, _⟩ => exact Fin.ext h1

/-! ## Regions of the accumulator and of the result -/

abbrev fullR (o : Fin 2 → ℕ) (inb : ∀ a, o a + S256x512.size a ≤ S4096x512.size a) : Rect S4096x512 := Rect.unit (s := S4096x512) o S256x512.size inb
abbrev halfR (o : Fin 2 → ℕ) (inb : ∀ a, o a + S128x512.size a ≤ S4096x512.size a) : Rect S4096x512 := Rect.unit (s := S4096x512) o S128x512.size inb

theorem fullR_set {c : Dev nD} {u : Fin 17} (hu : u.val < 16 ∧ u.val ≠ 8) {o : Fin 2 → ℕ} {inb} (ho : o = ![regRow c u, 0]) :
    (fullR o inb).set = regSet c u := by
  subst ho
  ext i
  rw [mem_regSet, Rect.mem_set_unit]
  have hl : regLen u = 256 := by unfold regLen; exact if_neg (by omega)
  have h1 : (i 1).val < 512 := (i 1).isLt
  rw [hl]
  constructor
  · intro h; exact h 0
  · intro h a
    match a with
    | 0 => exact h
    | 1 => show 0 ≤ _ ∧ (i 1).val < 0 + 512; omega
theorem halfR_set {c : Dev nD} {u : Fin 17} (hu : u.val = 8 ∨ u.val = 16) {o : Fin 2 → ℕ} {inb} (ho : o = ![regRow c u, 0]) :
    (halfR o inb).set = regSet c u := by
  subst ho
  ext i
  rw [mem_regSet, Rect.mem_set_unit]
  have hl : regLen u = 128 := by unfold regLen; exact if_pos hu
  have h1 : (i 1).val < 512 := (i 1).isLt
  rw [hl]
  constructor
  · intro h; exact h 0
  · intro h a
    match a with
    | 0 => exact h
    | 1 => show 0 ≤ _ ∧ (i 1).val < 0 + 512; omega

/-- The result at a row of a block that came whole, and of one that came by halves. -/
theorem outc_full (c d : Dev nD) (hd : slotOf c d ≠ 8) (i : S4096x512.Idx) (y : S256x512.Idx)
    (h0 : (i 0).val = 256 * d.val + (y 0).val) (h1 : (i 1).val = (y 1).val) :
    outc m c i = k0_pay8 (scale m c) (xblk m d) (wbf m c) y := by
  have hy0 : (y 0).val < 256 := (y 0).isLt
  have hi0 : (i 0).val < 4096 := (i 0).isLt
  have hd' : (⟨(i 0).val / 256, by show _ < 16; omega⟩ : Dev nD) = d := Fin.ext (by show (i 0).val / 256 = _; omega)
  have hy : (ix2 (n0 := 256) (n1 := 512) ⟨(i 0).val % 256, Nat.mod_lt _ (by decide)⟩ (i 1)) = y :=
    idx2_ext (by show (i 0).val % 256 = _; omega) h1
  unfold outc
  dsimp only
  rw [hd', if_neg hd]
  exact congrArg _ hy
theorem outc_half (c d : Dev nD) (hd : slotOf c d = 8) (j : Fin 2) (i : S4096x512.Idx) (y : S128x512.Idx)
    (h0 : (i 0).val = 256 * d.val + 128 * j.val + (y 0).val) (h1 : (i 1).val = (y 1).val) :
    outc m c i = k0_pay23 (scale m c) (xhalf m d j) (wbf m c) y := by
  have hy0 : (y 0).val < 128 := (y 0).isLt
  have hj : j.val < 2 := j.isLt
  have hi0 : (i 0).val < 4096 := (i 0).isLt
  have hd' : (⟨(i 0).val / 256, by show _ < 16; omega⟩ : Dev nD) = d := Fin.ext (by show (i 0).val / 256 = _; omega)
  have hj' : (⟨(i 0).val / 128 % 2, Nat.mod_lt _ (by decide)⟩ : Fin 2) = j := Fin.ext (by show (i 0).val / 128 % 2 = _; omega)
  have hy : (ix2 (n0 := 128) (n1 := 512) ⟨(i 0).val % 128, Nat.mod_lt _ (by decide)⟩ (i 1)) = y :=
    idx2_ext (by show (i 0).val % 128 = _; omega) h1
  unfold outc
  dsimp only
  rw [hd', if_pos hd, hj']
  exact congrArg _ hy

/-- A whole block stored at its region is the result there. -/
theorem full_write (c : Dev nD) {u : Fin 17} (hu : u.val < 16 ∧ u.val ≠ 8) {o : Fin 2 → ℕ} {inb} (ho : o = ![regRow c u, 0])
    (f : S4096x512.Idx → Elt F .f32) :
    ∀ i ∈ regSet c u, (accM.access (fullR o inb) : View sig .tc _ _ _).write (Elt F) f
      (k0_pay8 (scale m c) (xblk m (slotDev c (regSlot u))) (wbf m c)) Finset.univ i = outc m c i := by
  intro i hi
  have hs : (accM.access (fullR o inb) : View sig .tc _ _ _).set = regSet c u := (View.set_slice_whole _ _).trans (fullR_set hu ho)
  rw [← hs] at hi
  obtain ⟨y, -, hy⟩ := Finset.mem_map.mp hi
  subst hy
  rw [View.write_emb_of_mem _ _ (Finset.mem_univ y)]
  have hr : regRow c u = 256 * (slotDev c (regSlot u)).val := by unfold regRow; rw [if_neg (by omega)]; rfl
  have hsl : regSlot u ≠ 8 := by
    unfold regSlot; rw [if_neg (by omega)]
    intro h; have h' : u.val % 16 = 8 := congrArg Fin.val h
    omega
  refine (outc_full m c (slotDev c (regSlot u)) (by rw [slotOf_slotDev]; exact hsl) _ y ?_ ?_).symm
  · rw [← hr]; subst ho; show regRow c u + 1 * (y 0).val = _; omega
  · subst ho; show 0 + 1 * (y 1).val = (y 1).val; omega

/-- Half a block stored at its region is the result there. -/
theorem half_write (c : Dev nD) {u : Fin 17} (hu : u.val = 8 ∨ u.val = 16) {o : Fin 2 → ℕ} {inb} (ho : o = ![regRow c u, 0])
    (f : S4096x512.Idx → Elt F .f32) :
    ∀ i ∈ regSet c u, (accM.access (halfR o inb) : View sig .tc _ _ _).write (Elt F) f
      (k0_pay23 (scale m c) (xhalf m (slotDev c 8) (if u.val = 8 then 0 else 1)) (wbf m c)) Finset.univ i = outc m c i := by
  intro i hi
  have hs : (accM.access (halfR o inb) : View sig .tc _ _ _).set = regSet c u := (View.set_slice_whole _ _).trans (halfR_set hu ho)
  rw [← hs] at hi
  obtain ⟨y, -, hy⟩ := Finset.mem_map.mp hi
  subst hy
  rw [View.write_emb_of_mem _ _ (Finset.mem_univ y)]
  have hr : regRow c u = 256 * (slotDev c 8).val + 128 * (if u.val = 8 then (0 : Fin 2) else 1).val := by
    rcases hu with h | h
    · have : u = 8 := Fin.ext h
      subst this; rfl
    · have : u = 16 := Fin.ext h
      subst this; rfl
  refine (outc_half m c (slotDev c 8) (slotOf_slotDev c 8) (if u.val = 8 then 0 else 1) _ y ?_ ?_).symm
  · rw [← hr]; subst ho; show regRow c u + 1 * (y 0).val = _; omega
  · subst ho; show 0 + 1 * (y 1).val = (y 1).val; omega

/-- A region copied out. -/
theorem full_copied (c : Dev nD) {u : Fin 17} (hu : u.val < 16 ∧ u.val ≠ 8) {o : Fin 2 → ℕ} {inb inb'} (ho : o = ![regRow c u, 0])
    (f : S4096x512.Idx → Elt F .f32) :
    ∀ i ∈ regSet c u, (outM.slice (fullR o inb') (fun _ => rfl)).view.write (Elt F) f
      ((accM.slice (fullR o inb) (fun _ => rfl)).view.read (Elt F) (outc m c)) Finset.univ i = outc m c i := by
  intro i hi
  have hs : (outM.slice (fullR o inb') (fun _ => rfl)).view.set = regSet c u := (View.set_slice_whole _ _).trans (fullR_set hu ho)
  rw [← hs] at hi
  obtain ⟨y, -, hy⟩ := Finset.mem_map.mp hi
  subst hy
  rw [View.write_emb_of_mem _ _ (Finset.mem_univ y)]
  rfl
theorem half_copied (c : Dev nD) {u : Fin 17} (hu : u.val = 8 ∨ u.val = 16) {o : Fin 2 → ℕ} {inb inb'} (ho : o = ![regRow c u, 0])
    (f : S4096x512.Idx → Elt F .f32) :
    ∀ i ∈ regSet c u, (outM.slice (halfR o inb') (fun _ => rfl)).view.write (Elt F) f
      ((accM.slice (halfR o inb) (fun _ => rfl)).view.read (Elt F) (outc m c)) Finset.univ i = outc m c i := by
  intro i hi
  have hs : (outM.slice (halfR o inb') (fun _ => rfl)).view.set = regSet c u := (View.set_slice_whole _ _).trans (halfR_set hu ho)
  rw [← hs] at hi
  obtain ⟨y, -, hy⟩ := Finset.mem_map.mp hi
  subst hy
  rw [View.write_emb_of_mem _ _ (Finset.mem_univ y)]
  rfl

end Cert.RingProof

end
-- ==== Proof.State.lean ====
/-
# The state of a device after its first `n` events

What a device holds after the barrier, as a function of how many events of its body are over: for every message it sends,
for every message it receives, for every region of its result, and for the right operand; and that an event changes only
its own.
-/
module

public import proofs.«01_k».proof.Proof.Views

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

/-! ## Records -/

/-- Every cell of every device is open, and has reached its first round. -/
def recs : sProp 𝕄 :=
  bigSep Finset.univ fun ck : Dev nD × Cell => iprop(cellInv ER (Rd m) (K ck) (gcell ck) ∗ reached ER (gcell ck) 0)
instance recs_persistent : BI.Persistent (recs (F := F) m K) := by unfold recs; infer_instance

theorem recs_get (ck : Dev nD × Cell) : recs (F := F) m K ⊢ iprop(cellInv ER (Rd m) (K ck) (gcell ck) ∗ reached ER (gcell ck) 0) :=
  bigSep_elim (Φ := fun ck : Dev nD × Cell => iprop(cellInv ER (Rd m) (K ck) (gcell ck) ∗ reached ER (gcell ck) 0)) (Finset.mem_univ ck)

/-! ## Messages sent -/

/-- Is what message `k` is to send at hand? The device's own block from the start, what it passes on since it landed. -/
def ready (n : ℕ) (k : Msg) : Bool := if k.val < 4 then true else (Ev.recv (k - 4)).done n

/-- Message `k` to be sent: its cell, the two tokens it pays with, the piece it lands in, and its source if at hand. -/
def sndBefore (c : Dev nD) (b : Bool) (k : Msg) : sProp 𝕄 :=
  iprop(atPos ER (gcell (c, sndC k)) 0 ∅ 0 ∗ dutyTok ER (gcell (c, sndC k)) 0 false ∗ dutyTok ER (gcell (peer k c, rcvC k)) 0 false
    ∗ pieceAny (peer k c) (dstPiece k) ∗ (if b then piece m (srcShare k) c (srcPiece k) else iprop(emp)))
def sndDuring (c : Dev nD) (k : Msg) : sProp 𝕄 :=
  iprop(atPos ER (gcell (c, sndC k)) 0 ∅ 0 ∗ cred (tallyAt (gcell (c, sndC k)) () nMsg))
def sndAfter (c : Dev nD) (k : Msg) : sProp 𝕄 :=
  iprop(atPos ER (gcell (c, sndC k)) 1 ∅ 0 ∗ piece m (srcShare k) c (srcPiece k))
def sndSt (c : Dev nD) (n : ℕ) (k : Msg) : sProp 𝕄 :=
  if used k then
    if (Ev.swait k).done n then sndAfter m c k
    else if (Ev.send k).done n then sndDuring c k
    else sndBefore m c (ready n k) k
  else atPos ER (gcell (c, sndC k)) 0 ∅ 0

/-! ## Messages received -/

/-- Message `k` landed: the right half of the piece's share to compute with, the left half if it is not passed on. -/
def rcvAfter (c : Dev nD) (k : Msg) : sProp 𝕄 :=
  iprop(atPos ER (gcell (c, rcvC k)) 1 ∅ 0 ∗ piece m fullShare.right c (dstPiece k)
    ∗ (if fwd k then iprop(emp) else piece m fullShare.left c (dstPiece k)))
def rcvBefore (c : Dev nD) (k : Msg) : sProp 𝕄 :=
  iprop(atPos ER (gcell (c, rcvC k)) 0 ∅ 0 ∗ cred (tallyAt (gcell (c, rcvC k)) () nMsg))
def rcvSt (c : Dev nD) (n : ℕ) (k : Msg) : sProp 𝕄 :=
  if used k then
    if (Ev.recv k).done n then rcvAfter m c k else rcvBefore c k
  else atPos ER (gcell (c, rcvC k)) 0 ∅ 0

/-! ## Regions of the result -/

def regBefore (c : Dev nD) (u : Fin 17) : sProp 𝕄 :=
  iprop(accAny c u ∗ outAny c u ∗ dutyTok ER (gcell (c, stC u)) 0 false ∗ atPos ER (gcell (c, stC u)) 0 ∅ 0)
def regStored (c : Dev nD) (u : Fin 17) : sProp 𝕄 :=
  iprop(accDone m c u ∗ outAny c u ∗ dutyTok ER (gcell (c, stC u)) 0 false ∗ atPos ER (gcell (c, stC u)) 0 ∅ 0)
def regDuring (c : Dev nD) (u : Fin 17) : sProp 𝕄 :=
  iprop(cred (tallyAt (gcell (c, stC u)) () (nSt u)) ∗ atPos ER (gcell (c, stC u)) 0 ∅ 0)
def regAfter (c : Dev nD) (u : Fin 17) : sProp 𝕄 :=
  iprop(outDone m c u ∗ accDone m c u ∗ atPos ER (gcell (c, stC u)) 1 ∅ 0)
def regSt (c : Dev nD) (n : ℕ) (u : Fin 17) : sProp 𝕄 :=
  if (Ev.twait u).done n then regAfter m c u
  else if (Ev.copy u).done n then regDuring c u
  else if (Ev.acc u).done n then regStored m c u
  else regBefore c u

/-! ## The right operand -/

def wbAny (c : Dev nD) : sProp 𝕄 :=
  iprop(∃ f : Buf (Elt F) ((c : Thread nD τ).loc cc0_scratch1), ((c : Thread nD τ).loc cc0_scratch1) ↦{fullShare} f)
def wbDone (c : Dev nD) : sProp 𝕄 :=
  iprop(((c : Thread nD τ).loc cc0_scratch1) ↦{fullShare} (wbf m c : Buf (Elt F) ((c : Thread nD τ).loc cc0_scratch1)))
def wSt (c : Dev nD) (n : ℕ) : sProp 𝕄 :=
  if Ev.wwait.done n then
    iprop(atPos ER (gcell (c, ldC 1)) 1 ∅ 0 ∗ wVmem m c ∗ wHbm m c ∗ (if Ev.wstore.done n then wbDone m c else wbAny c))
  else
    iprop(atPos ER (gcell (c, ldC 1)) 0 ∅ 0 ∗ cred (tallyAt (gcell (c, ldC 1)) () (nLd 1)) ∗ wbAny c)

/-! ## All of it -/

def sndAll (c : Dev nD) (n : ℕ) : sProp 𝕄 := bigSep Finset.univ (sndSt m c n)
def rcvAll (c : Dev nD) (n : ℕ) : sProp 𝕄 := bigSep Finset.univ (rcvSt m c n)
def regAll (c : Dev nD) (n : ℕ) : sProp 𝕄 := bigSep Finset.univ (regSt m c n)
/-- The half share of its own block that a device computes with. -/
def ownBlk (c : Dev nD) : sProp 𝕄 := iprop(piece m fullShare.right c (0, 0) ∗ piece m fullShare.right c (0, 1))

def St (c : Dev nD) (n : ℕ) : sProp 𝕄 :=
  iprop(recs m K ∗ levAts L lv ∗ (∃ W, owes (c : Thread nD τ) (owed c n) W) ∗ sndAll m c n ∗ rcvAll m c n ∗ regAll m c n ∗ wSt m c n ∗ ownBlk m c)

/-! ## Stepping changes only one's own -/

section Step
variable (c : Dev nD) {n : ℕ} {e : Ev} (hn : e.time = n)
include hn

theorem ready_other (k : Msg) (h : 4 ≤ k.val → e ≠ .recv (k - 4)) : ready (n + 1) k = ready n k := by
  unfold ready
  split
  · rfl
  · rw [done_other hn fun h' => h (by omega) h'.symm]
theorem sndSt_other (k : Msg) (h1 : e ≠ .send k) (h2 : e ≠ .swait k) (h3 : 4 ≤ k.val → e ≠ .recv (k - 4)) : sndSt m c (n + 1) k = sndSt m c n k := by
  unfold sndSt
  rw [done_other hn h1.symm, done_other hn h2.symm, ready_other hn k h3]
theorem rcvSt_other (k : Msg) (h : e ≠ .recv k) : rcvSt m c (n + 1) k = rcvSt m c n k := by
  unfold rcvSt
  rw [done_other hn h.symm]
theorem regSt_other (u : Fin 17) (h1 : e ≠ .acc u) (h2 : e ≠ .copy u) (h3 : e ≠ .twait u) : regSt m c (n + 1) u = regSt m c n u := by
  unfold regSt
  rw [done_other hn h1.symm, done_other hn h2.symm, done_other hn h3.symm]
theorem wSt_other (h1 : e ≠ .wwait) (h2 : e ≠ .wstore) : wSt m c (n + 1) = wSt m c n := by
  unfold wSt
  rw [done_other hn h1.symm, done_other hn h2.symm]
theorem sndAll_other (h1 : ∀ k, e ≠ .send k) (h2 : ∀ k, e ≠ .swait k) (h3 : ∀ k, e ≠ .recv k) : sndAll m c (n + 1) = sndAll m c n := by
  unfold sndAll
  exact congrArg _ (funext fun k => sndSt_other m c hn k (h1 k) (h2 k) fun _ => h3 _)
theorem rcvAll_other (h : ∀ k, e ≠ .recv k) : rcvAll m c (n + 1) = rcvAll m c n := by
  unfold rcvAll
  exact congrArg _ (funext fun k => rcvSt_other m c hn k (h k))
theorem regAll_other (h1 : ∀ u, e ≠ .acc u) (h2 : ∀ u, e ≠ .copy u) (h3 : ∀ u, e ≠ .twait u) : regAll m c (n + 1) = regAll m c n := by
  unfold regAll
  exact congrArg _ (funext fun u => regSt_other m c hn u (h1 u) (h2 u) (h3 u))

end Step

/-! ## What is held when -/

theorem ready_send (k : Msg) (hu : used k = true) : ready (Ev.send k).time k = true := by revert k; decide +kernel
theorem swait_after_send (k : Msg) (hu : used k = true) : (Ev.swait k).done (Ev.send k).time = false := by revert k; decide +kernel
theorem sent_at_swait (k : Msg) (hu : used k = true) : (Ev.send k).done (Ev.swait k).time = true := by revert k; decide +kernel

theorem sndSt_send (c : Dev nD) {n : ℕ} {k : Msg} (hu : used k = true) (hn : (Ev.send k).time = n) : sndSt m c n k = sndBefore m c true k := by
  subst hn
  unfold sndSt
  rw [if_pos hu, swait_after_send k hu, done_self rfl, ready_send k hu]; rfl
theorem sndSt_sent (c : Dev nD) {n : ℕ} {k : Msg} (hu : used k = true) (hn : (Ev.send k).time = n) : sndSt m c (n + 1) k = sndDuring c k := by
  unfold sndSt
  rw [if_pos hu, done_next hn, done_other hn (by intro h; cases h), show (Ev.swait k).done n = false by rw [← hn]; exact swait_after_send k hu]; rfl
theorem sndSt_swait (c : Dev nD) {n : ℕ} {k : Msg} (hu : used k = true) (hn : (Ev.swait k).time = n) : sndSt m c n k = sndDuring c k := by
  unfold sndSt
  rw [if_pos hu, done_self hn, show (Ev.send k).done n = true by rw [← hn]; exact sent_at_swait k hu]; rfl
theorem sndSt_after (c : Dev nD) {n : ℕ} {k : Msg} (hu : used k = true) (hn : (Ev.swait k).time < n) : sndSt m c n k = sndAfter m c k := by
  unfold sndSt
  rw [if_pos hu, done_of_lt hn]; rfl

theorem rcvSt_recv (c : Dev nD) {n : ℕ} {k : Msg} (hu : used k = true) (hn : (Ev.recv k).time = n) : rcvSt m c n k = rcvBefore c k := by
  unfold rcvSt
  rw [if_pos hu, done_self hn]; rfl
theorem rcvSt_after (c : Dev nD) {n : ℕ} {k : Msg} (hu : used k = true) (hn : (Ev.recv k).time < n) : rcvSt m c n k = rcvAfter m c k := by
  unfold rcvSt
  rw [if_pos hu, done_of_lt hn]; rfl

/-- The message that passes message `k` on waits for it, then has its source. -/
theorem next_facts (k : Msg) (h : fwd k = true) : used (nextMsg k) = true ∧ 4 ≤ (nextMsg k).val ∧ nextMsg k - 4 = k
    ∧ (Ev.swait (nextMsg k)).done (Ev.recv k).time = false ∧ (Ev.send (nextMsg k)).done (Ev.recv k).time = false
    ∧ srcShare (nextMsg k) = fullShare.left := by
  have h' : used (nextMsg k) = true ∧ 4 ≤ (nextMsg k).val ∧ nextMsg k - 4 = k
    ∧ (Ev.swait (nextMsg k)).done (Ev.recv k).time = false ∧ (Ev.send (nextMsg k)).done (Ev.recv k).time = false := by
    revert k; decide +kernel
  refine ⟨h'.1, h'.2.1, h'.2.2.1, h'.2.2.2.1, h'.2.2.2.2, ?_⟩
  unfold srcShare; exact if_neg (by omega)
theorem sndSt_waiting (c : Dev nD) {n : ℕ} {k : Msg} (hf : fwd k = true) (hn : (Ev.recv k).time = n) :
    sndSt m c n (nextMsg k) = sndBefore m c false (nextMsg k) := by
  obtain ⟨hu, h4, hk, h1, h2, -⟩ := next_facts k hf
  rw [hn] at h1 h2
  unfold sndSt
  rw [if_pos hu, h1, h2, show ready n (nextMsg k) = false by unfold ready; rw [if_neg (by omega), hk]; exact done_self hn]; rfl
theorem sndSt_ready (c : Dev nD) {n : ℕ} {k : Msg} (hf : fwd k = true) (hn : (Ev.recv k).time = n) :
    sndSt m c (n + 1) (nextMsg k) = sndBefore m c true (nextMsg k) := by
  obtain ⟨hu, h4, hk, h1, h2, -⟩ := next_facts k hf
  rw [hn] at h1 h2
  unfold sndSt
  rw [if_pos hu, done_other hn (by intro h; cases h), done_other hn (by intro h; cases h), h1, h2,
    show ready (n + 1) (nextMsg k) = true by unfold ready; rw [if_neg (by omega), hk]; exact done_next hn]; rfl

theorem acc_facts (u : Fin 17) : (Ev.twait u).done (Ev.acc u).time = false ∧ (Ev.copy u).done (Ev.acc u).time = false
    ∧ (Ev.twait u).done (Ev.copy u).time = false ∧ (Ev.acc u).done (Ev.copy u).time = true ∧ (Ev.copy u).done (Ev.twait u).time = true := by
  revert u; decide +kernel
theorem regSt_acc (c : Dev nD) {n : ℕ} {u : Fin 17} (hn : (Ev.acc u).time = n) : regSt m c n u = regBefore c u := by
  obtain ⟨h1, h2, -⟩ := acc_facts u
  rw [hn] at h1 h2
  unfold regSt; rw [h1, h2, done_self hn]; rfl
theorem regSt_stored (c : Dev nD) {n : ℕ} {u : Fin 17} (hn : (Ev.acc u).time = n) : regSt m c (n + 1) u = regStored m c u := by
  obtain ⟨h1, h2, -⟩ := acc_facts u
  rw [hn] at h1 h2
  unfold regSt; rw [done_other hn (by intro h; cases h), done_other hn (by intro h; cases h), h1, h2, done_next hn]; rfl
theorem regSt_copy (c : Dev nD) {n : ℕ} {u : Fin 17} (hn : (Ev.copy u).time = n) : regSt m c n u = regStored m c u := by
  obtain ⟨-, -, h1, h2, -⟩ := acc_facts u
  rw [hn] at h1 h2
  unfold regSt; rw [h1, h2, done_self hn]; rfl
theorem regSt_copied (c : Dev nD) {n : ℕ} {u : Fin 17} (hn : (Ev.copy u).time = n) : regSt m c (n + 1) u = regDuring c u := by
  obtain ⟨-, -, h1, h2, -⟩ := acc_facts u
  rw [hn] at h1 h2
  unfold regSt; rw [done_other hn (by intro h; cases h), h1, done_next hn]; rfl
theorem regSt_twait (c : Dev nD) {n : ℕ} {u : Fin 17} (hn : (Ev.twait u).time = n) : regSt m c n u = regDuring c u := by
  obtain ⟨-, -, -, -, h1⟩ := acc_facts u
  rw [hn] at h1
  unfold regSt; rw [h1, done_self hn]; rfl
theorem regSt_after (c : Dev nD) {n : ℕ} {u : Fin 17} (hn : (Ev.twait u).time < n) : regSt m c n u = regAfter m c u := by
  unfold regSt; rw [done_of_lt hn]; rfl

/-! ## A slot of the gathering buffer to compute with -/

omit [FloatOps F] in
/-- Two pieces at a share are a slot at it. -/
theorem slot_join (c : Dev nD) (s : Fin 16) (q : PosShare TreeShare) (f : Buf (Elt F) ((c : Thread nD τ).loc cc0_scratch0)) :
    ((((c : Thread nD τ).loc cc0_scratch0) ↦[slotSet s]{q} f : sProp 𝕄))
      ⊣⊢ iprop((((c : Thread nD τ).loc cc0_scratch0) ↦[pieceSet (s, 0)]{q} f) ∗ (((c : Thread nD τ).loc cc0_scratch0) ↦[pieceSet (s, 1)]{q} f)) := by
  rw [← piece_union s]
  exact pointsTo_union (piece_disjoint s)

end Cert.RingProof

end
-- ==== Proof.Steps.lean ====
/-
# The events of the body, one rule each

A rule takes an operation at the head of a program and the state before it, and asks for the rest of the program from the
state after it.  Offsets, semaphores and devices are those the program writes, with what they are as hypotheses.
-/
module

public import proofs.«01_k».proof.Proof.State

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

abbrev 𝒱₀ : Variants := Variants.none
/-- The weakest precondition of a program of device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Sending -/

/-- A piece's share in halves. -/
theorem piece_share (c : Dev nD) (P : Piece) (q : PosShare TreeShare) :
    piece m q c P ⊣⊢ iprop(piece m q.left c P ∗ piece m q.right c P) := by
  unfold piece
  exact pointsTo_share (PosShare.mem_left_op_right q)

section
variable (c : Dev nD) {n : ℕ}

theorem step_send {α : Type} {Q : α → sProp 𝕄} {R : sProp 𝕄} {kk : PUnit → Prog (TpuEff nD τ sig (Elt F) Λ₀ .tc) α}
    (k : Msg) (hu : used k = true) (hn : (Ev.send k).time = n) {d : Dev nD} (hd : d = peer k c)
    {sS sR : DmaSem sig} (hS : sS = sndSem k) (hR : sR = rcvSem k) {o o' : Fin 3 → ℕ} {inb inb'} (ho : o = pieceOff (srcPiece k))
    (ho' : o' = pieceOff (dstPiece k))
    {hsc : (pieceM o' inb' : Memref sig (Dev.tc d : Thread nD τ).2.kind .vmem S128x4096 .fp8e4m3).view.ref.isScScratch = false}
    {hsrc : (pieceM o inb).view.WordExact} {hdst : (pieceM o' inb').view.WordExact}
    {hsem : DmaTarget.Typed .vmem (.dma sR) (.remote (Dev.tc d : Thread nD τ) (pieceM o' inb') (.dma sS) hsc)}
    (h : iprop(St m K c (n + 1) ∗ R) ⊢ WP c (kk ⟨⟩) Q) :
    iprop(St m K c n ∗ R) ⊢ WP c (.op (.enqueueDma (pieceM o inb) (.remote (Dev.tc d : Thread nD τ) (pieceM o' inb') (.dma sS) hsc) (.dma sR) hsrc hdst hsem) kk) Q := by
  subst hd hS hR
  have hupd := bigSep_univ_update (Φ := sndSt m c n) (Ψ := sndSt m c (n + 1)) k fun j hj =>
    sndSt_other m c hn j (fun h => hj (Ev.send.inj h).symm) (by intro h; cases h) (by intro _ h; cases h)
  rw [sndSt_send m c hu hn, sndSt_sent m c hu hn] at hupd
  unfold sndBefore at hupd
  rw [if_pos rfl] at hupd
  unfold St
  iintro ⟨⟨#Hr, #Hl, ⟨%W, HO⟩, Hs, Hv, Hg, Hw, Hb⟩, HR⟩
  unfold sndAll
  ihave Hs' := hupd $$ [Hs]; · iexact Hs
  icases Hs' with ⟨Hk, Hclose⟩
  unfold pieceAny piece
  icases Hk with ⟨Hat, Ht1, Ht2, ⟨%fd, Hd⟩, Hsrc⟩
  ihave #H1 := recs_get m K (c, sndC k) $$ Hr
  icases H1 with ⟨#HI1, #Hr1⟩
  ihave #H2 := recs_get m K (peer k c, rcvC k) $$ Hr
  icases H2 with ⟨#HI2, #Hr2⟩
  iapply (Rounds.wp_send_pointsTo 𝒱₀ ER (Rd m) (c : Thread nD τ) none (c' := ((peer k c : Dev nD) : Thread nD τ)) (κ₁ := K (c, sndC k)) (κ₂ := K (peer k c, rcvC k))
    (r₁ := 0) (r₂ := 0) (d₁ := false) (d₂ := false) (fd := fd) (q := srcShare k) (fs := bufc m c)
    (src := pieceM o inb) (dst := pieceM o' inb') (hsc := hsc) (hsrc := hsrc) (hdst := hdst) (hsem := hsem) (k := kk) (Q := Q) (Es := Set.univ)
    (single_mem m c (dutiesOf_snd hu)) (single_mem m (peer k c) (dutiesOf_rcv hu))
    () () nMsg rfl (amt_snd k) (amt_rcv k) (owed c (n + 1)) (owed_send c hu hn) (W := W)
    (by
      rw [pieceM_set ho]
      exact Entails.of_eq (pay_snd m c k false).symm)
    (by
      refine BI.Entails.trans ?_ (Entails.of_eq (pay_rcv m (peer k c) k false).symm)
      rw [pieceM_set ho']
      exact Entails.of_eq (pointsTo_congr (piece_landed m c k ho ho' fd)))) $$ [HO Ht1 Ht2 Hd Hsrc]
  · isplitr; · iexact HI1
    isplitr; · iexact HI2
    isplitl [Hsrc]; · rw [pieceM_set ho]; iexact Hsrc
    isplitl [Hd]; · rw [pieceM_set ho']; iexact Hd
    isplitl [HO]; · iexact HO
    isplitl [Ht1]; · iexact Ht1
    isplitr; · iexact Hr1
    isplitl [Ht2]; · iexact Ht2
    iexact Hr2
  iintro ⟨Hc, HO⟩
  iapply h
  isplitr [HR]; rotate_left; · iexact HR
  unfold St
  isplitr; · iexact Hr
  isplitr; · iexact Hl
  isplitl [HO]; · iexists W; iexact HO
  rw [rcvAll_other m c hn (by intro _ h; cases h), regAll_other m c hn (by intro _ h; cases h) (by intro _ h; cases h) (by intro _ h; cases h),
    wSt_other m c hn (by intro h; cases h) (by intro h; cases h)]
  isplitl [Hat Hc Hclose]
  · unfold sndAll
    iapply Hclose
    unfold sndDuring
    isplitl [Hat]; · iexact Hat
    iexact Hc
  isplitl [Hv]; · iexact Hv
  isplitl [Hg]; · iexact Hg
  isplitl [Hw]; · iexact Hw
  iexact Hb

/-! ## Waiting -/

/-- A wait on one of the device's own cells, owing `O`: the cell's payload. -/
theorem wait_cell {α : Type} {Q : α → sProp 𝕄} {kk : PUnit → Prog (TpuEff nD τ sig (Elt F) Λ₀ .tc) α} {q : DmaSem sig} (hq : dutiesOf (role (.dma q)) = {false})
    (κ : ℕ) (O : CellTallies nD τ sig Unit) (W : Waits sig Unit)
    {sp sp' : Space} {s s' : Shape} {e e' : EltTy} {src : Memref sig .tc sp s e} {dst : Memref sig .tc sp' s' e'}
    {hsrc : src.view.WordExact} {hdst : dst.view.WordExact} {N : ℕ} (hN : dst.view.dmaCredit = N) (hN' : N = amtOf (role (.dma q))) :
    iprop(cellInv ER (Rd m) κ ((c : Thread nD τ), .dma q) ∗ cred (tallyAt ((c : Thread nD τ), SemLoc.dma q) () N) ∗ owes (c : Thread nD τ) O W
        ∗ MayWait (c : Thread nD τ) (.dma q) () O ∗ atPos ER ((c : Thread nD τ), .dma q) 0 ∅ 0)
      ⊢ iprop((((∃ W, owes (c : Thread nD τ) O W) ∗ atPos ER ((c : Thread nD τ), .dma q) 1 ∅ 0 ∗ payOf m c (role (.dma q)) false) -∗ WP c (kk ⟨⟩) Q)
          -∗ WP c (.op (.waitDma2 q src dst hsrc hdst) kk) Q) := by
  iintro ⟨#HI, Hc, HO, HM, Hat⟩ Hk
  iapply (Rounds.wp_wait_rest_token 𝒱₀ ER (Rd m) (c : Thread nD τ) none (κ := κ)
      (wpE_waitDma2_eq 𝒱₀ (c : Thread nD τ) none Set.univ) (Set.mem_univ _) () (O := O) (W := W) (R := 0) (m := 0) (T := ∅)
      (by rw [Nat.zero_add, single_expect m c hq, hN, hN'])) $$ [Hc HO HM Hat]
  · isplitr; · iexact HI
    isplitl [Hc]; · rw [hN]; iexact Hc
    isplitl [HO]; · iexact HO
    isplitl [HM]; · iexact HM
    iexact Hat
  iintro ⟨HO, Hat, -, Hpay⟩
  iapply Hk
  isplitl [HO]; · iexists _; iexact HO
  isplitl [Hat]; · iexact Hat
  iapply (Entails.of_eq (single_rest m c hq)); iexact Hpay

/-- A message landed: what is sent on is at hand. -/
theorem snd_landed {n : ℕ} (k : Msg) (hu : used k = true) (hn : (Ev.recv k).time = n) :
    iprop(sndAll m c n ∗ piece m fullShare.left c (dstPiece k))
      ⊢ iprop(sndAll m c (n + 1) ∗ (if fwd k then iprop(emp) else piece m fullShare.left c (dstPiece k))) := by
  unfold sndAll
  by_cases hf : fwd k = true
  · have hupd := bigSep_univ_update (Φ := sndSt m c n) (Ψ := sndSt m c (n + 1)) (nextMsg k) fun j hj =>
      sndSt_other m c hn j (by intro h; cases h) (by intro h; cases h) (by
        intro h4 h
        refine hj ?_
        have : k = j - 4 := Ev.recv.inj h
        subst this
        show j = j - 4 + 4
        exact (sub_add_cancel j 4).symm)
    obtain ⟨-, -, -, -, -, hq⟩ := next_facts k hf
    rw [sndSt_waiting m c hf hn, sndSt_ready m c hf hn] at hupd
    rw [if_pos hf]
    unfold sndBefore at hupd
    rw [if_neg (by decide), if_pos rfl, hq, srcPiece_next k hf] at hupd
    iintro ⟨Hs, Hp⟩
    ihave Hs' := hupd $$ [Hs]; · iexact Hs
    icases Hs' with ⟨⟨Hat, Ht1, Ht2, Hd, -⟩, Hclose⟩
    isplitl [Hat Ht1 Ht2 Hd Hp Hclose]; swap; · iempintro
    iapply Hclose
    isplitl [Hat]; · iexact Hat
    isplitl [Ht1]; · iexact Ht1
    isplitl [Ht2]; · iexact Ht2
    isplitl [Hd]; · iexact Hd
    iexact Hp
  · rw [if_neg hf, show sndSt m c (n + 1) = sndSt m c n from funext fun j => by
      by_cases hj : used j = true
      · refine sndSt_other m c hn j (by intro h; cases h) (by intro h; cases h) ?_
        intro h4 h
        have hk : k = j - 4 := Ev.recv.inj h
        refine hf ?_
        rw [hk]
        have : ∀ j : Msg, used j = true → 4 ≤ j.val → fwd (j - 4) = true := by decide +kernel
        exact this j hj h4
      · unfold sndSt; rw [if_neg hj, if_neg hj]]

theorem step_recv {α : Type} {Q : α → sProp 𝕄} {R : sProp 𝕄} {kk : PUnit → Prog (TpuEff nD τ sig (Elt F) Λ₀ .tc) α}
    (k : Msg) (hu : used k = true) (hn : (Ev.recv k).time = n) {q : DmaSem sig} (hq : q = rcvSem k)
    {sp : Space} {s : Shape} {e : EltTy} {src : Memref sig .tc sp s e} {o : Fin 3 → ℕ} {inb}
    {hsrc : src.view.WordExact} {hdst : (pieceM o inb).view.WordExact}
    (h : iprop(St m K c (n + 1) ∗ R) ⊢ WP c (kk ⟨⟩) Q) :
    iprop(St m K c n ∗ R) ⊢ WP c (.op (.waitDma2 q src (pieceM o inb) hsrc hdst) kk) Q := by
  subst hq
  have hupd := bigSep_univ_update (Φ := rcvSt m c n) (Ψ := rcvSt m c (n + 1)) k fun j hj =>
    rcvSt_other m c hn j (fun h => hj (Ev.recv.inj h).symm)
  rw [rcvSt_recv m c hu hn, rcvSt_after m c hu (n := n + 1) (by omega)] at hupd
  have hwait := fun W => wait_cell (Q := Q) (kk := kk) (src := src) (dst := pieceM o inb) (hsrc := hsrc) (hdst := hdst) m c (dutiesOf_rcv hu) (K (c, rcvC k)) (owed c n) W (N := nMsg) rfl (amt_rcv k).symm
  have hsplit := piece_share m c (dstPiece k) fullShare
  have hland := snd_landed m c k hu hn
  rw [pay_rcv] at hwait
  unfold St
  iintro ⟨⟨#Hr, #Hl, ⟨%W, HO⟩, Hs, Hv, Hg, Hw, Hb⟩, HR⟩
  unfold rcvAll
  ihave Hv' := hupd $$ [Hv]; · iexact Hv
  unfold rcvBefore
  icases Hv' with ⟨⟨Hat, Hc⟩, Hclose⟩
  ihave #H1 := recs_get m K (c, rcvC k) $$ Hr
  icases H1 with ⟨#HI1, #Hr1⟩
  iapply (hwait W) $$ [HO Hc Hat]
  · isplitr; · iexact HI1
    isplitl [Hc]; · iexact Hc
    isplitl [HO]; · iexact HO
    isplitr; · iapply (mayWait_recv c hu hn); iexact Hl
    iexact Hat
  iintro ⟨HO, Hat, Hp⟩
  ihave Hp' := hsplit.1 $$ [Hp]; · iexact Hp
  icases Hp' with ⟨Hpl, Hpr⟩
  ihave Hs' := hland $$ [Hs Hpl]
  · isplitl [Hs]; · iexact Hs
    iexact Hpl
  icases Hs' with ⟨Hs, Hpl⟩
  iapply h
  isplitr [HR]; rotate_left; · iexact HR
  unfold St
  isplitr; · iexact Hr
  isplitr; · iexact Hl
  rw [owed_other c hn (by intro _ h; cases h), regAll_other m c hn (by intro _ h; cases h) (by intro _ h; cases h) (by intro _ h; cases h),
    wSt_other m c hn (by intro h; cases h) (by intro h; cases h)]
  isplitl [HO]; · iexact HO
  isplitl [Hs]; · iexact Hs
  isplitl [Hat Hpl Hpr Hclose]
  · unfold rcvAll
    iapply Hclose
    unfold rcvAfter
    isplitl [Hat]; · iexact Hat
    isplitl [Hpr]; · iexact Hpr
    iexact Hpl
  isplitl [Hg]; · iexact Hg
  isplitl [Hw]; · iexact Hw
  iexact Hb

theorem step_swait {α : Type} {Q : α → sProp 𝕄} {R : sProp 𝕄} {kk : PUnit → Prog (TpuEff nD τ sig (Elt F) Λ₀ .tc) α}
    (k : Msg) (hu : used k = true) (hn : (Ev.swait k).time = n) {q : DmaSem sig} (hq : q = sndSem k)
    {sp : Space} {s : Shape} {e : EltTy} {src : Memref sig .tc sp s e} {o : Fin 3 → ℕ} {inb}
    {hsrc : src.view.WordExact} {hdst : (pieceM o inb).view.WordExact}
    (h : iprop(St m K c (n + 1) ∗ R) ⊢ WP c (kk ⟨⟩) Q) :
    iprop(St m K c n ∗ R) ⊢ WP c (.op (.waitDma2 q src (pieceM o inb) hsrc hdst) kk) Q := by
  subst hq
  have hupd := bigSep_univ_update (Φ := sndSt m c n) (Ψ := sndSt m c (n + 1)) k fun j hj =>
    sndSt_other m c hn j (by intro h; cases h) (fun h => hj (Ev.swait.inj h).symm) (by intro _ h; cases h)
  rw [sndSt_swait m c hu hn, sndSt_after m c hu (n := n + 1) (by omega)] at hupd
  have hwait := fun W => wait_cell (Q := Q) (kk := kk) (src := src) (dst := pieceM o inb) (hsrc := hsrc) (hdst := hdst) m c (dutiesOf_snd hu) (K (c, sndC k)) (owed c n) W (N := nMsg) rfl (amt_snd k).symm
  rw [pay_snd] at hwait
  unfold St
  iintro ⟨⟨#Hr, #Hl, ⟨%W, HO⟩, Hs, Hv, Hg, Hw, Hb⟩, HR⟩
  unfold sndAll
  ihave Hs' := hupd $$ [Hs]; · iexact Hs
  unfold sndDuring
  icases Hs' with ⟨⟨Hat, Hc⟩, Hclose⟩
  ihave #H1 := recs_get m K (c, sndC k) $$ Hr
  icases H1 with ⟨#HI1, #Hr1⟩
  iapply (hwait W) $$ [HO Hc Hat]
  · isplitr; · iexact HI1
    isplitl [Hc]; · iexact Hc
    isplitl [HO]; · iexact HO
    isplitr; · iapply (mayWait_low c (.dma (sndSem k)) (by rw [role_snd]; rfl) n); iexact Hl
    iexact Hat
  iintro ⟨HO, Hat, Hp⟩
  iapply h
  isplitr [HR]; rotate_left; · iexact HR
  unfold St
  isplitr; · iexact Hr
  isplitr; · iexact Hl
  rw [owed_other c hn (by intro _ h; cases h), rcvAll_other m c hn (by intro _ h; cases h),
    regAll_other m c hn (by intro _ h; cases h) (by intro _ h; cases h) (by intro _ h; cases h), wSt_other m c hn (by intro h; cases h) (by intro h; cases h)]
  isplitl [HO]; · iexact HO
  isplitl [Hat Hp Hclose]
  · unfold sndAll
    iapply Hclose
    unfold sndAfter
    isplitl [Hat]; · iexact Hat
    iexact Hp
  isplitl [Hv]; · iexact Hv
  isplitl [Hg]; · iexact Hg
  isplitl [Hw]; · iexact Hw
  iexact Hb

/-- The wait for a region's copy. -/
theorem step_twait {α : Type} {Q : α → sProp 𝕄} {R : sProp 𝕄} {kk : PUnit → Prog (TpuEff nD τ sig (Elt F) Λ₀ .tc) α}
    (u : Fin 17) (hn : (Ev.twait u).time = n) {q : DmaSem sig} (hq : q = stSem u)
    {sp sp' : Space} {s s' : Shape} {e e' : EltTy} {src : Memref sig .tc sp s e} {dst : Memref sig .tc sp' s' e'}
    {hsrc : src.view.WordExact} {hdst : dst.view.WordExact} (hN : dst.view.dmaCredit = nSt u)
    (h : iprop(St m K c (n + 1) ∗ R) ⊢ WP c (kk ⟨⟩) Q) :
    iprop(St m K c n ∗ R) ⊢ WP c (.op (.waitDma2 q src dst hsrc hdst) kk) Q := by
  subst hq
  have hupd := bigSep_univ_update (Φ := regSt m c n) (Ψ := regSt m c (n + 1)) u fun j hj =>
    regSt_other m c hn j (by intro h; cases h) (by intro h; cases h) (fun h => hj (Ev.twait.inj h).symm)
  rw [regSt_twait m c hn, regSt_after m c (n := n + 1) (u := u) (by omega)] at hupd
  have hwait := fun W => wait_cell (Q := Q) (kk := kk) (src := src) (dst := dst) (hsrc := hsrc) (hdst := hdst) m c (dutiesOf_st u) (K (c, stC u)) (owed c n) W (N := nSt u) hN (amt_st u).symm
  rw [pay_st] at hwait
  unfold St
  iintro ⟨⟨#Hr, #Hl, ⟨%W, HO⟩, Hs, Hv, Hg, Hw, Hb⟩, HR⟩
  unfold regAll
  ihave Hg' := hupd $$ [Hg]; · iexact Hg
  unfold regDuring
  icases Hg' with ⟨⟨Hc, Hat⟩, Hclose⟩
  ihave #H1 := recs_get m K (c, stC u) $$ Hr
  icases H1 with ⟨#HI1, #Hr1⟩
  iapply (hwait W) $$ [HO Hc Hat]
  · isplitr; · iexact HI1
    isplitl [Hc]; · iexact Hc
    isplitl [HO]; · iexact HO
    isplitr; · iapply (mayWait_low c (.dma (stSem u)) (by rw [role_st]; rfl) n); iexact Hl
    iexact Hat
  iintro ⟨HO, Hat, ⟨Hp, Ha⟩⟩
  iapply h
  isplitr [HR]; rotate_left; · iexact HR
  unfold St
  isplitr; · iexact Hr
  isplitr; · iexact Hl
  rw [owed_other c hn (by intro _ h; cases h), rcvAll_other m c hn (by intro _ h; cases h),
    sndAll_other m c hn (by intro _ h; cases h) (by intro _ h; cases h) (by intro _ h; cases h), wSt_other m c hn (by intro h; cases h) (by intro h; cases h)]
  isplitl [HO]; · iexact HO
  isplitl [Hs]; · iexact Hs
  isplitl [Hv]; · iexact Hv
  isplitl [Hat Hp Ha Hclose]
  · unfold regAll
    iapply Hclose
    unfold regAfter
    isplitl [Hp]; · iexact Hp
    isplitl [Ha]; · iexact Ha
    iexact Hat
  isplitl [Hw]; · iexact Hw
  iexact Hb

/-- The wait for the right operand. -/
theorem step_wwait {α : Type} {Q : α → sProp 𝕄} {R : sProp 𝕄} {kk : PUnit → Prog (TpuEff nD τ sig (Elt F) Λ₀ .tc) α}
    (hn : Ev.wwait.time = n) {q : DmaSem sig} (hq : q = ldSem 1)
    {sp : Space} {s : Shape} {e : EltTy} {src : Memref sig .tc sp s e}
    {hsrc : src.view.WordExact} {hdst : (wvM : Memref sig .tc .vmem S4096x512 .f32).view.WordExact}
    (h : iprop(St m K c (n + 1) ∗ R) ⊢ WP c (kk ⟨⟩) Q) :
    iprop(St m K c n ∗ R) ⊢ WP c (.op (.waitDma2 q src wvM hsrc hdst) kk) Q := by
  subst hq
  have e1 : wSt m c n = iprop(atPos ER (gcell (c, ldC 1)) 0 ∅ 0 ∗ cred (tallyAt (gcell (c, ldC 1)) () (nLd 1)) ∗ wbAny c) := by
    unfold wSt; rw [done_self hn]; rfl
  have e2 : wSt m c (n + 1) = iprop(atPos ER (gcell (c, ldC 1)) 1 ∅ 0 ∗ wVmem m c ∗ wHbm m c ∗ wbAny c) := by
    unfold wSt; rw [done_next hn, show Ev.wstore.done (n + 1) = false by rw [← hn]; rfl]; rfl
  have hwait := fun W => wait_cell (Q := Q) (kk := kk) (src := src) (dst := wvM) (hsrc := hsrc) (hdst := hdst) m c (dutiesOf_ld 1) (K (c, ldC 1)) (owed c n) W (N := nLd 1) rfl (amt_ld 1).symm
  rw [pay_ld1] at hwait
  unfold St
  rw [e1]
  iintro ⟨⟨#Hr, #Hl, ⟨%W, HO⟩, Hs, Hv, Hg, ⟨Hat, Hc, Hany⟩, Hb⟩, HR⟩
  ihave #H1 := recs_get m K (c, ldC 1) $$ Hr
  icases H1 with ⟨#HI1, #Hr1⟩
  iapply (hwait W) $$ [HO Hc Hat]
  · isplitr; · iexact HI1
    isplitl [Hc]; · iexact Hc
    isplitl [HO]; · iexact HO
    isplitr; · iapply (mayWait_low c (.dma (ldSem 1)) (by rw [role_ld]; rfl) n); iexact Hl
    iexact Hat
  iintro ⟨HO, Hat, ⟨Hp, Ha⟩⟩
  iapply h
  isplitr [HR]; rotate_left; · iexact HR
  unfold St
  isplitr; · iexact Hr
  isplitr; · iexact Hl
  rw [owed_other c hn (by intro _ h; cases h), rcvAll_other m c hn (by intro _ h; cases h),
    sndAll_other m c hn (by intro _ h; cases h) (by intro _ h; cases h) (by intro _ h; cases h),
    regAll_other m c hn (by intro _ h; cases h) (by intro _ h; cases h) (by intro _ h; cases h), e2]
  isplitl [HO]; · iexact HO
  isplitl [Hs]; · iexact Hs
  isplitl [Hv]; · iexact Hv
  isplitl [Hg]; · iexact Hg
  isplitr [Hb]; swap; · iexact Hb
  isplitl [Hat]; · iexact Hat
  isplitl [Hp]; · iexact Hp
  isplitl [Ha]; · iexact Ha
  iexact Hany

end

end Cert.RingProof

end
-- ==== Proof.Compute.lean ====
/-
# The local operations of the body, one rule each

Loads from the gathering buffer and of the right operand read what the state says; a region of the accumulator takes
what the result holds there; its copy takes it to the result.
-/
module

public import proofs.«01_k».proof.Proof.Steps

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

/-! ## Regions -/

section
variable (c : Dev nD) {n : ℕ}

/-- A load of a region that is to be stored to: whatever is there. -/
theorem step_dead {α : Type} {Q : α → sProp 𝕄} {R : sProp 𝕄} (u : Fin 17) (hn : (Ev.acc u).time = n) {r : Rect S4096x512} (hr : r.set = regSet c u)
    {kk : (r.shape.Idx → Elt F .f32) → Prog (TpuEff nD τ sig (Elt F) Λ₀ .tc) α} {hl : (accM : Memref sig .tc .vmem S4096x512 .f32).view.LoadsAt r.toLoadRect}
    (h : ∀ v, iprop(St m K c n ∗ R) ⊢ WP c (kk v) Q) :
    iprop(St m K c n ∗ R) ⊢ WP c (.op (.load accM r.toLoadRect hl) kk) Q := by
  have hupd := bigSep_univ_update (Φ := regSt m c n) (Ψ := regSt m c n) u fun j hj => rfl
  rw [regSt_acc m c hn] at hupd
  have hs : ((accM : Memref sig .tc .vmem S4096x512 .f32).access r).set ⊆ regSet c u := by
    rw [← hr]; exact (View.set_slice_whole _ _).subset
  unfold St at h ⊢
  unfold regAll at h ⊢
  unfold regBefore accAny at hupd
  iintro ⟨⟨#Hr, #Hl, HO, Hs, Hv, Hg, Hw, Hb⟩, HR⟩
  ihave Hg' := hupd $$ [Hg]; · iexact Hg
  icases Hg' with ⟨⟨⟨%f, Ha⟩, Hrest⟩, Hclose⟩
  iapply (wp_load_rect 𝒱₀ (c : Thread nD τ) none Set.univ (m := accM) (r := r) hs) $$ [Ha]; · iexact Ha
  iintro Ha
  iapply (h _)
  isplitr [HR]; rotate_left; · iexact HR
  isplitr; · iexact Hr
  isplitr; · iexact Hl
  isplitl [HO]; · iexact HO
  isplitl [Hs]; · iexact Hs
  isplitl [Hv]; · iexact Hv
  isplitl [Ha Hrest Hclose]
  · iapply Hclose
    isplitl [Ha]; · iexists f; iexact Ha
    iexact Hrest
  isplitl [Hw]; · iexact Hw
  iexact Hb

/-- The store of a region. -/
theorem step_acc {α : Type} {Q : α → sProp 𝕄} {R : sProp 𝕄} {kk : PUnit → Prog (TpuEff nD τ sig (Elt F) Λ₀ .tc) α} (u : Fin 17) (hn : (Ev.acc u).time = n) {r : Rect S4096x512} (hr : r.set = regSet c u)
    {v : r.shape.Idx → Elt F .f32} (hv : ∀ f : S4096x512.Idx → Elt F .f32, ∀ i ∈ regSet c u, (accM.access r : View sig .tc _ _ _).write (Elt F) f v Finset.univ i = outc m c i)
    {hx : ((accM : Memref sig .tc .vmem S4096x512 .f32).access r).Stores Finset.univ} {hm : (Finset.univ : Finset r.shape.Idx) = Finset.univ ∨ ∀ a, r.stride a = 1}
    (h : iprop(St m K c (n + 1) ∗ R) ⊢ WP c (kk ⟨⟩) Q) :
    iprop(St m K c n ∗ R) ⊢ WP c (.op (.store accM r v Finset.univ hx hm) kk) Q := by
  have hupd := bigSep_univ_update (Φ := regSt m c n) (Ψ := regSt m c (n + 1)) u fun j hj =>
    regSt_other m c hn j (fun h => hj (Ev.acc.inj h).symm) (by intro h; cases h) (by intro h; cases h)
  rw [regSt_acc m c hn, regSt_stored m c hn] at hupd
  have hs : ((accM : Memref sig .tc .vmem S4096x512 .f32).access r).setOn Finset.univ ⊆ regSet c u := by
    rw [← hr]; exact (View.set_slice_whole _ _).subset
  have hfin : ∀ f : Buf (Elt F) ((c : Thread nD τ).loc cc0_scratch4), ((((c : Thread nD τ).loc cc0_scratch4) ↦[regSet c u]{fullShare}
      ((accM.access r : View sig .tc _ _ _).write (Elt F) f v Finset.univ : Buf (Elt F) ((c : Thread nD τ).loc cc0_scratch4)) : sProp 𝕄)) ⊢ accDone m c u := fun f => by
    unfold accDone
    exact Entails.of_eq (pointsTo_congr (hv f))
  unfold St at h ⊢
  unfold regAll at h ⊢
  unfold regBefore accAny at hupd
  rw [owed_other c hn (by intro _ h; cases h), rcvAll_other m c hn (by intro _ h; cases h),
    sndAll_other m c hn (by intro _ h; cases h) (by intro _ h; cases h) (by intro _ h; cases h), wSt_other m c hn (by intro h; cases h) (by intro h; cases h)] at h
  iintro ⟨⟨#Hr, #Hl, HO, Hs, Hv, Hg, Hw, Hb⟩, HR⟩
  ihave Hg' := hupd $$ [Hg]; · iexact Hg
  icases Hg' with ⟨⟨⟨%f, Ha⟩, Hrest⟩, Hclose⟩
  iapply (wp_store 𝒱₀ (c : Thread nD τ) none Set.univ (m := accM) (r := r) hs) $$ [Ha]; · iexact Ha
  iintro Ha
  iapply h
  isplitr [HR]; rotate_left; · iexact HR
  isplitr; · iexact Hr
  isplitr; · iexact Hl
  isplitl [HO]; · iexact HO
  isplitl [Hs]; · iexact Hs
  isplitl [Hv]; · iexact Hv
  isplitl [Ha Hrest Hclose]
  · iapply Hclose
    unfold regStored
    isplitl [Ha]; · iapply (hfin f); iexact Ha
    iexact Hrest
  isplitl [Hw]; · iexact Hw
  iexact Hb

theorem step_acc_full {α : Type} {Q : α → sProp 𝕄} {R : sProp 𝕄} {kk : PUnit → Prog (TpuEff nD τ sig (Elt F) Λ₀ .tc) α} (u : Fin 17) (hu : u.val < 16 ∧ u.val ≠ 8) (hn : (Ev.acc u).time = n) {o : Fin 2 → ℕ} {inb} (ho : o = ![regRow c u, 0])
    {d : Dev nD} (hd : d = slotDev c (regSlot u)) {v : (fullR o inb).shape.Idx → Elt F .f32} (hv : v = k0_pay8 (scale m c) (xblk m d) (wbf m c))
    {hx : ((accM : Memref sig .tc .vmem S4096x512 .f32).access (fullR o inb)).Stores Finset.univ}
    {hm : (Finset.univ : Finset (fullR o inb).shape.Idx) = Finset.univ ∨ ∀ a, (fullR o inb).stride a = 1}
    (h : iprop(St m K c (n + 1) ∗ R) ⊢ WP c (kk ⟨⟩) Q) :
    iprop(St m K c n ∗ R) ⊢ WP c (.op (.store accM (fullR o inb) v Finset.univ hx hm) kk) Q := by
  subst hd hv
  exact step_acc m K c u hn (fullR_set hu ho) (full_write m c hu ho) h
theorem step_acc_half {α : Type} {Q : α → sProp 𝕄} {R : sProp 𝕄} {kk : PUnit → Prog (TpuEff nD τ sig (Elt F) Λ₀ .tc) α} (u : Fin 17) (hu : u.val = 8 ∨ u.val = 16) (hn : (Ev.acc u).time = n) {o : Fin 2 → ℕ} {inb} (ho : o = ![regRow c u, 0])
    {j : Fin 2} (hj : j = if u.val = 8 then 0 else 1) {v : (halfR o inb).shape.Idx → Elt F .f32} (hv : v = k0_pay23 (scale m c) (xhalf m (slotDev c 8) j) (wbf m c))
    {hx : ((accM : Memref sig .tc .vmem S4096x512 .f32).access (halfR o inb)).Stores Finset.univ}
    {hm : (Finset.univ : Finset (halfR o inb).shape.Idx) = Finset.univ ∨ ∀ a, (halfR o inb).stride a = 1}
    (h : iprop(St m K c (n + 1) ∗ R) ⊢ WP c (kk ⟨⟩) Q) :
    iprop(St m K c n ∗ R) ⊢ WP c (.op (.store accM (halfR o inb) v Finset.univ hx hm) kk) Q := by
  subst hj hv
  exact step_acc m K c u hn (halfR_set hu ho) (half_write m c hu ho) h

/-- The copy of a region to the result. -/
theorem step_copy {α : Type} {Q : α → sProp 𝕄} {R : sProp 𝕄} {kk : PUnit → Prog (TpuEff nD τ sig (Elt F) Λ₀ .tc) α} (u : Fin 17) (hn : (Ev.copy u).time = n) {q : DmaSem sig} (hq : q = stSem u) {sz : Fin 2 → ℕ} {o : Fin 2 → ℕ} {inb inb'}
    (hr : (Rect.unit (s := S4096x512) o sz inb).set = regSet c u)
    (hc : ∀ f : S4096x512.Idx → Elt F .f32, ∀ i ∈ regSet c u, (outM.slice (Rect.unit (s := S4096x512) o sz inb') (fun _ => rfl)).view.write (Elt F) f
      ((accM.slice (Rect.unit (s := S4096x512) o sz inb) (fun _ => rfl)).view.read (Elt F) (outc m c)) Finset.univ i = outc m c i)
    (hN : (outM.slice (Rect.unit (s := S4096x512) o sz inb') (fun _ => rfl) : Memref sig .tc .hbm _ .f32).view.dmaCredit = nSt u)
    {hsrc : (accM.slice (Rect.unit (s := S4096x512) o sz inb) (fun _ => rfl) : Memref sig .tc .vmem _ .f32).view.WordExact}
    {hdst : (outM.slice (Rect.unit (s := S4096x512) o sz inb') (fun _ => rfl) : Memref sig .tc .hbm _ .f32).view.WordExact}
    {hsem : DmaTarget.Typed (nD := nD) .vmem (.dma q) (DmaTarget.here (nD := nD) (τ := τ) (p := Proc.tc) (outM.slice (Rect.unit (s := S4096x512) o sz inb') (fun _ => rfl)))}
    (h : iprop(St m K c (n + 1) ∗ R) ⊢ WP c (kk ⟨⟩) Q) :
    iprop(St m K c n ∗ R) ⊢ WP c (.op (.enqueueDma (accM.slice (Rect.unit (s := S4096x512) o sz inb) (fun _ => rfl))
      (.here (outM.slice (Rect.unit (s := S4096x512) o sz inb') (fun _ => rfl))) (.dma q) hsrc hdst hsem) kk) Q := by
  subst hq
  have hupd := bigSep_univ_update (Φ := regSt m c n) (Ψ := regSt m c (n + 1)) u fun j hj =>
    regSt_other m c hn j (by intro h; cases h) (fun h => hj (Ev.copy.inj h).symm) (by intro h; cases h)
  rw [regSt_copy m c hn, regSt_copied m c hn] at hupd
  have hs : (accM.slice (Rect.unit (s := S4096x512) o sz inb) (fun _ => rfl) : Memref sig .tc .vmem _ .f32).view.set = regSet c u := (View.set_slice_whole _ _).trans hr
  have hs' : (outM.slice (Rect.unit (s := S4096x512) o sz inb') (fun _ => rfl) : Memref sig .tc .hbm _ .f32).view.set = regSet c u := (View.set_slice_whole _ _).trans hr
  unfold St at h ⊢
  unfold regAll at h ⊢
  unfold regStored outAny accDone at hupd
  rw [owed_other c hn (by intro _ h; cases h), rcvAll_other m c hn (by intro _ h; cases h),
    sndAll_other m c hn (by intro _ h; cases h) (by intro _ h; cases h) (by intro _ h; cases h), wSt_other m c hn (by intro h; cases h) (by intro h; cases h)] at h
  iintro ⟨⟨#Hr, #Hl, HO, Hs, Hv, Hg, Hw, Hb⟩, HR⟩
  ihave Hg' := hupd $$ [Hg]; · iexact Hg
  icases Hg' with ⟨⟨Ha, ⟨%f, Ho⟩, Ht, Hat⟩, Hclose⟩
  ihave #H1 := recs_get m K (c, stC u) $$ Hr
  icases H1 with ⟨#HI1, #Hr1⟩
  iapply (Rounds.wp_copy_pointsTo 𝒱₀ ER (Rd m) (c : Thread nD τ) none (κ := K (c, stC u)) (r := 0) (d := false) (fd := f) (q := fullShare) (fs := outc m c)
    (src := accM.slice (Rect.unit (s := S4096x512) o sz inb) (fun _ => rfl)) (dst := outM.slice (Rect.unit (s := S4096x512) o sz inb') (fun _ => rfl))
    (single_mem m c (dutiesOf_st u)) () (nSt u) hN (amt_st u)
    (by
      refine BI.Entails.trans ?_ (Entails.of_eq (pay_st m c u false).symm)
      rw [hs, hs']
      unfold outDone accDone
      exact sep_mono_left (Entails.of_eq (pointsTo_congr (hc f))))) $$ [Ha Ho Ht]
  · isplitr; · iexact HI1
    isplitl [Ha]; · rw [hs]; iexact Ha
    isplitl [Ho]; · rw [hs']; iexact Ho
    isplitl [Ht]; · iexact Ht
    iexact Hr1
  iintro Hcr
  iapply h
  isplitr [HR]; rotate_left; · iexact HR
  isplitr; · iexact Hr
  isplitr; · iexact Hl
  isplitl [HO]; · iexact HO
  isplitl [Hs]; · iexact Hs
  isplitl [Hv]; · iexact Hv
  isplitl [Hat Hcr Hclose]
  · iapply Hclose
    unfold regDuring
    isplitl [Hcr]; · iexact Hcr
    iexact Hat
  isplitl [Hw]; · iexact Hw
  iexact Hb

/-! ## The right operand -/

theorem hz2 : (![0, 0] : Fin 2 → Nat) = fun _ => 0 := funext fun a => by fin_cases a <;> rfl

theorem wSt_between (hn : Ev.wstore.time = n) : wSt m c n = iprop(atPos ER (gcell (c, ldC 1)) 1 ∅ 0 ∗ wVmem m c ∗ wHbm m c ∗ wbAny c) := by
  unfold wSt; rw [done_self hn, show Ev.wwait.done n = true by rw [← hn]; rfl]; rfl
theorem wSt_done (hn : Ev.wstore.time < n) : wSt m c n = iprop(atPos ER (gcell (c, ldC 1)) 1 ∅ 0 ∗ wVmem m c ∗ wHbm m c ∗ wbDone m c) := by
  unfold wSt; rw [done_of_lt hn, done_of_lt (e := .wwait) (lt_trans (by decide) hn)]; rfl

/-- The load of the right operand. -/
theorem step_wv {α : Type} {Q : α → sProp 𝕄} {R : sProp 𝕄} (hn : Ev.wstore.time = n) {inb} {kk : (S4096x512.Idx → Elt F .f32) → Prog (TpuEff nD τ sig (Elt F) Λ₀ .tc) α}
    {hl : (wvM : Memref sig .tc .vmem S4096x512 .f32).view.LoadsAt (Rect.unit (s := S4096x512) ![0, 0] S4096x512.size inb).toLoadRect}
    (h : iprop(St m K c n ∗ R) ⊢ WP c (kk (m ((c : Thread nD τ).loc main_arg1))) Q) :
    iprop(St m K c n ∗ R) ⊢ WP c (.op (.load wvM (Rect.unit (s := S4096x512) ![0, 0] S4096x512.size inb).toLoadRect hl) kk) Q := by
  have hread : (wvM : Memref sig .tc .vmem S4096x512 .f32).view.readAt (Elt F) (Rect.unit (s := S4096x512) ![0, 0] S4096x512.size inb).toLoadRect (m ((c : Thread nD τ).loc main_arg1)) = m ((c : Thread nD τ).loc main_arg1) :=
    Memref.readAt_unit_zero (Elt F) cc0_scratch3 hz2 _ _
  have h' : iprop(St m K c n ∗ R) ⊢ WP c (kk ((wvM : Memref sig .tc .vmem S4096x512 .f32).view.readAt (Elt F) (Rect.unit (s := S4096x512) ![0, 0] S4096x512.size inb).toLoadRect (m ((c : Thread nD τ).loc main_arg1)))) Q := by
    rw [hread]; exact h
  unfold St at h' ⊢
  rw [wSt_between m c hn] at h' ⊢
  unfold wVmem at h' ⊢
  iintro ⟨⟨#Hr, #Hl, HO, Hs, Hv, Hg, ⟨Hat, Hwv, Hrest⟩, Hb⟩, HR⟩
  iapply (wp_load 𝒱₀ (c : Thread nD τ) none Set.univ (m := wvM) (Finset.subset_univ _)) $$ [Hwv]; · iexact Hwv
  iintro Hwv
  iapply h'
  isplitr [HR]; rotate_left; · iexact HR
  isplitr; · iexact Hr
  isplitr; · iexact Hl
  isplitl [HO]; · iexact HO
  isplitl [Hs]; · iexact Hs
  isplitl [Hv]; · iexact Hv
  isplitl [Hg]; · iexact Hg
  isplitr [Hb]; swap; · iexact Hb
  isplitl [Hat]; · iexact Hat
  isplitl [Hwv]; · iexact Hwv
  iexact Hrest

/-- The load of what the cast right operand is to replace. -/
theorem step_wdead {α : Type} {Q : α → sProp 𝕄} {R : sProp 𝕄} (hn : Ev.wstore.time = n) {r : Rect S4096x512} {kk : (r.shape.Idx → Elt F .bf16) → Prog (TpuEff nD τ sig (Elt F) Λ₀ .tc) α}
    {hl : (wbM : Memref sig .tc .vmem S4096x512 .bf16).view.LoadsAt r.toLoadRect}
    (h : ∀ v, iprop(St m K c n ∗ R) ⊢ WP c (kk v) Q) :
    iprop(St m K c n ∗ R) ⊢ WP c (.op (.load wbM r.toLoadRect hl) kk) Q := by
  unfold St at h ⊢
  rw [wSt_between m c hn] at h ⊢
  unfold wbAny at h ⊢
  iintro ⟨⟨#Hr, #Hl, HO, Hs, Hv, Hg, ⟨Hat, Hwv, Hwh, ⟨%f, Hf⟩⟩, Hb⟩, HR⟩
  iapply (wp_load 𝒱₀ (c : Thread nD τ) none Set.univ (m := wbM) (Finset.subset_univ _)) $$ [Hf]; · iexact Hf
  iintro Hf
  iapply (h _)
  isplitr [HR]; rotate_left; · iexact HR
  isplitr; · iexact Hr
  isplitr; · iexact Hl
  isplitl [HO]; · iexact HO
  isplitl [Hs]; · iexact Hs
  isplitl [Hv]; · iexact Hv
  isplitl [Hg]; · iexact Hg
  isplitr [Hb]; swap; · iexact Hb
  isplitl [Hat]; · iexact Hat
  isplitl [Hwv]; · iexact Hwv
  isplitl [Hwh]; · iexact Hwh
  iexists f; iexact Hf

/-- The store of the cast right operand. -/
theorem step_wstore {α : Type} {Q : α → sProp 𝕄} {R : sProp 𝕄} {kk : PUnit → Prog (TpuEff nD τ sig (Elt F) Λ₀ .tc) α} (hn : Ev.wstore.time = n) {inb} {v : S4096x512.Idx → Elt F .bf16} (hv : v = wbf m c)
    {hx : ((wbM : Memref sig .tc .vmem S4096x512 .bf16).access (Rect.unit (s := S4096x512) ![0, 0] S4096x512.size inb)).Stores Finset.univ}
    {hm : (Finset.univ : Finset (Rect.unit (s := S4096x512) ![0, 0] S4096x512.size inb).shape.Idx) = Finset.univ ∨ ∀ a, (Rect.unit (s := S4096x512) ![0, 0] S4096x512.size inb).stride a = 1}
    (h : iprop(St m K c (n + 1) ∗ R) ⊢ WP c (kk ⟨⟩) Q) :
    iprop(St m K c n ∗ R) ⊢ WP c (.op (.store wbM (Rect.unit (s := S4096x512) ![0, 0] S4096x512.size inb) v Finset.univ hx hm) kk) Q := by
  subst hv
  have hw : ∀ f : (cc0_scratch1 : Ref sig .tc).ty.Contents (Elt F),
      ((wbM : Memref sig .tc .vmem S4096x512 .bf16).access (Rect.unit (s := S4096x512) ![0, 0] S4096x512.size inb) : View sig .tc _ _ _).write (Elt F) f (wbf m c) Finset.univ = wbf m c :=
    fun f => Memref.write_access_unit_zero_univ (Elt F) cc0_scratch1 hz2 _ f _
  unfold St at h ⊢
  rw [wSt_between m c hn]
  rw [wSt_done m c (n := n + 1) (by omega), owed_other c hn (by intro _ h; cases h), rcvAll_other m c hn (by intro _ h; cases h),
    sndAll_other m c hn (by intro _ h; cases h) (by intro _ h; cases h) (by intro _ h; cases h),
    regAll_other m c hn (by intro _ h; cases h) (by intro _ h; cases h) (by intro _ h; cases h)] at h
  unfold wbDone at h
  unfold wbAny
  iintro ⟨⟨#Hr, #Hl, HO, Hs, Hv, Hg, ⟨Hat, Hwv, Hwh, ⟨%f, Hf⟩⟩, Hb⟩, HR⟩
  iapply (wp_store 𝒱₀ (c : Thread nD τ) none Set.univ (m := wbM) (r := Rect.unit (s := S4096x512) ![0, 0] S4096x512.size inb) (Finset.subset_univ _)) $$ [Hf]; · iexact Hf
  rw [hw f]
  iintro Hf
  iapply h
  isplitr [HR]; rotate_left; · iexact HR
  isplitr; · iexact Hr
  isplitr; · iexact Hl
  isplitl [HO]; · iexact HO
  isplitl [Hs]; · iexact Hs
  isplitl [Hv]; · iexact Hv
  isplitl [Hg]; · iexact Hg
  isplitr [Hb]; swap; · iexact Hb
  isplitl [Hat]; · iexact Hat
  isplitl [Hwv]; · iexact Hwv
  isplitl [Hwh]; · iexact Hwh
  iexact Hf

/-- The load of the cast right operand. -/
theorem step_wb {α : Type} {Q : α → sProp 𝕄} {R : sProp 𝕄} (hn : Ev.wstore.time < n) {inb} {kk : (S4096x512.Idx → Elt F .bf16) → Prog (TpuEff nD τ sig (Elt F) Λ₀ .tc) α}
    {hl : (wbM : Memref sig .tc .vmem S4096x512 .bf16).view.LoadsAt (Rect.unit (s := S4096x512) ![0, 0] S4096x512.size inb).toLoadRect}
    (h : iprop(St m K c n ∗ R) ⊢ WP c (kk (wbf m c)) Q) :
    iprop(St m K c n ∗ R) ⊢ WP c (.op (.load wbM (Rect.unit (s := S4096x512) ![0, 0] S4096x512.size inb).toLoadRect hl) kk) Q := by
  have hread : (wbM : Memref sig .tc .vmem S4096x512 .bf16).view.readAt (Elt F) (Rect.unit (s := S4096x512) ![0, 0] S4096x512.size inb).toLoadRect (wbf m c) = wbf m c :=
    Memref.readAt_unit_zero (Elt F) cc0_scratch1 hz2 _ _
  have h' : iprop(St m K c n ∗ R) ⊢ WP c (kk ((wbM : Memref sig .tc .vmem S4096x512 .bf16).view.readAt (Elt F) (Rect.unit (s := S4096x512) ![0, 0] S4096x512.size inb).toLoadRect (wbf m c))) Q := by
    rw [hread]; exact h
  unfold St at h' ⊢
  rw [wSt_done m c hn] at h' ⊢
  unfold wbDone at h' ⊢
  iintro ⟨⟨#Hr, #Hl, HO, Hs, Hv, Hg, ⟨Hat, Hwv, Hwh, Hf⟩, Hb⟩, HR⟩
  iapply (wp_load 𝒱₀ (c : Thread nD τ) none Set.univ (m := wbM) (Finset.subset_univ _)) $$ [Hf]; · iexact Hf
  iintro Hf
  iapply h'
  isplitr [HR]; rotate_left; · iexact HR
  isplitr; · iexact Hr
  isplitr; · iexact Hl
  isplitl [HO]; · iexact HO
  isplitl [Hs]; · iexact Hs
  isplitl [Hv]; · iexact Hv
  isplitl [Hg]; · iexact Hg
  isplitr [Hb]; swap; · iexact Hb
  isplitl [Hat]; · iexact Hat
  isplitl [Hwv]; · iexact Hwv
  isplitl [Hwh]; · iexact Hwh
  iexact Hf

/-! ## The gathering buffer -/

/-- A landed piece. -/
theorem rcv_peek (k : Msg) (hu : used k = true) (hk : (Ev.recv k).time < n) :
    rcvAll m c n ⊢ iprop(piece m fullShare.right c (dstPiece k) ∗ (piece m fullShare.right c (dstPiece k) -∗ rcvAll m c n)) := by
  have hupd := bigSep_univ_update (Φ := rcvSt m c n) (Ψ := rcvSt m c n) k fun j hj => rfl
  rw [rcvSt_after m c hu hk] at hupd
  unfold rcvAll
  unfold rcvAfter at hupd
  iintro H
  ihave H' := hupd $$ [H]; · iexact H
  icases H' with ⟨⟨Hat, Hp, Hx⟩, Hclose⟩
  isplitl [Hp]; · iexact Hp
  iintro Hp
  iapply Hclose
  isplitl [Hat]; · iexact Hat
  isplitl [Hp]; · iexact Hp
  iexact Hx
/-- Two landed pieces. -/
theorem rcv_peek2 (k k' : Msg) (hne : k' ≠ k) (hu : used k = true) (hu' : used k' = true) (hk : (Ev.recv k).time < n) (hk' : (Ev.recv k').time < n) :
    rcvAll m c n ⊢ iprop((piece m fullShare.right c (dstPiece k) ∗ piece m fullShare.right c (dstPiece k'))
      ∗ ((piece m fullShare.right c (dstPiece k) ∗ piece m fullShare.right c (dstPiece k')) -∗ rcvAll m c n)) := by
  have he : rcvAll m c n = iprop(rcvAfter m c k ∗ (rcvAfter m c k' ∗ bigSep ((Finset.univ.erase k).erase k') (rcvSt m c n))) := by
    unfold rcvAll
    rw [bigSep_univ_at _ k, bigSep_erase (i := k') (Finset.mem_erase.mpr ⟨hne, Finset.mem_univ _⟩), rcvSt_after m c hu hk, rcvSt_after m c hu' hk']
    rfl
  rw [he]
  unfold rcvAfter
  iintro ⟨⟨Hat, Hp, Hx⟩, ⟨Hat', Hp', Hx'⟩, Hrest⟩
  isplitl [Hp Hp']
  · isplitl [Hp]; · iexact Hp
    iexact Hp'
  iintro ⟨Hp, Hp'⟩
  isplitl [Hat Hp Hx]
  · isplitl [Hat]; · iexact Hat
    isplitl [Hp]; · iexact Hp
    iexact Hx
  isplitl [Hat' Hp' Hx']
  · isplitl [Hat']; · iexact Hat'
    isplitl [Hp']; · iexact Hp'
    iexact Hx'
  iexact Hrest

/-- The load of a slot, both halves of which are there. -/
theorem slot_load {α : Type} {Q : α → sProp 𝕄} (s : Fin 16) {o : Fin 3 → ℕ} {inb} (ho : o = ![s.val, 0, 0])
    {kk : (S1x256x4096.Idx → Elt F .fp8e4m3) → Prog (TpuEff nD τ sig (Elt F) Λ₀ .tc) α}
    {hl : (bufM : Memref sig .tc .vmem S16x256x4096 .fp8e4m3).view.LoadsAt (slotR o inb).toLoadRect} :
    iprop(piece m fullShare.right c (s, 0) ∗ piece m fullShare.right c (s, 1))
      ⊢ iprop(((piece m fullShare.right c (s, 0) ∗ piece m fullShare.right c (s, 1)) -∗ WP c (kk (xblk m (slotDev c s))) Q)
        -∗ WP c (.op (.load bufM (slotR o inb).toLoadRect hl) kk) Q) := by
  have hj := slot_join c s fullShare.right (bufc m c)
  have hs : ((bufM : Memref sig .tc .vmem S16x256x4096 .fp8e4m3).access (slotR o inb)).set ⊆ slotSet s := by
    rw [← slotR_set (inb := inb) ho]; exact (View.set_slice_whole _ _).subset
  have hread := slot_read m c s (inb := inb) ho
  have hload : ((((c : Thread nD τ).loc cc0_scratch0) ↦[slotSet s]{fullShare.right} (bufc m c : Buf (Elt F) ((c : Thread nD τ).loc cc0_scratch0)) : sProp 𝕄))
      ⊢ iprop(((((c : Thread nD τ).loc cc0_scratch0) ↦[slotSet s]{fullShare.right} (bufc m c : Buf (Elt F) ((c : Thread nD τ).loc cc0_scratch0))) -∗ WP c (kk (xblk m (slotDev c s))) Q)
        -∗ WP c (.op (.load bufM (slotR o inb).toLoadRect hl) kk) Q) := by
    rw [← hread]
    exact wp_load_rect 𝒱₀ (c : Thread nD τ) none Set.univ (m := bufM) (r := slotR o inb) hs
  unfold piece
  iintro H Hk
  ihave H' := hj.2 $$ [H]; · iexact H
  iapply hload $$ [H']; · iexact H'
  iintro H
  iapply Hk
  iapply hj.1
  iexact H

theorem step_slot {α : Type} {Q : α → sProp 𝕄} {R : sProp 𝕄} (s : Fin 16) (k k' : Msg) (hk : dstPiece k = (s, 0)) (hk' : dstPiece k' = (s, 1)) (hu : used k = true) (hu' : used k' = true)
    (ht : (Ev.recv k).time < n) (ht' : (Ev.recv k').time < n) {o : Fin 3 → ℕ} {inb} (ho : o = ![s.val, 0, 0])
    {kk : (S1x256x4096.Idx → Elt F .fp8e4m3) → Prog (TpuEff nD τ sig (Elt F) Λ₀ .tc) α}
    {hl : (bufM : Memref sig .tc .vmem S16x256x4096 .fp8e4m3).view.LoadsAt (slotR o inb).toLoadRect}
    (h : iprop(St m K c n ∗ R) ⊢ WP c (kk (xblk m (slotDev c s))) Q) :
    iprop(St m K c n ∗ R) ⊢ WP c (.op (.load bufM (slotR o inb).toLoadRect hl) kk) Q := by
  have hpeek := rcv_peek2 m c k k' (by rintro rfl; rw [hk] at hk'; exact absurd (congrArg (fun p : Piece => p.2) hk') (by decide : (0 : Fin 2) ≠ 1)) hu hu' ht ht'
  rw [hk, hk'] at hpeek
  have hload := slot_load (Q := Q) (kk := kk) (hl := hl) m c s ho
  unfold St at h ⊢
  iintro ⟨⟨#Hr, #Hl, HO, Hs, Hv, Hg, Hw, Hb⟩, HR⟩
  ihave Hv' := hpeek $$ [Hv]; · iexact Hv
  icases Hv' with ⟨Hp, Hclose⟩
  iapply hload $$ [Hp]; · iexact Hp
  iintro Hp
  iapply h
  isplitr [HR]; rotate_left; · iexact HR
  isplitr; · iexact Hr
  isplitr; · iexact Hl
  isplitl [HO]; · iexact HO
  isplitl [Hs]; · iexact Hs
  isplitl [Hp Hclose]; · iapply Hclose; iexact Hp
  isplitl [Hg]; · iexact Hg
  isplitl [Hw]; · iexact Hw
  iexact Hb

theorem step_slot0 {α : Type} {Q : α → sProp 𝕄} {R : sProp 𝕄} {o : Fin 3 → ℕ} {inb} (ho : o = ![0, 0, 0])
    {kk : (S1x256x4096.Idx → Elt F .fp8e4m3) → Prog (TpuEff nD τ sig (Elt F) Λ₀ .tc) α}
    {hl : (bufM : Memref sig .tc .vmem S16x256x4096 .fp8e4m3).view.LoadsAt (slotR o inb).toLoadRect}
    (h : iprop(St m K c n ∗ R) ⊢ WP c (kk (xblk m (slotDev c 0))) Q) :
    iprop(St m K c n ∗ R) ⊢ WP c (.op (.load bufM (slotR o inb).toLoadRect hl) kk) Q := by
  have hload := slot_load (Q := Q) (kk := kk) (hl := hl) m c 0 ho
  unfold St at h ⊢
  unfold ownBlk at h ⊢
  iintro ⟨⟨#Hr, #Hl, HO, Hs, Hv, Hg, Hw, Hb⟩, HR⟩
  iapply hload $$ [Hb]; · iexact Hb
  iintro Hb
  iapply h
  isplitr [HR]; rotate_left; · iexact HR
  isplitr; · iexact Hr
  isplitr; · iexact Hl
  isplitl [HO]; · iexact HO
  isplitl [Hs]; · iexact Hs
  isplitl [Hv]; · iexact Hv
  isplitl [Hg]; · iexact Hg
  isplitl [Hw]; · iexact Hw
  iexact Hb

/-- The load of half a slot. -/
theorem step_half {α : Type} {Q : α → sProp 𝕄} {R : sProp 𝕄} (P : Piece) (k : Msg) (hk : dstPiece k = P) (hu : used k = true)
    (ht : (Ev.recv k).time < n) {o : Fin 3 → ℕ} {inb} (ho : o = pieceOff P)
    {kk : (S1x128x4096.Idx → Elt F .fp8e4m3) → Prog (TpuEff nD τ sig (Elt F) Λ₀ .tc) α}
    {hl : (bufM : Memref sig .tc .vmem S16x256x4096 .fp8e4m3).view.LoadsAt (pieceR o inb).toLoadRect}
    (h : iprop(St m K c n ∗ R) ⊢ WP c (kk (xhalf m (slotDev c P.1) P.2)) Q) :
    iprop(St m K c n ∗ R) ⊢ WP c (.op (.load bufM (pieceR o inb).toLoadRect hl) kk) Q := by
  subst hk
  have hpeek := rcv_peek m c k hu ht
  have hs : ((bufM : Memref sig .tc .vmem S16x256x4096 .fp8e4m3).access (pieceR o inb)).set ⊆ pieceSet (dstPiece k) := by
    rw [← pieceR_set (inb := inb) ho]; exact (View.set_slice_whole _ _).subset
  have hread := half_read m c (dstPiece k) (inb := inb) ho
  have hload : piece m fullShare.right c (dstPiece k) ⊢ iprop((piece m fullShare.right c (dstPiece k) -∗ WP c (kk (xhalf m (slotDev c (dstPiece k).1) (dstPiece k).2)) Q)
        -∗ WP c (.op (.load bufM (pieceR o inb).toLoadRect hl) kk) Q) := by
    rw [← hread]
    unfold piece
    exact wp_load_rect 𝒱₀ (c : Thread nD τ) none Set.univ (m := bufM) (r := pieceR o inb) hs
  unfold St at h ⊢
  iintro ⟨⟨#Hr, #Hl, HO, Hs, Hv, Hg, Hw, Hb⟩, HR⟩
  ihave Hv' := hpeek $$ [Hv]; · iexact Hv
  icases Hv' with ⟨Hp, Hclose⟩
  iapply hload $$ [Hp]; · iexact Hp
  iintro Hp
  iapply h
  isplitr [HR]; rotate_left; · iexact HR
  isplitr; · iexact Hr
  isplitr; · iexact Hl
  isplitl [HO]; · iexact HO
  isplitl [Hs]; · iexact Hs
  isplitl [Hp Hclose]; · iapply Hclose; iexact Hp
  isplitl [Hg]; · iexact Hg
  isplitl [Hw]; · iexact Hw
  iexact Hb

end

end Cert.RingProof

end
-- ==== Proof.Parts.lean ====
/-
# The body part by part

The body is bound together out of parts; each takes the state at the time of its first operation to the state after its last.
The words a part passes on matter to none: every offset, semaphore and device has been resolved where it is used.
-/
module

public import proofs.«01_k».proof.Proof.Compute

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

/-- The credit of a copy to the result, of a whole block and of half a block. -/
theorem full_credit {u : Fin 17} (hu : u.val < 16 ∧ u.val ≠ 8) {o : Fin 2 → ℕ} {inb} :
    (outM.slice (fullR o inb) (fun _ => rfl) : Memref sig .tc .hbm S256x512 .f32).view.dmaCredit = nSt u :=
  (if_neg (by omega)).symm
theorem half_credit {u : Fin 17} (hu : u.val = 8 ∨ u.val = 16) {o : Fin 2 → ℕ} {inb} :
    (outM.slice (halfR o inb) (fun _ => rfl) : Memref sig .tc .hbm S128x512 .f32).view.dmaCredit = nSt u :=
  (if_pos hu).symm

/-! ## The block product, written several ways -/

theorem pay5_4 (s : F .f32) (x : Vec F S1x256x4096 .fp8e4m3) (w : Vec F S4096x512 .bf16) : k0_pay5 (k0_pay4 s x w) = k0_pay8 s x w := rfl
theorem pay7_6 (s : F .f32) (x : Vec F S1x256x4096 .fp8e4m3) (w : Vec F S4096x512 .bf16) : k0_pay7 s (k0_pay6 x) w = k0_pay8 s x w := rfl
theorem pay9 (s : F .f32) (x : Vec F S1x256x4096 .fp8e4m3) (w : Vec F S4096x512 .bf16) : k0_pay9 s x w = k0_pay8 s x w := rfl
theorem pay10 (s : F .f32) (x : Vec F S1x256x4096 .fp8e4m3) (w : Vec F S4096x512 .bf16) : k0_pay10 s x w = k0_pay8 s x w := rfl
theorem pay11 (s : F .f32) (x : Vec F S1x256x4096 .fp8e4m3) (w : Vec F S4096x512 .bf16) : k0_pay11 s x w = k0_pay8 s x w := rfl
theorem pay13_12 (s : F .f32) (x : Vec F S1x256x4096 .fp8e4m3) (w : Vec F S4096x512 .bf16) : k0_pay13 s (k0_pay12 x) w = k0_pay8 s x w := rfl
theorem pay14 (s : F .f32) (x : Vec F S1x256x4096 .fp8e4m3) (w : Vec F S4096x512 .bf16) : k0_pay14 s x w = k0_pay8 s x w := rfl
theorem pay15 (s : F .f32) (x : Vec F S1x256x4096 .fp8e4m3) (w : Vec F S4096x512 .bf16) : k0_pay15 s x w = k0_pay8 s x w := rfl
theorem pay17_16 (s : F .f32) (x : Vec F S1x256x4096 .fp8e4m3) (w : Vec F S4096x512 .bf16) : k0_pay17 s (k0_pay16 x w) = k0_pay8 s x w := rfl
theorem pay18 (s : F .f32) (x : Vec F S1x256x4096 .fp8e4m3) (w : Vec F S4096x512 .bf16) : k0_pay18 s x w = k0_pay8 s x w := rfl
theorem pay19 (s : F .f32) (x : Vec F S1x256x4096 .fp8e4m3) (w : Vec F S4096x512 .bf16) : k0_pay19 s x w = k0_pay8 s x w := rfl
theorem pay20 (s : F .f32) (x : Vec F S1x256x4096 .fp8e4m3) (w : Vec F S4096x512 .bf16) : k0_pay20 s x w = k0_pay8 s x w := rfl
theorem pay21 (s : F .f32) (x : Vec F S1x256x4096 .fp8e4m3) (w : Vec F S4096x512 .bf16) : k0_pay21 s x w = k0_pay8 s x w := rfl
theorem pay22 (s : F .f32) (x : Vec F S1x256x4096 .fp8e4m3) (w : Vec F S4096x512 .bf16) : k0_pay22 s x w = k0_pay8 s x w := rfl
theorem pay25_24 (s : F .f32) (x : Vec F S1x128x4096 .fp8e4m3) (w : Vec F S4096x512 .bf16) : k0_pay25 s (k0_pay24 x w) = k0_pay23 s x w := rfl

section
variable {a2 : Memref sig .tc .smem S1 .f32} {h2 : a2.IsWhole} {a3 : Memref sig .tc .smem S1 .f32} {h3 : a3.IsWhole} (c : Dev nD)

theorem part21 {α : Type} {Q : α → sProp 𝕄} {R : sProp 𝕄} (v110 : BitVec 32) (v142 : BitVec 32) {kk : _ → Prog (TpuEff nD τ sig (Elt F) Λ₀ .tc) α}
    (h : iprop(St m K c 6 ∗ R) ⊢ WP c (kk (k0_pay4 (scale m c) (xblk m (slotDev c 0)) (wbf m c))) Q) :
    iprop(St m K c 2 ∗ R) ⊢ WP c (k0_part21 xM (Memref.isWhole_whole _) wM (Memref.isWhole_whole _) a2 h2 a3 h3 outM (Memref.isWhole_whole _) bufM (Memref.isWhole_whole _) wbM (Memref.isWhole_whole _) xvM (Memref.isWhole_whole _) wvM (Memref.isWhole_whole _) accM (Memref.isWhole_whole _) cc0_scratch5 cc0_scratch6 cc0_scratch7 cc0_scratch8 cc0_scratch9 cc0_scratch10 c v110 v142 (scale m c) >>= kk) Q := by
  rw [k0_part21_eq_skeleton]
  unfold k0_part21_skel
  simp only [Prog.lift, Prog.bind_op, Prog.bind_ret, Prog.pure_eq_ret, Prog.bind_assoc]
  refine step_send m K c 2 rfl rfl (dev5_eq c) rfl rfl rfl rfl ?_
  refine step_send m K c 3 rfl rfl (dev6_eq c) rfl rfl rfl rfl ?_
  refine step_wwait m K c rfl rfl ?_
  refine step_wv m K c rfl ?_
  refine step_wdead m K c rfl (fun _ => ?_)
  refine step_wstore m K c rfl rfl ?_
  refine step_slot0 m K c rfl ?_
  refine step_wb m K c (by decide) ?_
  exact h

theorem part22 {α : Type} {Q : α → sProp 𝕄} {R : sProp 𝕄} (v79 : BitVec 32) (v110 : BitVec 32) {kk : _ → Prog (TpuEff nD τ sig (Elt F) Λ₀ .tc) α}
    (h : ∀ w, iprop(St m K c 10 ∗ R) ⊢ WP c (kk w) Q) :
    iprop(St m K c 6 ∗ R) ⊢ WP c (k0_part22 xM (Memref.isWhole_whole _) wM (Memref.isWhole_whole _) a2 h2 a3 h3 outM (Memref.isWhole_whole _) bufM (Memref.isWhole_whole _) wbM (Memref.isWhole_whole _) xvM (Memref.isWhole_whole _) wvM (Memref.isWhole_whole _) accM (Memref.isWhole_whole _) cc0_scratch5 cc0_scratch6 cc0_scratch7 cc0_scratch8 cc0_scratch9 cc0_scratch10 c v79 v110 (k0_pay4 (scale m c) (xblk m (slotDev c 0)) (wbf m c)) >>= kk) Q := by
  rw [k0_part22_eq_skeleton]
  unfold k0_part22_skel
  simp only [Prog.lift, Prog.bind_op, Prog.bind_ret, Prog.pure_eq_ret, Prog.bind_assoc]
  refine step_dead m K c 0 rfl (fullR_set (by decide) (off1_eq 0 (by decide) c)) (fun _ => ?_)
  refine step_acc_full m K c 0 (by decide) rfl (off1_eq 0 (by decide) c) rfl (pay5_4 _ _ _) ?_
  refine step_copy m K c 0 rfl rfl (fullR_set (by decide) (off2_eq 0 (by decide) c)) (full_copied m c (by decide) (off2_eq 0 (by decide) c)) (full_credit (by decide)) ?_
  refine step_recv m K c 0 rfl rfl rfl ?_
  refine step_send m K c 4 rfl rfl (dev7_eq c) rfl rfl rfl rfl ?_
  exact h _

theorem part23 {α : Type} {Q : α → sProp 𝕄} {R : sProp 𝕄} (v79 : BitVec 32) (v110 : BitVec 32) (v726 : BitVec 32) (c0_i32_552 : BitVec 32) {kk : _ → Prog (TpuEff nD τ sig (Elt F) Λ₀ .tc) α}
    (h : iprop(St m K c 13 ∗ R) ⊢ WP c (kk ⟨⟩) Q) :
    iprop(St m K c 10 ∗ R) ⊢ WP c (k0_part23 xM (Memref.isWhole_whole _) wM (Memref.isWhole_whole _) a2 h2 a3 h3 outM (Memref.isWhole_whole _) bufM (Memref.isWhole_whole _) wbM (Memref.isWhole_whole _) xvM (Memref.isWhole_whole _) wvM (Memref.isWhole_whole _) accM (Memref.isWhole_whole _) cc0_scratch5 cc0_scratch6 cc0_scratch7 cc0_scratch8 cc0_scratch9 cc0_scratch10 c v79 v110 v726 c0_i32_552 >>= kk) Q := by
  rw [k0_part23_eq_skeleton]
  unfold k0_part23_skel
  simp only [Prog.lift, Prog.bind_op, Prog.bind_ret, Prog.pure_eq_ret, Prog.bind_assoc]
  refine step_recv m K c 1 rfl rfl rfl ?_
  refine step_send m K c 5 rfl rfl (dev8_eq c) rfl rfl rfl rfl ?_
  refine step_recv m K c 2 rfl rfl rfl ?_
  exact h

theorem part24 {α : Type} {Q : α → sProp 𝕄} {R : sProp 𝕄} (v110 : BitVec 32) {kk : _ → Prog (TpuEff nD τ sig (Elt F) Λ₀ .tc) α}
    (h : iprop(St m K c 16 ∗ R) ⊢ WP c (kk (k0_pay6 (xblk m (slotDev c 1)))) Q) :
    iprop(St m K c 13 ∗ R) ⊢ WP c (k0_part24 xM (Memref.isWhole_whole _) wM (Memref.isWhole_whole _) a2 h2 a3 h3 outM (Memref.isWhole_whole _) bufM (Memref.isWhole_whole _) wbM (Memref.isWhole_whole _) xvM (Memref.isWhole_whole _) wvM (Memref.isWhole_whole _) accM (Memref.isWhole_whole _) cc0_scratch5 cc0_scratch6 cc0_scratch7 cc0_scratch8 cc0_scratch9 cc0_scratch10 c v110 >>= kk) Q := by
  rw [k0_part24_eq_skeleton]
  unfold k0_part24_skel
  simp only [Prog.lift, Prog.bind_op, Prog.bind_ret, Prog.pure_eq_ret, Prog.bind_assoc]
  refine step_send m K c 6 rfl rfl (dev9_eq c) rfl rfl rfl rfl ?_
  refine step_recv m K c 3 rfl rfl rfl ?_
  refine step_send m K c 7 rfl rfl (dev10_eq c) rfl rfl rfl rfl ?_
  refine step_slot m K c 1 0 2 rfl rfl rfl rfl (by decide) (by decide) rfl ?_
  exact h

theorem part25 {α : Type} {Q : α → sProp 𝕄} {R : sProp 𝕄} (v174 : BitVec 32) (v622 : BitVec 32) {kk : _ → Prog (TpuEff nD τ sig (Elt F) Λ₀ .tc) α}
    (h : iprop(St m K c 20 ∗ R) ⊢ WP c (kk ⟨⟩) Q) :
    iprop(St m K c 16 ∗ R) ⊢ WP c (k0_part25 xM (Memref.isWhole_whole _) wM (Memref.isWhole_whole _) a2 h2 a3 h3 outM (Memref.isWhole_whole _) bufM (Memref.isWhole_whole _) wbM (Memref.isWhole_whole _) xvM (Memref.isWhole_whole _) wvM (Memref.isWhole_whole _) accM (Memref.isWhole_whole _) cc0_scratch5 cc0_scratch6 cc0_scratch7 cc0_scratch8 cc0_scratch9 cc0_scratch10 c v174 v622 (scale m c) (k0_pay6 (xblk m (slotDev c 1))) >>= kk) Q := by
  rw [k0_part25_eq_skeleton]
  unfold k0_part25_skel
  simp only [Prog.lift, Prog.bind_op, Prog.bind_ret, Prog.pure_eq_ret, Prog.bind_assoc]
  refine step_wb m K c (by decide) ?_
  refine step_dead m K c 1 rfl (fullR_set (by decide) (off1_eq 1 (by decide) c)) (fun _ => ?_)
  refine step_acc_full m K c 1 (by decide) rfl (off1_eq 1 (by decide) c) rfl (pay7_6 _ _ _) ?_
  refine step_copy m K c 1 rfl rfl (fullR_set (by decide) (off2_eq 1 (by decide) c)) (full_copied m c (by decide) (off2_eq 1 (by decide) c)) (full_credit (by decide)) ?_
  refine step_slot m K c 15 1 3 rfl rfl rfl rfl (by decide) (by decide) rfl ?_
  refine step_wb m K c (by decide) ?_
  refine step_dead m K c 15 rfl (fullR_set (by decide) (off1_eq 15 (by decide) c)) (fun _ => ?_)
  refine step_acc_full m K c 15 (by decide) rfl (off1_eq 15 (by decide) c) rfl rfl ?_
  refine step_copy m K c 15 rfl rfl (fullR_set (by decide) (off2_eq 15 (by decide) c)) (full_copied m c (by decide) (off2_eq 15 (by decide) c)) (full_credit (by decide)) ?_
  exact h

theorem part26 {α : Type} {Q : α → sProp 𝕄} {R : sProp 𝕄} (v79 : BitVec 32) (v110 : BitVec 32) {kk : _ → Prog (TpuEff nD τ sig (Elt F) Λ₀ .tc) α}
    (h : iprop(St m K c 23 ∗ R) ⊢ WP c (kk ⟨⟩) Q) :
    iprop(St m K c 20 ∗ R) ⊢ WP c (k0_part26 xM (Memref.isWhole_whole _) wM (Memref.isWhole_whole _) a2 h2 a3 h3 outM (Memref.isWhole_whole _) bufM (Memref.isWhole_whole _) wbM (Memref.isWhole_whole _) xvM (Memref.isWhole_whole _) wvM (Memref.isWhole_whole _) accM (Memref.isWhole_whole _) cc0_scratch5 cc0_scratch6 cc0_scratch7 cc0_scratch8 cc0_scratch9 cc0_scratch10 c v79 v110 >>= kk) Q := by
  rw [k0_part26_eq_skeleton]
  unfold k0_part26_skel
  simp only [Prog.lift, Prog.bind_op, Prog.bind_ret, Prog.pure_eq_ret, Prog.bind_assoc]
  refine step_recv m K c 4 rfl rfl rfl ?_
  refine step_send m K c 8 rfl rfl (dev11_eq c) rfl rfl rfl rfl ?_
  refine step_recv m K c 5 rfl rfl rfl ?_
  exact h

theorem part27 {α : Type} {Q : α → sProp 𝕄} {R : sProp 𝕄} (v79 : BitVec 32) (v110 : BitVec 32) {kk : _ → Prog (TpuEff nD τ sig (Elt F) Λ₀ .tc) α}
    (h : iprop(St m K c 26 ∗ R) ⊢ WP c (kk ⟨⟩) Q) :
    iprop(St m K c 23 ∗ R) ⊢ WP c (k0_part27 xM (Memref.isWhole_whole _) wM (Memref.isWhole_whole _) a2 h2 a3 h3 outM (Memref.isWhole_whole _) bufM (Memref.isWhole_whole _) wbM (Memref.isWhole_whole _) xvM (Memref.isWhole_whole _) wvM (Memref.isWhole_whole _) accM (Memref.isWhole_whole _) cc0_scratch5 cc0_scratch6 cc0_scratch7 cc0_scratch8 cc0_scratch9 cc0_scratch10 c v79 v110 >>= kk) Q := by
  rw [k0_part27_eq_skeleton]
  unfold k0_part27_skel
  simp only [Prog.lift, Prog.bind_op, Prog.bind_ret, Prog.pure_eq_ret, Prog.bind_assoc]
  refine step_send m K c 9 rfl rfl (dev12_eq c) rfl rfl rfl rfl ?_
  refine step_recv m K c 6 rfl rfl rfl ?_
  refine step_send m K c 10 rfl rfl (dev13_eq c) rfl rfl rfl rfl ?_
  exact h

theorem part28 {α : Type} {Q : α → sProp 𝕄} {R : sProp 𝕄} (v110 : BitVec 32) (v206 : BitVec 32) {kk : _ → Prog (TpuEff nD τ sig (Elt F) Λ₀ .tc) α}
    (h : iprop(St m K c 28 ∗ R) ⊢ WP c (kk (k0_pay9 (scale m c) (xblk m (slotDev c 2)) (wbf m c))) Q) :
    iprop(St m K c 26 ∗ R) ⊢ WP c (k0_part28 xM (Memref.isWhole_whole _) wM (Memref.isWhole_whole _) a2 h2 a3 h3 outM (Memref.isWhole_whole _) bufM (Memref.isWhole_whole _) wbM (Memref.isWhole_whole _) xvM (Memref.isWhole_whole _) wvM (Memref.isWhole_whole _) accM (Memref.isWhole_whole _) cc0_scratch5 cc0_scratch6 cc0_scratch7 cc0_scratch8 cc0_scratch9 cc0_scratch10 c v110 v206 (scale m c) >>= kk) Q := by
  rw [k0_part28_eq_skeleton]
  unfold k0_part28_skel
  simp only [Prog.lift, Prog.bind_op, Prog.bind_ret, Prog.pure_eq_ret, Prog.bind_assoc]
  refine step_recv m K c 7 rfl rfl rfl ?_
  refine step_send m K c 11 rfl rfl (dev14_eq c) rfl rfl rfl rfl ?_
  refine step_slot m K c 2 4 6 rfl rfl rfl rfl (by decide) (by decide) rfl ?_
  refine step_wb m K c (by decide) ?_
  refine step_dead m K c 2 rfl (fullR_set (by decide) (off1_eq 2 (by decide) c)) (fun _ => ?_)
  exact h

theorem part29 {α : Type} {Q : α → sProp 𝕄} {R : sProp 𝕄} (v79 : BitVec 32) (v590 : BitVec 32) {kk : _ → Prog (TpuEff nD τ sig (Elt F) Λ₀ .tc) α}
    (h : iprop(St m K c 33 ∗ R) ⊢ WP c (kk ⟨⟩) Q) :
    iprop(St m K c 28 ∗ R) ⊢ WP c (k0_part29 xM (Memref.isWhole_whole _) wM (Memref.isWhole_whole _) a2 h2 a3 h3 outM (Memref.isWhole_whole _) bufM (Memref.isWhole_whole _) wbM (Memref.isWhole_whole _) xvM (Memref.isWhole_whole _) wvM (Memref.isWhole_whole _) accM (Memref.isWhole_whole _) cc0_scratch5 cc0_scratch6 cc0_scratch7 cc0_scratch8 cc0_scratch9 cc0_scratch10 c v79 v590 (scale m c) (k0_pay9 (scale m c) (xblk m (slotDev c 2)) (wbf m c)) >>= kk) Q := by
  rw [k0_part29_eq_skeleton]
  unfold k0_part29_skel
  simp only [Prog.lift, Prog.bind_op, Prog.bind_ret, Prog.pure_eq_ret, Prog.bind_assoc]
  refine step_acc_full m K c 2 (by decide) rfl (off1_eq 2 (by decide) c) rfl (pay9 _ _ _) ?_
  refine step_copy m K c 2 rfl rfl (fullR_set (by decide) (off2_eq 2 (by decide) c)) (full_copied m c (by decide) (off2_eq 2 (by decide) c)) (full_credit (by decide)) ?_
  refine step_slot m K c 14 5 7 rfl rfl rfl rfl (by decide) (by decide) rfl ?_
  refine step_wb m K c (by decide) ?_
  refine step_dead m K c 14 rfl (fullR_set (by decide) (off1_eq 14 (by decide) c)) (fun _ => ?_)
  refine step_acc_full m K c 14 (by decide) rfl (off1_eq 14 (by decide) c) rfl (pay10 _ _ _) ?_
  refine step_copy m K c 14 rfl rfl (fullR_set (by decide) (off2_eq 14 (by decide) c)) (full_copied m c (by decide) (off2_eq 14 (by decide) c)) (full_credit (by decide)) ?_
  refine step_recv m K c 8 rfl rfl rfl ?_
  exact h

theorem part30 {α : Type} {Q : α → sProp 𝕄} {R : sProp 𝕄} (v79 : BitVec 32) (v110 : BitVec 32) {kk : _ → Prog (TpuEff nD τ sig (Elt F) Λ₀ .tc) α}
    (h : iprop(St m K c 35 ∗ R) ⊢ WP c (kk ⟨⟩) Q) :
    iprop(St m K c 33 ∗ R) ⊢ WP c (k0_part30 xM (Memref.isWhole_whole _) wM (Memref.isWhole_whole _) a2 h2 a3 h3 outM (Memref.isWhole_whole _) bufM (Memref.isWhole_whole _) wbM (Memref.isWhole_whole _) xvM (Memref.isWhole_whole _) wvM (Memref.isWhole_whole _) accM (Memref.isWhole_whole _) cc0_scratch5 cc0_scratch6 cc0_scratch7 cc0_scratch8 cc0_scratch9 cc0_scratch10 c v79 v110 >>= kk) Q := by
  rw [k0_part30_eq_skeleton]
  unfold k0_part30_skel
  simp only [Prog.lift, Prog.bind_op, Prog.bind_ret, Prog.pure_eq_ret, Prog.bind_assoc]
  refine step_send m K c 12 rfl rfl (dev15_eq c) rfl rfl rfl rfl ?_
  refine step_recv m K c 9 rfl rfl rfl ?_
  exact h

theorem part31 {α : Type} {Q : α → sProp 𝕄} {R : sProp 𝕄} (v79 : BitVec 32) (v110 : BitVec 32) {kk : _ → Prog (TpuEff nD τ sig (Elt F) Λ₀ .tc) α}
    (h : iprop(St m K c 39 ∗ R) ⊢ WP c (kk ⟨⟩) Q) :
    iprop(St m K c 35 ∗ R) ⊢ WP c (k0_part31 xM (Memref.isWhole_whole _) wM (Memref.isWhole_whole _) a2 h2 a3 h3 outM (Memref.isWhole_whole _) bufM (Memref.isWhole_whole _) wbM (Memref.isWhole_whole _) xvM (Memref.isWhole_whole _) wvM (Memref.isWhole_whole _) accM (Memref.isWhole_whole _) cc0_scratch5 cc0_scratch6 cc0_scratch7 cc0_scratch8 cc0_scratch9 cc0_scratch10 c v79 v110 >>= kk) Q := by
  rw [k0_part31_eq_skeleton]
  unfold k0_part31_skel
  simp only [Prog.lift, Prog.bind_op, Prog.bind_ret, Prog.pure_eq_ret, Prog.bind_assoc]
  refine step_send m K c 13 rfl rfl (dev16_eq c) rfl rfl rfl rfl ?_
  refine step_recv m K c 10 rfl rfl rfl ?_
  refine step_send m K c 14 rfl rfl (dev17_eq c) rfl rfl rfl rfl ?_
  refine step_recv m K c 11 rfl rfl rfl ?_
  exact h

theorem part32 {α : Type} {Q : α → sProp 𝕄} {R : sProp 𝕄} (v110 : BitVec 32) (v238 : BitVec 32) {kk : _ → Prog (TpuEff nD τ sig (Elt F) Λ₀ .tc) α}
    (h : iprop(St m K c 42 ∗ R) ⊢ WP c (kk (k0_pay12 (xblk m (slotDev c 13)))) Q) :
    iprop(St m K c 39 ∗ R) ⊢ WP c (k0_part32 xM (Memref.isWhole_whole _) wM (Memref.isWhole_whole _) a2 h2 a3 h3 outM (Memref.isWhole_whole _) bufM (Memref.isWhole_whole _) wbM (Memref.isWhole_whole _) xvM (Memref.isWhole_whole _) wvM (Memref.isWhole_whole _) accM (Memref.isWhole_whole _) cc0_scratch5 cc0_scratch6 cc0_scratch7 cc0_scratch8 cc0_scratch9 cc0_scratch10 c v110 v238 (scale m c) >>= kk) Q := by
  rw [k0_part32_eq_skeleton]
  unfold k0_part32_skel
  simp only [Prog.lift, Prog.bind_op, Prog.bind_ret, Prog.pure_eq_ret, Prog.bind_assoc]
  refine step_send m K c 15 rfl rfl (dev18_eq c) rfl rfl rfl rfl ?_
  refine step_slot m K c 3 8 10 rfl rfl rfl rfl (by decide) (by decide) rfl ?_
  refine step_wb m K c (by decide) ?_
  refine step_dead m K c 3 rfl (fullR_set (by decide) (off1_eq 3 (by decide) c)) (fun _ => ?_)
  refine step_acc_full m K c 3 (by decide) rfl (off1_eq 3 (by decide) c) rfl (pay11 _ _ _) ?_
  refine step_copy m K c 3 rfl rfl (fullR_set (by decide) (off2_eq 3 (by decide) c)) (full_copied m c (by decide) (off2_eq 3 (by decide) c)) (full_credit (by decide)) ?_
  refine step_slot m K c 13 9 11 rfl rfl rfl rfl (by decide) (by decide) rfl ?_
  exact h

theorem part33 {α : Type} {Q : α → sProp 𝕄} {R : sProp 𝕄} (v79 : BitVec 32) (v558 : BitVec 32) {kk : _ → Prog (TpuEff nD τ sig (Elt F) Λ₀ .tc) α}
    (h : iprop(St m K c 45 ∗ R) ⊢ WP c (kk ⟨⟩) Q) :
    iprop(St m K c 42 ∗ R) ⊢ WP c (k0_part33 xM (Memref.isWhole_whole _) wM (Memref.isWhole_whole _) a2 h2 a3 h3 outM (Memref.isWhole_whole _) bufM (Memref.isWhole_whole _) wbM (Memref.isWhole_whole _) xvM (Memref.isWhole_whole _) wvM (Memref.isWhole_whole _) accM (Memref.isWhole_whole _) cc0_scratch5 cc0_scratch6 cc0_scratch7 cc0_scratch8 cc0_scratch9 cc0_scratch10 c v79 v558 (scale m c) (k0_pay12 (xblk m (slotDev c 13))) >>= kk) Q := by
  rw [k0_part33_eq_skeleton]
  unfold k0_part33_skel
  simp only [Prog.lift, Prog.bind_op, Prog.bind_ret, Prog.pure_eq_ret, Prog.bind_assoc]
  refine step_wb m K c (by decide) ?_
  refine step_dead m K c 13 rfl (fullR_set (by decide) (off1_eq 13 (by decide) c)) (fun _ => ?_)
  refine step_acc_full m K c 13 (by decide) rfl (off1_eq 13 (by decide) c) rfl (pay13_12 _ _ _) ?_
  refine step_copy m K c 13 rfl rfl (fullR_set (by decide) (off2_eq 13 (by decide) c)) (full_copied m c (by decide) (off2_eq 13 (by decide) c)) (full_credit (by decide)) ?_
  refine step_recv m K c 12 rfl rfl rfl ?_
  exact h

theorem part34 {α : Type} {Q : α → sProp 𝕄} {R : sProp 𝕄} (v79 : BitVec 32) (v110 : BitVec 32) {kk : _ → Prog (TpuEff nD τ sig (Elt F) Λ₀ .tc) α}
    (h : iprop(St m K c 48 ∗ R) ⊢ WP c (kk ⟨⟩) Q) :
    iprop(St m K c 45 ∗ R) ⊢ WP c (k0_part34 xM (Memref.isWhole_whole _) wM (Memref.isWhole_whole _) a2 h2 a3 h3 outM (Memref.isWhole_whole _) bufM (Memref.isWhole_whole _) wbM (Memref.isWhole_whole _) xvM (Memref.isWhole_whole _) wvM (Memref.isWhole_whole _) accM (Memref.isWhole_whole _) cc0_scratch5 cc0_scratch6 cc0_scratch7 cc0_scratch8 cc0_scratch9 cc0_scratch10 c v79 v110 >>= kk) Q := by
  rw [k0_part34_eq_skeleton]
  unfold k0_part34_skel
  simp only [Prog.lift, Prog.bind_op, Prog.bind_ret, Prog.pure_eq_ret, Prog.bind_assoc]
  refine step_send m K c 16 rfl rfl (dev19_eq c) rfl rfl rfl rfl ?_
  refine step_recv m K c 13 rfl rfl rfl ?_
  refine step_send m K c 17 rfl rfl (dev20_eq c) rfl rfl rfl rfl ?_
  exact h

theorem part35 {α : Type} {Q : α → sProp 𝕄} {R : sProp 𝕄} (v79 : BitVec 32) (v110 : BitVec 32) {kk : _ → Prog (TpuEff nD τ sig (Elt F) Λ₀ .tc) α}
    (h : iprop(St m K c 51 ∗ R) ⊢ WP c (kk ⟨⟩) Q) :
    iprop(St m K c 48 ∗ R) ⊢ WP c (k0_part35 xM (Memref.isWhole_whole _) wM (Memref.isWhole_whole _) a2 h2 a3 h3 outM (Memref.isWhole_whole _) bufM (Memref.isWhole_whole _) wbM (Memref.isWhole_whole _) xvM (Memref.isWhole_whole _) wvM (Memref.isWhole_whole _) accM (Memref.isWhole_whole _) cc0_scratch5 cc0_scratch6 cc0_scratch7 cc0_scratch8 cc0_scratch9 cc0_scratch10 c v79 v110 >>= kk) Q := by
  rw [k0_part35_eq_skeleton]
  unfold k0_part35_skel
  simp only [Prog.lift, Prog.bind_op, Prog.bind_ret, Prog.pure_eq_ret, Prog.bind_assoc]
  refine step_recv m K c 14 rfl rfl rfl ?_
  refine step_send m K c 18 rfl rfl (dev21_eq c) rfl rfl rfl rfl ?_
  refine step_recv m K c 15 rfl rfl rfl ?_
  exact h

theorem part36 {α : Type} {Q : α → sProp 𝕄} {R : sProp 𝕄} (v270 : BitVec 32) (v526 : BitVec 32) {kk : _ → Prog (TpuEff nD τ sig (Elt F) Λ₀ .tc) α}
    (h : iprop(St m K c 54 ∗ R) ⊢ WP c (kk (k0_pay15 (scale m c) (xblk m (slotDev c 12)) (wbf m c))) Q) :
    iprop(St m K c 51 ∗ R) ⊢ WP c (k0_part36 xM (Memref.isWhole_whole _) wM (Memref.isWhole_whole _) a2 h2 a3 h3 outM (Memref.isWhole_whole _) bufM (Memref.isWhole_whole _) wbM (Memref.isWhole_whole _) xvM (Memref.isWhole_whole _) wvM (Memref.isWhole_whole _) accM (Memref.isWhole_whole _) cc0_scratch5 cc0_scratch6 cc0_scratch7 cc0_scratch8 cc0_scratch9 cc0_scratch10 c v270 v526 (scale m c) >>= kk) Q := by
  rw [k0_part36_eq_skeleton]
  unfold k0_part36_skel
  simp only [Prog.lift, Prog.bind_op, Prog.bind_ret, Prog.pure_eq_ret, Prog.bind_assoc]
  refine step_send m K c 19 rfl rfl (dev22_eq c) rfl rfl rfl rfl ?_
  refine step_slot m K c 4 12 14 rfl rfl rfl rfl (by decide) (by decide) rfl ?_
  refine step_wb m K c (by decide) ?_
  refine step_dead m K c 4 rfl (fullR_set (by decide) (off1_eq 4 (by decide) c)) (fun _ => ?_)
  refine step_acc_full m K c 4 (by decide) rfl (off1_eq 4 (by decide) c) rfl (pay14 _ _ _) ?_
  refine step_copy m K c 4 rfl rfl (fullR_set (by decide) (off2_eq 4 (by decide) c)) (full_copied m c (by decide) (off2_eq 4 (by decide) c)) (full_credit (by decide)) ?_
  refine step_slot m K c 12 13 15 rfl rfl rfl rfl (by decide) (by decide) rfl ?_
  refine step_wb m K c (by decide) ?_
  refine step_dead m K c 12 rfl (fullR_set (by decide) (off1_eq 12 (by decide) c)) (fun _ => ?_)
  exact h

theorem part37 {α : Type} {Q : α → sProp 𝕄} {R : sProp 𝕄} (v79 : BitVec 32) (v110 : BitVec 32) {kk : _ → Prog (TpuEff nD τ sig (Elt F) Λ₀ .tc) α}
    (h : iprop(St m K c 58 ∗ R) ⊢ WP c (kk ⟨⟩) Q) :
    iprop(St m K c 54 ∗ R) ⊢ WP c (k0_part37 xM (Memref.isWhole_whole _) wM (Memref.isWhole_whole _) a2 h2 a3 h3 outM (Memref.isWhole_whole _) bufM (Memref.isWhole_whole _) wbM (Memref.isWhole_whole _) xvM (Memref.isWhole_whole _) wvM (Memref.isWhole_whole _) accM (Memref.isWhole_whole _) cc0_scratch5 cc0_scratch6 cc0_scratch7 cc0_scratch8 cc0_scratch9 cc0_scratch10 c v79 v110 (k0_pay15 (scale m c) (xblk m (slotDev c 12)) (wbf m c)) >>= kk) Q := by
  rw [k0_part37_eq_skeleton]
  unfold k0_part37_skel
  simp only [Prog.lift, Prog.bind_op, Prog.bind_ret, Prog.pure_eq_ret, Prog.bind_assoc]
  refine step_acc_full m K c 12 (by decide) rfl (off1_eq 12 (by decide) c) rfl (pay15 _ _ _) ?_
  refine step_copy m K c 12 rfl rfl (fullR_set (by decide) (off2_eq 12 (by decide) c)) (full_copied m c (by decide) (off2_eq 12 (by decide) c)) (full_credit (by decide)) ?_
  refine step_recv m K c 16 rfl rfl rfl ?_
  refine step_send m K c 20 rfl rfl (dev23_eq c) rfl rfl rfl rfl ?_
  exact h

theorem part38 {α : Type} {Q : α → sProp 𝕄} {R : sProp 𝕄} (v79 : BitVec 32) (v110 : BitVec 32) {kk : _ → Prog (TpuEff nD τ sig (Elt F) Λ₀ .tc) α}
    (h : iprop(St m K c 61 ∗ R) ⊢ WP c (kk ⟨⟩) Q) :
    iprop(St m K c 58 ∗ R) ⊢ WP c (k0_part38 xM (Memref.isWhole_whole _) wM (Memref.isWhole_whole _) a2 h2 a3 h3 outM (Memref.isWhole_whole _) bufM (Memref.isWhole_whole _) wbM (Memref.isWhole_whole _) xvM (Memref.isWhole_whole _) wvM (Memref.isWhole_whole _) accM (Memref.isWhole_whole _) cc0_scratch5 cc0_scratch6 cc0_scratch7 cc0_scratch8 cc0_scratch9 cc0_scratch10 c v79 v110 >>= kk) Q := by
  rw [k0_part38_eq_skeleton]
  unfold k0_part38_skel
  simp only [Prog.lift, Prog.bind_op, Prog.bind_ret, Prog.pure_eq_ret, Prog.bind_assoc]
  refine step_recv m K c 17 rfl rfl rfl ?_
  refine step_send m K c 21 rfl rfl (dev24_eq c) rfl rfl rfl rfl ?_
  refine step_recv m K c 18 rfl rfl rfl ?_
  exact h

theorem part39 {α : Type} {Q : α → sProp 𝕄} {R : sProp 𝕄} (v110 : BitVec 32) {kk : _ → Prog (TpuEff nD τ sig (Elt F) Λ₀ .tc) α}
    (h : iprop(St m K c 64 ∗ R) ⊢ WP c (kk (k0_pay16 (xblk m (slotDev c 5)) (wbf m c))) Q) :
    iprop(St m K c 61 ∗ R) ⊢ WP c (k0_part39 xM (Memref.isWhole_whole _) wM (Memref.isWhole_whole _) a2 h2 a3 h3 outM (Memref.isWhole_whole _) bufM (Memref.isWhole_whole _) wbM (Memref.isWhole_whole _) xvM (Memref.isWhole_whole _) wvM (Memref.isWhole_whole _) accM (Memref.isWhole_whole _) cc0_scratch5 cc0_scratch6 cc0_scratch7 cc0_scratch8 cc0_scratch9 cc0_scratch10 c v110 >>= kk) Q := by
  rw [k0_part39_eq_skeleton]
  unfold k0_part39_skel
  simp only [Prog.lift, Prog.bind_op, Prog.bind_ret, Prog.pure_eq_ret, Prog.bind_assoc]
  refine step_send m K c 22 rfl rfl (dev25_eq c) rfl rfl rfl rfl ?_
  refine step_recv m K c 19 rfl rfl rfl ?_
  refine step_send m K c 23 rfl rfl (dev26_eq c) rfl rfl rfl rfl ?_
  refine step_slot m K c 5 16 18 rfl rfl rfl rfl (by decide) (by decide) rfl ?_
  refine step_wb m K c (by decide) ?_
  exact h

theorem part40 {α : Type} {Q : α → sProp 𝕄} {R : sProp 𝕄} (v79 : BitVec 32) (v302 : BitVec 32) (v494 : BitVec 32) {kk : _ → Prog (TpuEff nD τ sig (Elt F) Λ₀ .tc) α}
    (h : ∀ w, iprop(St m K c 68 ∗ R) ⊢ WP c (kk w) Q) :
    iprop(St m K c 64 ∗ R) ⊢ WP c (k0_part40 xM (Memref.isWhole_whole _) wM (Memref.isWhole_whole _) a2 h2 a3 h3 outM (Memref.isWhole_whole _) bufM (Memref.isWhole_whole _) wbM (Memref.isWhole_whole _) xvM (Memref.isWhole_whole _) wvM (Memref.isWhole_whole _) accM (Memref.isWhole_whole _) cc0_scratch5 cc0_scratch6 cc0_scratch7 cc0_scratch8 cc0_scratch9 cc0_scratch10 c v79 v302 v494 (scale m c) (k0_pay16 (xblk m (slotDev c 5)) (wbf m c)) >>= kk) Q := by
  rw [k0_part40_eq_skeleton]
  unfold k0_part40_skel
  simp only [Prog.lift, Prog.bind_op, Prog.bind_ret, Prog.pure_eq_ret, Prog.bind_assoc]
  refine step_dead m K c 5 rfl (fullR_set (by decide) (off1_eq 5 (by decide) c)) (fun _ => ?_)
  refine step_acc_full m K c 5 (by decide) rfl (off1_eq 5 (by decide) c) rfl (pay17_16 _ _ _) ?_
  refine step_copy m K c 5 rfl rfl (fullR_set (by decide) (off2_eq 5 (by decide) c)) (full_copied m c (by decide) (off2_eq 5 (by decide) c)) (full_credit (by decide)) ?_
  refine step_slot m K c 11 17 19 rfl rfl rfl rfl (by decide) (by decide) rfl ?_
  refine step_wb m K c (by decide) ?_
  refine step_dead m K c 11 rfl (fullR_set (by decide) (off1_eq 11 (by decide) c)) (fun _ => ?_)
  refine step_acc_full m K c 11 (by decide) rfl (off1_eq 11 (by decide) c) rfl (pay18 _ _ _) ?_
  refine step_copy m K c 11 rfl rfl (fullR_set (by decide) (off2_eq 11 (by decide) c)) (full_copied m c (by decide) (off2_eq 11 (by decide) c)) (full_credit (by decide)) ?_
  exact h _

theorem part41 {α : Type} {Q : α → sProp 𝕄} {R : sProp 𝕄} (v79 : BitVec 32) (v110 : BitVec 32) (v1258 : BitVec 32) (c0_i32_1032 : BitVec 32) {kk : _ → Prog (TpuEff nD τ sig (Elt F) Λ₀ .tc) α}
    (h : iprop(St m K c 71 ∗ R) ⊢ WP c (kk ⟨⟩) Q) :
    iprop(St m K c 68 ∗ R) ⊢ WP c (k0_part41 xM (Memref.isWhole_whole _) wM (Memref.isWhole_whole _) a2 h2 a3 h3 outM (Memref.isWhole_whole _) bufM (Memref.isWhole_whole _) wbM (Memref.isWhole_whole _) xvM (Memref.isWhole_whole _) wvM (Memref.isWhole_whole _) accM (Memref.isWhole_whole _) cc0_scratch5 cc0_scratch6 cc0_scratch7 cc0_scratch8 cc0_scratch9 cc0_scratch10 c v79 v110 v1258 c0_i32_1032 >>= kk) Q := by
  rw [k0_part41_eq_skeleton]
  unfold k0_part41_skel
  simp only [Prog.lift, Prog.bind_op, Prog.bind_ret, Prog.pure_eq_ret, Prog.bind_assoc]
  refine step_recv m K c 20 rfl rfl rfl ?_
  refine step_send m K c 24 rfl rfl (dev27_eq c) rfl rfl rfl rfl ?_
  refine step_recv m K c 21 rfl rfl rfl ?_
  exact h

theorem part42 {α : Type} {Q : α → sProp 𝕄} {R : sProp 𝕄} (v79 : BitVec 32) (v110 : BitVec 32) {kk : _ → Prog (TpuEff nD τ sig (Elt F) Λ₀ .tc) α}
    (h : ∀ w, iprop(St m K c 74 ∗ R) ⊢ WP c (kk w) Q) :
    iprop(St m K c 71 ∗ R) ⊢ WP c (k0_part42 xM (Memref.isWhole_whole _) wM (Memref.isWhole_whole _) a2 h2 a3 h3 outM (Memref.isWhole_whole _) bufM (Memref.isWhole_whole _) wbM (Memref.isWhole_whole _) xvM (Memref.isWhole_whole _) wvM (Memref.isWhole_whole _) accM (Memref.isWhole_whole _) cc0_scratch5 cc0_scratch6 cc0_scratch7 cc0_scratch8 cc0_scratch9 cc0_scratch10 c v79 v110 >>= kk) Q := by
  rw [k0_part42_eq_skeleton]
  unfold k0_part42_skel
  simp only [Prog.lift, Prog.bind_op, Prog.bind_ret, Prog.pure_eq_ret, Prog.bind_assoc]
  refine step_send m K c 25 rfl rfl (dev28_eq c) rfl rfl rfl rfl ?_
  refine step_recv m K c 22 rfl rfl rfl ?_
  refine step_send m K c 26 rfl rfl (dev29_eq c) rfl rfl rfl rfl ?_
  exact h _

theorem part43 {α : Type} {Q : α → sProp 𝕄} {R : sProp 𝕄} (v110 : BitVec 32) (v334 : BitVec 32) (v1312 : BitVec 32) (c0_i32_1092 : BitVec 32) {kk : _ → Prog (TpuEff nD τ sig (Elt F) Λ₀ .tc) α}
    (h : iprop(St m K c 77 ∗ R) ⊢ WP c (kk ⟨⟩) Q) :
    iprop(St m K c 74 ∗ R) ⊢ WP c (k0_part43 xM (Memref.isWhole_whole _) wM (Memref.isWhole_whole _) a2 h2 a3 h3 outM (Memref.isWhole_whole _) bufM (Memref.isWhole_whole _) wbM (Memref.isWhole_whole _) xvM (Memref.isWhole_whole _) wvM (Memref.isWhole_whole _) accM (Memref.isWhole_whole _) cc0_scratch5 cc0_scratch6 cc0_scratch7 cc0_scratch8 cc0_scratch9 cc0_scratch10 c v110 v334 (scale m c) v1312 c0_i32_1092 >>= kk) Q := by
  rw [k0_part43_eq_skeleton]
  unfold k0_part43_skel
  simp only [Prog.lift, Prog.bind_op, Prog.bind_ret, Prog.pure_eq_ret, Prog.bind_assoc]
  refine step_recv m K c 23 rfl rfl rfl ?_
  refine step_send m K c 27 rfl rfl (dev30_eq c) rfl rfl rfl rfl ?_
  refine step_slot m K c 6 20 22 rfl rfl rfl rfl (by decide) (by decide) rfl ?_
  refine step_wb m K c (by decide) ?_
  refine step_dead m K c 6 rfl (fullR_set (by decide) (off1_eq 6 (by decide) c)) (fun _ => ?_)
  refine step_acc_full m K c 6 (by decide) rfl (off1_eq 6 (by decide) c) rfl (pay19 _ _ _) ?_
  exact h

theorem part44 {α : Type} {Q : α → sProp 𝕄} {R : sProp 𝕄} (v79 : BitVec 32) (v462 : BitVec 32) {kk : _ → Prog (TpuEff nD τ sig (Elt F) Λ₀ .tc) α}
    (h : iprop(St m K c 81 ∗ R) ⊢ WP c (kk ⟨⟩) Q) :
    iprop(St m K c 77 ∗ R) ⊢ WP c (k0_part44 xM (Memref.isWhole_whole _) wM (Memref.isWhole_whole _) a2 h2 a3 h3 outM (Memref.isWhole_whole _) bufM (Memref.isWhole_whole _) wbM (Memref.isWhole_whole _) xvM (Memref.isWhole_whole _) wvM (Memref.isWhole_whole _) accM (Memref.isWhole_whole _) cc0_scratch5 cc0_scratch6 cc0_scratch7 cc0_scratch8 cc0_scratch9 cc0_scratch10 c v79 v462 (scale m c) >>= kk) Q := by
  rw [k0_part44_eq_skeleton]
  unfold k0_part44_skel
  simp only [Prog.lift, Prog.bind_op, Prog.bind_ret, Prog.pure_eq_ret, Prog.bind_assoc]
  refine step_copy m K c 6 rfl rfl (fullR_set (by decide) (off2_eq 6 (by decide) c)) (full_copied m c (by decide) (off2_eq 6 (by decide) c)) (full_credit (by decide)) ?_
  refine step_slot m K c 10 21 23 rfl rfl rfl rfl (by decide) (by decide) rfl ?_
  refine step_wb m K c (by decide) ?_
  refine step_dead m K c 10 rfl (fullR_set (by decide) (off1_eq 10 (by decide) c)) (fun _ => ?_)
  refine step_acc_full m K c 10 (by decide) rfl (off1_eq 10 (by decide) c) rfl (pay20 _ _ _) ?_
  refine step_copy m K c 10 rfl rfl (fullR_set (by decide) (off2_eq 10 (by decide) c)) (full_copied m c (by decide) (off2_eq 10 (by decide) c)) (full_credit (by decide)) ?_
  refine step_recv m K c 24 rfl rfl rfl ?_
  exact h

theorem part45 {α : Type} {Q : α → sProp 𝕄} {R : sProp 𝕄} (v79 : BitVec 32) (v110 : BitVec 32) {kk : _ → Prog (TpuEff nD τ sig (Elt F) Λ₀ .tc) α}
    (h : ∀ w, iprop(St m K c 84 ∗ R) ⊢ WP c (kk w) Q) :
    iprop(St m K c 81 ∗ R) ⊢ WP c (k0_part45 xM (Memref.isWhole_whole _) wM (Memref.isWhole_whole _) a2 h2 a3 h3 outM (Memref.isWhole_whole _) bufM (Memref.isWhole_whole _) wbM (Memref.isWhole_whole _) xvM (Memref.isWhole_whole _) wvM (Memref.isWhole_whole _) accM (Memref.isWhole_whole _) cc0_scratch5 cc0_scratch6 cc0_scratch7 cc0_scratch8 cc0_scratch9 cc0_scratch10 c v79 v110 >>= kk) Q := by
  rw [k0_part45_eq_skeleton]
  unfold k0_part45_skel
  simp only [Prog.lift, Prog.bind_op, Prog.bind_ret, Prog.pure_eq_ret, Prog.bind_assoc]
  refine step_send m K c 28 rfl rfl (dev31_eq c) rfl rfl rfl rfl ?_
  refine step_recv m K c 25 rfl rfl rfl ?_
  refine step_recv m K c 26 rfl rfl rfl ?_
  exact h _

theorem part46 {α : Type} {Q : α → sProp 𝕄} {R : sProp 𝕄} (v110 : BitVec 32) (v366 : BitVec 32) (c1_i32_1171 : BitVec 32) {kk : _ → Prog (TpuEff nD τ sig (Elt F) Λ₀ .tc) α}
    (h : iprop(St m K c 87 ∗ R) ⊢ WP c (kk ⟨⟩) Q) :
    iprop(St m K c 84 ∗ R) ⊢ WP c (k0_part46 xM (Memref.isWhole_whole _) wM (Memref.isWhole_whole _) a2 h2 a3 h3 outM (Memref.isWhole_whole _) bufM (Memref.isWhole_whole _) wbM (Memref.isWhole_whole _) xvM (Memref.isWhole_whole _) wvM (Memref.isWhole_whole _) accM (Memref.isWhole_whole _) cc0_scratch5 cc0_scratch6 cc0_scratch7 cc0_scratch8 cc0_scratch9 cc0_scratch10 c v110 v366 (scale m c) c1_i32_1171 >>= kk) Q := by
  rw [k0_part46_eq_skeleton]
  unfold k0_part46_skel
  simp only [Prog.lift, Prog.bind_op, Prog.bind_ret, Prog.pure_eq_ret, Prog.bind_assoc]
  refine step_recv m K c 27 rfl rfl rfl ?_
  refine step_send m K c 31 rfl rfl (dev32_eq c) rfl rfl rfl rfl ?_
  refine step_slot m K c 7 24 26 rfl rfl rfl rfl (by decide) (by decide) rfl ?_
  refine step_wb m K c (by decide) ?_
  refine step_dead m K c 7 rfl (fullR_set (by decide) (off1_eq 7 (by decide) c)) (fun _ => ?_)
  refine step_acc_full m K c 7 (by decide) rfl (off1_eq 7 (by decide) c) rfl (pay21 _ _ _) ?_
  exact h

theorem part47 {α : Type} {Q : α → sProp 𝕄} {R : sProp 𝕄} (v79 : BitVec 32) (v430 : BitVec 32) {kk : _ → Prog (TpuEff nD τ sig (Elt F) Λ₀ .tc) α}
    (h : iprop(St m K c 91 ∗ R) ⊢ WP c (kk ⟨⟩) Q) :
    iprop(St m K c 87 ∗ R) ⊢ WP c (k0_part47 xM (Memref.isWhole_whole _) wM (Memref.isWhole_whole _) a2 h2 a3 h3 outM (Memref.isWhole_whole _) bufM (Memref.isWhole_whole _) wbM (Memref.isWhole_whole _) xvM (Memref.isWhole_whole _) wvM (Memref.isWhole_whole _) accM (Memref.isWhole_whole _) cc0_scratch5 cc0_scratch6 cc0_scratch7 cc0_scratch8 cc0_scratch9 cc0_scratch10 c v79 v430 (scale m c) >>= kk) Q := by
  rw [k0_part47_eq_skeleton]
  unfold k0_part47_skel
  simp only [Prog.lift, Prog.bind_op, Prog.bind_ret, Prog.pure_eq_ret, Prog.bind_assoc]
  refine step_copy m K c 7 rfl rfl (fullR_set (by decide) (off2_eq 7 (by decide) c)) (full_copied m c (by decide) (off2_eq 7 (by decide) c)) (full_credit (by decide)) ?_
  refine step_slot m K c 9 25 27 rfl rfl rfl rfl (by decide) (by decide) rfl ?_
  refine step_wb m K c (by decide) ?_
  refine step_dead m K c 9 rfl (fullR_set (by decide) (off1_eq 9 (by decide) c)) (fun _ => ?_)
  refine step_acc_full m K c 9 (by decide) rfl (off1_eq 9 (by decide) c) rfl (pay22 _ _ _) ?_
  refine step_copy m K c 9 rfl rfl (fullR_set (by decide) (off2_eq 9 (by decide) c)) (full_copied m c (by decide) (off2_eq 9 (by decide) c)) (full_credit (by decide)) ?_
  refine step_recv m K c 28 rfl rfl rfl ?_
  exact h

theorem part48 {α : Type} {Q : α → sProp 𝕄} {R : sProp 𝕄} (v110 : BitVec 32) (v398 : BitVec 32) {kk : _ → Prog (TpuEff nD τ sig (Elt F) Λ₀ .tc) α}
    (h : iprop(St m K c 94 ∗ R) ⊢ WP c (kk (k0_pay24 (xhalf m (slotDev c 8) 1) (wbf m c))) Q) :
    iprop(St m K c 91 ∗ R) ⊢ WP c (k0_part48 xM (Memref.isWhole_whole _) wM (Memref.isWhole_whole _) a2 h2 a3 h3 outM (Memref.isWhole_whole _) bufM (Memref.isWhole_whole _) wbM (Memref.isWhole_whole _) xvM (Memref.isWhole_whole _) wvM (Memref.isWhole_whole _) accM (Memref.isWhole_whole _) cc0_scratch5 cc0_scratch6 cc0_scratch7 cc0_scratch8 cc0_scratch9 cc0_scratch10 c v110 v398 (scale m c) >>= kk) Q := by
  rw [k0_part48_eq_skeleton]
  unfold k0_part48_skel
  simp only [Prog.lift, Prog.bind_op, Prog.bind_ret, Prog.pure_eq_ret, Prog.bind_assoc]
  refine step_half m K c (8, 0) 28 rfl rfl (by decide) rfl ?_
  refine step_wb m K c (by decide) ?_
  refine step_dead m K c 8 rfl (halfR_set (by decide) (off3_eq 8 (by decide) c)) (fun _ => ?_)
  refine step_acc_half m K c 8 (by decide) rfl (off3_eq 8 (by decide) c) rfl rfl ?_
  refine step_copy m K c 8 rfl rfl (halfR_set (by decide) (off4_eq 8 (by decide) c)) (half_copied m c (by decide) (off4_eq 8 (by decide) c)) (half_credit (by decide)) ?_
  refine step_recv m K c 31 rfl rfl rfl ?_
  refine step_half m K c (8, 1) 31 rfl rfl (by decide) rfl ?_
  refine step_wb m K c (by decide) ?_
  exact h

theorem part49 {α : Type} {Q : α → sProp 𝕄} {R : sProp 𝕄} (v398 : BitVec 32) {kk : _ → Prog (TpuEff nD τ sig (Elt F) Λ₀ .tc) α}
    (h : iprop(St m K c 98 ∗ R) ⊢ WP c (kk ⟨⟩) Q) :
    iprop(St m K c 94 ∗ R) ⊢ WP c (k0_part49 xM (Memref.isWhole_whole _) wM (Memref.isWhole_whole _) a2 h2 a3 h3 outM (Memref.isWhole_whole _) bufM (Memref.isWhole_whole _) wbM (Memref.isWhole_whole _) xvM (Memref.isWhole_whole _) wvM (Memref.isWhole_whole _) accM (Memref.isWhole_whole _) cc0_scratch5 cc0_scratch6 cc0_scratch7 cc0_scratch8 cc0_scratch9 cc0_scratch10 c v398 (scale m c) (k0_pay24 (xhalf m (slotDev c 8) 1) (wbf m c)) >>= kk) Q := by
  rw [k0_part49_eq_skeleton]
  unfold k0_part49_skel
  simp only [Prog.lift, Prog.bind_op, Prog.bind_ret, Prog.pure_eq_ret, Prog.bind_assoc]
  refine step_dead m K c 16 rfl (halfR_set (by decide) (off3_eq 16 (by decide) c)) (fun _ => ?_)
  refine step_acc_half m K c 16 (by decide) rfl (off3_eq 16 (by decide) c) rfl (pay25_24 _ _ _) ?_
  refine step_copy m K c 16 rfl rfl (halfR_set (by decide) (off4_eq 16 (by decide) c)) (half_copied m c (by decide) (off4_eq 16 (by decide) c)) (half_credit (by decide)) ?_
  refine step_swait m K c 0 rfl rfl rfl ?_
  refine step_swait m K c 1 rfl rfl rfl ?_
  exact h

theorem part50 {α : Type} {Q : α → sProp 𝕄} {R : sProp 𝕄} {kk : _ → Prog (TpuEff nD τ sig (Elt F) Λ₀ .tc) α}
    (h : iprop(St m K c 102 ∗ R) ⊢ WP c (kk ⟨⟩) Q) :
    iprop(St m K c 98 ∗ R) ⊢ WP c (k0_part50 xM (Memref.isWhole_whole _) wM (Memref.isWhole_whole _) a2 h2 a3 h3 outM (Memref.isWhole_whole _) bufM (Memref.isWhole_whole _) wbM (Memref.isWhole_whole _) xvM (Memref.isWhole_whole _) wvM (Memref.isWhole_whole _) accM (Memref.isWhole_whole _) cc0_scratch5 cc0_scratch6 cc0_scratch7 cc0_scratch8 cc0_scratch9 cc0_scratch10  >>= kk) Q := by
  rw [k0_part50_eq_skeleton]
  unfold k0_part50_skel
  simp only [Prog.lift, Prog.bind_op, Prog.bind_ret, Prog.pure_eq_ret, Prog.bind_assoc]
  refine step_swait m K c 2 rfl rfl rfl ?_
  refine step_swait m K c 3 rfl rfl rfl ?_
  refine step_swait m K c 4 rfl rfl rfl ?_
  refine step_swait m K c 5 rfl rfl rfl ?_
  exact h

theorem part51 {α : Type} {Q : α → sProp 𝕄} {R : sProp 𝕄} {kk : _ → Prog (TpuEff nD τ sig (Elt F) Λ₀ .tc) α}
    (h : iprop(St m K c 105 ∗ R) ⊢ WP c (kk ⟨⟩) Q) :
    iprop(St m K c 102 ∗ R) ⊢ WP c (k0_part51 xM (Memref.isWhole_whole _) wM (Memref.isWhole_whole _) a2 h2 a3 h3 outM (Memref.isWhole_whole _) bufM (Memref.isWhole_whole _) wbM (Memref.isWhole_whole _) xvM (Memref.isWhole_whole _) wvM (Memref.isWhole_whole _) accM (Memref.isWhole_whole _) cc0_scratch5 cc0_scratch6 cc0_scratch7 cc0_scratch8 cc0_scratch9 cc0_scratch10  >>= kk) Q := by
  rw [k0_part51_eq_skeleton]
  unfold k0_part51_skel
  simp only [Prog.lift, Prog.bind_op, Prog.bind_ret, Prog.pure_eq_ret, Prog.bind_assoc]
  refine step_swait m K c 6 rfl rfl rfl ?_
  refine step_swait m K c 7 rfl rfl rfl ?_
  refine step_swait m K c 8 rfl rfl rfl ?_
  exact h

theorem part52 {α : Type} {Q : α → sProp 𝕄} {R : sProp 𝕄} {kk : _ → Prog (TpuEff nD τ sig (Elt F) Λ₀ .tc) α}
    (h : iprop(St m K c 109 ∗ R) ⊢ WP c (kk ⟨⟩) Q) :
    iprop(St m K c 105 ∗ R) ⊢ WP c (k0_part52 xM (Memref.isWhole_whole _) wM (Memref.isWhole_whole _) a2 h2 a3 h3 outM (Memref.isWhole_whole _) bufM (Memref.isWhole_whole _) wbM (Memref.isWhole_whole _) xvM (Memref.isWhole_whole _) wvM (Memref.isWhole_whole _) accM (Memref.isWhole_whole _) cc0_scratch5 cc0_scratch6 cc0_scratch7 cc0_scratch8 cc0_scratch9 cc0_scratch10  >>= kk) Q := by
  rw [k0_part52_eq_skeleton]
  unfold k0_part52_skel
  simp only [Prog.lift, Prog.bind_op, Prog.bind_ret, Prog.pure_eq_ret, Prog.bind_assoc]
  refine step_swait m K c 9 rfl rfl rfl ?_
  refine step_swait m K c 10 rfl rfl rfl ?_
  refine step_swait m K c 11 rfl rfl rfl ?_
  refine step_swait m K c 12 rfl rfl rfl ?_
  exact h

theorem part53 {α : Type} {Q : α → sProp 𝕄} {R : sProp 𝕄} {kk : _ → Prog (TpuEff nD τ sig (Elt F) Λ₀ .tc) α}
    (h : iprop(St m K c 113 ∗ R) ⊢ WP c (kk ⟨⟩) Q) :
    iprop(St m K c 109 ∗ R) ⊢ WP c (k0_part53 xM (Memref.isWhole_whole _) wM (Memref.isWhole_whole _) a2 h2 a3 h3 outM (Memref.isWhole_whole _) bufM (Memref.isWhole_whole _) wbM (Memref.isWhole_whole _) xvM (Memref.isWhole_whole _) wvM (Memref.isWhole_whole _) accM (Memref.isWhole_whole _) cc0_scratch5 cc0_scratch6 cc0_scratch7 cc0_scratch8 cc0_scratch9 cc0_scratch10  >>= kk) Q := by
  rw [k0_part53_eq_skeleton]
  unfold k0_part53_skel
  simp only [Prog.lift, Prog.bind_op, Prog.bind_ret, Prog.pure_eq_ret, Prog.bind_assoc]
  refine step_swait m K c 13 rfl rfl rfl ?_
  refine step_swait m K c 14 rfl rfl rfl ?_
  refine step_swait m K c 15 rfl rfl rfl ?_
  refine step_swait m K c 16 rfl rfl rfl ?_
  exact h

theorem part54 {α : Type} {Q : α → sProp 𝕄} {R : sProp 𝕄} {kk : _ → Prog (TpuEff nD τ sig (Elt F) Λ₀ .tc) α}
    (h : iprop(St m K c 117 ∗ R) ⊢ WP c (kk ⟨⟩) Q) :
    iprop(St m K c 113 ∗ R) ⊢ WP c (k0_part54 xM (Memref.isWhole_whole _) wM (Memref.isWhole_whole _) a2 h2 a3 h3 outM (Memref.isWhole_whole _) bufM (Memref.isWhole_whole _) wbM (Memref.isWhole_whole _) xvM (Memref.isWhole_whole _) wvM (Memref.isWhole_whole _) accM (Memref.isWhole_whole _) cc0_scratch5 cc0_scratch6 cc0_scratch7 cc0_scratch8 cc0_scratch9 cc0_scratch10  >>= kk) Q := by
  rw [k0_part54_eq_skeleton]
  unfold k0_part54_skel
  simp only [Prog.lift, Prog.bind_op, Prog.bind_ret, Prog.pure_eq_ret, Prog.bind_assoc]
  refine step_swait m K c 17 rfl rfl rfl ?_
  refine step_swait m K c 18 rfl rfl rfl ?_
  refine step_swait m K c 19 rfl rfl rfl ?_
  refine step_swait m K c 20 rfl rfl rfl ?_
  exact h

theorem part55 {α : Type} {Q : α → sProp 𝕄} {R : sProp 𝕄} {kk : _ → Prog (TpuEff nD τ sig (Elt F) Λ₀ .tc) α}
    (h : iprop(St m K c 120 ∗ R) ⊢ WP c (kk ⟨⟩) Q) :
    iprop(St m K c 117 ∗ R) ⊢ WP c (k0_part55 xM (Memref.isWhole_whole _) wM (Memref.isWhole_whole _) a2 h2 a3 h3 outM (Memref.isWhole_whole _) bufM (Memref.isWhole_whole _) wbM (Memref.isWhole_whole _) xvM (Memref.isWhole_whole _) wvM (Memref.isWhole_whole _) accM (Memref.isWhole_whole _) cc0_scratch5 cc0_scratch6 cc0_scratch7 cc0_scratch8 cc0_scratch9 cc0_scratch10  >>= kk) Q := by
  rw [k0_part55_eq_skeleton]
  unfold k0_part55_skel
  simp only [Prog.lift, Prog.bind_op, Prog.bind_ret, Prog.pure_eq_ret, Prog.bind_assoc]
  refine step_swait m K c 21 rfl rfl rfl ?_
  refine step_swait m K c 22 rfl rfl rfl ?_
  refine step_swait m K c 23 rfl rfl rfl ?_
  exact h

theorem part56 {α : Type} {Q : α → sProp 𝕄} {R : sProp 𝕄} {kk : _ → Prog (TpuEff nD τ sig (Elt F) Λ₀ .tc) α}
    (h : iprop(St m K c 124 ∗ R) ⊢ WP c (kk ⟨⟩) Q) :
    iprop(St m K c 120 ∗ R) ⊢ WP c (k0_part56 xM (Memref.isWhole_whole _) wM (Memref.isWhole_whole _) a2 h2 a3 h3 outM (Memref.isWhole_whole _) bufM (Memref.isWhole_whole _) wbM (Memref.isWhole_whole _) xvM (Memref.isWhole_whole _) wvM (Memref.isWhole_whole _) accM (Memref.isWhole_whole _) cc0_scratch5 cc0_scratch6 cc0_scratch7 cc0_scratch8 cc0_scratch9 cc0_scratch10  >>= kk) Q := by
  rw [k0_part56_eq_skeleton]
  unfold k0_part56_skel
  simp only [Prog.lift, Prog.bind_op, Prog.bind_ret, Prog.pure_eq_ret, Prog.bind_assoc]
  refine step_swait m K c 24 rfl rfl rfl ?_
  refine step_swait m K c 25 rfl rfl rfl ?_
  refine step_swait m K c 26 rfl rfl rfl ?_
  refine step_swait m K c 27 rfl rfl rfl ?_
  exact h

theorem part57 {α : Type} {Q : α → sProp 𝕄} {R : sProp 𝕄} {kk : _ → Prog (TpuEff nD τ sig (Elt F) Λ₀ .tc) α}
    (h : iprop(St m K c 130 ∗ R) ⊢ WP c (kk ⟨⟩) Q) :
    iprop(St m K c 124 ∗ R) ⊢ WP c (k0_part57 xM (Memref.isWhole_whole _) wM (Memref.isWhole_whole _) a2 h2 a3 h3 outM (Memref.isWhole_whole _) bufM (Memref.isWhole_whole _) wbM (Memref.isWhole_whole _) xvM (Memref.isWhole_whole _) wvM (Memref.isWhole_whole _) accM (Memref.isWhole_whole _) cc0_scratch5 cc0_scratch6 cc0_scratch7 cc0_scratch8 cc0_scratch9 cc0_scratch10 c >>= kk) Q := by
  rw [k0_part57_eq_skeleton]
  unfold k0_part57_skel
  simp only [Prog.lift, Prog.bind_op, Prog.bind_ret, Prog.pure_eq_ret, Prog.bind_assoc]
  refine step_swait m K c 28 rfl rfl rfl ?_
  refine step_swait m K c 31 rfl rfl rfl ?_
  refine step_twait m K c 0 rfl rfl (full_credit (by decide)) ?_
  refine step_twait m K c 1 rfl rfl (full_credit (by decide)) ?_
  refine step_twait m K c 15 rfl rfl (full_credit (by decide)) ?_
  refine step_twait m K c 2 rfl rfl (full_credit (by decide)) ?_
  exact h

theorem part58 {α : Type} {Q : α → sProp 𝕄} {R : sProp 𝕄} {kk : _ → Prog (TpuEff nD τ sig (Elt F) Λ₀ .tc) α}
    (h : iprop(St m K c 138 ∗ R) ⊢ WP c (kk ⟨⟩) Q) :
    iprop(St m K c 130 ∗ R) ⊢ WP c (k0_part58 xM (Memref.isWhole_whole _) wM (Memref.isWhole_whole _) a2 h2 a3 h3 outM (Memref.isWhole_whole _) bufM (Memref.isWhole_whole _) wbM (Memref.isWhole_whole _) xvM (Memref.isWhole_whole _) wvM (Memref.isWhole_whole _) accM (Memref.isWhole_whole _) cc0_scratch5 cc0_scratch6 cc0_scratch7 cc0_scratch8 cc0_scratch9 cc0_scratch10 c >>= kk) Q := by
  rw [k0_part58_eq_skeleton]
  unfold k0_part58_skel
  simp only [Prog.lift, Prog.bind_op, Prog.bind_ret, Prog.pure_eq_ret, Prog.bind_assoc]
  refine step_twait m K c 14 rfl rfl (full_credit (by decide)) ?_
  refine step_twait m K c 3 rfl rfl (full_credit (by decide)) ?_
  refine step_twait m K c 13 rfl rfl (full_credit (by decide)) ?_
  refine step_twait m K c 4 rfl rfl (full_credit (by decide)) ?_
  refine step_twait m K c 12 rfl rfl (full_credit (by decide)) ?_
  refine step_twait m K c 5 rfl rfl (full_credit (by decide)) ?_
  refine step_twait m K c 11 rfl rfl (full_credit (by decide)) ?_
  refine step_twait m K c 6 rfl rfl (full_credit (by decide)) ?_
  exact h

end

end Cert.RingProof

end
-- ==== Proof.Bufs.lean ====
/-
# Whole buffers and their pieces

The gathering buffer is slot 0 and the pieces the messages land in; the accumulator and the result are their regions. On
the way in a device keeps slot 0 and hands every other piece to the neighbour that fills it.
-/
module

public import proofs.«01_k».proof.Proof.Steps

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

omit [FloatOps F] in
theorem sep_bigSep {I : Type} (s : Finset I) (Φ Ψ : I → sProp 𝕄) : (iprop(bigSep s Φ ∗ bigSep s Ψ) : sProp 𝕄) = bigSep s fun i => iprop(Φ i ∗ Ψ i) :=
  (bigSep_sep s Φ Ψ).symm
omit [FloatOps F] in
theorem bigSep_emps {I : Type} {s : Finset I} {Φ : I → sProp 𝕄} (h : ∀ i ∈ s, Φ i = iprop(emp)) : bigSep s Φ = iprop(emp) :=
  (bigSep_congr h).trans (bigSep_emp_const s)

/-! ## The gathering buffer -/

/-- Where message `k` lands, if it is sent at all. -/
def landSet (k : Msg) : Finset S16x256x4096.Idx := if used k then pieceSet (dstPiece k) else ∅

theorem mem_landSet {k : Msg} {i : S16x256x4096.Idx} : i ∈ landSet k ↔ used k = true ∧ i ∈ pieceSet (dstPiece k) := by
  unfold landSet
  split
  next h => exact ⟨fun hi => ⟨h, hi⟩, fun hi => hi.2⟩
  next h => exact ⟨fun hi => absurd hi (Finset.notMem_empty _), fun hi => absurd hi.1 h⟩

theorem pieceSet_inj {P P' : Piece} {i : S16x256x4096.Idx} (h : i ∈ pieceSet P) (h' : i ∈ pieceSet P') : P = P' := by
  rw [mem_pieceSet] at h h'
  exact Prod.ext (Fin.ext (h.1.symm.trans h'.1)) (Fin.ext (h.2.symm.trans h'.2))

theorem land_disjoint (k k' : Msg) (h : k ≠ k') : Disjoint (landSet k) (landSet k') := by
  rw [Finset.disjoint_left]
  intro i hi hi'
  rw [mem_landSet] at hi hi'
  exact h (by rw [← landing_dst k hi.1, ← landing_dst k' hi'.1, pieceSet_inj hi.2 hi'.2])

theorem slot_land_disjoint {i : S16x256x4096.Idx} {k : Msg} (hi : i ∈ slotSet 0) (hk : i ∈ landSet k) : False := by
  rw [mem_landSet, mem_pieceSet] at hk
  rw [mem_slotSet] at hi
  exact dst_ne k hk.1 (Fin.ext (hk.2.1.symm.trans hi))

theorem slot_land_cover {i : S16x256x4096.Idx} (h : i ∉ slotSet 0) : ∃ k, i ∈ landSet k := by
  rw [mem_slotSet] at h
  have h1 : (i 1).val < 256 := (i 1).isLt
  obtain ⟨hd, hu⟩ := dst_landing ((i 0 : Fin 16), (⟨(i 1).val / 128, by omega⟩ : Fin 2)) (fun h0 => h (congrArg Fin.val h0))
  exact ⟨_, mem_landSet.mpr ⟨hu, by rw [hd, mem_pieceSet]; exact ⟨rfl, rfl⟩⟩⟩

omit [FloatOps F] in
theorem buf_cut (c : Dev nD) (f : Buf (Elt F) ((c : Thread nD τ).loc cc0_scratch0)) :
    ((((c : Thread nD τ).loc cc0_scratch0) ↦{fullShare} f : sProp 𝕄))
      ⊣⊢ iprop((((c : Thread nD τ).loc cc0_scratch0) ↦[slotSet 0]{fullShare} f)
        ∗ bigSep Finset.univ fun k : Msg => if used k then ((c : Thread nD τ).loc cc0_scratch0) ↦[pieceSet (dstPiece k)]{fullShare} f else iprop(emp)) := by
  have e : (bigSep Finset.univ fun k : Msg => (((c : Thread nD τ).loc cc0_scratch0) ↦[landSet k]{fullShare} f : sProp 𝕄))
      = bigSep Finset.univ fun k : Msg => if used k then ((c : Thread nD τ).loc cc0_scratch0) ↦[pieceSet (dstPiece k)]{fullShare} f else iprop(emp) :=
    bigSep_congr fun k _ => by
      unfold landSet
      split
      · rfl
      · exact pointsTo_empty
  have e2 := pointsTo_biUnion (ℓ := ((c : Thread nD τ).loc cc0_scratch0)) (q := fullShare) (f := f) (Ix := Unit) (Name := ℕ) (U := UU) (Lvl := ℕ)
    Finset.univ landSet fun k _ k' _ h => land_disjoint k k' h
  rw [← e, ← e2]
  refine (pointsTo_split_subset (I := slotSet 0) (Finset.subset_univ _)).trans ?_
  refine BIBase.BiEntails.of_eq (congrArg (fun S => iprop((((c : Thread nD τ).loc cc0_scratch0) ↦[slotSet 0]{fullShare} f) ∗ (((c : Thread nD τ).loc cc0_scratch0) ↦[S]{fullShare} f))) ?_)
  ext i
  rw [Finset.mem_sdiff, Finset.mem_biUnion]
  exact ⟨fun h => (slot_land_cover h.2).imp fun k hk => ⟨Finset.mem_univ _, hk⟩,
    fun ⟨k, _, hk⟩ => ⟨Finset.mem_univ _, fun h' => slot_land_disjoint h' hk⟩⟩

omit [FloatOps F] in
/-- On the way in: slot 0 is kept, the rest handed to the two neighbours. -/
theorem buf_deal (c : Dev nD) :
    (iprop(∃ f : Buf (Elt F) ((c : Thread nD τ).loc cc0_scratch0), ((c : Thread nD τ).loc cc0_scratch0) ↦{fullShare} f) : sProp 𝕄)
      ⊢ iprop((∃ f : Buf (Elt F) ((c : Thread nD τ).loc cc0_scratch0), ((c : Thread nD τ).loc cc0_scratch0) ↦[slotSet 0]{fullShare} f)
        ∗ barPay (right c) false ∗ barPay (left c) true) := by
  have hk : ∀ (f : Buf (Elt F) ((c : Thread nD τ).loc cc0_scratch0)) (k : Msg),
      ((if used k then ((c : Thread nD τ).loc cc0_scratch0) ↦[pieceSet (dstPiece k)]{fullShare} f else iprop(emp)) : sProp 𝕄)
        ⊢ iprop((if used k ∧ up k = false then pieceAny (F := F) (peer k (right c)) (dstPiece k) else iprop(emp))
          ∗ (if used k ∧ up k = true then pieceAny (F := F) (peer k (left c)) (dstPiece k) else iprop(emp))) := by
    intro f k
    by_cases hu : used k = true
    · rw [if_pos hu]
      by_cases hp' : up k = true
      · rw [if_neg (by rw [hp']; exact fun h => absurd h.2 (by decide)), if_pos ⟨hu, hp'⟩, show peer k (left c) = c by unfold peer; rw [if_pos hp', right_left]]
        unfold pieceAny
        iintro H
        isplitr; · iempintro
        iexists f; iexact H
      · rw [Bool.not_eq_true] at hp'
        rw [if_pos ⟨hu, hp'⟩, if_neg (by rw [hp']; exact fun h => absurd h.2 (by decide)), show peer k (right c) = c by unfold peer; rw [hp']; exact left_right c]
        unfold pieceAny
        iintro H
        isplitl [H]; · iexists f; iexact H
        iempintro
    · rw [if_neg hu, if_neg (fun h => hu h.1), if_neg (fun h => hu h.1)]
      iintro H
      isplitr <;> iempintro
  have hall : ∀ f : Buf (Elt F) ((c : Thread nD τ).loc cc0_scratch0),
      (bigSep Finset.univ (fun k : Msg => if used k then ((c : Thread nD τ).loc cc0_scratch0) ↦[pieceSet (dstPiece k)]{fullShare} f else iprop(emp)) : sProp 𝕄)
        ⊢ iprop(barPay (right c) false ∗ barPay (left c) true) := by
    intro f
    unfold barPay
    rw [sep_bigSep]
    exact bigSep_mono fun k _ => hk f k
  iintro ⟨%f, H⟩
  ihave H' := (buf_cut c f).1 $$ H
  icases H' with ⟨H0, Hk⟩
  isplitl [H0]; · iexists f; iexact H0
  iapply (hall f); iexact Hk

omit [FloatOps F] in
/-- What the neighbours hand over: the pieces this device's messages land in. -/
theorem pays_merge (c : Dev nD) :
    (iprop(barPay c false ∗ barPay c true) : sProp 𝕄)
      ⊢ bigSep Finset.univ fun k : Msg => if used k then pieceAny (F := F) (peer k c) (dstPiece k) else iprop(emp) := by
  have hk : ∀ k : Msg, (iprop((if used k ∧ up k = false then pieceAny (F := F) (peer k c) (dstPiece k) else iprop(emp))
      ∗ (if used k ∧ up k = true then pieceAny (F := F) (peer k c) (dstPiece k) else iprop(emp))) : sProp 𝕄)
        ⊢ if used k then pieceAny (F := F) (peer k c) (dstPiece k) else iprop(emp) := by
    intro k
    by_cases hu : used k = true
    · rw [if_pos hu]
      by_cases hp' : up k = true
      · rw [if_neg (by rw [hp']; exact fun h => absurd h.2 (by decide)), if_pos ⟨hu, hp'⟩]
        iintro ⟨-, H⟩; iexact H
      · rw [Bool.not_eq_true] at hp'
        rw [if_pos ⟨hu, hp'⟩, if_neg (by rw [hp']; exact fun h => absurd h.2 (by decide))]
        iintro ⟨H, -⟩; iexact H
    · rw [if_neg hu, if_neg (fun h => hu h.1), if_neg (fun h => hu h.1)]
      iintro ⟨-, -⟩; iempintro
  unfold barPay
  rw [sep_bigSep]
  exact bigSep_mono fun k _ => hk k

/-! ## A device's own block: what it sends of it and what it keeps to compute with -/

/-- What message `k` reads of the device's own block, if it reads that. -/
def ownSrc (c : Dev nD) (k : Msg) : sProp 𝕄 := if k.val < 4 then piece m (srcShare k) c (srcPiece k) else iprop(emp)

theorem own_four (c : Dev nD) :
    bigSep Finset.univ (ownSrc m c)
      ⊣⊢ iprop((piece m fullShare.left.left c (0, 0) ∗ piece m fullShare.left.right c (0, 0)) ∗ piece m fullShare.left.left c (0, 1) ∗ piece m fullShare.left.right c (0, 1)) := by
  have hrest : bigSep (((((Finset.univ : Finset Msg).erase 0).erase 1).erase 2).erase 3) (ownSrc m c) = (iprop(emp) : sProp 𝕄) := by
    refine bigSep_emps fun k hk => ?_
    unfold ownSrc
    refine if_neg fun h => ?_
    revert hk h; revert k; decide +kernel
  rw [bigSep_univ_at _ (0 : Msg), bigSep_erase (i := (1 : Msg)) (by decide), bigSep_erase (i := (2 : Msg)) (by decide), bigSep_erase (i := (3 : Msg)) (by decide), hrest]
  show iprop(piece m fullShare.left.left c (0, 0) ∗ piece m fullShare.left.right c (0, 0) ∗ piece m fullShare.left.left c (0, 1) ∗ piece m fullShare.left.right c (0, 1) ∗ emp) ⊣⊢ _
  constructor
  · iintro ⟨H1, H2, H3, H4, -⟩
    isplitl [H1 H2]; · isplitl [H1] <;> iassumption
    isplitl [H3] <;> iassumption
  · iintro ⟨⟨H1, H2⟩, H3, H4⟩
    isplitl [H1]; · iexact H1
    isplitl [H2]; · iexact H2
    isplitl [H3]; · iexact H3
    isplitl [H4]; · iexact H4
    iempintro

theorem ownSrc_of (c : Dev nD) (k : Msg) : (if ready 0 k then piece m (srcShare k) c (srcPiece k) else iprop(emp)) = ownSrc m c k := by
  have h : ready 0 k = decide (k.val < 4) := by revert k; decide +kernel
  rw [h]; unfold ownSrc
  by_cases hk : k.val < 4
  · rw [if_pos hk, decide_eq_true hk]; rfl
  · rw [if_neg hk, decide_eq_false hk]; rfl

/-- Slot 0, filled: what the messages read of it, and what is kept. -/
theorem own_split (c : Dev nD) :
    iprop(((c : Thread nD τ).loc cc0_scratch0) ↦[slotSet 0]{fullShare} (bufc m c : Buf (Elt F) ((c : Thread nD τ).loc cc0_scratch0)))
      ⊣⊢ iprop(bigSep Finset.univ (ownSrc m c) ∗ ownBlk m c) := by
  have h0 := slot_join c 0 fullShare (bufc m c)
  have hF := own_four m c
  constructor
  · iintro H
    ihave H' := h0.1 $$ H
    icases H' with ⟨H0, H1⟩
    ihave H0' := (piece_share m c (0, 0) fullShare).1 $$ [H0]; · unfold piece; iexact H0
    ihave H1' := (piece_share m c (0, 1) fullShare).1 $$ [H1]; · unfold piece; iexact H1
    icases H0' with ⟨H0l, H0r⟩
    icases H1' with ⟨H1l, H1r⟩
    ihave H0' := (piece_share m c (0, 0) fullShare.left).1 $$ H0l
    ihave H1' := (piece_share m c (0, 1) fullShare.left).1 $$ H1l
    isplitr [H0r H1r]; rotate_left
    · unfold ownBlk
      isplitl [H0r]; · iexact H0r
      iexact H1r
    iapply hF.2
    isplitl [H0']; · iexact H0'
    iexact H1'
  · iintro ⟨H, Hb⟩
    unfold ownBlk
    icases Hb with ⟨H0r, H1r⟩
    ihave H' := hF.1 $$ H
    icases H' with ⟨H0', H1a, H1b⟩
    ihave H0l := (piece_share m c (0, 0) fullShare.left).2 $$ H0'
    ihave H1l := (piece_share m c (0, 1) fullShare.left).2 $$ [H1a H1b]
    · isplitl [H1a]; · iexact H1a
      iexact H1b
    ihave H0 := (piece_share m c (0, 0) fullShare).2 $$ [H0l H0r]
    · isplitl [H0l]; · iexact H0l
      iexact H0r
    ihave H1 := (piece_share m c (0, 1) fullShare).2 $$ [H1l H1r]
    · isplitl [H1l]; · iexact H1l
      iexact H1r
    iapply h0.2
    unfold piece
    isplitl [H0]; · iexact H0
    iexact H1

/-! ## Regions -/

theorem mem_reg (c : Dev nD) (u : Fin 17) (i : S4096x512.Idx) :
    i ∈ regSet c u ↔ regOf c ⟨(i 0).val / 128, by have h : (i 0).val < 4096 := (i 0).isLt; omega⟩ = u := by
  rw [mem_regSet, regOf_iff]
  have h1 := regRow_dvd c u
  have h2 : 128 ∣ regLen u := by unfold regLen; split <;> decide
  show _ ↔ regRow c u ≤ 128 * ((i 0).val / 128) ∧ 128 * ((i 0).val / 128) < regRow c u + regLen u
  omega

theorem reg_disjoint (c : Dev nD) (u u' : Fin 17) (h : u ≠ u') : Disjoint (regSet c u) (regSet c u') := by
  rw [Finset.disjoint_left]
  intro i hi hi'
  rw [mem_reg] at hi hi'
  exact h (hi.symm.trans hi')

omit [FloatOps F] in
/-- The accumulator, and the result, by regions. -/
theorem acc_cut (c : Dev nD) (f : Buf (Elt F) ((c : Thread nD τ).loc cc0_scratch4)) :
    ((((c : Thread nD τ).loc cc0_scratch4) ↦{fullShare} f : sProp 𝕄))
      = bigSep Finset.univ fun u : Fin 17 => ((c : Thread nD τ).loc cc0_scratch4) ↦[regSet c u]{fullShare} f := by
  have e := pointsTo_biUnion (ℓ := ((c : Thread nD τ).loc cc0_scratch4)) (q := fullShare) (f := f) (Ix := Unit) (Name := ℕ) (U := UU) (Lvl := ℕ)
    Finset.univ (regSet c) fun u _ u' _ h => reg_disjoint c u u' h
  rw [← e]
  refine congrArg (fun S => (((c : Thread nD τ).loc cc0_scratch4) ↦[S]{fullShare} f : sProp 𝕄)) ?_
  ext i
  rw [Finset.mem_biUnion]
  exact ⟨fun _ => ⟨_, Finset.mem_univ _, (mem_reg c _ i).mpr rfl⟩, fun _ => Finset.mem_univ _⟩
omit [FloatOps F] in
theorem out_cut (c : Dev nD) (f : Buf (Elt F) ((c : Thread nD τ).loc main_v1)) :
    ((((c : Thread nD τ).loc main_v1) ↦{fullShare} f : sProp 𝕄))
      = bigSep Finset.univ fun u : Fin 17 => ((c : Thread nD τ).loc main_v1) ↦[regSet c u]{fullShare} f := by
  have e := pointsTo_biUnion (ℓ := ((c : Thread nD τ).loc main_v1)) (q := fullShare) (f := f) (Ix := Unit) (Name := ℕ) (U := UU) (Lvl := ℕ)
    Finset.univ (regSet c) fun u _ u' _ h => reg_disjoint c u u' h
  rw [← e]
  refine congrArg (fun S => (((c : Thread nD τ).loc main_v1) ↦[S]{fullShare} f : sProp 𝕄)) ?_
  ext i
  rw [Finset.mem_biUnion]
  exact ⟨fun _ => ⟨_, Finset.mem_univ _, (mem_reg c _ i).mpr rfl⟩, fun _ => Finset.mem_univ _⟩
omit [FloatOps F] in
theorem acc_any (c : Dev nD) : (iprop(∃ f : Buf (Elt F) ((c : Thread nD τ).loc cc0_scratch4), ((c : Thread nD τ).loc cc0_scratch4) ↦{fullShare} f) : sProp 𝕄)
    ⊢ bigSep Finset.univ (accAny (F := F) c) := by
  iintro ⟨%f, H⟩
  have e := Entails.of_eq (acc_cut c f)
  have hk : ∀ u : Fin 17, ((((c : Thread nD τ).loc cc0_scratch4) ↦[regSet c u]{fullShare} f : sProp 𝕄)) ⊢ accAny (F := F) c u := by
    intro u; unfold accAny; iintro H; iexists f; iexact H
  have hm : (bigSep Finset.univ fun u : Fin 17 => (((c : Thread nD τ).loc cc0_scratch4) ↦[regSet c u]{fullShare} f : sProp 𝕄)) ⊢ bigSep Finset.univ (accAny (F := F) c) :=
    bigSep_mono fun u _ => hk u
  iapply (e.trans hm); iexact H
omit [FloatOps F] in
theorem out_any (c : Dev nD) (f : Buf (Elt F) ((c : Thread nD τ).loc main_v1)) : (iprop(((c : Thread nD τ).loc main_v1) ↦{fullShare} f) : sProp 𝕄)
    ⊢ bigSep Finset.univ (outAny (F := F) c) := by
  have e := Entails.of_eq (out_cut c f)
  have hk : ∀ u : Fin 17, ((((c : Thread nD τ).loc main_v1) ↦[regSet c u]{fullShare} f : sProp 𝕄)) ⊢ outAny (F := F) c u := by
    intro u; unfold outAny; iintro H; iexists f; iexact H
  have hm : (bigSep Finset.univ fun u : Fin 17 => (((c : Thread nD τ).loc main_v1) ↦[regSet c u]{fullShare} f : sProp 𝕄)) ⊢ bigSep Finset.univ (outAny (F := F) c) :=
    bigSep_mono fun u _ => hk u
  exact e.trans hm

end Cert.RingProof

end
-- ==== Proof.Start.lean ====
/-
# The start of the body

What a device holds on entry, and the way from there to the state before the first message: the two operands' copies begun,
the barrier with both neighbours, the device's own block cast into slot 0, the two scales read.
-/
module

public import proofs.«01_k».proof.Proof.Parts
public import proofs.«01_k».proof.Proof.Bufs

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

/-! ## On entry -/

/-- Message `k` on entry: its cell and the two tokens it will pay with. -/
def sndPre (c : Dev nD) (k : Msg) : sProp 𝕄 :=
  if used k then
    iprop(atPos ER (gcell (c, sndC k)) 0 ∅ 0 ∗ dutyTok ER (gcell (c, sndC k)) 0 false ∗ dutyTok ER (gcell (peer k c, rcvC k)) 0 false)
  else atPos ER (gcell (c, sndC k)) 0 ∅ 0
def stPre (c : Dev nD) (u : Fin 17) : sProp 𝕄 :=
  iprop(dutyTok ER (gcell (c, stC u)) 0 false ∗ atPos ER (gcell (c, stC u)) 0 ∅ 0)
def ldPre (c : Dev nD) (i : Fin 2) : sProp 𝕄 :=
  iprop(dutyTok ER (gcell (c, ldC i)) 0 false ∗ atPos ER (gcell (c, ldC i)) 0 ∅ 0)
def barPre (c : Dev nD) : sProp 𝕄 :=
  iprop(atPos ER (gcell (c, barC)) 0 ∅ 0 ∗ cred (tallyAt (gcell (c, barC)) () 2)
    ∗ dutyTok ER (gcell (right c, barC)) 0 false ∗ dutyTok ER (gcell (left c, barC)) 0 true)
/-- A buffer with any contents. -/
def anyBuf (c : Dev nD) (b : Ref sig .tc) : sProp 𝕄 := iprop(∃ f : Buf (Elt F) ((c : Thread nD τ).loc b), ((c : Thread nD τ).loc b) ↦{fullShare} f)
def scratches (c : Dev nD) : sProp 𝕄 :=
  iprop(anyBuf (F := F) c cc0_scratch0 ∗ anyBuf (F := F) c cc0_scratch1 ∗ anyBuf (F := F) c cc0_scratch2 ∗ anyBuf (F := F) c cc0_scratch3 ∗ anyBuf (F := F) c cc0_scratch4)
/-- The two scales where they are staged. -/
def stage0 (c : Dev nD) : sProp 𝕄 := iprop(((c : Thread nD τ).loc cc0_stg0_0) ↦{fullShare} stg0 m c)
def stage1 (c : Dev nD) : sProp 𝕄 := iprop(((c : Thread nD τ).loc cc0_stg1_0) ↦{fullShare} stg1 m c)

def Pre (c : Dev nD) : sProp 𝕄 :=
  iprop(recs m K ∗ levAts L lv ∗ (∃ W, owes (c : Thread nD τ) (owedAll c) W) ∗ barPre c ∗ bigSep Finset.univ (sndPre c) ∗ rcvAll m c 0
    ∗ bigSep Finset.univ (stPre c) ∗ ldPre c 0 ∗ ldPre c 1 ∗ xHbm m c ∗ wHbm m c ∗ anyBuf (F := F) c main_v1 ∗ scratches c)

/-- What the messages and stores do not need once they have begun. -/
def Aside (c : Dev nD) : sProp 𝕄 :=
  iprop(atPos ER (gcell (c, barC)) 1 ∅ 0 ∗ atPos ER (gcell (c, ldC 0)) 1 ∅ 0 ∗ xVmem m c ∗ xHbm m c ∗ stage0 m c ∗ stage1 m c)

theorem snd_start (c : Dev nD) :
    iprop(bigSep Finset.univ (sndPre c) ∗ (bigSep Finset.univ fun k : Msg => if used k then pieceAny (F := F) (peer k c) (dstPiece k) else iprop(emp))
        ∗ bigSep Finset.univ (ownSrc m c))
      ⊢ sndAll m c 0 := by
  have hk : ∀ k : Msg, iprop(sndPre c k ∗ (if used k then pieceAny (F := F) (peer k c) (dstPiece k) else iprop(emp)) ∗ ownSrc m c k) ⊢ sndSt m c 0 k := by
    intro k
    rw [← ownSrc_of]
    unfold sndPre sndSt
    rw [show (Ev.swait k).done 0 = false from rfl, show (Ev.send k).done 0 = false from rfl]
    unfold sndBefore
    by_cases hu : used k = true
    · simp only [if_pos hu]
      show _ ⊢ iprop(atPos ER (gcell (c, sndC k)) 0 ∅ 0 ∗ dutyTok ER (gcell (c, sndC k)) 0 false ∗ dutyTok ER (gcell (peer k c, rcvC k)) 0 false
        ∗ pieceAny (peer k c) (dstPiece k) ∗ (if ready 0 k then piece m (srcShare k) c (srcPiece k) else iprop(emp)))
      iintro ⟨⟨Ha, Ht, Ht'⟩, Hp, Hs⟩
      isplitl [Ha]; · iexact Ha
      isplitl [Ht]; · iexact Ht
      isplitl [Ht']; · iexact Ht'
      isplitl [Hp]; · iexact Hp
      iexact Hs
    · simp only [if_neg hu]
      iintro ⟨Ha, -, -⟩
      iexact Ha
  rw [sep_bigSep, sep_bigSep]
  unfold sndAll
  exact bigSep_mono fun k _ => hk k

theorem reg_start (c : Dev nD) :
    iprop(bigSep Finset.univ (stPre c) ∗ bigSep Finset.univ (accAny (F := F) c) ∗ bigSep Finset.univ (outAny (F := F) c)) ⊢ regAll m c 0 := by
  have hk : ∀ u : Fin 17, iprop(stPre c u ∗ accAny (F := F) c u ∗ outAny (F := F) c u) ⊢ regSt m c 0 u := by
    intro u
    unfold stPre regSt
    rw [show (Ev.twait u).done 0 = false from rfl, show (Ev.copy u).done 0 = false from rfl, show (Ev.acc u).done 0 = false from rfl]
    show _ ⊢ regBefore c u
    unfold regBefore
    iintro ⟨⟨Ht, Ha⟩, H1, H2⟩
    isplitl [H1]; · iexact H1
    isplitl [H2]; · iexact H2
    isplitl [Ht]; · iexact Ht
    iexact Ha
  rw [sep_bigSep, sep_bigSep]
  unfold regAll
  exact bigSep_mono fun u _ => hk u

theorem w_start (c : Dev nD) : iprop(atPos ER (gcell (c, ldC 1)) 0 ∅ 0 ∗ cred (tallyAt (gcell (c, ldC 1)) () (nLd 1)) ∗ wbAny (F := F) c) ⊢ wSt m c 0 := by
  unfold wSt
  rw [show Ev.wwait.done 0 = false from rfl]
  exact .rfl

theorem hz1 : (![0] : Fin 1 → Nat) = fun _ => 0 := funext fun a => by fin_cases a; rfl

abbrev sc0M : Memref sig .tc .smem S1 .f32 := Memref.whole cc0_stg0_0
abbrev sc1M : Memref sig .tc .smem S1 .f32 := Memref.whole cc0_stg1_0

variable (c : Dev nD)

/-- The copy of an operand's block into the kernel's own memory. -/
theorem copy_x {f : Buf (Elt F) ((c : Thread nD τ).loc cc0_scratch2)} {α : Type} {Q : α → sProp 𝕄} {kk : PUnit → Prog (TpuEff nD τ sig (Elt F) Λ₀ .tc) α}
    {q : DmaSem sig} (hq : q = ldSem 0) {hsrc : (xM : Memref sig .tc .hbm _ .f32).view.WordExact} {hdst : (xvM : Memref sig .tc .vmem _ .f32).view.WordExact}
    {hsem : DmaTarget.Typed (nD := nD) .hbm (.dma q) (DmaTarget.here (nD := nD) (τ := τ) (p := Proc.tc) xvM)} :
    iprop(cellInv ER (Rd m) (K (c, ldC 0)) (gcell (c, ldC 0)) ∗ reached ER (gcell (c, ldC 0)) 0 ∗ xHbm m c ∗ (((c : Thread nD τ).loc cc0_scratch2) ↦{fullShare} f)
        ∗ dutyTok ER (gcell (c, ldC 0)) 0 false)
      ⊢ iprop((cred (tallyAt (gcell (c, ldC 0)) () (nLd 0)) -∗ WP c (kk ⟨⟩) Q) -∗ WP c (.op (.enqueueDma xM (.here xvM) (.dma q) hsrc hdst hsem) kk) Q) := by
  subst hq
  have hp : iprop((((c : Thread nD τ).loc cc0_scratch2) ↦[(xvM : Memref sig .tc .vmem _ .f32).view.set]{fullShare}
        ((xvM : Memref sig .tc .vmem _ .f32).view.write (Elt F) f ((xM : Memref sig .tc .hbm _ .f32).view.read (Elt F) (m ((c : Thread nD τ).loc main_arg0))) Finset.univ))
      ∗ (((c : Thread nD τ).loc main_arg0) ↦[(xM : Memref sig .tc .hbm _ .f32).view.set]{fullShare} (m ((c : Thread nD τ).loc main_arg0))))
      ⊢ payOf m c (role (.dma (ldSem 0))) false := by
    rw [pay_ld0, show (xvM : Memref sig .tc .vmem _ .f32).view.set = Finset.univ from View.set_whole _, show (xM : Memref sig .tc .hbm _ .f32).view.set = Finset.univ from View.set_whole _,
      show (xvM : Memref sig .tc .vmem _ .f32).view.write (Elt F) f ((xM : Memref sig .tc .hbm _ .f32).view.read (Elt F) (m ((c : Thread nD τ).loc main_arg0))) Finset.univ
        = (m ((c : Thread nD τ).loc main_arg0) : S256x4096.Idx → Elt F .f32) from View.write_whole_univ cc0_scratch2 _ _]
    exact .rfl
  unfold xHbm
  iintro ⟨#HI, #Hr, Hx, Hf, Ht⟩
  iapply (Rounds.wp_copy_pointsTo 𝒱₀ ER (Rd m) (c : Thread nD τ) none (κ := K (c, ldC 0)) (r := 0) (d := false) (fd := f) (q := fullShare) (fs := m ((c : Thread nD τ).loc main_arg0))
    (src := xM) (dst := xvM) (single_mem m c (dutiesOf_ld 0)) () (nLd 0) rfl (amt_ld 0) hp)
  isplitr; · iexact HI
  isplitl [Hx]
  · rw [show (xM : Memref sig .tc .hbm _ .f32).view.set = Finset.univ from View.set_whole _]; iexact Hx
  isplitl [Hf]
  · rw [show (xvM : Memref sig .tc .vmem _ .f32).view.set = Finset.univ from View.set_whole _]; iexact Hf
  isplitl [Ht]; · iexact Ht
  iexact Hr
theorem copy_w {f : Buf (Elt F) ((c : Thread nD τ).loc cc0_scratch3)} {α : Type} {Q : α → sProp 𝕄} {kk : PUnit → Prog (TpuEff nD τ sig (Elt F) Λ₀ .tc) α}
    {q : DmaSem sig} (hq : q = ldSem 1) {hsrc : (wM : Memref sig .tc .hbm _ .f32).view.WordExact} {hdst : (wvM : Memref sig .tc .vmem _ .f32).view.WordExact}
    {hsem : DmaTarget.Typed (nD := nD) .hbm (.dma q) (DmaTarget.here (nD := nD) (τ := τ) (p := Proc.tc) wvM)} :
    iprop(cellInv ER (Rd m) (K (c, ldC 1)) (gcell (c, ldC 1)) ∗ reached ER (gcell (c, ldC 1)) 0 ∗ wHbm m c ∗ (((c : Thread nD τ).loc cc0_scratch3) ↦{fullShare} f)
        ∗ dutyTok ER (gcell (c, ldC 1)) 0 false)
      ⊢ iprop((cred (tallyAt (gcell (c, ldC 1)) () (nLd 1)) -∗ WP c (kk ⟨⟩) Q) -∗ WP c (.op (.enqueueDma wM (.here wvM) (.dma q) hsrc hdst hsem) kk) Q) := by
  subst hq
  have hp : iprop((((c : Thread nD τ).loc cc0_scratch3) ↦[(wvM : Memref sig .tc .vmem _ .f32).view.set]{fullShare}
        ((wvM : Memref sig .tc .vmem _ .f32).view.write (Elt F) f ((wM : Memref sig .tc .hbm _ .f32).view.read (Elt F) (m ((c : Thread nD τ).loc main_arg1))) Finset.univ))
      ∗ (((c : Thread nD τ).loc main_arg1) ↦[(wM : Memref sig .tc .hbm _ .f32).view.set]{fullShare} (m ((c : Thread nD τ).loc main_arg1))))
      ⊢ payOf m c (role (.dma (ldSem 1))) false := by
    rw [pay_ld1, show (wvM : Memref sig .tc .vmem _ .f32).view.set = Finset.univ from View.set_whole _, show (wM : Memref sig .tc .hbm _ .f32).view.set = Finset.univ from View.set_whole _,
      show (wvM : Memref sig .tc .vmem _ .f32).view.write (Elt F) f ((wM : Memref sig .tc .hbm _ .f32).view.read (Elt F) (m ((c : Thread nD τ).loc main_arg1))) Finset.univ
        = (m ((c : Thread nD τ).loc main_arg1) : S4096x512.Idx → Elt F .f32) from View.write_whole_univ cc0_scratch3 _ _]
    exact .rfl
  unfold wHbm
  iintro ⟨#HI, #Hr, Hx, Hf, Ht⟩
  iapply (Rounds.wp_copy_pointsTo 𝒱₀ ER (Rd m) (c : Thread nD τ) none (κ := K (c, ldC 1)) (r := 0) (d := false) (fd := f) (q := fullShare) (fs := m ((c : Thread nD τ).loc main_arg1))
    (src := wM) (dst := wvM) (single_mem m c (dutiesOf_ld 1)) () (nLd 1) rfl (amt_ld 1) hp)
  isplitr; · iexact HI
  isplitl [Hx]
  · rw [show (wM : Memref sig .tc .hbm _ .f32).view.set = Finset.univ from View.set_whole _]; iexact Hx
  isplitl [Hf]
  · rw [show (wvM : Memref sig .tc .vmem _ .f32).view.set = Finset.univ from View.set_whole _]; iexact Hf
  isplitl [Ht]; · iexact Ht
  iexact Hr

/-! ## The start's loads and stores -/

theorem ix1_only (x : S1.Idx) : x = ix1 (0 : Fin 1) := funext fun a => by
  obtain rfl : a = 0 := Subsingleton.elim _ _
  exact Subsingleton.elim (α := Fin 1) _ _

theorem read_scale0 {α : Type} {Q : α → sProp 𝕄} {kk : (S1.Idx → Elt F .f32) → Prog (TpuEff nD τ sig (Elt F) Λ₀ .tc) α} {inb}
    {hl : (sc0M : Memref sig .tc .smem S1 .f32).view.LoadsAt (Rect.unit (s := S1) ![0] S1.size inb).toLoadRect} :
    stage0 m c ⊢ iprop((stage0 m c -∗ WP c (kk (stg0 m c)) Q)
      -∗ WP c (.op (.load sc0M (Rect.unit (s := S1) ![0] S1.size inb).toLoadRect hl) kk) Q) := by
  have h := wp_load (defs := defs₀ (F := F)) 𝒱₀ (c : Thread nD τ) none (Γ := PendingWaitsCtx.empty) Set.univ (Q := Q) (m := sc0M) (hl := hl)
    (k := kk) (f := stg0 m c) (q := fullShare) (S := Finset.univ) (Finset.subset_univ _)
  have hr : sc0M.view.readAt (Elt F) (Rect.unit (s := S1) ![0] S1.size inb).toLoadRect (stg0 m c) = stg0 m c := Memref.readAt_unit_zero (Elt F) cc0_stg0_0 hz1 _ _
  rw [hr] at h
  exact h
theorem read_scale1 {α : Type} {Q : α → sProp 𝕄} {kk : (S1.Idx → Elt F .f32) → Prog (TpuEff nD τ sig (Elt F) Λ₀ .tc) α} {inb}
    {hl : (sc1M : Memref sig .tc .smem S1 .f32).view.LoadsAt (Rect.unit (s := S1) ![0] S1.size inb).toLoadRect} :
    stage1 m c ⊢ iprop((stage1 m c -∗ WP c (kk (stg1 m c)) Q)
      -∗ WP c (.op (.load sc1M (Rect.unit (s := S1) ![0] S1.size inb).toLoadRect hl) kk) Q) := by
  have h := wp_load (defs := defs₀ (F := F)) 𝒱₀ (c : Thread nD τ) none (Γ := PendingWaitsCtx.empty) Set.univ (Q := Q) (m := sc1M) (hl := hl)
    (k := kk) (f := stg1 m c) (q := fullShare) (S := Finset.univ) (Finset.subset_univ _)
  have hr : sc1M.view.readAt (Elt F) (Rect.unit (s := S1) ![0] S1.size inb).toLoadRect (stg1 m c) = stg1 m c := Memref.readAt_unit_zero (Elt F) cc0_stg1_0 hz1 _ _
  rw [hr] at h
  exact h
theorem x_load {α : Type} {Q : α → sProp 𝕄} {inb} {kk : (S256x4096.Idx → Elt F .f32) → Prog (TpuEff nD τ sig (Elt F) Λ₀ .tc) α}
    {hl : (xvM : Memref sig .tc .vmem S256x4096 .f32).view.LoadsAt (Rect.unit (s := S256x4096) ![0, 0] S256x4096.size inb).toLoadRect} :
    xVmem m c ⊢ iprop((xVmem m c -∗ WP c (kk (m ((c : Thread nD τ).loc main_arg0))) Q)
      -∗ WP c (.op (.load xvM (Rect.unit (s := S256x4096) ![0, 0] S256x4096.size inb).toLoadRect hl) kk) Q) := by
  have h := wp_load (defs := defs₀ (F := F)) 𝒱₀ (c : Thread nD τ) none (Γ := PendingWaitsCtx.empty) Set.univ (Q := Q) (m := xvM) (hl := hl) (k := kk)
    (f := (m ((c : Thread nD τ).loc main_arg0) : S256x4096.Idx → Elt F .f32)) (q := fullShare) (S := Finset.univ) (Finset.subset_univ _)
  have hr : (xvM : Memref sig .tc .vmem S256x4096 .f32).view.readAt (Elt F) (Rect.unit (s := S256x4096) ![0, 0] S256x4096.size inb).toLoadRect (m ((c : Thread nD τ).loc main_arg0))
      = (m ((c : Thread nD τ).loc main_arg0) : S256x4096.Idx → Elt F .f32) := Memref.readAt_unit_zero (Elt F) cc0_scratch2 hz2 _ _
  rw [hr] at h
  exact h
omit [FloatOps F] in
theorem slot0_sub {o : Fin 3 → ℕ} {inb} (ho : o = ![0, 0, 0]) : ((bufM : Memref sig .tc .vmem S16x256x4096 .fp8e4m3).access (slotR o inb)).set ⊆ slotSet 0 := by
  rw [← slotR_set (s := 0) (inb := inb) ho]; exact (View.set_slice_whole _ _).subset
theorem slot0_store {α : Type} {Q : α → sProp 𝕄} {o : Fin 3 → ℕ} {inb} (ho : o = ![0, 0, 0])
    {kk : PUnit → Prog (TpuEff nD τ sig (Elt F) Λ₀ .tc) α} {hx hm} (f : Buf (Elt F) ((c : Thread nD τ).loc cc0_scratch0)) :
    ((((c : Thread nD τ).loc cc0_scratch0) ↦[slotSet 0]{fullShare} f : sProp 𝕄))
      ⊢ iprop(((((c : Thread nD τ).loc cc0_scratch0) ↦[slotSet 0]{fullShare} (bufc m c : Buf (Elt F) ((c : Thread nD τ).loc cc0_scratch0))) -∗ WP c (kk ⟨⟩) Q)
        -∗ WP c (.op (.store bufM (slotR o inb) (xblk m c) Finset.univ hx hm) kk) Q) := by
  have hs : ((bufM : Memref sig .tc .vmem S16x256x4096 .fp8e4m3).access (slotR o inb)).setOn Finset.univ ⊆ slotSet 0 := slot0_sub ho
  have hw := Entails.of_eq (pointsTo_congr (Ix := Unit) (Name := ℕ) (U := UU) (Lvl := ℕ) (ℓ := (c : Thread nD τ).loc cc0_scratch0) (q := fullShare) (slot0_write m c (inb := inb) ho f))
  iintro Hf Hk
  iapply (wp_store 𝒱₀ (c : Thread nD τ) none Set.univ (m := bufM) (r := slotR o inb) hs) $$ [Hf]; · iexact Hf
  iintro Hf
  iapply Hk
  iapply hw; iexact Hf

/-! ## The two parts -/

section Parts
variable {a2 : Memref sig .tc .smem S1 .f32} {h2 : a2.IsWhole} {a3 : Memref sig .tc .smem S1 .f32} {h3 : a3.IsWhole}

theorem part19 {α : Type} {Q : α → sProp 𝕄} (v79 v110 v602 : BitVec 32) (v603 v604 : BitVec 1) (v607 : BitVec 32) (v608 : BitVec 1) (v611 : BitVec 32)
    {kk : _ → Prog (TpuEff nD τ sig (Elt F) Λ₀ .tc) α}
    (h : ∀ v, iprop(St m K c 0 ∗ Aside m c) ⊢ WP c (kk ⟨v, stg0 m c (ix1 (0 : Fin 1))⟩) Q) :
    iprop(Pre m K c ∗ stage0 m c ∗ stage1 m c) ⊢ WP c (k0_part19 xM (Memref.isWhole_whole _) wM (Memref.isWhole_whole _) sc0M (Memref.isWhole_whole _) a3 h3 outM (Memref.isWhole_whole _) bufM (Memref.isWhole_whole _) wbM (Memref.isWhole_whole _) xvM (Memref.isWhole_whole _) wvM (Memref.isWhole_whole _) accM (Memref.isWhole_whole _) cc0_scratch5 cc0_scratch6 cc0_scratch7 cc0_scratch8 cc0_scratch9 cc0_scratch10 c v79 v110 v602 v603 v604 v607 v608 v611 >>= kk) Q := by
  have h' : ∀ (v : BitVec 32) (x : S1.Idx), iprop(St m K c 0 ∗ Aside m c) ⊢ WP c (kk ⟨v, stg0 m c x⟩) Q := fun v x => by
    rw [ix1_only x]; exact h v
  rw [k0_part19_eq_skeleton]
  unfold k0_part19_skel
  simp only [Prog.lift, Prog.bind_op, Prog.bind_ret, Prog.pure_eq_ret, Prog.bind_assoc, semSignalWord, semWaitWord, smemLoad, smemLoadElt]
  rw [dev1_eq, dev2_eq]
  have hb : (SemArray.scalar (sig.barrier 0 rfl) : Sems sig S_).sem = barS := rfl
  rw [hb]
  have hpayR : barPay (F := F) (right c) false ⊢ (Rd m).payload (((right c : Dev nD) : Thread nD τ), .reg barS) 0 false := Entails.of_eq rfl
  have hpayL : barPay (F := F) (left c) true ⊢ (Rd m).payload (((left c : Dev nD) : Thread nD τ), .reg barS) 0 true := Entails.of_eq rfl
  have hbuf := buf_deal (F := F) c
  have hpays := pays_merge (F := F) c
  have hacc := acc_any (F := F) c
  have hsplit := (own_split m c).1
  have hsnd := snd_start m c
  have hreg := reg_start m c
  have hwst := w_start m c
  have hwait := fun W kk Q => wait_cell (α := α) (Q := Q) (kk := kk) (src := xM) (dst := xvM) (hsrc := (Memref.isWhole_whole _).wordExact) (hdst := (Memref.isWhole_whole _).wordExact) m c (dutiesOf_ld 0) (K (c, ldC 0)) (owed c 0) W (N := nLd 0) rfl (amt_ld 0).symm
  rw [pay_ld0] at hwait
  unfold Pre barPre ldPre scratches anyBuf
  iintro ⟨⟨#Hr, #Hl, ⟨%W, HO⟩, ⟨Hbat, Hbc, HbR, HbL⟩, Hsp, Hrcv, Hst, ⟨Ht0, Ha0⟩, ⟨Ht1, Ha1⟩, Hx, Hw, ⟨%fo, Hout⟩, Hb0, Hb1, ⟨%f2, Hb2⟩, ⟨%f3, Hb3⟩, Hb4⟩, Hs0, Hs1⟩
  ihave #H0 := recs_get m K (c, ldC 0) $$ Hr
  icases H0 with ⟨#HI0, #Hr0⟩
  ihave #H1 := recs_get m K (c, ldC 1) $$ Hr
  icases H1 with ⟨#HI1, #Hr1⟩
  ihave #H2 := recs_get m K (right c, barC) $$ Hr
  icases H2 with ⟨#HIR, #HrR⟩
  ihave #H3 := recs_get m K (left c, barC) $$ Hr
  icases H3 with ⟨#HIL, #HrL⟩
  ihave #H4 := recs_get m K (c, barC) $$ Hr
  icases H4 with ⟨#HIB, -⟩
  -- the two copies
  iapply (copy_x m K c (f := f2) rfl) $$ [Hx Hb2 Ht0]
  · isplitr; · iexact HI0
    isplitr; · iexact Hr0
    isplitl [Hx]; · iexact Hx
    isplitl [Hb2]; · iexact Hb2
    iexact Ht0
  iintro Hc0
  iapply (copy_w m K c (f := f3) rfl) $$ [Hw Hb3 Ht1]
  · isplitr; · iexact HI1
    isplitr; · iexact Hr1
    isplitl [Hw]; · iexact Hw
    isplitl [Hb3]; · iexact Hb3
    iexact Ht1
  iintro Hc1
  -- the barrier
  ihave Hd := hbuf $$ [Hb0]; · iexact Hb0
  icases Hd with ⟨Hslot, HpR, HpL⟩
  unfold owedAll
  iapply (Rounds.wp_signal 𝒱₀ ER (Rd m) (c : Thread nD τ) none (dst := ((right c : Dev nD) : Thread nD τ)) (κ := K (right c, barC))
      (d := false) (by rw [duties_zero]; exact Finset.mem_univ _) rfl () (owedBar c) rfl) $$ [HO HbR HpR]
  · isplitr; · iexact HIR
    isplitl [HO]; · iexact HO
    isplitl [HbR]; · iexact HbR
    isplitl [HpR]; · iapply hpayR; iexact HpR
    iexact HrR
  iintro HO
  unfold owedBar
  iapply (Rounds.wp_signal 𝒱₀ ER (Rd m) (c : Thread nD τ) none (dst := ((left c : Dev nD) : Thread nD τ)) (κ := K (left c, barC))
      (d := true) (by rw [duties_zero]; exact Finset.mem_univ _) rfl () (owed c 0) rfl) $$ [HO HbL HpL]
  · isplitr; · iexact HIL
    isplitl [HO]; · iexact HO
    isplitl [HbL]; · iexact HbL
    isplitl [HpL]; · iapply hpayL; iexact HpL
    iexact HrL
  iintro HO
  iapply (Rounds.wp_wait_rest_token 𝒱₀ ER (Rd m) (c : Thread nD τ) none (κ := K (c, barC))
      (wpE_semWait_eq 𝒱₀ (c : Thread nD τ) none Set.univ) (Set.mem_univ _) () (O := owed c 0) (W := W) (R := 0) (m := 0) (T := ∅)
      (by rw [bar_expect]; decide)) $$ [Hbc HO Hbat]
  · isplitr; · iexact HIB
    isplitl [Hbc]; · iexact Hbc
    isplitl [HO]; · iexact HO
    isplitr; · iapply mayWait_bar c; iexact Hl
    iexact Hbat
  iintro ⟨HO, Hbat, -, Hpay⟩
  ihave Hpay' := (Entails.of_eq (bar_rest m c)) $$ [Hpay]; · iexact Hpay
  ihave Hpieces := hpays $$ [Hpay']; · iexact Hpay'
  -- the block of `x`, cast into slot 0
  iapply (hwait _) $$ [HO Hc0 Ha0]
  · isplitr; · iexact HI0
    isplitl [Hc0]; · iexact Hc0
    isplitl [HO]; · iexact HO
    isplitr; · iapply mayWait_low c (.dma (ldSem 0)) (by rw [role_ld]; rfl) 0; iexact Hl
    iexact Ha0
  iintro ⟨HO, Ha0, Hxv, Hx⟩
  iapply (x_load m c) $$ [Hxv]; · iexact Hxv
  iintro Hxv
  icases Hslot with ⟨%fs, Hslot⟩
  iapply (wp_load_rect 𝒱₀ (c : Thread nD τ) none Set.univ (m := bufM) (slot0_sub rfl)) $$ [Hslot]; · iexact Hslot
  iintro Hslot
  iapply (slot0_store m c rfl fs) $$ [Hslot]; · iexact Hslot
  iintro Hslot
  iapply (read_scale0 m c) $$ [Hs0]; · iexact Hs0
  iintro Hs0
  ihave Hown := hsplit $$ [Hslot]; · iexact Hslot
  icases Hown with ⟨Hsrc, Hblk⟩
  ihave Hsnd := hsnd $$ [Hsp Hpieces Hsrc]
  · isplitl [Hsp]; · iexact Hsp
    isplitl [Hpieces]; · iexact Hpieces
    iexact Hsrc
  ihave Hout' := (out_any (F := F) c fo) $$ [Hout]; · iexact Hout
  ihave Hacc := hacc $$ [Hb4]; · iexact Hb4
  ihave Hreg := hreg $$ [Hst Hout' Hacc]
  · isplitl [Hst]; · iexact Hst
    isplitl [Hacc]; · iexact Hacc
    iexact Hout'
  iapply (h' _ _)
  unfold St Aside
  isplitl [HO Hsnd Hrcv Hreg Ha1 Hc1 Hb1 Hblk]
  · isplitr; · iexact Hr
    isplitr; · iexact Hl
    isplitl [HO]; · iexact HO
    isplitl [Hsnd]; · iexact Hsnd
    isplitl [Hrcv]; · iexact Hrcv
    isplitl [Hreg]; · iexact Hreg
    isplitr [Hblk]; swap; · iexact Hblk
    iapply hwst
    isplitl [Ha1]; · iexact Ha1
    isplitl [Hc1]; · iexact Hc1
    unfold wbAny; iexact Hb1
  isplitl [Hbat]; · iexact Hbat
  isplitl [Ha0]; · iexact Ha0
  isplitl [Hxv]; · iexact Hxv
  isplitl [Hx]; · iexact Hx
  isplitl [Hs0]; · iexact Hs0
  iexact Hs1

theorem part20 {α : Type} {Q : α → sProp 𝕄} (v79 v110 : BitVec 32) {kk : _ → Prog (TpuEff nD τ sig (Elt F) Λ₀ .tc) α}
    (h : iprop(St m K c 2 ∗ Aside m c) ⊢ WP c (kk (scale m c)) Q) :
    iprop(St m K c 0 ∗ Aside m c) ⊢ WP c (k0_part20 xM (Memref.isWhole_whole _) wM (Memref.isWhole_whole _) a2 h2 sc1M (Memref.isWhole_whole _) outM (Memref.isWhole_whole _) bufM (Memref.isWhole_whole _) wbM (Memref.isWhole_whole _) xvM (Memref.isWhole_whole _) wvM (Memref.isWhole_whole _) accM (Memref.isWhole_whole _) cc0_scratch5 cc0_scratch6 cc0_scratch7 cc0_scratch8 cc0_scratch9 cc0_scratch10 c v79 v110 (stg0 m c (ix1 (0 : Fin 1))) >>= kk) Q := by
  rw [k0_part20_eq_skeleton]
  unfold k0_part20_skel
  simp only [Prog.lift, Prog.bind_op, Prog.bind_ret, Prog.pure_eq_ret, Prog.bind_assoc, smemLoad, smemLoadElt]
  have h' : ∀ x : S1.Idx, iprop(St m K c 2 ∗ Aside m c) ⊢ WP c (kk (k0_pay2 (stg0 m c (ix1 (0 : Fin 1))) (stg1 m c x))) Q := fun x => by
    rw [ix1_only x]; exact h
  unfold Aside at h' ⊢
  iintro ⟨HS, Hb, Ha, Hxv, Hx, Hs0, Hs1⟩
  iapply (read_scale1 m c) $$ [Hs1]; · iexact Hs1
  iintro Hs1
  iapply (step_send (R := iprop(atPos ER (gcell (c, barC)) 1 ∅ 0 ∗ atPos ER (gcell (c, ldC 0)) 1 ∅ 0 ∗ xVmem m c ∗ xHbm m c ∗ stage0 m c ∗ stage1 m c)) m K c 0 rfl rfl (dev3_eq c) rfl rfl rfl rfl
    (step_send m K c 1 rfl rfl (dev4_eq c) rfl rfl rfl rfl (h' _)))
  isplitl [HS]; · iexact HS
  isplitl [Hb]; · iexact Hb
  isplitl [Ha]; · iexact Ha
  isplitl [Hxv]; · iexact Hxv
  isplitl [Hx]; · iexact Hx
  isplitl [Hs0]; · iexact Hs0
  iexact Hs1
end Parts

end Cert.RingProof

end
-- ==== Proof.Body.lean ====
/-
# The body, from its start to its last wait
-/
module

public import proofs.«01_k».proof.Proof.Start

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

variable (c : Dev nD)

/-- A part that only computes words goes by for whatever it returns. -/
theorem words {α β : Type} {P : sProp 𝕄} {Q : α → sProp 𝕄} {p : Prog (TpuEff nD τ sig (Elt F) Λ₀ .tc) β} {kk : β → Prog (TpuEff nD τ sig (Elt F) Λ₀ .tc) α}
    (hp : ∃ w, p = .ret w) (h : ∀ w, P ⊢ WP c (kk w) Q) : P ⊢ WP c (p >>= kk) Q := by
  obtain ⟨w, rfl⟩ := hp
  exact h w

theorem part1 {α : Type} {P : sProp 𝕄} {Q : α → sProp 𝕄} {a2 : Memref sig .tc .smem S1 .f32} {h2 : a2.IsWhole} {a3 : Memref sig .tc .smem S1 .f32} {h3 : a3.IsWhole}
    {kk : _ → Prog (TpuEff nD τ sig (Elt F) Λ₀ .tc) α} (h : ∀ v19 v29 v30 v33 v34 v35 v36, P ⊢ WP c (kk ⟨c, v19, v29, v30, v33, v34, v35, v36⟩) Q) :
    P ⊢ WP c (k0_part1 xM (Memref.isWhole_whole _) wM (Memref.isWhole_whole _) a2 h2 a3 h3 outM (Memref.isWhole_whole _) bufM (Memref.isWhole_whole _) wbM (Memref.isWhole_whole _) xvM (Memref.isWhole_whole _) wvM (Memref.isWhole_whole _) accM (Memref.isWhole_whole _) cc0_scratch5 cc0_scratch6 cc0_scratch7 cc0_scratch8 cc0_scratch9 cc0_scratch10 >>= kk) Q := by
  rw [k0_part1_eq_skeleton]
  unfold k0_part1_skel
  simp only [Prog.lift, Prog.bind_op, Prog.bind_ret, Prog.pure_eq_ret, Prog.bind_assoc, wp_deviceId]
  exact h _ _ _ _ _ _ _

theorem part59 {α : Type} {Q : α → sProp 𝕄} {kk : Dev nD → Prog (TpuEff nD τ sig (Elt F) Λ₀ .tc) α} (h : iprop(St m K c 138 ∗ Aside m c) ⊢ WP c (kk c) Q) :
    iprop(Pre m K c ∗ stage0 m c ∗ stage1 m c) ⊢ WP c (k0_part59 xM (Memref.isWhole_whole _) wM (Memref.isWhole_whole _) sc0M (Memref.isWhole_whole _) sc1M (Memref.isWhole_whole _) outM (Memref.isWhole_whole _) bufM (Memref.isWhole_whole _) wbM (Memref.isWhole_whole _) xvM (Memref.isWhole_whole _) wvM (Memref.isWhole_whole _) accM (Memref.isWhole_whole _) cc0_scratch5 cc0_scratch6 cc0_scratch7 cc0_scratch8 cc0_scratch9 cc0_scratch10 >>= kk) Q := by
  rw [k0_part59_eq_skeleton]
  unfold WP
  rw [wp_bind]
  unfold k0_part59_skel
  refine part1 c (fun _ _ _ _ _ _ _ => ?_)
  refine words c ⟨_, rfl⟩ (fun ⟨_, _, _, _, _, _, _, _, _, _⟩ => ?_)
  refine words c ⟨_, rfl⟩ (fun ⟨_, _, _, _, _, _, _, _, _⟩ => ?_)
  refine words c ⟨_, rfl⟩ (fun ⟨_, _, _⟩ => ?_)
  refine words c ⟨_, rfl⟩ (fun ⟨_, _, _⟩ => ?_)
  refine words c ⟨_, rfl⟩ (fun ⟨_, _, _⟩ => ?_)
  refine words c ⟨_, rfl⟩ (fun ⟨_, _, _⟩ => ?_)
  refine words c ⟨_, rfl⟩ (fun ⟨_, _, _, _, _⟩ => ?_)
  refine words c ⟨_, rfl⟩ (fun ⟨_, _, _, _⟩ => ?_)
  refine words c ⟨_, rfl⟩ (fun ⟨_, _, _, _, _⟩ => ?_)
  refine words c ⟨_, rfl⟩ (fun ⟨_, _, _, _, _⟩ => ?_)
  refine words c ⟨_, rfl⟩ (fun ⟨_, _⟩ => ?_)
  refine words c ⟨_, rfl⟩ (fun ⟨_, _, _, _⟩ => ?_)
  refine words c ⟨_, rfl⟩ (fun ⟨_, _, _, _, _⟩ => ?_)
  refine words c ⟨_, rfl⟩ (fun ⟨_, _, _, _, _, _⟩ => ?_)
  refine words c ⟨_, rfl⟩ (fun ⟨_, _, _, _, _, _⟩ => ?_)
  refine words c ⟨_, rfl⟩ (fun ⟨_, _, _, _, _, _, _, _⟩ => ?_)
  refine words c ⟨_, rfl⟩ (fun ⟨_, _, _, _, _, _, _⟩ => ?_)
  refine part19 m K c _ _ _ _ _ _ _ _ (fun _ => ?_)
  refine part20 m K c _ _ ?_
  refine part21 m K c _ _ ?_
  refine part22 m K c _ _ (fun ⟨_, _⟩ => ?_)
  refine part23 m K c _ _ _ _ ?_
  refine part24 m K c _ ?_
  refine part25 m K c _ _ ?_
  refine part26 m K c _ _ ?_
  refine part27 m K c _ _ ?_
  refine part28 m K c _ _ ?_
  refine part29 m K c _ _ ?_
  refine part30 m K c _ _ ?_
  refine part31 m K c _ _ ?_
  refine part32 m K c _ _ ?_
  refine part33 m K c _ _ ?_
  refine part34 m K c _ _ ?_
  refine part35 m K c _ _ ?_
  refine part36 m K c _ _ ?_
  refine part37 m K c _ _ ?_
  refine part38 m K c _ _ ?_
  refine part39 m K c _ ?_
  refine part40 m K c _ _ _ (fun ⟨_, _⟩ => ?_)
  refine part41 m K c _ _ _ _ ?_
  refine part42 m K c _ _ (fun ⟨_, _⟩ => ?_)
  refine part43 m K c _ _ _ _ ?_
  refine part44 m K c _ _ ?_
  refine part45 m K c _ _ (fun _ => ?_)
  refine part46 m K c _ _ _ ?_
  refine part47 m K c _ _ ?_
  refine part48 m K c _ _ ?_
  refine part49 m K c _ ?_
  refine part50 m K c ?_
  refine part51 m K c ?_
  refine part52 m K c ?_
  refine part53 m K c ?_
  refine part54 m K c ?_
  refine part55 m K c ?_
  refine part56 m K c ?_
  refine part57 m K c ?_
  refine part58 m K c ?_
  unfold WP
  rw [Prog.pure_eq_ret, wp_ret]
  exact h.trans (fupd_intro)

/-- The body runs from what it holds on entry to its last wait. -/
theorem body_run : iprop(Pre m K c ∗ stage0 m c ∗ stage1 m c) ⊢ WP c (cc0_body (F := F) xM (Memref.isWhole_whole _) wM (Memref.isWhole_whole _) sc0M (Memref.isWhole_whole _) sc1M (Memref.isWhole_whole _) outM (Memref.isWhole_whole _) bufM (Memref.isWhole_whole _) wbM (Memref.isWhole_whole _) xvM (Memref.isWhole_whole _) wvM (Memref.isWhole_whole _) accM (Memref.isWhole_whole _) cc0_scratch5 cc0_scratch6 cc0_scratch7 cc0_scratch8 cc0_scratch9 cc0_scratch10) (fun _ => iprop(St m K c 143 ∗ Aside m c)) := by
  rw [cc0_body_eq_skeleton]
  unfold cc0_body_skel
  refine part59 m K c ?_
  simp only [Prog.lift, Prog.bind_op, Prog.bind_ret, Prog.pure_eq_ret, Prog.bind_assoc]
  refine step_twait m K c 10 rfl rfl (full_credit (by decide)) ?_
  refine step_twait m K c 7 rfl rfl (full_credit (by decide)) ?_
  refine step_twait m K c 9 rfl rfl (full_credit (by decide)) ?_
  refine step_twait m K c 8 rfl rfl (half_credit (by decide)) ?_
  refine step_twait m K c 16 rfl rfl (half_credit (by decide)) ?_
  unfold WP
  rw [wp_ret]
  iintro H
  imodintro
  iexact H

end Cert.RingProof

end
-- ==== Proof.End.lean ====
/-
# The body's end: every semaphore closed, every buffer whole again
-/
module

public import proofs.«01_k».proof.Proof.Body

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

instance recs_pers : BI.Persistent (recs (F := F) m K) := by unfold recs; infer_instance

/-- A cell with no duty left closes at zero. -/
theorem close_cell (ck : Dev nD × Cell) (R : ℕ) (hR : ∀ r, R ≤ r → (Rd (F := F) m).duties (gcell ck) r = ∅) :
    iprop(recs m K ∗ atPos ER (gcell ck) R ∅ 0) ⊢ iprop(|={Set.univ}=> semVal (gcell ck) 0) := by
  iintro ⟨#Hr, Hat⟩
  ihave Hc := (recs_get m K ck) $$ Hr
  icases Hc with ⟨Hi, -⟩
  iapply (Rounds.cell_close ER (Rd m) (Set.mem_univ (K ck)) (fun h => h) (R := R) hR)
  isplitl [Hi] <;> iassumption

theorem close_one (ck : Dev nD × Cell) :
    iprop(recs m K ∗ atPos ER (gcell ck) 1 ∅ 0) ⊢ iprop(|={Set.univ}=> semVal (gcell ck) 0) :=
  close_cell m K ck 1 (duties_later m (gcell ck))

/-! ## The cells of the messages -/

def sndSide (c : Dev nD) (k : Msg) : sProp 𝕄 := if used k then piece m (srcShare k) c (srcPiece k) else iprop(emp)
def rcvSide (c : Dev nD) (k : Msg) : sProp 𝕄 :=
  if used k then iprop(piece m fullShare.right c (dstPiece k) ∗ (if fwd k then iprop(emp) else piece m fullShare.left c (dstPiece k))) else iprop(emp)

theorem snd_over (k : Msg) (h : used k = true) : (Ev.swait k).time < 143 := by revert k; decide +kernel
theorem rcv_over (k : Msg) (h : used k = true) : (Ev.recv k).time < 143 := by revert k; decide +kernel
theorem reg_over (u : Fin 17) : (Ev.twait u).time < 143 := by revert u; decide +kernel
theorem snd_idle (k : Msg) (h : ¬ used k = true) : dutiesOf (role (.dma (sndSem k))) = ∅ := by revert k; decide +kernel
theorem rcv_idle (k : Msg) (h : ¬ used k = true) : dutiesOf (role (.dma (rcvSem k))) = ∅ := by revert k; decide +kernel

theorem close_snd (c : Dev nD) (k : Msg) :
    iprop(recs m K ∗ sndSt m c 143 k) ⊢ iprop(|={Set.univ}=> (semVal (gcell (c, sndC k)) 0 ∗ sndSide m c k)) := by
  unfold sndSide
  by_cases hu : used k = true
  · rw [sndSt_after m c hu (snd_over k hu), if_pos hu]
    unfold sndAfter
    iintro ⟨Hr, Hat, Hp⟩
    imod (close_one m K (c, sndC k)) $$ [Hr Hat] with Hz
    · isplitl [Hr] <;> iassumption
    imodintro
    isplitl [Hz] <;> iassumption
  · unfold sndSt
    rw [if_neg hu, if_neg hu]
    iintro ⟨Hr, Hat⟩
    imod (close_cell m K (c, sndC k) 0 (duties_none m c (.dma (sndSem k)) (snd_idle k hu))) $$ [Hr Hat] with Hz
    · isplitl [Hr] <;> iassumption
    imodintro
    isplitl [Hz]; · iexact Hz
    iempintro

theorem close_rcv (c : Dev nD) (k : Msg) :
    iprop(recs m K ∗ rcvSt m c 143 k) ⊢ iprop(|={Set.univ}=> (semVal (gcell (c, rcvC k)) 0 ∗ rcvSide m c k)) := by
  unfold rcvSide
  by_cases hu : used k = true
  · rw [rcvSt_after m c hu (rcv_over k hu), if_pos hu]
    unfold rcvAfter
    iintro ⟨Hr, Hat, Hp⟩
    imod (close_one m K (c, rcvC k)) $$ [Hr Hat] with Hz
    · isplitl [Hr] <;> iassumption
    imodintro
    isplitl [Hz] <;> iassumption
  · unfold rcvSt
    rw [if_neg hu, if_neg hu]
    iintro ⟨Hr, Hat⟩
    imod (close_cell m K (c, rcvC k) 0 (duties_none m c (.dma (rcvSem k)) (rcv_idle k hu))) $$ [Hr Hat] with Hz
    · isplitl [Hr] <;> iassumption
    imodintro
    isplitl [Hz]; · iexact Hz
    iempintro

theorem close_reg (c : Dev nD) (u : Fin 17) :
    iprop(recs m K ∗ regSt m c 143 u) ⊢ iprop(|={Set.univ}=> (semVal (gcell (c, stC u)) 0 ∗ (outDone m c u ∗ accDone m c u))) := by
  rw [regSt_after m c (reg_over u)]
  unfold regAfter
  iintro ⟨Hr, Ho, Ha, Hat⟩
  imod (close_one m K (c, stC u)) $$ [Hr Hat] with Hz
  · isplitl [Hr] <;> iassumption
  imodintro
  isplitl [Hz]; · iexact Hz
  isplitl [Ho] <;> iassumption

/-- A family of cells closes at once. -/
theorem close_all {I : Type} [Fintype I] [DecidableEq I] (Φ A B : I → sProp 𝕄) (h : ∀ i, iprop(recs m K ∗ Φ i) ⊢ iprop(|={Set.univ}=> (A i ∗ B i))) :
    iprop(recs m K ∗ bigSep Finset.univ Φ) ⊢ iprop(|={Set.univ}=> (bigSep Finset.univ A ∗ bigSep Finset.univ B)) := by
  rw [sep_bigSep]
  exact BI.Entails.trans (BI.bigSep_with_persistent fun i _ => h i) (bigSep_fupd _ _)

/-! ## The gathering buffer whole again -/

theorem fwd_ends (k : Msg) (h : fwd k = true) : used k = true := by revert k; decide +kernel
theorem stop_facts (k : Msg) (h : ¬ fwd k = true) (h28 : k.val < 28) : used k = true ∧ ¬ used (k + 4) = true ∧ ¬ (k + 4).val < 4 := by
  revert k; decide +kernel
theorem last_facts (k : Msg) (h28 : ¬ k.val < 28) : ¬ fwd k = true ∧ used (k + 4) = true ∧ (k + 4).val < 4 := by
  revert k; decide +kernel

def landFull (c : Dev nD) (k : Msg) : sProp 𝕄 := if used k then piece m fullShare c (dstPiece k) else iprop(emp)

theorem rcvSide_full (c : Dev nD) (k : Msg) (h : ¬ fwd k = true) : rcvSide m c k ⊢ landFull m c k := by
  unfold rcvSide landFull
  by_cases hu : used k = true
  · rw [if_pos hu, if_pos hu, if_neg h]
    iintro ⟨Hr, Hl⟩
    iapply (piece_share m c (dstPiece k) fullShare).2
    isplitl [Hl] <;> iassumption
  · rw [if_neg hu, if_neg hu]

theorem sides_join (c : Dev nD) (k : Msg) : iprop(sndSide m c (k + 4) ∗ rcvSide m c k) ⊢ iprop(landFull m c k ∗ ownSrc m c (k + 4)) := by
  by_cases hf : fwd k = true
  · obtain ⟨hn, h4, -, -, -, hsh⟩ := next_facts k hf
    have hu := fwd_ends k hf
    have hs := srcPiece_next k hf
    unfold nextMsg at hn h4 hsh hs
    unfold sndSide rcvSide landFull ownSrc
    rw [if_pos hn, if_pos hu, if_pos hu, if_pos hf, if_neg (by omega), hsh, hs]
    iintro ⟨Hl, Hr, -⟩
    isplitl [Hl Hr]
    · iapply (piece_share m c (dstPiece k) fullShare).2
      isplitl [Hl] <;> iassumption
    · iempintro
  · by_cases h28 : k.val < 28
    · obtain ⟨hu, hn, h4⟩ := stop_facts k hf h28
      unfold sndSide ownSrc
      rw [if_neg hn, if_neg h4]
      iintro ⟨He, Hr⟩
      isplitl [Hr]
      · iapply (rcvSide_full m c k hf); iexact Hr
      · iexact He
    · obtain ⟨-, hn, h4⟩ := last_facts k h28
      unfold sndSide ownSrc
      rw [if_pos hn, if_pos h4]
      iintro ⟨Hs, Hr⟩
      isplitl [Hr]
      · iapply (rcvSide_full m c k hf); iexact Hr
      · iexact Hs

theorem buf_back (c : Dev nD) :
    iprop(bigSep Finset.univ (sndSide m c) ∗ bigSep Finset.univ (rcvSide m c) ∗ ownBlk m c)
      ⊢ anyBuf (F := F) c cc0_scratch0 := by
  have e1 := bigSep_univ_equiv (Equiv.addRight (4 : Msg)) (sndSide m c)
  have e2 := bigSep_univ_equiv (Equiv.addRight (4 : Msg)) (ownSrc m c)
  have hj : iprop(bigSep Finset.univ (sndSide m c) ∗ bigSep Finset.univ (rcvSide m c))
      ⊢ iprop(bigSep Finset.univ (landFull m c) ∗ bigSep Finset.univ (ownSrc m c)) := by
    rw [e1, e2, sep_bigSep, sep_bigSep]
    exact bigSep_mono fun k _ => sides_join m c k
  have hl : bigSep Finset.univ (landFull m c) ⊢ (bigSep Finset.univ fun k : Msg =>
      if used k then ((c : Thread nD τ).loc cc0_scratch0) ↦[pieceSet (dstPiece k)]{fullShare} (bufc m c : Buf (Elt F) ((c : Thread nD τ).loc cc0_scratch0)) else iprop(emp)) :=
    Entails.of_eq rfl
  iintro ⟨Hs, Hr, Ho⟩
  ihave Hj := hj $$ [Hs Hr]
  · isplitl [Hs] <;> iassumption
  icases Hj with ⟨Hl, Hw⟩
  unfold anyBuf
  iexists (bufc m c : Buf (Elt F) ((c : Thread nD τ).loc cc0_scratch0))
  iapply (buf_cut c (bufc m c)).2
  isplitl [Hw Ho]
  · iapply (own_split m c).2
    isplitl [Hw] <;> iassumption
  · iapply hl; iexact Hl

/-! ## All of it -/

/-- The result, whole. -/
def outHbm (c : Dev nD) : sProp 𝕄 := iprop(((c : Thread nD τ).loc main_v1) ↦{fullShare} (outc m c : Buf (Elt F) ((c : Thread nD τ).loc main_v1)))
/-- Every semaphore of the kernel's own, at zero. -/
def ownZero (c : Dev nD) : sProp 𝕄 := bigSep (Finset.univ : Finset Own) fun o => semVal (gcell (c, (.inl o : Cell))) 0

def Done (c : Dev nD) : sProp 𝕄 :=
  iprop((∃ W, owes (c : Thread nD τ) 0 W) ∗ ownZero (F := F) c ∗ semVal (gcell (c, barC)) 0 ∗ scratches (F := F) c
    ∗ xHbm m c ∗ wHbm m c ∗ outHbm m c ∗ stage0 m c ∗ stage1 m c)

theorem ownZero_eq (c : Dev nD) :
    ownZero (F := F) c = iprop(((bigSep Finset.univ fun k : Msg => semVal (gcell (c, sndC k)) 0) ∗ (bigSep Finset.univ fun k : Msg => semVal (gcell (c, rcvC k)) 0))
      ∗ ((semVal (gcell (c, ldC 0)) 0 ∗ semVal (gcell (c, ldC 1)) 0) ∗ (bigSep Finset.univ fun u : Fin 17 => semVal (gcell (c, stC u)) 0))) := by
  unfold ownZero
  rw [bigSep_univ_sum, bigSep_univ_sum, bigSep_univ_sum, bigSep_univ_two]
  rfl

theorem regs_back (c : Dev nD) :
    (bigSep Finset.univ fun u : Fin 17 => iprop(outDone m c u ∗ accDone m c u)) ⊢ iprop(outHbm m c ∗ anyBuf (F := F) c cc0_scratch4) := by
  have eo : outHbm m c = bigSep Finset.univ (outDone m c) := out_cut c (outc m c)
  have ea : (((c : Thread nD τ).loc cc0_scratch4) ↦{fullShare} (outc m c : Buf (Elt F) ((c : Thread nD τ).loc cc0_scratch4)) : sProp 𝕄)
      = bigSep Finset.univ (accDone m c) := acc_cut c (outc m c)
  rw [← sep_bigSep, ← ea, eo]
  iintro ⟨Ho, Ha⟩
  isplitl [Ho]; · iexact Ho
  unfold anyBuf
  iexists (outc m c : Buf (Elt F) ((c : Thread nD τ).loc cc0_scratch4))
  iexact Ha

theorem w_over (c : Dev nD) : wSt m c 143 = iprop(atPos ER (gcell (c, ldC 1)) 1 ∅ 0 ∗ wVmem m c ∗ wHbm m c ∗ wbDone m c) := by
  unfold wSt
  rw [show Ev.wwait.done 143 = true by decide +kernel, show Ev.wstore.done 143 = true by decide +kernel]
  rfl

theorem body_end (c : Dev nD) : iprop(St m K c 143 ∗ Aside m c) ⊢ iprop(|={Set.univ}=> Done m c) := by
  have hO : (iprop(∃ W, owes (c : Thread nD τ) (owed c 143) W) : sProp 𝕄) ⊢ iprop(∃ W, owes (c : Thread nD τ) 0 W) := by
    rw [owed_end c (by norm_num : 96 ≤ 143)]
  unfold St Aside sndAll rcvAll regAll Done
  rw [w_over, ownZero_eq]
  iintro ⟨⟨#Hr, -, HO, Hs, Hv, Hg, ⟨Hat1, Hwv, Hw, Hwb⟩, Hown⟩, Hbar, Hat0, Hxv, Hx, H0, H1⟩
  imod (close_all m K _ _ _ (close_snd m K c)) $$ [Hs] with ⟨Hzs, Hs⟩
  · isplitr; · iexact Hr
    iexact Hs
  imod (close_all m K _ _ _ (close_rcv m K c)) $$ [Hv] with ⟨Hzv, Hv⟩
  · isplitr; · iexact Hr
    iexact Hv
  imod (close_all m K _ _ _ (close_reg m K c)) $$ [Hg] with ⟨Hzg, Hg⟩
  · isplitr; · iexact Hr
    iexact Hg
  imod (close_one m K (c, ldC 0)) $$ [Hat0] with Hz0
  · isplitr; · iexact Hr
    iexact Hat0
  imod (close_one m K (c, ldC 1)) $$ [Hat1] with Hz1
  · isplitr; · iexact Hr
    iexact Hat1
  imod (close_one m K (c, barC)) $$ [Hbar] with Hzb
  · isplitr; · iexact Hr
    iexact Hbar
  ihave Hb := (buf_back m c) $$ [Hs Hv Hown]
  · isplitl [Hs]; · iexact Hs
    isplitl [Hv] <;> iassumption
  ihave Hg' := (regs_back m c) $$ Hg
  icases Hg' with ⟨Hout, Hacc⟩
  imodintro
  isplitl [HO]; · iapply hO; iexact HO
  isplitl [Hzs Hzv Hz0 Hz1 Hzg]
  · isplitl [Hzs Hzv]
    · isplitl [Hzs] <;> iassumption
    isplitl [Hz0 Hz1]
    · isplitl [Hz0] <;> iassumption
    iexact Hzg
  isplitl [Hzb]; · iexact Hzb
  isplitl [Hb Hwb Hxv Hwv Hacc]
  · unfold scratches
    isplitl [Hb]; · iexact Hb
    isplitl [Hwb]
    · unfold anyBuf wbDone; iexists _; iexact Hwb
    isplitl [Hxv]
    · unfold anyBuf xVmem; iexists _; iexact Hxv
    isplitl [Hwv]
    · unfold anyBuf wVmem; iexists _; iexact Hwv
    iexact Hacc
  isplitl [Hx]; · iexact Hx
  isplitl [Hw]; · iexact Hw
  isplitl [Hout]; · iexact Hout
  isplitl [H0] <;> iassumption

end Cert.RingProof

end
-- ==== Proof.Deal.lean ====
/-
# Dealing the launch: cells, tokens and credit, to the devices that use them
-/
module

public import proofs.«01_k».proof.Proof.End

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

theorem ownSemFacts : Pipeline.OwnSemFacts cfg0.spec osem := by decide +kernel

omit [FloatOps F] in
theorem bigSep_one (Φ : Unit → sProp 𝕄) : bigSep Finset.univ Φ = Φ () := bigSep_singleton

theorem csem_injective : Function.Injective csem := by
  rintro (a | a) (b | b) h
  · exact congrArg Sum.inl (ownSemFacts.inj h)
  · have hb : (SemLoc.reg barS : SemLoc sig).isScoped .tc = true := by rw [show (SemLoc.reg barS : SemLoc sig) = osem a from h.symm]; exact ownSemFacts.isScoped a
    exact absurd hb (by decide)
  · have hb : (SemLoc.reg barS : SemLoc sig).isScoped .tc = true := by rw [show (SemLoc.reg barS : SemLoc sig) = osem b from h]; exact ownSemFacts.isScoped b
    exact absurd hb (by decide)
  · rfl
theorem gcell_injective : Function.Injective (gcell : Dev nD × Cell → GSem nD τ sig) := by
  rintro ⟨c, k⟩ ⟨c', k'⟩ h
  have h1 : c = c' := congrArg (fun g : GSem nD τ sig => g.1.1) h
  subst h1
  exact congrArg (Prod.mk c) (csem_injective (congrArg Prod.snd h))
def allCells : Finset (GSem nD τ sig) := Finset.univ.map ⟨gcell, gcell_injective⟩

/-- The tokens: one of every cell, and the second of every barrier. -/
abbrev tokOf (x : Dev nD × (Cell ⊕ Unit)) : GSem nD τ sig × ℕ × Bool := match x.2 with
  | .inl ck => (gcell (x.1, ck), 0, false)
  | .inr _ => (gcell (x.1, barC), 0, true)
theorem tokOf_injective : Function.Injective (tokOf : Dev nD × (Cell ⊕ Unit) → GSem nD τ sig × ℕ × Bool) := by
  rintro ⟨c, a | a⟩ ⟨c', b | b⟩ h
  · have h1 := gcell_injective (congrArg Prod.fst h)
    rw [Prod.mk.injEq] at h1
    obtain ⟨hc, hk⟩ := h1
    exact Prod.ext hc (congrArg Sum.inl hk)
  · exact absurd (congrArg (fun x : GSem nD τ sig × ℕ × Bool => x.2.2) h) (by simp)
  · exact absurd (congrArg (fun x : GSem nD τ sig × ℕ × Bool => x.2.2) h) (by simp)
  · have h1 := gcell_injective (congrArg Prod.fst h)
    have hc : c = c' := congrArg (fun x : Dev nD × Cell => x.1) h1
    subst hc
    rfl
def allToks : Finset (GSem nD τ sig × ℕ × Bool) := Finset.univ.map ⟨tokOf, tokOf_injective⟩

def u₀ : UU := (initOf (Pipeline.cells cfgs cellOf_inj) (Pipeline.launchToks cfgs cellOf_inj), initOf allCells allToks)

/-- A device's cells' tokens. -/
def toks (c : Dev nD) : sProp 𝕄 :=
  iprop((bigSep Finset.univ fun ck : Cell => dutyTok ER (gcell (c, ck)) 0 false) ∗ dutyTok ER (gcell (c, barC)) 0 true)
def ats (c : Dev nD) : sProp 𝕄 := bigSep Finset.univ fun ck : Cell => atPos ER (gcell (c, ck)) 0 ∅ 0
def G (c : Dev nD) : sProp 𝕄 :=
  iprop((bigSep Finset.univ fun ck : Cell => roundState ER (Rd m) (gcell (c, ck)) 0) ∗ ats (F := F) c
    ∗ (bigSep Finset.univ fun ck : Cell => reached ER (gcell (c, ck)) 0) ∗ toks (F := F) c)

theorem fund_ring : BI.own (ER (initOf allCells allToks)) ⊢ (|==> bigSep Finset.univ (G (F := F) m) : sProp 𝕄) := by
  have hX (Φ : GSem nD τ sig → sProp 𝕄) : bigSep allCells Φ = bigSep Finset.univ fun c : Dev nD => bigSep Finset.univ fun k : Cell => Φ (gcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks
    rw [bigSep_univ_sum, bigSep_one]
    rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G ats; simp only [bigSep_sep']
  isplitl [Hst']; · iexact Hst'
  isplitl [Hat']; · iexact Hat'
  isplitl [Hr'] <;> iassumption

/-! ## The cells allocated -/

omit [FloatOps F] in
theorem ownSems0_eq (c : Dev nD) : (Pipeline.ownSems0 (Ix := Unit) (Name := ℕ) (U := UU) (Lvl := ℕ) (Val := Elt F) (τ := τ) osem c : sProp 𝕄)
    = bigSep (Finset.univ : Finset Own) fun o => semVal (gcell (c, (.inl o : Cell))) 0 := rfl
omit [FloatOps F] in
theorem unscopedSems0_eq (c : Dev nD) : (unscopedSems0 c : sProp 𝕄) = semVal (gcell (c, barC)) 0 := by
  unfold unscopedSems0; rw [bigSep_eq_bigSepL_of_eq [SemLoc.reg barS] (by decide +kernel) (by decide)]; rfl
omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cell => semVal (gcell (c, k)) 0 : sProp 𝕄) := by
  rw [ownSems0_eq, unscopedSems0_eq, bigSep_univ_sum (α := Own) (β := Unit), bigSep_one]
  exact Entails.of_eq rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cell => iprop(∃ κ : ℕ, cellInv ER (Rd m) κ (gcell (c, k)))) ∗ ats (F := F) c
          ∗ (bigSep Finset.univ fun ck : Cell => reached ER (gcell (c, ck)) 0) ∗ toks (F := F) c) := by
  have halloc : iprop((bigSep Finset.univ fun k : Cell => semVal (gcell (c, k)) 0) ∗ bigSep Finset.univ fun k : Cell => roundState ER (Rd m) (gcell (c, k)) 0)
      ⊢ (|={Set.univ}=> bigSep Finset.univ fun k : Cell => iprop(∃ κ : ℕ, cellInv ER (Rd m) κ (gcell (c, k))) : sProp 𝕄) := by
    rw [← bigSep_sep']
    exact (bigSep_mono fun k _ => (Rounds.body_intro ER (Rd m) (gcell (c, k))).trans inv_alloc).trans (bigSep_fupd _ _)
  unfold G
  iintro ⟨Hos, Hus, Hst, Hrest⟩
  ihave Hv := (sems0_eq (F := F) c) $$ [Hos Hus]
  · isplitl [Hos] <;> iassumption
  imod halloc $$ [Hv Hst] with Hinv
  · isplitl [Hv] <;> iassumption
  imodintro
  isplitl [Hinv]; · iexact Hinv
  iexact Hrest

/-! ## The tokens dealt round the ring -/

/-- The tokens device `c` pays with. -/
def payToks (c : Dev nD) : sProp 𝕄 :=
  iprop((bigSep Finset.univ fun k : Msg => dutyTok ER (gcell (c, sndC k)) 0 false) ∗ (bigSep Finset.univ fun k : Msg => dutyTok ER (gcell (peer k c, rcvC k)) 0 false)
    ∗ dutyTok ER (gcell (c, ldC 0)) 0 false ∗ dutyTok ER (gcell (c, ldC 1)) 0 false ∗ (bigSep Finset.univ fun u : Fin 17 => dutyTok ER (gcell (c, stC u)) 0 false)
    ∗ dutyTok ER (gcell (right c, barC)) 0 false ∗ dutyTok ER (gcell (left c, barC)) 0 true)

/-- Each message's sender for its receiver. -/
def peers (k : Msg) : Dev nD ≃ Dev nD := ⟨peer k, sender k, sender_peer k, peer_sender k⟩

omit [FloatOps F] in
theorem cells_eq (Φ : Cell → sProp 𝕄) : bigSep Finset.univ Φ
    = iprop((((bigSep Finset.univ fun k : Msg => Φ (sndC k)) ∗ (bigSep Finset.univ fun k : Msg => Φ (rcvC k)))
      ∗ ((Φ (ldC 0) ∗ Φ (ldC 1)) ∗ (bigSep Finset.univ fun u : Fin 17 => Φ (stC u)))) ∗ Φ barC) := by
  rw [bigSep_univ_sum, bigSep_univ_sum, bigSep_univ_sum, bigSep_univ_sum, bigSep_univ_two, bigSep_one]
  rfl

omit [FloatOps F] in
theorem rcv_around : (bigSep Finset.univ fun c : Dev nD => bigSep Finset.univ fun k : Msg => (dutyTok ER (gcell (c, rcvC k)) 0 false : sProp 𝕄))
    = bigSep Finset.univ fun c : Dev nD => bigSep Finset.univ fun k : Msg => dutyTok ER (gcell (peer k c, rcvC k)) 0 false := by
  rw [bigSep_univ_comm, bigSep_univ_comm (fun (c : Dev nD) (k : Msg) => (dutyTok ER (gcell (peer k c, rcvC k)) 0 false : sProp 𝕄))]
  exact bigSep_congr fun k _ => bigSep_univ_equiv (peers k) (fun c : Dev nD => (dutyTok ER (gcell (c, rcvC k)) 0 false : sProp 𝕄))

omit [FloatOps F] in
theorem toks_around : (bigSep Finset.univ fun c : Dev nD => (toks c : sProp 𝕄)) ⊢ bigSep Finset.univ fun c : Dev nD => payToks c := by
  have h1 : (fun c : Dev nD => (toks c : sProp 𝕄)) = fun c => iprop(((((bigSep Finset.univ fun k : Msg => dutyTok ER (gcell (c, sndC k)) 0 false)
      ∗ (bigSep Finset.univ fun k : Msg => dutyTok ER (gcell (c, rcvC k)) 0 false))
      ∗ ((dutyTok ER (gcell (c, ldC 0)) 0 false ∗ dutyTok ER (gcell (c, ldC 1)) 0 false) ∗ (bigSep Finset.univ fun u : Fin 17 => dutyTok ER (gcell (c, stC u)) 0 false)))
      ∗ dutyTok ER (gcell (c, barC)) 0 false) ∗ dutyTok ER (gcell (c, barC)) 0 true) := by
    funext c; unfold toks; rw [cells_eq]
  rw [h1]
  unfold payToks
  simp only [bigSep_sep']
  rw [rcv_around, bigSep_univ_equiv ring (fun c : Dev nD => (dutyTok ER (gcell (c, barC)) 0 false : sProp 𝕄)),
    bigSep_univ_equiv ring.symm (fun c : Dev nD => (dutyTok ER (gcell (c, barC)) 0 true : sProp 𝕄))]
  iintro ⟨⟨⟨⟨Hs, Hr⟩, ⟨H0, H1⟩, Hu⟩, Hf⟩, Ht⟩
  isplitl [Hs]; · iexact Hs
  isplitl [Hr]; · iexact Hr
  isplitl [H0]; · iexact H0
  isplitl [H1]; · iexact H1
  isplitl [Hu]; · iexact Hu
  isplitl [Hf]; · iexact Hf
  iexact Ht

/-! ## What each device is dealt -/

def G' (c : Dev nD) : sProp 𝕄 := iprop(∃ K, recs m K ∗ ats (F := F) c ∗ payToks (F := F) c)

theorem regroup :
    (bigSep Finset.univ fun c : Dev nD => iprop((bigSep Finset.univ fun k : Cell => iprop(∃ κ : ℕ, cellInv ER (Rd m) κ (gcell (c, k)))) ∗ ats (F := F) c
          ∗ (bigSep Finset.univ fun ck : Cell => reached ER (gcell (c, ck)) 0) ∗ toks (F := F) c) : sProp 𝕄)
      ⊢ bigSep Finset.univ (G' m) := by
  have hI (K : Dev nD × Cell → ℕ) (c : Dev nD) : iprop(recs m K ∗ (ats (F := F) c ∗ payToks (F := F) c)) ⊢ G' m c := by
    unfold G'
    iintro H
    iexists K
    iexact H
  rw [bigSep_sep', bigSep_sep', bigSep_sep', ← bigSep_univ_prod (fun ck : Dev nD × Cell => iprop(∃ κ : ℕ, cellInv ER (Rd m) κ (gcell ck))),
    ← bigSep_univ_prod (fun ck : Dev nD × Cell => (reached ER (gcell ck) 0 : sProp 𝕄))]
  iintro ⟨HI, Hat, #HR, Htok⟩
  ihave HK := (BI.bigSep_exists_pi Finset.univ (fun (ck : Dev nD × Cell) (κ : ℕ) => (cellInv ER (Rd m) κ (gcell ck) : sProp 𝕄))) $$ HI
  icases HK with ⟨%K, #HI⟩
  ihave Htk := (toks_around (F := F)) $$ Htok
  iapply (BI.bigSep_with_persistent (R := recs m K) fun c _ => hI K c)
  isplitr
  · unfold recs
    iapply (Entails.of_eq (bigSep_sep' Finset.univ (fun ck : Dev nD × Cell => (cellInv ER (Rd m) (K ck) (gcell ck) : sProp 𝕄)) (fun ck => reached ER (gcell ck) 0)).symm)
    isplitl; · iexact HI
    iexact HR
  · iapply (Entails.of_eq (bigSep_sep' Finset.univ (fun c : Dev nD => (ats (F := F) c : sProp 𝕄)) payToks).symm)
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

/-- What device `c` will be sent: both neighbours' signals, and every message. -/
def creds (c : Dev nD) : sProp 𝕄 :=
  iprop(cred (tallyAt (gcell (c, barC)) () 2) ∗ bigSep Finset.univ fun k : Msg => if used k then cred (tallyAt (gcell (c, rcvC k)) () nMsg) else iprop(emp))

omit [FloatOps F] in
theorem cred_msg (c : Dev nD) (k : Msg) :
    (Pipeline.launchCred (fun d => owe d 0 k) c : sProp 𝕄) ⊢ if used k then cred (tallyAt (gcell (c, rcvC k)) () nMsg) else iprop(emp) := by
  by_cases hu : used k = true
  · have h : (fun d : Dev nD => owe d 0 k) = fun d => tallyAt (((peer k d : Dev nD) : Thread nD τ), .dma (rcvSem k)) () nMsg := by
      funext d
      unfold owe Ev.done
      rw [hu, decide_eq_false (Nat.not_lt_zero _)]
      rfl
    rw [if_pos hu, h]
    exact Pipeline.launchCred_tallyAt (.dma (rcvSem k)) (peer k) (sender k) (peer_sender k) (sender_peer k) () nMsg c
  · have h : (fun d : Dev nD => owe d 0 k) = fun _ => 0 := by
      funext d
      unfold owe
      rw [Bool.eq_false_iff.mpr hu]
      rfl
    rw [if_neg hu, h, Pipeline.launchCred_zero]

omit [FloatOps F] in
theorem creds_dealt (c : Dev nD) : (Pipeline.launchCred owedAll c : sProp 𝕄) ⊢ creds c := by
  have h2 : (tallyAt (gcell (c, barC)) () 2 : CellTallies nD τ sig Unit) = tallyAt (gcell (c, barC)) () 1 + tallyAt (gcell (c, barC)) () 1 := by
    unfold tallyAt; rw [← tallyOn_add, ← Finsupp.single_add]
  have hl := Pipeline.launchCred_tallyAt (Ix := Unit) (Val := Elt F) (Name := ℕ) (U := UU) (Lvl := ℕ) (τ := τ) (.reg barS : SemLoc sig) left right left_right right_left () 1 c
  have hr := Pipeline.launchCred_tallyAt (Ix := Unit) (Val := Elt F) (Name := ℕ) (U := UU) (Lvl := ℕ) (τ := τ) (.reg barS : SemLoc sig) right left right_left left_right () 1 c
  have hm : (Pipeline.launchCred (fun d => owed d 0) c : sProp 𝕄)
      ⊢ bigSep Finset.univ fun k : Msg => if used k then cred (tallyAt (gcell (c, rcvC k)) () nMsg) else iprop(emp) :=
    BI.Entails.trans (Entails.of_eq (Pipeline.launchCred_sum Finset.univ (fun k d => owe d 0 k) c)) (bigSep_mono fun k _ => cred_msg c k)
  have e : (Pipeline.launchCred owedAll c : sProp 𝕄) = iprop((Pipeline.launchCred (fun d => owed d 0) c
      ∗ Pipeline.launchCred (fun d => tallyAt (((left d : Dev nD) : Thread nD τ), .reg barS) () 1) c)
      ∗ Pipeline.launchCred (fun d => tallyAt (((right d : Dev nD) : Thread nD τ), .reg barS) () 1) c) := by
    rw [← Pipeline.launchCred_add, ← Pipeline.launchCred_add]
    rfl
  rw [e]
  unfold creds
  rw [h2]
  iintro ⟨⟨Hm, Hl⟩, Hr⟩
  isplitl [Hl Hr]
  · iapply (cred_add _ _).2
    isplitl [Hl]
    · iapply hl; iexact Hl
    · iapply hr; iexact Hr
  · iapply hm; iexact Hm

/-! ## Ready to start -/

theorem snd_pre (c : Dev nD) :
    iprop((bigSep Finset.univ fun k : Msg => atPos ER (gcell (c, sndC k)) 0 ∅ 0) ∗ (bigSep Finset.univ fun k : Msg => dutyTok ER (gcell (c, sndC k)) 0 false)
        ∗ (bigSep Finset.univ fun k : Msg => dutyTok ER (gcell (peer k c, rcvC k)) 0 false))
      ⊢ bigSep Finset.univ (sndPre (F := F) c) := by
  have hk (k : Msg) : iprop(atPos ER (gcell (c, sndC k)) 0 ∅ 0 ∗ (dutyTok ER (gcell (c, sndC k)) 0 false ∗ dutyTok ER (gcell (peer k c, rcvC k)) 0 false))
      ⊢ sndPre (F := F) c k := by
    unfold sndPre
    by_cases hu : used k = true
    · rw [if_pos hu]
    · rw [if_neg hu]
      iintro ⟨Ha, -⟩
      iexact Ha
  rw [sep_bigSep, sep_bigSep]
  exact bigSep_mono fun k _ => hk k

theorem rcv_pre (c : Dev nD) :
    iprop((bigSep Finset.univ fun k : Msg => atPos ER (gcell (c, rcvC k)) 0 ∅ 0)
        ∗ (bigSep Finset.univ fun k : Msg => if used k then cred (tallyAt (gcell (c, rcvC k)) () nMsg) else iprop(emp)))
      ⊢ rcvAll m c 0 := by
  have hk (k : Msg) : iprop(atPos ER (gcell (c, rcvC k)) 0 ∅ 0 ∗ (if used k then cred (tallyAt (gcell (c, rcvC k)) () nMsg) else iprop(emp))) ⊢ rcvSt m c 0 k := by
    unfold rcvSt Ev.done
    rw [decide_eq_false (Nat.not_lt_zero _)]
    by_cases hu : used k = true
    · rw [if_pos hu, if_pos hu]
      exact Entails.of_eq rfl
    · rw [if_neg hu, if_neg hu]
      iintro ⟨Ha, -⟩
      iexact Ha
  unfold rcvAll
  rw [sep_bigSep]
  exact bigSep_mono fun k _ => hk k

theorem pre_intro (c : Dev nD) :
    iprop(recs m K ∗ levAts L lv ∗ (∃ W, owes (c : Thread nD τ) (owedAll c) W) ∗ (ats (F := F) c ∗ payToks (F := F) c) ∗ creds (F := F) c
        ∗ xHbm m c ∗ wHbm m c ∗ anyBuf (F := F) c main_v1 ∗ scratches (F := F) c)
      ⊢ Pre m K c := by
  unfold ats payToks creds Pre barPre ldPre
  rw [cells_eq]
  iintro ⟨Hr, Hl, HO, ⟨⟨⟨⟨Has, Har⟩, ⟨Ha0, Ha1⟩, Hau⟩, Hab⟩, Hts, Htr, Ht0, Ht1, Htu, Htf, Htt⟩, ⟨Hc2, Hcm⟩, Hrest⟩
  isplitl [Hr]; · iexact Hr
  isplitl [Hl]; · iexact Hl
  isplitl [HO]; · iexact HO
  isplitl [Hab Hc2 Htf Htt]
  · isplitl [Hab]; · iexact Hab
    isplitl [Hc2]; · iexact Hc2
    isplitl [Htf] <;> iassumption
  isplitl [Has Hts Htr]
  · iapply (snd_pre (F := F) c)
    isplitl [Has]; · iexact Has
    isplitl [Hts] <;> iassumption
  isplitl [Har Hcm]
  · iapply (rcv_pre m c)
    isplitl [Har] <;> iassumption
  isplitl [Hau Htu]
  · iapply (Entails.of_eq (sep_bigSep Finset.univ (fun u : Fin 17 => dutyTok ER (gcell (c, stC u)) 0 false) (fun u : Fin 17 => (atPos ER (gcell (c, stC u)) 0 ∅ 0 : sProp 𝕄))))
    isplitl [Htu] <;> iassumption
  isplitl [Ha0 Ht0]
  · isplitl [Ht0] <;> iassumption
  isplitl [Ha1 Ht1]
  · isplitl [Ht1] <;> iassumption
  iexact Hrest

end Cert.RingProof

end
-- ==== Proof.Launch.lean ====
/-
# The launch: every execution ends, with the result the product says
-/
module

public import proofs.«01_k».proof.Proof.Deal
public import Idealize.ShloMosaic.Lib.Pipeline.CollectiveSegs

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cell → ℕ)

/-- What a device has when the kernel starts, its own buffers aside; -/
def start (c : Dev nD) : sProp 𝕄 :=
  iprop(G' m c ∗ creds (F := F) c ∗ levAts L lv ∗ xHbm m c ∗ wHbm m c ∗ anyBuf (F := F) c main_v1)
def Φ₀ (c : Dev nD) : sProp 𝕄 := iprop(start m c ∗ scratches (F := F) c)
/-- and when it ends. -/
def finish (c : Dev nD) : sProp 𝕄 := iprop(unscopedSems0 c ∗ xHbm m c ∗ wHbm m c ∗ outHbm m c)
def Φ₁ (c : Dev nD) : sProp 𝕄 :=
  iprop(ownZero (F := F) c ∗ semVal (gcell (c, barC)) 0 ∗ scratches (F := F) c ∗ xHbm m c ∗ wHbm m c ∗ outHbm m c)

def dats (_ : Fin 1) (c : Dev nD) : Dat τ (Elt F) Unit ℕ UU ℕ cfg0 c where
  A w := m ((cfg0.win w).arr.view.loc (c : Thread nD τ))
  after w _ := match w with
    | ⟨0, _⟩ => stg0 m c
    | ⟨1, _⟩ => stg1 m c
  Φ t := match t with
    | ⟨0, _⟩ => Φ₀ m c
    | ⟨_ + 1, _⟩ => Φ₁ m c
  q _ := fullShare
  owed t := match t with
    | ⟨0, _⟩ => owedAll c
    | ⟨_ + 1, _⟩ => 0

omit [FloatOps F] in
theorem bigSep_W (Φ : Fin cfg0.W → sProp 𝕄) : bigSep Finset.univ Φ = iprop(Φ (0 : Fin 2) ∗ Φ (1 : Fin 2)) := bigSep_W0 Φ

/-! ## The body's obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_staged (c : Dev nD) (b : Ref sig .tc) (X : b.ty.Contents (Elt F)) :
    (stg c b X : sProp 𝕄) ⊣⊢ iprop(((c : Thread nD τ).loc b) ↦{fullShare} (X : Buf (Elt F) ((c : Thread nD τ).loc b))) := by
  constructor
  · iintro ⟨%f, %h, H⟩
    subst h
    iexact H
  · iintro H
    iexists _
    isplitr; · (ipureintro; rfl)
    iexact H

def bodyIn (c : Dev nD) : sProp 𝕄 :=
  iprop(Φ₀ m c ∗ (dats m 0 c).owesAt () t0_0.castSucc ∗ (∃ d, stg c cc0_stg0_0 ((dats m 0 c).before (0 : Fin 2) t0_0 d))
    ∗ (∃ d, stg c cc0_stg1_0 ((dats m 0 c).before (1 : Fin 2) t0_0 d)))
def bodyOut (c : Dev nD) : sProp 𝕄 :=
  iprop(Φ₁ m c ∗ (dats m 0 c).owesAt () t0_0.succ ∗ stg c cc0_stg0_0 (stg0 m c) ∗ stg c cc0_stg1_0 (stg1 m c))

theorem before_0 (c : Dev nD) (d) : (dats m 0 c).before (0 : Fin 2) t0_0 d = stg0 m c := by
  unfold Dat.before; rw [if_pos (fetch0_0 t0_0)]; rfl
theorem before_1 (c : Dev nD) (d) : (dats m 0 c).before (1 : Fin 2) t0_0 d = stg1 m c := by
  unfold Dat.before; rw [if_pos (fetch0_1 t0_0)]; rfl

theorem in_pre (c : Dev nD) : bodyIn m c ⊢ iprop(∃ K, Pre m K c ∗ stage0 m c ∗ stage1 m c) := by
  have h0 : iprop(∃ d, stg c cc0_stg0_0 ((dats m 0 c).before (0 : Fin 2) t0_0 d)) ⊢ stage0 m c := by
    unfold stage0
    iintro ⟨%d, H⟩
    rw [before_0]
    iapply (stg_staged c cc0_stg0_0 (stg0 m c)).1
    iexact H
  have h1 : iprop(∃ d, stg c cc0_stg1_0 ((dats m 0 c).before (1 : Fin 2) t0_0 d)) ⊢ stage1 m c := by
    unfold stage1
    iintro ⟨%d, H⟩
    rw [before_1]
    iapply (stg_staged c cc0_stg1_0 (stg1 m c)).1
    iexact H
  have hO : ((dats m 0 c).owesAt () t0_0.castSucc : sProp 𝕄) ⊢ iprop(∃ W, owes (c : Thread nD τ) (owedAll c) W) := by
    unfold Dat.owesAt Pipeline.owesWithin
    iintro ⟨%W, -, H⟩
    iexists W
    iexact H
  unfold bodyIn Φ₀ start G'
  iintro ⟨⟨⟨⟨%K, Hr, HG⟩, Hc, Hl, Hx, Hw, Ho⟩, Hs⟩, HO, H0, H1⟩
  iexists K
  isplitl [Hr HG Hc Hl Hx Hw Ho Hs HO]
  · iapply (pre_intro m K c)
    isplitl [Hr]; · iexact Hr
    isplitl [Hl]; · iexact Hl
    isplitl [HO]; · iapply hO; iexact HO
    isplitl [HG]; · iexact HG
    isplitl [Hc]; · iexact Hc
    isplitl [Hx]; · iexact Hx
    isplitl [Hw]; · iexact Hw
    isplitl [Ho] <;> iassumption
  isplitl [H0]
  · iapply h0; iexact H0
  · iapply h1; iexact H1

theorem done_out (c : Dev nD) : Done m c ⊢ bodyOut m c := by
  have hO : iprop(∃ W, owes (c : Thread nD τ) 0 W) ⊢ ((dats m 0 c).owesAt () t0_0.succ : sProp 𝕄) := by
    unfold Dat.owesAt Pipeline.owesWithin
    iintro ⟨%W, H⟩
    iexists W
    isplitr; · ipureintro; exact fun _ _ => Or.inl trivial
    iexact H
  unfold Done bodyOut Φ₁ stage0 stage1
  iintro ⟨HO, Hz, Hb, Hs, Hx, Hw, Ho, H0, H1⟩
  isplitl [Hz Hb Hs Hx Hw Ho]
  · isplitl [Hz]; · iexact Hz
    isplitl [Hb]; · iexact Hb
    isplitl [Hs]; · iexact Hs
    isplitl [Hx]; · iexact Hx
    isplitl [Hw] <;> iassumption
  isplitl [HO]; · iapply hO; iexact HO
  isplitl [H0]
  · iapply (stg_staged c cc0_stg0_0 (stg0 m c)).2; iexact H0
  · iapply (stg_staged c cc0_stg1_0 (stg1 m c)).2; iexact H1

theorem some_elim {A : Type} {Φ : A → sProp 𝕄} {Q : sProp 𝕄} (h : ∀ a, Φ a ⊢ Q) : iprop(∃ a, Φ a) ⊢ Q := by
  iintro ⟨%a, H⟩
  iapply (h a)
  iexact H

theorem whole_run (c : Dev nD) : bodyIn m c ⊢ WP c (bodyAt0 (F := F) t0_0) (fun _ => bodyOut m c) := by
  have hk (K : Dev nD × Cell → ℕ) : iprop(Pre m K c ∗ stage0 m c ∗ stage1 m c) ⊢ WP c (bodyAt0 (F := F) t0_0) (fun _ => bodyOut m c) := by
    unfold WP
    refine BI.Entails.trans (BI.Entails.trans (body_run m K c) ?_) (wp_fupd _ _ _ _ _)
    exact wp_mono _ _ _ fun _ => BI.Entails.trans (body_end m K c) (BI.fupd_mono (done_out m c))
  exact BI.Entails.trans (in_pre m c) (some_elim hk)

theorem body_obligation (c : Dev nD) : BodyObligation (dats (F := F) m 0 c) (defs₀ (F := F)) 𝒱₀ () Set.univ := fun t => by
  rw [fin_N0 t]
  rw [bigSep_W, bigSep_W]
  simp only [owns_whole_eq]
  exact whole_run m c

/-! ## The launch's side conditions -/

theorem share_eq (c : Dev nD) (w : Fin cfg0.W) : (dats m 0 c).share w = fullShare := by unfold Dat.share; split <;> rfl

theorem start_intro (ρ : Dev nD → PrngReg) (c : Dev nD) :
    iprop(Pipeline.unscopedRestP Pipeline.Prefetch.none cfg0.spec c (fun b => m ((c : Thread nD τ).loc b)) ∗ levAts L lv
        ∗ Pipeline.launchCred owedAll c ∗ prngReg c (ρ c) ∗ G' m c)
      ⊢ |={Set.univ}=> iprop(start m c ∗ emp) := by
  rw [Pipeline.unscopedRestP_none, unscopedRest0_eq]
  iintro ⟨⟨Hx, Hw, Ho⟩, Hlev, Hcr, -, HG⟩
  ihave Hc := (creds_dealt (F := F) c) $$ Hcr
  imodintro
  unfold start
  isplitl
  · isplitl [HG]; · iexact HG
    isplitl [Hc]; · iexact Hc
    isplitl [Hlev]; · iexact Hlev
    isplitl [Hx]; · unfold xHbm; iexact Hx
    isplitl [Hw]; · unfold wHbm; iexact Hw
    unfold anyBuf
    iexists _
    iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  have hs : (Pipeline.scopedRest cfg0.spec c : sProp 𝕄) ⊢ scratches (F := F) c := Entails.of_eq (scopedRest0_eq c)
  rw [show (dats m 0 c).Φ 0 = Φ₀ m c from rfl]
  unfold Φ₀
  iintro ⟨Hs, -, Hr⟩
  isplitl [Hs]; · iexact Hs
  iapply hs; iexact Hr

theorem phi1_exit (c : Dev nD) :
    (dats m 0 c).Φ (Fin.last cfg0.N) ⊢ iprop(finish m c ∗ Pipeline.ownSems0 osem c ∗ Pipeline.scopedRest cfg0.spec c) := by
  have hs : scratches (F := F) c ⊢ (Pipeline.scopedRest cfg0.spec c : sProp 𝕄) := Entails.of_eq (scopedRest0_eq c).symm
  rw [show (dats m 0 c).Φ (Fin.last cfg0.N) = Φ₁ m c from rfl, ownSems0_eq]
  unfold finish
  rw [unscopedSems0_eq]
  unfold Φ₁ ownZero
  iintro ⟨Hz, Hb, Hs, Hx, Hw, Ho⟩
  isplitl [Hb Hx Hw Ho]
  · isplitl [Hb]; · iexact Hb
    isplitl [Hx]; · iexact Hx
    isplitl [Hw] <;> iassumption
  isplitl [Hz]; · iexact Hz
  iapply hs; iexact Hs

theorem waits (c : Dev nD) : (levAts L lv : sProp 𝕄) ⊢ Pipeline.cellsWaits cfgs (dats m) () 0 c :=
  Pipeline.cellsWaits_intro cfgs (dats m) () 0 c fun w s t => by
    have hs : levOf (role (.dma ((cfg0.win w).sem s))) = 0 := by fin_cases w <;> fin_cases s <;> decide
    rcases t with ⟨_ | _, ht⟩
    · exact mayWait_all c (.dma ((cfg0.win w).sem s)) hs
    · have h := mayWait_low (F := F) c (.dma ((cfg0.win w).sem s)) hs 96
      rw [owed_end c (le_refl 96)] at h
      exact h

/-! ## The run -/

/-- What a device's memory holds at the end: its result, its operands as they were, no count left on its barrier. -/
def ends (c : Dev nD) (s : MemSt nD τ sig (Elt F)) : Prop :=
  (∀ sm : SemLoc sig, sm.isScoped .tc = false → s.sem ((c : Thread nD τ), sm) = 0)
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = (outc m c : Buf (Elt F) ((c : Thread nD τ).loc main_v1))

theorem finish_read (c : Dev nD) (s' : Phys nD τ sig (Elt F)) :
    iprop(finish m c ∗ emp ∗ SI s') ⊢ |={Set.univ}=> iprop(⌜ends m c s'.mem⌝ ∗ SI s') := by
  unfold finish xHbm wHbm outHbm
  iintro ⟨⟨Hu, Hx, Hw, Ho⟩, -, HSI⟩
  icombine HSI Hx gives %hx
  icombine HSI Hw gives %hw
  icombine HSI Ho gives %ho
  imod (Pipeline.unscopedSems0_read (X := unscopedSems0 c) (c := c) fupd_intro s') $$ [Hu HSI] with ⟨%hu, HSI⟩
  · isplitl [Hu] <;> iassumption
  imodintro
  isplitr
  · ipureintro
    exact ⟨hu, Buf.eq_of_forall_mem_univ hx, Buf.eq_of_forall_mem_univ hw, Buf.eq_of_forall_mem_univ ho⟩
  · iexact HSI

/-- The arguments unchanged and the result in place, on every device. -/
def Final (r : PUnit × MemSt nD τ sig (Elt F)) : Prop :=
  ∀ c : Dev nD, r.2.mem ((c : Thread nD τ).loc main_v1) = (outc m c : Buf (Elt F) ((c : Thread nD τ).loc main_v1))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)

set_option maxRecDepth 16384 in
/-- For any float values, from any memory with zero counters: every weakly fair execution ends, and every final state has the
    result in place, the arguments unchanged and every semaphore counter at zero. -/
theorem run_main (ρ : Dev nD → PrngReg) :
    θ_run defs (onTc (τ := τ) (main (F := F))) ⟨m, fun _ => 0, ρ⟩ (fun r => Final m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => body_obligation m c) (hne := block_pos0) (harr := arr_whole0) (hstage := stage_whole0) (hshare := share_eq m)
    (hdistinct := winFacts0.arr_inj)
    (O₀ := owedAll) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := finish m) (Z := fun _ => iprop(emp))
    (hX := start_intro m ρ) (hin := phi0_intro m) (hout := phi1_exit m)
    (QY := ends m) (hY := finish_read m)
    (hQ := fun s h hs => ⟨fun c => ⟨(h c).2.2.2.2.2, (h c).2.2.2.1, (h c).2.2.2.2.1,
        ((h c).1 (0 : Fin 2)).trans ((dats (F := F) m 0 c).arrAt_in (0 : Fin 2) rfl _),
        ((h c).1 (1 : Fin 2)).trans ((dats (F := F) m 0 c).arrAt_in (1 : Fin 2) rfl _)⟩,
      sem_eq_zero hs fun c => (h c).2.2.1⟩)

end Cert.RingProof

end
-- ==== Proof.Frames.lean ====
/- The frames, from the run of the ring and the runs of the two references. -/
module

public import proofs.«01_k».proof.Defs
public import proofs.«01_k».proof.Proof.Gen.Kernel
public import proofs.«01_k».proof.Proof.Gen.ReferenceIdeal.Run
public import proofs.«01_k».proof.Proof.Gen.ClippedIdeal.Run
public import proofs.«01_k».proof.Proof.Launch

@[expose] public section

set_option maxRecDepth 20000

noncomputable section

namespace Cert.Proof

open Idealize.ShloMosaic Idealize.SL.Sem

/-- The two printings of the kernel have the same text, so the same bodies. -/
theorem bodies_eq : Cert.Kernel.defs₀ (F := Bits) = Cert.KernelIdeal.defs₀ (F := Bits) := by
  refine congrArg Defs.onTc (funext fun l => ?_)
  funext x
  match l, x with
  | ⟨0, _⟩, (_, _) => rfl

/-- So the same body table, with its regions. -/
theorem defs_eq : Cert.Kernel.defs (F := Bits) = Cert.KernelIdeal.defs (F := Bits) := by
  have h : Cert.Kernel.defs (F := Bits) = Pipeline.defs (Cert.KernelIdeal.pcfgs (F := Bits)) (Cert.Kernel.defs₀ (F := Bits)) := rfl
  rw [h, bodies_eq]
  rfl

/-- The kernel over bit patterns ends, leaves its arguments and brings every counter back to zero. -/
theorem frame_kernel : Cert.quiescent_Kernel := by
  intro m ρ _
  rw [defs_eq]
  exact (θ_run Cert.KernelIdeal.defs _ _).mono (fun _ h => ⟨fun c => (h.1 c).2, h.2⟩) (Cert.RingProof.run_main (F := Bits) m ρ)

/-- So does the kernel over the extended reals. -/
theorem frame_kernelIdeal : Cert.quiescent_KernelIdeal := fun m ρ _ =>
  (θ_run Cert.KernelIdeal.defs _ _).mono (fun _ h => ⟨fun c => (h.1 c).2, h.2⟩) (Cert.RingProof.run_main (F := Ideal) m ρ)

/-- So does the reference, which has no semaphore at all. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So does the clipped reference. -/
theorem frame_clippedIdeal : Cert.quiescent_ClippedIdeal := fun m ρ _ =>
  (θ_run Cert.ClippedIdeal.defs _ _).mono (fun r h => ⟨fun c => (h c).2, sem_eq_zero_of_no_sems (by decide) r.2⟩)
    (Cert.ClippedIdeal.Value.run (F := Ideal) m ρ)

end Cert.Proof

end
-- ==== Proof.Ref.lean ====
/- The gate over the extended reals, and what one entry of the reference's result is. -/
module

public import proofs.«01_k».proof.Proof.Gen.ReferenceIdeal.Run
public import Idealize.ShloMosaic.Lib.Pointwise

@[expose] public section

set_option maxRecDepth 20000

noncomputable section

namespace Cert.RingProof

open Cert.ReferenceIdeal Cert.ReferenceIdeal.Gen Idealize.ShloMosaic Idealize.ShloMosaic.TcCoe Idealize.SL.Sem

/-- The gate: a number times its logistic. -/
def gate (y : EReal) : EReal := y * Ideal.logistic y

/-- The exponential is nowhere negative, so the denominator of the logistic is not zero. -/
theorem denom_ne_zero (y : EReal) : (1 : EReal) + Ideal.exp (-y) ≠ 0 := by
  have h : 0 ≤ Ideal.exp (-y) := by
    generalize -y = z
    induction z using EReal.rec with
    | bot => simp
    | coe r => rw [Ideal.exp_coe]; exact EReal.coe_nonneg.2 (Real.exp_pos r).le
    | top => simp
  exact (lt_of_lt_of_le zero_lt_one (le_add_of_nonneg_right h)).ne'

/-- Dividing by that denominator is multiplying by the logistic, at the infinities too. -/
theorem div_denom (y : EReal) : Ideal.div y (1 + Ideal.exp (-y)) = gate y := by
  unfold gate Ideal.logistic Ideal.div
  rw [if_neg (denom_ne_zero y), if_neg (denom_ne_zero y), one_mul]

/-- What the reference computes of its four arguments. -/
def refOut (x : FVec Ideal S4096x4096 .f32) (w : FVec Ideal S4096x8192 .f32)
    (sx sw : FVec Ideal S1 .f32) : FVec Ideal S4096x8192 .f32 :=
  Host.divf (mulf (Host.dotGeneral dot_S4096x4096_S4096x8192_S4096x8192_1_0_0_1_n_n none x w)
      (broadcastInDim S4096x8192 ![0, 1] bcast_S1x1_S4096x8192_0_1 (broadcastInDim S1x1 ![1] bcast_S1_S1x1_1 (mulf sx sw))))
    (addf (broadcastInDim S4096x8192 ![] bcast_S_S4096x8192 (constant S_ .f32 0x3F800000#32))
      (Host.exp (Host.negf (mulf (Host.dotGeneral dot_S4096x4096_S4096x8192_S4096x8192_1_0_0_1_n_n none x w)
        (broadcastInDim S4096x8192 ![0, 1] bcast_S1x1_S4096x8192_0_1 (broadcastInDim S1x1 ![1] bcast_S1_S1x1_1 (mulf sx sw)))))))

/-- An entry of the reference's result: the gate of the scaled sum of products. -/
theorem ref_apply (x : FVec Ideal S4096x4096 .f32) (w : FVec Ideal S4096x8192 .f32)
    (sx sw : FVec Ideal S1 .f32) (i : Fin 4096) (j : Fin 8192) :
    refOut x w sx sw (ix2 i j) = gate ((∑ k : Fin 4096, x (ix2 i k) * w (ix2 k j)) * (sx (ix1 0) * sw (ix1 0))) := by
  pointwise [refOut]
  exact div_denom _

end Cert.RingProof

end
-- ==== Proof.Value.lean ====
/- What one entry of the kernel's result is over the extended reals. -/
module

public import proofs.«01_k».proof.Proof.Ref
public import proofs.«01_k».proof.Proof.Sched
public import Idealize.ShloMosaic.Lib.Layout

@[expose] public section

set_option maxRecDepth 20000

noncomputable section

namespace Cert.RingProof

open Cert.KernelIdeal Cert.KernelIdeal.Gen Idealize.ShloMosaic Idealize.ShloMosaic.TcCoe Idealize.SL.Sem

variable (m : (ℓ : Loc nD τ sig) → Buf (Elt Ideal) ℓ)

/-- A device's block of the left operand. -/
def arg0 (d : Dev nD) : FVec Ideal S256x4096 .f32 := m ((d : Thread nD τ).loc main_arg0)
/-- Its block of the right operand. -/
def arg1 (d : Dev nD) : FVec Ideal S4096x512 .f32 := m ((d : Thread nD τ).loc main_arg1)
/-- Its copies of the two scales. -/
def arg2 (d : Dev nD) : FVec Ideal S1 .f32 := m ((d : Thread nD τ).loc main_arg2)
def arg3 (d : Dev nD) : FVec Ideal S1 .f32 := m ((d : Thread nD τ).loc main_arg3)

/-- An entry that the kernel computes with a whole block: the gate of the scaled sum of products. -/
theorem whole_apply (s : Ideal .f32) (c d : Dev nD) (r : Fin 256) (l : Fin 512) :
    k0_pay8 s (xblk m d) (wbf m c) (ix2 r l)
      = gate ((∑ k : Fin 4096, arg0 m d (ix2 r k) * arg1 m c (ix2 k l)) * s) := by
  change k0_pay8 s (k0_pay1 (F := Ideal) (arg0 m d)) (k0_pay3 (F := Ideal) (arg1 m c)) (ix2 r l) = _
  generalize arg0 m d = x
  generalize arg1 m c = w
  pointwise [k0_pay8, k0_pay1, k0_pay3]
  rfl

/-- An entry that it computes with half a block: the same, the rows counted from where the half starts. -/
theorem half_apply (s : Ideal .f32) (c d : Dev nD) (j : Fin 2) (r : Fin 128) (l : Fin 512)
    (R : Fin 256) (hR : R.val = 128 * j.val + r.val) :
    k0_pay23 s (xhalf m d j) (wbf m c) (ix2 r l)
      = gate ((∑ k : Fin 4096, arg0 m d (ix2 R k) * arg1 m c (ix2 k l)) * s) := by
  have hlt : 128 * j.val + r.val < 256 := by have := j.isLt; have := r.isLt; omega
  obtain rfl : R = ⟨128 * j.val + r.val, hlt⟩ := Fin.ext hR
  change k0_pay23 s (fun i => k0_pay1 (F := Ideal) (arg0 m d) (ix3 0 ⟨128 * j.val + (i 1).val, _⟩ (i 2))) (k0_pay3 (F := Ideal) (arg1 m c)) (ix2 r l) = _
  generalize arg0 m d = x
  generalize arg1 m c = w
  pointwise [k0_pay23, k0_pay1, k0_pay3]
  rfl

/-- The scale is the product of the two scales. -/
theorem scale_eq (c : Dev nD) :
    scale m c = arg2 m c (ix1 0) * arg3 m c (ix1 0) := by
  have e : ∀ i j : S1.Idx, i = j := fun i j => by
    funext b
    have hb : S1.size b = 1 := by rw [Subsingleton.elim b 0]; rfl
    exact Fin.ext (by have := (i b).isLt; have := (j b).isLt; omega)
  exact congrArg₂ (fun a b : EReal => a * b) (congrArg (arg2 m c) (e _ _)) (congrArg (arg3 m c) (e _ _))

/-- An entry of the kernel's result on device `c`: the row belongs to the device whose number is the row by 256. -/
theorem outc_apply (c : Dev nD) (i : Fin 4096) (l : Fin 512) (d : Dev nD) (R : Fin 256) (h : i.val = 256 * d.val + R.val) :
    outc m c (ix2 i l)
      = gate ((∑ k : Fin 4096, arg0 m d (ix2 R k) * arg1 m c (ix2 k l)) * (arg2 m c (ix1 0) * arg3 m c (ix1 0))) := by
  have hd : i.val / 256 = d.val := by have := R.isLt; omega
  have hR : i.val % 256 = R.val := by have := R.isLt; omega
  have hH : R.val = 128 * (i.val / 128 % 2) + i.val % 128 := by omega
  have p : i.val / 256 < nD := hd ▸ d.isLt
  have p' : i.val % 256 < 256 := Nat.mod_lt _ (by decide)
  have ed : (⟨i.val / 256, p⟩ : Dev nD) = d := Fin.ext hd
  have eR : (⟨i.val % 256, p'⟩ : Fin 256) = R := Fin.ext hR
  have p2 : i.val / 128 % 2 < 2 := Nat.mod_lt _ (by decide)
  have p3 : i.val % 128 < 128 := Nat.mod_lt _ (by decide)
  rw [← scale_eq]
  show (if slotOf c ⟨i.val / 256, p⟩ = 8 then
      k0_pay23 (scale m c) (xhalf m ⟨i.val / 256, p⟩ ⟨i.val / 128 % 2, p2⟩) (wbf m c) (ix2 ⟨i.val % 128, p3⟩ l)
    else k0_pay8 (scale m c) (xblk m ⟨i.val / 256, p⟩) (wbf m c) (ix2 ⟨i.val % 256, p'⟩ l)) = _
  rw [ed, eR]
  split
  · exact half_apply m (scale m c) c d _ _ l R hH
  · exact whole_apply m (scale m c) c d R l

open Cert.ReferenceIdeal (S4096x4096 S4096x8192) in
/-- Where every device holds its blocks of the operands and copies of the scales, the kernel's result on device `c` is block `c`
    of the reference's. -/
theorem outc_eq (x : FVec Ideal S4096x4096 .f32) (w : FVec Ideal S4096x8192 .f32) (sx sw : FVec Ideal S1 .f32)
    (hx : ∀ c, arg0 m c = Layout.block ⟨2, ![256, 4096]⟩ ⟨2, ![4096, 4096]⟩ 0 16 c x)
    (hw : ∀ c, arg1 m c = Layout.block ⟨2, ![4096, 512]⟩ ⟨2, ![4096, 8192]⟩ 1 16 c w)
    (hsx : ∀ c, arg2 m c = sx) (hsw : ∀ c, arg3 m c = sw) (c : Dev nD) :
    outc m c = Layout.block ⟨2, ![4096, 512]⟩ ⟨2, ![4096, 8192]⟩ 1 16 c (refOut x w sx sw) := by
  funext q
  obtain ⟨i, l, rfl⟩ : ∃ (i : Fin 4096) (l : Fin 512), q = ix2 i l := ⟨q 0, q 1, (eq_ix2 q)⟩
  have hi : i.val / 256 < 16 := by have := i.isLt; omega
  have hj : c.val * 512 + l.val < 8192 := by have := c.isLt; have := l.isLt; have : nD = 16 := rfl; omega
  rw [outc_apply m c i l ⟨i.val / 256, hi⟩ ⟨i.val % 256, Nat.mod_lt _ (by decide)⟩ (Nat.div_add_mod _ _).symm, hx, hw, hsx, hsw]
  have e : (Layout.block ⟨2, ![4096, 512]⟩ ⟨2, ![4096, 8192]⟩ 1 16 c (refOut x w sx sw)) (ix2 i l)
      = refOut x w sx sw (ix2 i ⟨c.val * 512 + l.val, hj⟩) := by
    rw [Layout.block_apply]
    congr 1
    funext b
    fin_cases b <;> rfl
  rw [e, ref_apply]
  congr 2
  refine Finset.sum_congr rfl fun k _ => ?_
  rw [Layout.block_apply, Layout.block_apply]
  congr 2
  · funext b
    fin_cases b
    · exact Fin.ext (by show i.val / 256 * 256 + i.val % 256 = i.val; omega)
    · rfl
  · funext b
    fin_cases b <;> rfl

end Cert.RingProof

end
-- ==== Proof.Clip.lean ====
/- What one entry of the clipped reference is where the mask selects it. -/
module

public import proofs.«01_k».proof.On_within
public import proofs.«01_k».proof.Proof.Gen.ClippedIdeal.Run
public import proofs.«01_k».proof.Proof.Ref

@[expose] public section

set_option maxRecDepth 20000

noncomputable section

namespace Cert.RingProof

open Cert.ClippedIdeal Cert.ClippedIdeal.Gen Idealize.ShloMosaic Idealize.ShloMosaic.TcCoe Idealize.SL.Sem

/-- The mask's side conditions: shapes that broadcast, a product that is well formed. -/
instance within_facts : Cert.On_within.Facts where
  bcast_S1_S1x1_1 := by decide
  bcast_S1x1_S4096x8192_0_1 := by decide
  bcast_S_S4096x8192 := by decide
  dot_S4096x4096_S4096x8192_S4096x8192_1_0_0_1_n_n_wf := by decide

/-- The clipped reference: the same gate, the exponential's argument kept within sixty of zero. -/
def clipOut (x : FVec Ideal S4096x4096 .f32) (w : FVec Ideal S4096x8192 .f32) (sx sw : FVec Ideal S1 .f32) :
    FVec Ideal S4096x8192 .f32 :=
  let y : FVec Ideal S4096x8192 .f32 := mulf (Host.dotGeneral dot_S4096x4096_S4096x8192_S4096x8192_1_0_0_1_n_n none x w)
    (broadcastInDim S4096x8192 ![0, 1] bcast_S1x1_S4096x8192_0_1 (broadcastInDim S1x1 ![1] bcast_S1_S1x1_1 (mulf sx sw)))
  Host.divf y (addf (broadcastInDim S4096x8192 ![] bcast_S_S4096x8192 (constant S_ .f32 0x3F800000#32))
    (Host.exp (Host.negf (minimumf (broadcastInDim S4096x8192 ![] bcast_S_S4096x8192 (id (constant S_ .f32 0x42700000#32)))
      (maximumf (broadcastInDim S4096x8192 ![] bcast_S_S4096x8192 (id (constant S_ .f32 0xC2700000#32))) y)))))

/-- Two one-bit words of decided propositions, both one: both hold. -/
theorem both_of_andi {p q : Prop} [Decidable p] [Decidable q]
    (h : IntOp.andi (BitVec.ofBool (decide p)) (BitVec.ofBool (decide q)) = 1#1) : p ∧ q := by
  by_cases hp : p <;> by_cases hq : q <;> simp [hp, hq, IntOp.andi] at h ⊢

/-- Where the mask selects an entry, the clip leaves its argument alone, so the entry is the plain reference's. -/
theorem clip_apply (x : FVec Ideal S4096x4096 .f32) (w : FVec Ideal S4096x8192 .f32) (sx sw : FVec Ideal S1 .f32)
    (q : S4096x8192.Idx) (h : Cert.On_within.fn (F := Ideal) x w sx sw q = 1#1) : refOut x w sx sw q = clipOut x w sx sw q := by
  obtain ⟨i, j, rfl⟩ : ∃ (i : Fin 4096) (j : Fin 8192), q = ix2 i j := ⟨q 0, q 1, eq_ix2 q⟩
  rw [ref_apply]
  revert h
  pointwise [clipOut, id, Cert.On_within.fn]
  generalize (∑ k : Fin 4096, x (ix2 i k) * w (ix2 k j)) * (sx (ix1 0) * sw (ix1 0)) = y
  intro h
  obtain ⟨hlo, hhi⟩ := both_of_andi h
  rw [max_eq_right hlo, min_eq_right hhi]
  exact (div_denom y).symm

end Cert.RingProof

end
-- ==== Proof.lean ====
/- The claim: the frames of the four programs, that nothing was rewritten, and the two equations of values: with the plain
   reference everywhere, and with the clipped one wherever the clip leaves its argument alone. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ClippedIdeal.Run
public import proofs.«01_k».proof.Proof.Frames
public import proofs.«01_k».proof.Proof.Value
public import proofs.«01_k».proof.Proof.Clip
public import Idealize.ShloMosaic.Adequacy
public import Idealize.ShloMosaic.Init

@[expose] public section

noncomputable section

namespace Cert.Proof

open Idealize.ShloMosaic Idealize.SL.Sem

set_option maxRecDepth 20000 in
/-- Over the extended reals, device `c`'s result is block `c` of the reference's result on the whole arrays. -/
theorem algebraic : Cert.algebraic_KernelIdeal_ReferenceIdeal := by
  intro m ρ m' ρ' _ h
  refine ⟨_, (θ_run Cert.KernelIdeal.defs _ _).mono (fun _ hr c => ⟨?_, (hr.1 c).2⟩) (Cert.RingProof.run_main (F := Ideal) m ρ),
    (θ_run Cert.ReferenceIdeal.defs _ _).mono (fun _ hr => hr 0) (Cert.ReferenceIdeal.Value.run (F := Ideal) m' ρ')⟩
  exact (hr.1 c).1.trans (Cert.RingProof.outc_eq m _ _ _ _ (fun c => (h c).1) (fun c => (h c).2.1) (fun c => (h c).2.2.1)
    (fun c => (h c).2.2.2) c)

set_option maxRecDepth 20000 in
/-- Over the extended reals, device `c`'s result is block `c` of the clipped reference's result wherever the mask selects. -/
theorem algebraic_clipped : Cert.algebraic_KernelIdeal_ClippedIdeal_on_within := by
  intro m ρ m' ρ' _ h
  refine ⟨Cert.RingProof.clipOut _ _ _ _, (θ_run Cert.KernelIdeal.defs _ _).mono (fun _ hr c => ⟨?_, (hr.1 c).2⟩)
      (Cert.RingProof.run_main (F := Ideal) m ρ),
    (θ_run Cert.ClippedIdeal.defs _ _).mono (fun _ hr => ⟨fun i _ => congrFun (hr 0).1 i, (hr 0).2⟩)
      (Cert.ClippedIdeal.Value.run (F := Ideal) m' ρ')⟩
  intro i hi
  have e := Cert.RingProof.outc_eq m _ _ _ _ (fun c => (h c).1) (fun c => (h c).2.1) (fun c => (h c).2.2.1) (fun c => (h c).2.2.2) c
  exact (congrFun ((hr.1 c).1.trans e) i).trans (Cert.RingProof.clip_apply _ _ _ _ _ hi)

theorem claim : Cert.Claim := ⟨Cert.Kernel.Gen.facts, Cert.KernelIdeal.Gen.facts, Cert.ReferenceIdeal.Gen.facts,
  Cert.ClippedIdeal.Gen.facts, Cert.RingProof.within_facts,
  frame_kernel, frame_kernelIdeal, frame_referenceIdeal, frame_clippedIdeal, trivial, algebraic, algebraic_clipped⟩

end Cert.Proof

end
